-- ==== Defs.lean ====
def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite_ffn_act [hPre_finite_ffn_act : Cert.Pre_finite_ffn_act.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.2.1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_finite_ffn_act [hPre_finite_ffn_act : Cert.Pre_finite_ffn_act.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.2.1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.2.2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).2.2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))).1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))).2.1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))).2.2 = (fun _ => 1#1)

def Pre_DhFfn (m : (ℓ : Loc Cert.DhFfn.nD Cert.DhFfn.τ Cert.DhFfn.sig) → Buf (Elt Bits) ℓ) : Prop :=
  True

def Pre_DhFfnIdeal (m : (ℓ : Loc Cert.DhFfnIdeal.nD Cert.DhFfnIdeal.τ Cert.DhFfnIdeal.sig) → Buf (Elt Ideal) ℓ) : Prop :=
  True

def Pre_DhFfnRefIdeal (m : (ℓ : Loc Cert.DhFfnRefIdeal.nD Cert.DhFfnRefIdeal.τ Cert.DhFfnRefIdeal.sig) → Buf (Elt Ideal) ℓ) : Prop :=
  True

def Pre_DhMix (m : (ℓ : Loc Cert.DhMix.nD Cert.DhMix.τ Cert.DhMix.sig) → Buf (Elt Bits) ℓ) : Prop :=
  True

def Pre_DhMixIdeal (m : (ℓ : Loc Cert.DhMixIdeal.nD Cert.DhMixIdeal.τ Cert.DhMixIdeal.sig) → Buf (Elt Ideal) ℓ) : Prop :=
  True

def Pre_DhMixRefIdeal (m : (ℓ : Loc Cert.DhMixRefIdeal.nD Cert.DhMixRefIdeal.τ Cert.DhMixRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_sb_fwd [hPre_finite_sb_fwd : Cert.Pre_finite_sb_fwd.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_sb_fwd.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_sb_fwd [hPre_finite_sb_fwd : Cert.Pre_finite_sb_fwd.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_sb_fwd.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1)) (m ((c.tc : Thread Cert.SbFwdRefIdeal.nD Cert.SbFwdRefIdeal.τ).loc Cert.SbFwdRefIdeal.main_arg2))) = (fun _ => 1#1)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActIdeal_pre_finite_ffn_act [hFfnActIdeal : Cert.FfnActIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite_ffn_act m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_FfnActRefIdeal_pre_finite_ffn_act [hFfnActRefIdeal : Cert.FfnActRefIdeal.Facts] [hPre_finite_ffn_act : Cert.Pre_finite_ffn_act.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_finite_ffn_act m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_DhFfn [hDhFfn : Cert.DhFfn.Facts] : Prop :=
  ∀ (m : (ℓ : Loc Cert.DhFfn.nD Cert.DhFfn.τ Cert.DhFfn.sig) → Buf (Elt Bits) ℓ) (g : Dev Cert.DhFfn.nD → PrngReg), Pre_DhFfn m →
    θ_run (Cert.DhFfn.defs (F := Bits)) (onTc (τ := Cert.DhFfn.τ) (Cert.DhFfn.main (F := Bits))) ⟨m, fun _ => 0, g⟩ (fun r => (∀ c : Dev Cert.DhFfn.nD,
      r.2.mem ((c.tc : Thread Cert.DhFfn.nD Cert.DhFfn.τ).loc Cert.DhFfn.main_arg0) = m ((c.tc : Thread Cert.DhFfn.nD Cert.DhFfn.τ).loc Cert.DhFfn.main_arg0)
      ∧ r.2.mem ((c.tc : Thread Cert.DhFfn.nD Cert.DhFfn.τ).loc Cert.DhFfn.main_arg1) = m ((c.tc : Thread Cert.DhFfn.nD Cert.DhFfn.τ).loc Cert.DhFfn.main_arg1)
      ∧ r.2.mem ((c.tc : Thread Cert.DhFfn.nD Cert.DhFfn.τ).loc Cert.DhFfn.main_arg2) = m ((c.tc : Thread Cert.DhFfn.nD Cert.DhFfn.τ).loc Cert.DhFfn.main_arg2)
      ∧ r.2.mem ((c.tc : Thread Cert.DhFfn.nD Cert.DhFfn.τ).loc Cert.DhFfn.main_arg3) = m ((c.tc : Thread Cert.DhFfn.nD Cert.DhFfn.τ).loc Cert.DhFfn.main_arg3)
      ∧ r.2.mem ((c.tc : Thread Cert.DhFfn.nD Cert.DhFfn.τ).loc Cert.DhFfn.main_arg4) = m ((c.tc : Thread Cert.DhFfn.nD Cert.DhFfn.τ).loc Cert.DhFfn.main_arg4)
      ∧ r.2.mem ((c.tc : Thread Cert.DhFfn.nD Cert.DhFfn.τ).loc Cert.DhFfn.main_arg5) = m ((c.tc : Thread Cert.DhFfn.nD Cert.DhFfn.τ).loc Cert.DhFfn.main_arg5)
      ∧ r.2.mem ((c.tc : Thread Cert.DhFfn.nD Cert.DhFfn.τ).loc Cert.DhFfn.main_arg6) = m ((c.tc : Thread Cert.DhFfn.nD Cert.DhFfn.τ).loc Cert.DhFfn.main_arg6)
      ∧ r.2.mem ((c.tc : Thread Cert.DhFfn.nD Cert.DhFfn.τ).loc Cert.DhFfn.main_arg7) = m ((c.tc : Thread Cert.DhFfn.nD Cert.DhFfn.τ).loc Cert.DhFfn.main_arg7))
      ∧ r.2.sem = fun _ => 0)

def quiescent_DhFfnIdeal [hDhFfnIdeal : Cert.DhFfnIdeal.Facts] : Prop :=
  ∀ (m : (ℓ : Loc Cert.DhFfnIdeal.nD Cert.DhFfnIdeal.τ Cert.DhFfnIdeal.sig) → Buf (Elt Ideal) ℓ) (g : Dev Cert.DhFfnIdeal.nD → PrngReg), Pre_DhFfnIdeal m →
    θ_run (Cert.DhFfnIdeal.defs (F := Ideal)) (onTc (τ := Cert.DhFfnIdeal.τ) (Cert.DhFfnIdeal.main (F := Ideal))) ⟨m, fun _ => 0, g⟩ (fun r => (∀ c : Dev Cert.DhFfnIdeal.nD,
      r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
      ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1)
      ∧ r.2.mem ((c.tc : Thread Cert.DhFfnIdeal.nD Cert.DhFfnIdeal.τ).loc Cert.DhFfnIdeal.main_arg2) = m ((c.tc : Thread Cert.DhFfnIdeal.nD Cert.DhFfnIdeal.τ).loc Cert.DhFfnIdeal.main_arg2)
      ∧ r.2.mem ((c.tc : Thread Cert.DhFfnIdeal.nD Cert.DhFfnIdeal.τ).loc Cert.DhFfnIdeal.main_arg3) = m ((c.tc : Thread Cert.DhFfnIdeal.nD Cert.DhFfnIdeal.τ).loc Cert.DhFfnIdeal.main_arg3)
      ∧ r.2.mem ((c.tc : Thread Cert.DhFfnIdeal.nD Cert.DhFfnIdeal.τ).loc Cert.DhFfnIdeal.main_arg4) = m ((c.tc : Thread Cert.DhFfnIdeal.nD Cert.DhFfnIdeal.τ).loc Cert.DhFfnIdeal.main_arg4)
      ∧ r.2.mem ((c.tc : Thread Cert.DhFfnIdeal.nD Cert.DhFfnIdeal.τ).loc Cert.DhFfnIdeal.main_arg5) = m ((c.tc : Thread Cert.DhFfnIdeal.nD Cert.DhFfnIdeal.τ).loc Cert.DhFfnIdeal.main_arg5)
      ∧ r.2.mem ((c.tc : Thread Cert.DhFfnIdeal.nD Cert.DhFfnIdeal.τ).loc Cert.DhFfnIdeal.main_arg6) = m ((c.tc : Thread Cert.DhFfnIdeal.nD Cert.DhFfnIdeal.τ).loc Cert.DhFfnIdeal.main_arg6)
      ∧ r.2.mem ((c.tc : Thread Cert.DhFfnIdeal.nD Cert.DhFfnIdeal.τ).loc Cert.DhFfnIdeal.main_arg7) = m ((c.tc : Thread Cert.DhFfnIdeal.nD Cert.DhFfnIdeal.τ).loc Cert.DhFfnIdeal.main_arg7))
      ∧ r.2.sem = fun _ => 0)

def quiescent_DhFfnRefIdeal [hDhFfnRefIdeal : Cert.DhFfnRefIdeal.Facts] : Prop :=
  ∀ (m : (ℓ : Loc Cert.DhFfnRefIdeal.nD Cert.DhFfnRefIdeal.τ Cert.DhFfnRefIdeal.sig) → Buf (Elt Ideal) ℓ) (g : Dev Cert.DhFfnRefIdeal.nD → PrngReg), Pre_DhFfnRefIdeal m →
    θ_run (Cert.DhFfnRefIdeal.defs (F := Ideal)) (onTc (τ := Cert.DhFfnRefIdeal.τ) (Cert.DhFfnRefIdeal.main (F := Ideal))) ⟨m, fun _ => 0, g⟩ (fun r => (∀ c : Dev Cert.DhFfnRefIdeal.nD,
      r.2.mem ((c.tc : Thread Cert.DhFfnRefIdeal.nD Cert.DhFfnRefIdeal.τ).loc Cert.DhFfnRefIdeal.main_arg0) = m ((c.tc : Thread Cert.DhFfnRefIdeal.nD Cert.DhFfnRefIdeal.τ).loc Cert.DhFfnRefIdeal.main_arg0)
      ∧ r.2.mem ((c.tc : Thread Cert.DhFfnRefIdeal.nD Cert.DhFfnRefIdeal.τ).loc Cert.DhFfnRefIdeal.main_arg1) = m ((c.tc : Thread Cert.DhFfnRefIdeal.nD Cert.DhFfnRefIdeal.τ).loc Cert.DhFfnRefIdeal.main_arg1)
      ∧ r.2.mem ((c.tc : Thread Cert.DhFfnRefIdeal.nD Cert.DhFfnRefIdeal.τ).loc Cert.DhFfnRefIdeal.main_arg2) = m ((c.tc : Thread Cert.DhFfnRefIdeal.nD Cert.DhFfnRefIdeal.τ).loc Cert.DhFfnRefIdeal.main_arg2)
      ∧ r.2.mem ((c.tc : Thread Cert.DhFfnRefIdeal.nD Cert.DhFfnRefIdeal.τ).loc Cert.DhFfnRefIdeal.main_arg3) = m ((c.tc : Thread Cert.DhFfnRefIdeal.nD Cert.DhFfnRefIdeal.τ).loc Cert.DhFfnRefIdeal.main_arg3)
      ∧ r.2.mem ((c.tc : Thread Cert.DhFfnRefIdeal.nD Cert.DhFfnRefIdeal.τ).loc Cert.DhFfnRefIdeal.main_arg4) = m ((c.tc : Thread Cert.DhFfnRefIdeal.nD Cert.DhFfnRefIdeal.τ).loc Cert.DhFfnRefIdeal.main_arg4)
      ∧ r.2.mem ((c.tc : Thread Cert.DhFfnRefIdeal.nD Cert.DhFfnRefIdeal.τ).loc Cert.DhFfnRefIdeal.main_arg5) = m ((c.tc : Thread Cert.DhFfnRefIdeal.nD Cert.DhFfnRefIdeal.τ).loc Cert.DhFfnRefIdeal.main_arg5)
      ∧ r.2.mem ((c.tc : Thread Cert.DhFfnRefIdeal.nD Cert.DhFfnRefIdeal.τ).loc Cert.DhFfnRefIdeal.main_arg6) = m ((c.tc : Thread Cert.DhFfnRefIdeal.nD Cert.DhFfnRefIdeal.τ).loc Cert.DhFfnRefIdeal.main_arg6)
      ∧ r.2.mem ((c.tc : Thread Cert.DhFfnRefIdeal.nD Cert.DhFfnRefIdeal.τ).loc Cert.DhFfnRefIdeal.main_arg7) = m ((c.tc : Thread Cert.DhFfnRefIdeal.nD Cert.DhFfnRefIdeal.τ).loc Cert.DhFfnRefIdeal.main_arg7))
      ∧ r.2.sem = fun _ => 0)

def quiescent_DhMix [hDhMix : Cert.DhMix.Facts] : Prop :=
  ∀ (m : (ℓ : Loc Cert.DhMix.nD Cert.DhMix.τ Cert.DhMix.sig) → Buf (Elt Bits) ℓ) (g : Dev Cert.DhMix.nD → PrngReg), Pre_DhMix m →
    θ_run (Cert.DhMix.defs (F := Bits)) (onTc (τ := Cert.DhMix.τ) (Cert.DhMix.main (F := Bits))) ⟨m, fun _ => 0, g⟩ (fun r => (∀ c : Dev Cert.DhMix.nD,
      r.2.mem ((c.tc : Thread Cert.DhMix.nD Cert.DhMix.τ).loc Cert.DhMix.main_arg0) = m ((c.tc : Thread Cert.DhMix.nD Cert.DhMix.τ).loc Cert.DhMix.main_arg0)
      ∧ r.2.mem ((c.tc : Thread Cert.DhMix.nD Cert.DhMix.τ).loc Cert.DhMix.main_arg1) = m ((c.tc : Thread Cert.DhMix.nD Cert.DhMix.τ).loc Cert.DhMix.main_arg1)
      ∧ r.2.mem ((c.tc : Thread Cert.DhMix.nD Cert.DhMix.τ).loc Cert.DhMix.main_arg2) = m ((c.tc : Thread Cert.DhMix.nD Cert.DhMix.τ).loc Cert.DhMix.main_arg2)
      ∧ r.2.mem ((c.tc : Thread Cert.DhMix.nD Cert.DhMix.τ).loc Cert.DhMix.main_arg3) = m ((c.tc : Thread Cert.DhMix.nD Cert.DhMix.τ).loc Cert.DhMix.main_arg3)
      ∧ r.2.mem ((c.tc : Thread Cert.DhMix.nD Cert.DhMix.τ).loc Cert.DhMix.main_arg4) = m ((c.tc : Thread Cert.DhMix.nD Cert.DhMix.τ).loc Cert.DhMix.main_arg4))
      ∧ r.2.sem = fun _ => 0)

def quiescent_DhMixIdeal [hDhMixIdeal : Cert.DhMixIdeal.Facts] : Prop :=
  ∀ (m : (ℓ : Loc Cert.DhMixIdeal.nD Cert.DhMixIdeal.τ Cert.DhMixIdeal.sig) → Buf (Elt Ideal) ℓ) (g : Dev Cert.DhMixIdeal.nD → PrngReg), Pre_DhMixIdeal m →
    θ_run (Cert.DhMixIdeal.defs (F := Ideal)) (onTc (τ := Cert.DhMixIdeal.τ) (Cert.DhMixIdeal.main (F := Ideal))) ⟨m, fun _ => 0, g⟩ (fun r => (∀ c : Dev Cert.DhMixIdeal.nD,
      r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
      ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
      ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2)
      ∧ r.2.mem ((c.tc : Thread Cert.DhMixIdeal.nD Cert.DhMixIdeal.τ).loc Cert.DhMixIdeal.main_arg3) = m ((c.tc : Thread Cert.DhMixIdeal.nD Cert.DhMixIdeal.τ).loc Cert.DhMixIdeal.main_arg3)
      ∧ r.2.mem ((c.tc : Thread Cert.DhMixIdeal.nD Cert.DhMixIdeal.τ).loc Cert.DhMixIdeal.main_arg4) = m ((c.tc : Thread Cert.DhMixIdeal.nD Cert.DhMixIdeal.τ).loc Cert.DhMixIdeal.main_arg4))
      ∧ r.2.sem = fun _ => 0)

def quiescent_DhMixRefIdeal [hDhMixRefIdeal : Cert.DhMixRefIdeal.Facts] : Prop :=
  ∀ (m : (ℓ : Loc Cert.DhMixRefIdeal.nD Cert.DhMixRefIdeal.τ Cert.DhMixRefIdeal.sig) → Buf (Elt Ideal) ℓ) (g : Dev Cert.DhMixRefIdeal.nD → PrngReg), Pre_DhMixRefIdeal m →
    θ_run (Cert.DhMixRefIdeal.defs (F := Ideal)) (onTc (τ := Cert.DhMixRefIdeal.τ) (Cert.DhMixRefIdeal.main (F := Ideal))) ⟨m, fun _ => 0, g⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1)
      ∧ r.2.mem ((c.tc : Thread Cert.DhMixRefIdeal.nD Cert.DhMixRefIdeal.τ).loc Cert.DhMixRefIdeal.main_arg2) = m ((c.tc : Thread Cert.DhMixRefIdeal.nD Cert.DhMixRefIdeal.τ).loc Cert.DhMixRefIdeal.main_arg2)
      ∧ r.2.mem ((c.tc : Thread Cert.DhMixRefIdeal.nD Cert.DhMixRefIdeal.τ).loc Cert.DhMixRefIdeal.main_arg3) = m ((c.tc : Thread Cert.DhMixRefIdeal.nD Cert.DhMixRefIdeal.τ).loc Cert.DhMixRefIdeal.main_arg3)
      ∧ r.2.mem ((c.tc : Thread Cert.DhMixRefIdeal.nD Cert.DhMixRefIdeal.τ).loc Cert.DhMixRefIdeal.main_arg4) = m ((c.tc : Thread Cert.DhMixRefIdeal.nD Cert.DhMixRefIdeal.τ).loc Cert.DhMixRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdIdeal_pre_finite_sb_fwd [hSbFwdIdeal : Cert.SbFwdIdeal.Facts] [hPre_finite_sb_fwd : Cert.Pre_finite_sb_fwd.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_sb_fwd m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_SbFwdRefIdeal_pre_finite_sb_fwd [hSbFwdRefIdeal : Cert.SbFwdRefIdeal.Facts] [hPre_finite_sb_fwd : Cert.Pre_finite_sb_fwd.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_sb_fwd m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def preserves_FfnAct_FfnActIdeal : Prop :=
  True

def algebraic_FfnActIdeal_FfnActRefIdeal_pre_finite_ffn_act [hFfnActIdeal : Cert.FfnActIdeal.Facts] [hFfnActRefIdeal : Cert.FfnActRefIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_finite_ffn_act m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v20_0)) (v1 : (c : Dev Cert.FfnActIdeal.nD) → Buf (Elt Ideal) ((c.tc : Thread Cert.FfnActIdeal.nD Cert.FfnActIdeal.τ).loc Cert.FfnActIdeal.main_v20_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v20_0) = v0 c
          ∧ r.2.mem ((c.tc : Thread Cert.FfnActIdeal.nD Cert.FfnActIdeal.τ).loc Cert.FfnActIdeal.main_v20_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v13) = v0 c
          ∧ r.2.mem ((c.tc : Thread Cert.FfnActRefIdeal.nD Cert.FfnActRefIdeal.τ).loc Cert.FfnActRefIdeal.main_v15) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v42_0)) (v1 : (c : Dev Cert.SbIdeal.nD) → Buf (Elt Ideal) ((c.tc : Thread Cert.SbIdeal.nD Cert.SbIdeal.τ).loc Cert.SbIdeal.main_v42_1)) (v2 : (c : Dev Cert.SbIdeal.nD) → Buf (Elt Ideal) ((c.tc : Thread Cert.SbIdeal.nD Cert.SbIdeal.τ).loc Cert.SbIdeal.main_v42_2)) (v3 : (c : Dev Cert.SbIdeal.nD) → Buf (Elt Ideal) ((c.tc : Thread Cert.SbIdeal.nD Cert.SbIdeal.τ).loc Cert.SbIdeal.main_v42_3)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v42_0) = v0 c
          ∧ r.2.mem ((c.tc : Thread Cert.SbIdeal.nD Cert.SbIdeal.τ).loc Cert.SbIdeal.main_v42_1) = v1 c
          ∧ r.2.mem ((c.tc : Thread Cert.SbIdeal.nD Cert.SbIdeal.τ).loc Cert.SbIdeal.main_v42_2) = v2 c
          ∧ r.2.mem ((c.tc : Thread Cert.SbIdeal.nD Cert.SbIdeal.τ).loc Cert.SbIdeal.main_v42_3) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v94) = v0 c
          ∧ r.2.mem ((c.tc : Thread Cert.SbRefIdeal.nD Cert.SbRefIdeal.τ).loc Cert.SbRefIdeal.main_v96) = v1 c
          ∧ r.2.mem ((c.tc : Thread Cert.SbRefIdeal.nD Cert.SbRefIdeal.τ).loc Cert.SbRefIdeal.main_v98) = v2 c
          ∧ r.2.mem ((c.tc : Thread Cert.SbRefIdeal.nD Cert.SbRefIdeal.τ).loc Cert.SbRefIdeal.main_v92) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_DhFfn_DhFfnIdeal : Prop :=
  True

def algebraic_DhFfnIdeal_DhFfnRefIdeal [hDhFfnIdeal : Cert.DhFfnIdeal.Facts] [hDhFfnRefIdeal : Cert.DhFfnRefIdeal.Facts] : Prop :=
  ∀ (m : (ℓ : Loc Cert.DhFfnIdeal.nD Cert.DhFfnIdeal.τ Cert.DhFfnIdeal.sig) → Buf (Elt Ideal) ℓ) (g : Dev Cert.DhFfnIdeal.nD → PrngReg)
    (m' : (ℓ : Loc Cert.DhFfnRefIdeal.nD Cert.DhFfnRefIdeal.τ Cert.DhFfnRefIdeal.sig) → Buf (Elt Ideal) ℓ) (g' : Dev Cert.DhFfnRefIdeal.nD → PrngReg), Pre_DhFfnIdeal m →
    (∀ c : Dev Cert.DhFfnIdeal.nD,
      m' ((c.tc : Thread Cert.DhFfnRefIdeal.nD Cert.DhFfnRefIdeal.τ).loc Cert.DhFfnRefIdeal.main_arg0) = m ((c.tc : Thread Cert.DhFfnIdeal.nD Cert.DhFfnIdeal.τ).loc Cert.DhFfnIdeal.main_arg0)
      ∧ m' ((c.tc : Thread Cert.DhFfnRefIdeal.nD Cert.DhFfnRefIdeal.τ).loc Cert.DhFfnRefIdeal.main_arg1) = m ((c.tc : Thread Cert.DhFfnIdeal.nD Cert.DhFfnIdeal.τ).loc Cert.DhFfnIdeal.main_arg1)
      ∧ m' ((c.tc : Thread Cert.DhFfnRefIdeal.nD Cert.DhFfnRefIdeal.τ).loc Cert.DhFfnRefIdeal.main_arg2) = m ((c.tc : Thread Cert.DhFfnIdeal.nD Cert.DhFfnIdeal.τ).loc Cert.DhFfnIdeal.main_arg2)
      ∧ m' ((c.tc : Thread Cert.DhFfnRefIdeal.nD Cert.DhFfnRefIdeal.τ).loc Cert.DhFfnRefIdeal.main_arg3) = m ((c.tc : Thread Cert.DhFfnIdeal.nD Cert.DhFfnIdeal.τ).loc Cert.DhFfnIdeal.main_arg3)
      ∧ m' ((c.tc : Thread Cert.DhFfnRefIdeal.nD Cert.DhFfnRefIdeal.τ).loc Cert.DhFfnRefIdeal.main_arg4) = m ((c.tc : Thread Cert.DhFfnIdeal.nD Cert.DhFfnIdeal.τ).loc Cert.DhFfnIdeal.main_arg4)
      ∧ m' ((c.tc : Thread Cert.DhFfnRefIdeal.nD Cert.DhFfnRefIdeal.τ).loc Cert.DhFfnRefIdeal.main_arg5) = m ((c.tc : Thread Cert.DhFfnIdeal.nD Cert.DhFfnIdeal.τ).loc Cert.DhFfnIdeal.main_arg5)
      ∧ m' ((c.tc : Thread Cert.DhFfnRefIdeal.nD Cert.DhFfnRefIdeal.τ).loc Cert.DhFfnRefIdeal.main_arg6) = m ((c.tc : Thread Cert.DhFfnIdeal.nD Cert.DhFfnIdeal.τ).loc Cert.DhFfnIdeal.main_arg6)
      ∧ m' ((c.tc : Thread Cert.DhFfnRefIdeal.nD Cert.DhFfnRefIdeal.τ).loc Cert.DhFfnRefIdeal.main_arg7) = m ((c.tc : Thread Cert.DhFfnIdeal.nD Cert.DhFfnIdeal.τ).loc Cert.DhFfnIdeal.main_arg7)) →
    ∃ (v0 : (c : Dev Cert.DhFfnIdeal.nD) → Buf (Elt Ideal) ((c.tc : Thread Cert.DhFfnIdeal.nD Cert.DhFfnIdeal.τ).loc Cert.DhFfnIdeal.main_v14_0)) (v1 : (c : Dev Cert.DhFfnIdeal.nD) → Buf (Elt Ideal) ((c.tc : Thread Cert.DhFfnIdeal.nD Cert.DhFfnIdeal.τ).loc Cert.DhFfnIdeal.main_v14_1)) (v2 : (c : Dev Cert.DhFfnIdeal.nD) → Buf (Elt Ideal) ((c.tc : Thread Cert.DhFfnIdeal.nD Cert.DhFfnIdeal.τ).loc Cert.DhFfnIdeal.main_v14_2)),
      θ_run (Cert.DhFfnIdeal.defs (F := Ideal)) (onTc (τ := Cert.DhFfnIdeal.τ) (Cert.DhFfnIdeal.main (F := Ideal))) ⟨m, fun _ => 0, g⟩ (fun r => ∀ c : Dev Cert.DhFfnIdeal.nD,
          r.2.mem ((c.tc : Thread Cert.DhFfnIdeal.nD Cert.DhFfnIdeal.τ).loc Cert.DhFfnIdeal.main_v14_0) = v0 c
          ∧ r.2.mem ((c.tc : Thread Cert.DhFfnIdeal.nD Cert.DhFfnIdeal.τ).loc Cert.DhFfnIdeal.main_v14_1) = v1 c
          ∧ r.2.mem ((c.tc : Thread Cert.DhFfnIdeal.nD Cert.DhFfnIdeal.τ).loc Cert.DhFfnIdeal.main_v14_2) = v2 c
          ∧ r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
          ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1)
          ∧ r.2.mem ((c.tc : Thread Cert.DhFfnIdeal.nD Cert.DhFfnIdeal.τ).loc Cert.DhFfnIdeal.main_arg2) = m ((c.tc : Thread Cert.DhFfnIdeal.nD Cert.DhFfnIdeal.τ).loc Cert.DhFfnIdeal.main_arg2)
          ∧ r.2.mem ((c.tc : Thread Cert.DhFfnIdeal.nD Cert.DhFfnIdeal.τ).loc Cert.DhFfnIdeal.main_arg3) = m ((c.tc : Thread Cert.DhFfnIdeal.nD Cert.DhFfnIdeal.τ).loc Cert.DhFfnIdeal.main_arg3)
          ∧ r.2.mem ((c.tc : Thread Cert.DhFfnIdeal.nD Cert.DhFfnIdeal.τ).loc Cert.DhFfnIdeal.main_arg4) = m ((c.tc : Thread Cert.DhFfnIdeal.nD Cert.DhFfnIdeal.τ).loc Cert.DhFfnIdeal.main_arg4)
          ∧ r.2.mem ((c.tc : Thread Cert.DhFfnIdeal.nD Cert.DhFfnIdeal.τ).loc Cert.DhFfnIdeal.main_arg5) = m ((c.tc : Thread Cert.DhFfnIdeal.nD Cert.DhFfnIdeal.τ).loc Cert.DhFfnIdeal.main_arg5)
          ∧ r.2.mem ((c.tc : Thread Cert.DhFfnIdeal.nD Cert.DhFfnIdeal.τ).loc Cert.DhFfnIdeal.main_arg6) = m ((c.tc : Thread Cert.DhFfnIdeal.nD Cert.DhFfnIdeal.τ).loc Cert.DhFfnIdeal.main_arg6)
          ∧ r.2.mem ((c.tc : Thread Cert.DhFfnIdeal.nD Cert.DhFfnIdeal.τ).loc Cert.DhFfnIdeal.main_arg7) = m ((c.tc : Thread Cert.DhFfnIdeal.nD Cert.DhFfnIdeal.τ).loc Cert.DhFfnIdeal.main_arg7))
      ∧ θ_run (Cert.DhFfnRefIdeal.defs (F := Ideal)) (onTc (τ := Cert.DhFfnRefIdeal.τ) (Cert.DhFfnRefIdeal.main (F := Ideal))) ⟨m', fun _ => 0, g'⟩ (fun r => ∀ c : Dev Cert.DhFfnRefIdeal.nD,
          r.2.mem ((c.tc : Thread Cert.DhFfnRefIdeal.nD Cert.DhFfnRefIdeal.τ).loc Cert.DhFfnRefIdeal.main_v50) = v0 c
          ∧ r.2.mem ((c.tc : Thread Cert.DhFfnRefIdeal.nD Cert.DhFfnRefIdeal.τ).loc Cert.DhFfnRefIdeal.main_v45) = v1 c
          ∧ r.2.mem ((c.tc : Thread Cert.DhFfnRefIdeal.nD Cert.DhFfnRefIdeal.τ).loc Cert.DhFfnRefIdeal.main_v51) = v2 c
          ∧ r.2.mem ((c.tc : Thread Cert.DhFfnRefIdeal.nD Cert.DhFfnRefIdeal.τ).loc Cert.DhFfnRefIdeal.main_arg0) = m' ((c.tc : Thread Cert.DhFfnRefIdeal.nD Cert.DhFfnRefIdeal.τ).loc Cert.DhFfnRefIdeal.main_arg0)
          ∧ r.2.mem ((c.tc : Thread Cert.DhFfnRefIdeal.nD Cert.DhFfnRefIdeal.τ).loc Cert.DhFfnRefIdeal.main_arg1) = m' ((c.tc : Thread Cert.DhFfnRefIdeal.nD Cert.DhFfnRefIdeal.τ).loc Cert.DhFfnRefIdeal.main_arg1)
          ∧ r.2.mem ((c.tc : Thread Cert.DhFfnRefIdeal.nD Cert.DhFfnRefIdeal.τ).loc Cert.DhFfnRefIdeal.main_arg2) = m' ((c.tc : Thread Cert.DhFfnRefIdeal.nD Cert.DhFfnRefIdeal.τ).loc Cert.DhFfnRefIdeal.main_arg2)
          ∧ r.2.mem ((c.tc : Thread Cert.DhFfnRefIdeal.nD Cert.DhFfnRefIdeal.τ).loc Cert.DhFfnRefIdeal.main_arg3) = m' ((c.tc : Thread Cert.DhFfnRefIdeal.nD Cert.DhFfnRefIdeal.τ).loc Cert.DhFfnRefIdeal.main_arg3)
          ∧ r.2.mem ((c.tc : Thread Cert.DhFfnRefIdeal.nD Cert.DhFfnRefIdeal.τ).loc Cert.DhFfnRefIdeal.main_arg4) = m' ((c.tc : Thread Cert.DhFfnRefIdeal.nD Cert.DhFfnRefIdeal.τ).loc Cert.DhFfnRefIdeal.main_arg4)
          ∧ r.2.mem ((c.tc : Thread Cert.DhFfnRefIdeal.nD Cert.DhFfnRefIdeal.τ).loc Cert.DhFfnRefIdeal.main_arg5) = m' ((c.tc : Thread Cert.DhFfnRefIdeal.nD Cert.DhFfnRefIdeal.τ).loc Cert.DhFfnRefIdeal.main_arg5)
          ∧ r.2.mem ((c.tc : Thread Cert.DhFfnRefIdeal.nD Cert.DhFfnRefIdeal.τ).loc Cert.DhFfnRefIdeal.main_arg6) = m' ((c.tc : Thread Cert.DhFfnRefIdeal.nD Cert.DhFfnRefIdeal.τ).loc Cert.DhFfnRefIdeal.main_arg6)
          ∧ r.2.mem ((c.tc : Thread Cert.DhFfnRefIdeal.nD Cert.DhFfnRefIdeal.τ).loc Cert.DhFfnRefIdeal.main_arg7) = m' ((c.tc : Thread Cert.DhFfnRefIdeal.nD Cert.DhFfnRefIdeal.τ).loc Cert.DhFfnRefIdeal.main_arg7))

def preserves_DhMix_DhMixIdeal : Prop :=
  True

def algebraic_DhMixIdeal_DhMixRefIdeal [hDhMixIdeal : Cert.DhMixIdeal.Facts] [hDhMixRefIdeal : Cert.DhMixRefIdeal.Facts] : Prop :=
  ∀ (m : (ℓ : Loc Cert.DhMixIdeal.nD Cert.DhMixIdeal.τ Cert.DhMixIdeal.sig) → Buf (Elt Ideal) ℓ) (g : Dev Cert.DhMixIdeal.nD → PrngReg)
    (m' : (ℓ : Loc Cert.DhMixRefIdeal.nD Cert.DhMixRefIdeal.τ Cert.DhMixRefIdeal.sig) → Buf (Elt Ideal) ℓ) (g' : Dev Cert.DhMixRefIdeal.nD → PrngReg), Pre_DhMixIdeal m →
    (∀ c : Dev Cert.DhMixIdeal.nD,
      m' ((c.tc : Thread Cert.DhMixRefIdeal.nD Cert.DhMixRefIdeal.τ).loc Cert.DhMixRefIdeal.main_arg0) = m ((c.tc : Thread Cert.DhMixIdeal.nD Cert.DhMixIdeal.τ).loc Cert.DhMixIdeal.main_arg0)
      ∧ m' ((c.tc : Thread Cert.DhMixRefIdeal.nD Cert.DhMixRefIdeal.τ).loc Cert.DhMixRefIdeal.main_arg1) = m ((c.tc : Thread Cert.DhMixIdeal.nD Cert.DhMixIdeal.τ).loc Cert.DhMixIdeal.main_arg1)
      ∧ m' ((c.tc : Thread Cert.DhMixRefIdeal.nD Cert.DhMixRefIdeal.τ).loc Cert.DhMixRefIdeal.main_arg2) = m ((c.tc : Thread Cert.DhMixIdeal.nD Cert.DhMixIdeal.τ).loc Cert.DhMixIdeal.main_arg2)
      ∧ m' ((c.tc : Thread Cert.DhMixRefIdeal.nD Cert.DhMixRefIdeal.τ).loc Cert.DhMixRefIdeal.main_arg3) = m ((c.tc : Thread Cert.DhMixIdeal.nD Cert.DhMixIdeal.τ).loc Cert.DhMixIdeal.main_arg3)
      ∧ m' ((c.tc : Thread Cert.DhMixRefIdeal.nD Cert.DhMixRefIdeal.τ).loc Cert.DhMixRefIdeal.main_arg4) = m ((c.tc : Thread Cert.DhMixIdeal.nD Cert.DhMixIdeal.τ).loc Cert.DhMixIdeal.main_arg4)) →
    ∃ (v0 : (c : Dev Cert.DhMixIdeal.nD) → Buf (Elt Ideal) ((c.tc : Thread Cert.DhMixIdeal.nD Cert.DhMixIdeal.τ).loc Cert.DhMixIdeal.main_v26_0)) (v1 : (c : Dev Cert.DhMixIdeal.nD) → Buf (Elt Ideal) ((c.tc : Thread Cert.DhMixIdeal.nD Cert.DhMixIdeal.τ).loc Cert.DhMixIdeal.main_v26_1)),
      θ_run (Cert.DhMixIdeal.defs (F := Ideal)) (onTc (τ := Cert.DhMixIdeal.τ) (Cert.DhMixIdeal.main (F := Ideal))) ⟨m, fun _ => 0, g⟩ (fun r => ∀ c : Dev Cert.DhMixIdeal.nD,
          r.2.mem ((c.tc : Thread Cert.DhMixIdeal.nD Cert.DhMixIdeal.τ).loc Cert.DhMixIdeal.main_v26_0) = v0 c
          ∧ r.2.mem ((c.tc : Thread Cert.DhMixIdeal.nD Cert.DhMixIdeal.τ).loc Cert.DhMixIdeal.main_v26_1) = v1 c
          ∧ r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
          ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
          ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2)
          ∧ r.2.mem ((c.tc : Thread Cert.DhMixIdeal.nD Cert.DhMixIdeal.τ).loc Cert.DhMixIdeal.main_arg3) = m ((c.tc : Thread Cert.DhMixIdeal.nD Cert.DhMixIdeal.τ).loc Cert.DhMixIdeal.main_arg3)
          ∧ r.2.mem ((c.tc : Thread Cert.DhMixIdeal.nD Cert.DhMixIdeal.τ).loc Cert.DhMixIdeal.main_arg4) = m ((c.tc : Thread Cert.DhMixIdeal.nD Cert.DhMixIdeal.τ).loc Cert.DhMixIdeal.main_arg4))
      ∧ θ_run (Cert.DhMixRefIdeal.defs (F := Ideal)) (onTc (τ := Cert.DhMixRefIdeal.τ) (Cert.DhMixRefIdeal.main (F := Ideal))) ⟨m', fun _ => 0, g'⟩ (fun r => ∀ c : Dev Cert.DhMixRefIdeal.nD,
          r.2.mem ((c.tc : Thread Cert.DhMixRefIdeal.nD Cert.DhMixRefIdeal.τ).loc Cert.DhMixRefIdeal.main_v42) = v0 c
          ∧ r.2.mem ((c.tc : Thread Cert.DhMixRefIdeal.nD Cert.DhMixRefIdeal.τ).loc Cert.DhMixRefIdeal.main_v41) = v1 c
          ∧ r.2.mem ((c.tc : Thread Cert.DhMixRefIdeal.nD Cert.DhMixRefIdeal.τ).loc Cert.DhMixRefIdeal.main_arg0) = m' ((c.tc : Thread Cert.DhMixRefIdeal.nD Cert.DhMixRefIdeal.τ).loc Cert.DhMixRefIdeal.main_arg0)
          ∧ r.2.mem ((c.tc : Thread Cert.DhMixRefIdeal.nD Cert.DhMixRefIdeal.τ).loc Cert.DhMixRefIdeal.main_arg1) = m' ((c.tc : Thread Cert.DhMixRefIdeal.nD Cert.DhMixRefIdeal.τ).loc Cert.DhMixRefIdeal.main_arg1)
          ∧ r.2.mem ((c.tc : Thread Cert.DhMixRefIdeal.nD Cert.DhMixRefIdeal.τ).loc Cert.DhMixRefIdeal.main_arg2) = m' ((c.tc : Thread Cert.DhMixRefIdeal.nD Cert.DhMixRefIdeal.τ).loc Cert.DhMixRefIdeal.main_arg2)
          ∧ r.2.mem ((c.tc : Thread Cert.DhMixRefIdeal.nD Cert.DhMixRefIdeal.τ).loc Cert.DhMixRefIdeal.main_arg3) = m' ((c.tc : Thread Cert.DhMixRefIdeal.nD Cert.DhMixRefIdeal.τ).loc Cert.DhMixRefIdeal.main_arg3)
          ∧ r.2.mem ((c.tc : Thread Cert.DhMixRefIdeal.nD Cert.DhMixRefIdeal.τ).loc Cert.DhMixRefIdeal.main_arg4) = m' ((c.tc : Thread Cert.DhMixRefIdeal.nD Cert.DhMixRefIdeal.τ).loc Cert.DhMixRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v7_0)) (v1 : (c : Dev Cert.DownLossIdeal.nD) → Buf (Elt Ideal) ((c.tc : Thread Cert.DownLossIdeal.nD Cert.DownLossIdeal.τ).loc Cert.DownLossIdeal.main_v7_1)) (v2 : (c : Dev Cert.DownLossIdeal.nD) → Buf (Elt Ideal) ((c.tc : Thread Cert.DownLossIdeal.nD Cert.DownLossIdeal.τ).loc Cert.DownLossIdeal.main_v7_2)) (v3 : (c : Dev Cert.DownLossIdeal.nD) → Buf (Elt Ideal) ((c.tc : Thread Cert.DownLossIdeal.nD Cert.DownLossIdeal.τ).loc Cert.DownLossIdeal.main_v7_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v7_0) = v0 c
          ∧ r.2.mem ((c.tc : Thread Cert.DownLossIdeal.nD Cert.DownLossIdeal.τ).loc Cert.DownLossIdeal.main_v7_1) = v1 c
          ∧ r.2.mem ((c.tc : Thread Cert.DownLossIdeal.nD Cert.DownLossIdeal.τ).loc Cert.DownLossIdeal.main_v7_2) = v2 c
          ∧ r.2.mem ((c.tc : Thread Cert.DownLossIdeal.nD Cert.DownLossIdeal.τ).loc Cert.DownLossIdeal.main_v7_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v54) = v0 c
          ∧ r.2.mem ((c.tc : Thread Cert.DownLossRefIdeal.nD Cert.DownLossRefIdeal.τ).loc Cert.DownLossRefIdeal.main_v55) = v1 c
          ∧ r.2.mem ((c.tc : Thread Cert.DownLossRefIdeal.nD Cert.DownLossRefIdeal.τ).loc Cert.DownLossRefIdeal.main_v56) = v2 c
          ∧ r.2.mem ((c.tc : Thread Cert.DownLossRefIdeal.nD Cert.DownLossRefIdeal.τ).loc Cert.DownLossRefIdeal.main_v57) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v8_0)) (v1 : (c : Dev Cert.FfnUpIdeal.nD) → Buf (Elt Ideal) ((c.tc : Thread Cert.FfnUpIdeal.nD Cert.FfnUpIdeal.τ).loc Cert.FfnUpIdeal.main_v8_1)) (v2 : (c : Dev Cert.FfnUpIdeal.nD) → Buf (Elt Ideal) ((c.tc : Thread Cert.FfnUpIdeal.nD Cert.FfnUpIdeal.τ).loc Cert.FfnUpIdeal.main_v8_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v8_0) = v0 c
          ∧ r.2.mem ((c.tc : Thread Cert.FfnUpIdeal.nD Cert.FfnUpIdeal.τ).loc Cert.FfnUpIdeal.main_v8_1) = v1 c
          ∧ r.2.mem ((c.tc : Thread Cert.FfnUpIdeal.nD Cert.FfnUpIdeal.τ).loc Cert.FfnUpIdeal.main_v8_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v19) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_SbFwd_SbFwdIdeal : Prop :=
  True

def algebraic_SbFwdIdeal_SbFwdRefIdeal_pre_finite_sb_fwd [hSbFwdIdeal : Cert.SbFwdIdeal.Facts] [hSbFwdRefIdeal : Cert.SbFwdRefIdeal.Facts] [hPre_finite_sb_fwd : Cert.Pre_finite_sb_fwd.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_sb_fwd m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)
      ∧ m' ((c.tc : Thread Cert.SbFwdRefIdeal.nD Cert.SbFwdRefIdeal.τ).loc Cert.SbFwdRefIdeal.main_arg2) = m ((c.tc : Thread Cert.SbFwdIdeal.nD Cert.SbFwdIdeal.τ).loc Cert.SbFwdIdeal.main_arg2)) →
    ∃ (v0 : (c : Dev Cert.SbFwdIdeal.nD) → Buf (Elt Ideal) ((c.tc : Thread Cert.SbFwdIdeal.nD Cert.SbFwdIdeal.τ).loc Cert.SbFwdIdeal.main_v9_0)) (v1 : (c : Dev Cert.SbFwdIdeal.nD) → Buf (Elt Ideal) ((c.tc : Thread Cert.SbFwdIdeal.nD Cert.SbFwdIdeal.τ).loc Cert.SbFwdIdeal.main_v9_1)) (v2 : (c : Dev Cert.SbFwdIdeal.nD) → Buf (Elt Ideal) ((c.tc : Thread Cert.SbFwdIdeal.nD Cert.SbFwdIdeal.τ).loc Cert.SbFwdIdeal.main_v9_2)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v9_0) = v0 c
          ∧ r.2.mem ((c.tc : Thread Cert.SbFwdIdeal.nD Cert.SbFwdIdeal.τ).loc Cert.SbFwdIdeal.main_v9_1) = v1 c
          ∧ r.2.mem ((c.tc : Thread Cert.SbFwdIdeal.nD Cert.SbFwdIdeal.τ).loc Cert.SbFwdIdeal.main_v9_2) = v2 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v50) = v0 c
          ∧ r.2.mem ((c.tc : Thread Cert.SbFwdRefIdeal.nD Cert.SbFwdRefIdeal.τ).loc Cert.SbFwdRefIdeal.main_v51) = v1 c
          ∧ r.2.mem ((c.tc : Thread Cert.SbFwdRefIdeal.nD Cert.SbFwdRefIdeal.τ).loc Cert.SbFwdRefIdeal.main_v52) = v2 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1)
          ∧ r.2.mem ((c.tc : Thread Cert.SbFwdRefIdeal.nD Cert.SbFwdRefIdeal.τ).loc Cert.SbFwdRefIdeal.main_arg2) = m' ((c.tc : Thread Cert.SbFwdRefIdeal.nD Cert.SbFwdRefIdeal.τ).loc Cert.SbFwdRefIdeal.main_arg2))

def Claim : Prop :=
  ∃ (hFfnAct : Cert.FfnAct.Facts) (hFfnActIdeal : Cert.FfnActIdeal.Facts) (hFfnActRefIdeal : Cert.FfnActRefIdeal.Facts) (hSb : Cert.Sb.Facts) (hSbIdeal : Cert.SbIdeal.Facts) (hSbRefIdeal : Cert.SbRefIdeal.Facts) (hDhFfn : Cert.DhFfn.Facts) (hDhFfnIdeal : Cert.DhFfnIdeal.Facts) (hDhFfnRefIdeal : Cert.DhFfnRefIdeal.Facts) (hDhMix : Cert.DhMix.Facts) (hDhMixIdeal : Cert.DhMixIdeal.Facts) (hDhMixRefIdeal : Cert.DhMixRefIdeal.Facts) (hDownLoss : Cert.DownLoss.Facts) (hDownLossIdeal : Cert.DownLossIdeal.Facts) (hDownLossRefIdeal : Cert.DownLossRefIdeal.Facts) (hFfnUp : Cert.FfnUp.Facts) (hFfnUpIdeal : Cert.FfnUpIdeal.Facts) (hFfnUpRefIdeal : Cert.FfnUpRefIdeal.Facts) (hMixOut : Cert.MixOut.Facts) (hMixOutIdeal : Cert.MixOutIdeal.Facts) (hMixOutRefIdeal : Cert.MixOutRefIdeal.Facts) (hSbFwd : Cert.SbFwd.Facts) (hSbFwdIdeal : Cert.SbFwdIdeal.Facts) (hSbFwdRefIdeal : Cert.SbFwdRefIdeal.Facts) (hPre_finite_ffn_act : Cert.Pre_finite_ffn_act.Facts) (hPre_finite_sb : Cert.Pre_finite_sb.Facts) (hPre_finite_sb_fwd : Cert.Pre_finite_sb_fwd.Facts),
    quiescent_FfnAct (hFfnAct := hFfnAct)
    ∧ quiescent_FfnActIdeal (hFfnActIdeal := hFfnActIdeal)
    ∧ quiescent_FfnActIdeal_pre_finite_ffn_act (hFfnActIdeal := hFfnActIdeal) (hPre_finite_ffn_act := hPre_finite_ffn_act)
    ∧ quiescent_FfnActRefIdeal (hFfnActRefIdeal := hFfnActRefIdeal)
    ∧ quiescent_FfnActRefIdeal_pre_finite_ffn_act (hFfnActRefIdeal := hFfnActRefIdeal) (hPre_finite_ffn_act := hPre_finite_ffn_act)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_DhFfn (hDhFfn := hDhFfn)
    ∧ quiescent_DhFfnIdeal (hDhFfnIdeal := hDhFfnIdeal)
    ∧ quiescent_DhFfnRefIdeal (hDhFfnRefIdeal := hDhFfnRefIdeal)
    ∧ quiescent_DhMix (hDhMix := hDhMix)
    ∧ quiescent_DhMixIdeal (hDhMixIdeal := hDhMixIdeal)
    ∧ quiescent_DhMixRefIdeal (hDhMixRefIdeal := hDhMixRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_SbFwd (hSbFwd := hSbFwd)
    ∧ quiescent_SbFwdIdeal (hSbFwdIdeal := hSbFwdIdeal)
    ∧ quiescent_SbFwdIdeal_pre_finite_sb_fwd (hSbFwdIdeal := hSbFwdIdeal) (hPre_finite_sb_fwd := hPre_finite_sb_fwd)
    ∧ quiescent_SbFwdRefIdeal (hSbFwdRefIdeal := hSbFwdRefIdeal)
    ∧ quiescent_SbFwdRefIdeal_pre_finite_sb_fwd (hSbFwdRefIdeal := hSbFwdRefIdeal) (hPre_finite_sb_fwd := hPre_finite_sb_fwd)
    ∧ preserves_FfnAct_FfnActIdeal
    ∧ algebraic_FfnActIdeal_FfnActRefIdeal_pre_finite_ffn_act (hFfnActIdeal := hFfnActIdeal) (hFfnActRefIdeal := hFfnActRefIdeal) (hPre_finite_ffn_act := hPre_finite_ffn_act)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_DhFfn_DhFfnIdeal
    ∧ algebraic_DhFfnIdeal_DhFfnRefIdeal (hDhFfnIdeal := hDhFfnIdeal) (hDhFfnRefIdeal := hDhFfnRefIdeal)
    ∧ preserves_DhMix_DhMixIdeal
    ∧ algebraic_DhMixIdeal_DhMixRefIdeal (hDhMixIdeal := hDhMixIdeal) (hDhMixRefIdeal := hDhMixRefIdeal)
    ∧ preserves_DownLoss_DownLossIdeal
    ∧ algebraic_DownLossIdeal_DownLossRefIdeal (hDownLossIdeal := hDownLossIdeal) (hDownLossRefIdeal := hDownLossRefIdeal)
    ∧ preserves_FfnUp_FfnUpIdeal
    ∧ algebraic_FfnUpIdeal_FfnUpRefIdeal (hFfnUpIdeal := hFfnUpIdeal) (hFfnUpRefIdeal := hFfnUpRefIdeal)
    ∧ preserves_MixOut_MixOutIdeal
    ∧ algebraic_MixOutIdeal_MixOutRefIdeal (hMixOutIdeal := hMixOutIdeal) (hMixOutRefIdeal := hMixOutRefIdeal)
    ∧ preserves_SbFwd_SbFwdIdeal
    ∧ algebraic_SbFwdIdeal_SbFwdRefIdeal_pre_finite_sb_fwd (hSbFwdIdeal := hSbFwdIdeal) (hSbFwdRefIdeal := hSbFwdRefIdeal) (hPre_finite_sb_fwd := hPre_finite_sb_fwd)
-- ==== Pre_finite_ffn_act.lean ====
abbrev S2x2048x1024 : Shape := ⟨3, ![2, 2048, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S2x2048x1024 .f32) (main_arg1 : FVec F S1x1024x2816 .f32) (main_arg2 : FVec F S1x1024x2816 .f32) (main_arg3 : FVec F S1x2816x1024 .f32) (main_arg4 : FVec F S2x2048x1024 .f32) : IVec S2x2048x1024 1 × IVec S1x1024x2816 1 × IVec S1x2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  let main_v6 : FVec F S1x2816x1024 .f32 := Host.absf main_arg3
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_v9 : FVec F S2x2048x1024 .f32 := Host.absf main_arg4
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  (main_v2, main_v5, main_v8, main_v11)
-- ==== Pre_finite_sb.lean ====
abbrev S2x2048x1536 : Shape := ⟨3, ![2, 2048, 1536]⟩
abbrev S1x512 : Shape := ⟨2, ![1, 512]⟩
abbrev S2x2048x1024 : Shape := ⟨3, ![2, 2048, 1024]⟩
abbrev S_ : Shape := ⟨0, ![]⟩

class Facts : Prop where
  bcast_S_S2x2048x1536 : S_.BroadcastsInDim S2x2048x1536 (![] : Fin 0 → Fin S2x2048x1536.rank)
  bcast_S_S1x512 : S_.BroadcastsInDim S1x512 (![] : Fin 0 → Fin S1x512.rank)
  bcast_S_S2x2048x1024 : S_.BroadcastsInDim S2x2048x1024 (![] : Fin 0 → Fin S2x2048x1024.rank)

variable [Facts]

def fn {F : FTy → Type} [FloatOps F] (main_arg0 : FVec F S2x2048x1536 .f32) (main_arg1 : FVec F S1x512 .f32) (main_arg2 : FVec F S2x2048x1024 .f32) : IVec S2x2048x1536 1 × IVec S1x512 1 × IVec S2x2048x1024 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  (main_v2, main_v5, main_v8)
-- ==== Pre_finite_sb_fwd.lean ====
abbrev S2x2048x1536 : Shape := ⟨3, ![2, 2048, 1536]⟩
abbrev S1x512 : Shape := ⟨2, ![1, 512]⟩
abbrev S2x2048x1024 : Shape := ⟨3, ![2, 2048, 1024]⟩
abbrev S_ : Shape := ⟨0, ![]⟩

class Facts : Prop where
  slices_S2x2048x1536_S2x2048x1024_0_0_0 : S2x2048x1536.Slices ![0, 0, 0] S2x2048x1024
  bcast_S_S2x2048x1024 : S_.BroadcastsInDim S2x2048x1024 (![] : Fin 0 → Fin S2x2048x1024.rank)

variable [Facts]

def fn {F : FTy → Type} [FloatOps F] (main_arg0 : FVec F S2x2048x1536 .f32) (main_arg1 : FVec F S1x512 .f32) (main_arg2 : FVec F S2x2048x1024 .f32) : IVec S2x2048x1024 1 :=
  let main_v0 : FVec F S2x2048x1024 .f32 := (extractStridedSlice S2x2048x1024 ![0, 0, 0] · slices_S2x2048x1536_S2x2048x1024_0_0_0) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  main_v3
-- ==== FfnAct.lean ====
abbrev S2x2048x1024 : Shape := ⟨3, ![2, 2048, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 27
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S2816x1024, .f32⟩
  | .hbm, ⟨17, _⟩ => ⟨S4096x2816, .f32⟩
  | .hbm, ⟨18, _⟩ => ⟨S4096x2816, .bf16⟩
  | .hbm, ⟨19, _⟩ => ⟨S4096x1024, .f32⟩
  | .hbm, ⟨20, _⟩ => ⟨S2816x1024, .f32⟩
  | .hbm, ⟨21, _⟩ => ⟨S4096x2816, .f32⟩
  | .hbm, ⟨22, _⟩ => ⟨S4096x2816, .bf16⟩
  | .hbm, ⟨23, _⟩ => ⟨S4096x1024, .f32⟩
  | .hbm, ⟨24, _⟩ => ⟨S4096x1024, .bf16⟩
  | .hbm, ⟨25, _⟩ => ⟨S4096x2816, .bf16⟩
  | .hbm, ⟨26, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActRefIdeal.lean ====
abbrev S2x2048x1024 : Shape := ⟨3, ![2, 2048, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2x2048x2816 : Shape := ⟨3, ![2, 2048, 2816]⟩
abbrev S_ : Shape := ⟨0, ![]⟩
abbrev S2816x1024 : Shape := ⟨2, ![2816, 1024]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x2048x1024, .f32⟩
  | .hbm, ⟨5, _⟩ => ⟨S1024x2816, .f32⟩
  | .hbm, ⟨6, _⟩ => ⟨S2x2048x2816, .f32⟩
  | .hbm, ⟨7, _⟩ => ⟨S1024x2816, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S_, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S2816x1024, .f32⟩
  | .hbm, ⟨24, _⟩ => ⟨S2x2048x1024, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S4096x2816, .f32⟩
  | .hbm, ⟨33, _⟩ => ⟨S4096x2816, .bf16⟩
  | .hbm, ⟨34, _⟩ => ⟨S4096x2816, .f32⟩
  | .hbm, ⟨35, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Sb.lean ====
abbrev S2x2048x1536 : Shape := ⟨3, ![2, 2048, 1536]⟩
abbrev S1x512 : Shape := ⟨2, ![1, 512]⟩
abbrev S2x2048x1024 : Shape := ⟨3, ![2, 2048, 1024]⟩
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4096x512 : Shape := ⟨2, ![4096, 512]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S4096x1536 : Shape := ⟨2, ![4096, 1536]⟩
abbrev S4096x1024 : Shape := ⟨2, ![4096, 1024]⟩
abbrev S256x256 : Shape := ⟨2, ![256, 256]⟩
abbrev S512x128 : Shape := ⟨2, ![512, 128]⟩
abbrev S2048x128 : Shape := ⟨2, ![2048, 128]⟩
abbrev S1x128 : Shape := ⟨2, ![1, 128]⟩
abbrev S8x128x256 : Shape := ⟨3, ![8, 128, 256]⟩
abbrev S512 : Shape := ⟨1, ![512]⟩
abbrev S512x1 : Shape := ⟨2, ![512, 1]⟩
abbrev S128 : Shape := ⟨1, ![128]⟩
abbrev S256x128 : Shape := ⟨2, ![256, 128]⟩
abbrev S128x1 : Shape := ⟨2, ![128, 1]⟩
abbrev S128x256 : Shape := ⟨2, ![128, 256]⟩
abbrev S256x1 : Shape := ⟨2, ![256, 1]⟩
abbrev S1x128x256 : Shape := ⟨3, ![1, 128, 256]⟩
abbrev S128x128 : Shape := ⟨2, ![128, 128]⟩

abbrev nBuf : Space → Nat
  | .hbm => 93
  | .vmem => 25
  | .smem => 0
  | _ => 0

abbrev bufTy : (tb : Table) → Fin (tcTables nBuf tb) → BufTy
  | .hbm, ⟨0, _⟩ => ⟨S2x2048x1536, .f32⟩
  | .hbm, ⟨1, _⟩ => ⟨S1x512, .f32⟩
  | .hbm, ⟨2, _⟩ => ⟨S2x2048x1024, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x8x64, .f32⟩
  | .hbm, ⟨7, _⟩ => ⟨S2x8x2048x64, .f32⟩
  | .hbm, ⟨8, _⟩ => ⟨S2x2048x8x64, .f32⟩
  | .hbm, ⟨9, _⟩ => ⟨S2x8x2048x64, .f32⟩
  | .hbm, ⟨10, _⟩ => ⟨S2x2048x8x64, .f32⟩
  | .hbm, ⟨11, _⟩ => ⟨S2x8x2048x64, .f32⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S_, .f32⟩
  | .hbm, ⟨38, _⟩ => ⟨S2x8x2048x2048, .i1⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S_, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .f32⟩
  | .hbm, ⟨46, _⟩ => ⟨S_, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S2x8x2048x2048, .i1⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S_, .f32⟩
  | .hbm, ⟨64, _⟩ => ⟨S_, .f32⟩
  | .hbm, ⟨65, _⟩ => ⟨S2x8x2048x2048, .i1⟩
  | .hbm, ⟨66, _⟩ => ⟨S2x8x2048x2048, .f32⟩
  | .hbm, ⟨67, _⟩ => ⟨S2x8x2048x2048, .f32⟩
  | .hbm, ⟨68, _⟩ => ⟨S2x8x2048x64, .f32⟩
  | .hbm, ⟨69, _⟩ => ⟨S2x2048x8x64, .f32⟩
  | .hbm, ⟨70, _⟩ => ⟨S4096x512, .f32⟩
  | .hbm, ⟨71, _⟩ => ⟨S_, .f32⟩
  | .hbm, ⟨72, _⟩ => ⟨S2x8x2048, .f32⟩
  | .hbm, ⟨73, _⟩ => ⟨S2x2048x8, .f32⟩
  | .hbm, ⟨74, _⟩ => ⟨S2x2048x8x1, .f32⟩
  | .hbm, ⟨75, _⟩ => ⟨S2x2048x8x64, .f32⟩
  | .hbm, ⟨76, _⟩ => ⟨S4096x512, .f32⟩
  | .hbm, ⟨77, _⟩ => ⟨S4096x1536, .f32⟩
  | .hbm, ⟨78, _⟩ => ⟨S4096x1536, .bf16⟩
  | .hbm, ⟨79, _⟩ => ⟨S4096x1024, .f32⟩
  | .hbm, ⟨80, _⟩ => ⟨S256x256, .i32⟩
  | .hbm, ⟨81, _⟩ => ⟨S256x256, .i32⟩
  | .hbm, ⟨82, _⟩ => ⟨S256x256, .i1⟩
  | .hbm, ⟨83, _⟩ => ⟨S_, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S256x256, .bf16⟩
  | .hbm, ⟨89, _⟩ => ⟨S4096x512, .bf16⟩
  | .hbm, ⟨90, _⟩ => ⟨S4096x512, .bf16⟩
  | .hbm, ⟨91, _⟩ => ⟨S4096x512, .bf16⟩
  | .hbm, ⟨92, _⟩ => ⟨S1x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S256x256, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .bf16⟩
  | .local _ .vmem, ⟨16, _⟩ => ⟨S512x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S1x128, .f32⟩
  | .local _ .vmem, ⟨22, _⟩ => ⟨S1x128, .f32⟩
  | .local _ .vmem, ⟨23, _⟩ => ⟨S8x128x256, .f32⟩
  | .local _ .vmem, ⟨24, _⟩ => ⟨S8x128x256, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_3 : Ref sig .tc := ⟨.hbm, 83, rfl⟩
abbrev main_cst_4 : Ref sig .tc := ⟨.hbm, 84, rfl⟩
abbrev main_call5_v0 : Ref sig .tc := ⟨.hbm, 85, rfl⟩
abbrev main_call5_v1 : Ref sig .tc := ⟨.hbm, 86, rfl⟩
abbrev main_v40 : Ref sig .tc := ⟨.hbm, 87, rfl⟩
abbrev main_v41 : Ref sig .tc := ⟨.hbm, 88, rfl⟩
abbrev main_v42_0 : Ref sig .tc := ⟨.hbm, 89, rfl⟩
abbrev main_v42_1 : Ref sig .tc := ⟨.hbm, 90, rfl⟩
abbrev main_v42_2 : Ref sig .tc := ⟨.hbm, 91, rfl⟩
abbrev main_v42_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 2, 4], ![false, false, false]⟩

@[reducible] def k0_t1_loop (i : grid0.Coords) : Scf.Loop 32 :=
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_52 : BitVec 32 := 1#32
  ⟨c0_i32_50, v179, c1_i32_52⟩
def k0_mult1 (i : grid0.Coords) (k0_t1 : Fin (k0_t1_loop i).trips) : BitVec 32 :=
  let c2_i32_229 : BitVec 32 := 2#32
  let c0_i32_50 : BitVec 32 := 0#32
  let c1_i32_52 : BitVec 32 := 1#32
  let arg17 : BitVec 32 := Scf.iv c0_i32_50 c1_i32_52 k0_t1
  let v845 : BitVec 32 := Scalar.muli c2_i32_229 arg17
  let c256_i32_232 : BitVec 32 := 256#32
  let v848 : BitVec 32 := Scalar.muli v845 c256_i32_232
  v848
def k0_mult2 (i : grid0.Coords) (k0_t1 : Fin (k0_t1_loop i).trips) : BitVec 32 :=
  let c2_i32_230 : BitVec 32 := 2#32
  let c0_i32_50 : BitVec 32 := 0#32
  let c1_i32_52 : BitVec 32 := 1#32
  let arg17 : BitVec 32 := Scf.iv c0_i32_50 c1_i32_52 k0_t1
  let v846 : BitVec 32 := Scalar.muli c2_i32_230 arg17
  let c1_i32_231 : BitVec 32 := 1#32
  let v847 : BitVec 32 := Scalar.addi v846 c1_i32_231
  let c256_i32_233 : BitVec 32 := 256#32
  let v850 : BitVec 32 := Scalar.muli v847 c256_i32_233
  v850
def k0_off1 (i : grid0.Coords) (k0_t1 : Fin (k0_t1_loop i).trips) : Fin 2 → Nat :=
  let c2_i32_229 : BitVec 32 := 2#32
  let c0_i32_50 : BitVec 32 := 0#32
  let c1_i32_52 : BitVec 32 := 1#32
  let arg17 : BitVec 32 := Scf.iv c0_i32_50 c1_i32_52 k0_t1
  let v845 : BitVec 32 := Scalar.muli c2_i32_229 arg17
  let c256_i32_232 : BitVec 32 := 256#32
  let v848 : BitVec 32 := Scalar.muli v845 c256_i32_232
  let v849 : BitVec 32 := v848
  let v852 : Index := Scalar.indexCast v849
  let c0_234 : Index := 0#32
  ![v852.toNat, 0]
def k0_off2 (i : grid0.Coords) (k0_t1 : Fin (k0_t1_loop i).trips) : Fin 2 → Nat :=
  let c2_i32_230 : BitVec 32 := 2#32
  let c0_i32_50 : BitVec 32 := 0#32
  let c1_i32_52 : BitVec 32 := 1#32
  let arg17 : BitVec 32 := Scf.iv c0_i32_50 c1_i32_52 k0_t1
  let v846 : BitVec 32 := Scalar.muli c2_i32_230 arg17
  let c1_i32_231 : BitVec 32 := 1#32
  let v847 : BitVec 32 := Scalar.addi v846 c1_i32_231
  let c256_i32_233 : BitVec 32 := 256#32
  let v850 : BitVec 32 := Scalar.muli v847 c256_i32_233
  let v851 : BitVec 32 := v850
  let v855 : Index := Scalar.indexCast v851
  let c0_235 : Index := 0#32
  ![v855.toNat, 0]
def k0_off3 (i : grid0.Coords) (k0_t1 : Fin (k0_t1_loop i).trips) : Fin 3 → Nat :=
  let c2_i32_229 : BitVec 32 := 2#32
  let c0_i32_50 : BitVec 32 := 0#32
  let c1_i32_52 : BitVec 32 := 1#32
  let arg17 : BitVec 32 := Scf.iv c0_i32_50 c1_i32_52 k0_t1
  let v845 : BitVec 32 := Scalar.muli c2_i32_229 arg17
  let v1006 : Index := Scalar.indexCast v845
  let c0_286 : Index := 0#32
  let c0_287 : Index := 0#32
  ![v1006.toNat, 0, 0]
def k0_off4 (i : grid0.Coords) (k0_t1 : Fin (k0_t1_loop i).trips) : Fin 3 → Nat :=
  let c2_i32_230 : BitVec 32 := 2#32
  let c0_i32_50 : BitVec 32 := 0#32
  let c1_i32_52 : BitVec 32 := 1#32
  let arg17 : BitVec 32 := Scf.iv c0_i32_50 c1_i32_52 k0_t1
  let v846 : BitVec 32 := Scalar.muli c2_i32_230 arg17
  let c1_i32_231 : BitVec 32 := 1#32
  let v847 : BitVec 32 := Scalar.addi v846 c1_i32_231
  let v1044 : Index := Scalar.indexCast v847
  let c0_298 : Index := 0#32
  let c0_299 : Index := 0#32
  ![v1044.toNat, 0, 0]
@[reducible] def k0_t2_loop (i : grid0.Coords) : Scf.Loop 32 :=
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let v176 : BitVec 32 := Scalar.addi c0_i32_50 v175
  let c1_i32_53 : BitVec 32 := 1#32
  ⟨v179, v176, c1_i32_53⟩
def k0_mult3 (i : grid0.Coords) (k0_t2 : Fin (k0_t2_loop i).trips) : BitVec 32 :=
  let c2_i32_229 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v845 : BitVec 32 := Scalar.muli c2_i32_229 arg17
  let c256_i32_232 : BitVec 32 := 256#32
  let v848 : BitVec 32 := Scalar.muli v845 c256_i32_232
  v848
def k0_mult4 (i : grid0.Coords) (k0_t2 : Fin (k0_t2_loop i).trips) : BitVec 32 :=
  let c2_i32_230 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v846 : BitVec 32 := Scalar.muli c2_i32_230 arg17
  let c1_i32_231 : BitVec 32 := 1#32
  let v847 : BitVec 32 := Scalar.addi v846 c1_i32_231
  let c256_i32_233 : BitVec 32 := 256#32
  let v850 : BitVec 32 := Scalar.muli v847 c256_i32_233
  v850
def k0_off5 (i : grid0.Coords) (k0_t2 : Fin (k0_t2_loop i).trips) : Fin 2 → Nat :=
  let c2_i32_229 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v845 : BitVec 32 := Scalar.muli c2_i32_229 arg17
  let c256_i32_232 : BitVec 32 := 256#32
  let v848 : BitVec 32 := Scalar.muli v845 c256_i32_232
  let v849 : BitVec 32 := v848
  let v852 : Index := Scalar.indexCast v849
  let c0_234 : Index := 0#32
  ![v852.toNat, 0]
def k0_off6 (i : grid0.Coords) (k0_t2 : Fin (k0_t2_loop i).trips) : Fin 2 → Nat :=
  let c2_i32_230 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v846 : BitVec 32 := Scalar.muli c2_i32_230 arg17
  let c1_i32_231 : BitVec 32 := 1#32
  let v847 : BitVec 32 := Scalar.addi v846 c1_i32_231
  let c256_i32_233 : BitVec 32 := 256#32
  let v850 : BitVec 32 := Scalar.muli v847 c256_i32_233
  let v851 : BitVec 32 := v850
  let v855 : Index := Scalar.indexCast v851
  let c0_235 : Index := 0#32
  ![v855.toNat, 0]
def k0_off7 (i : grid0.Coords) (k0_t2 : Fin (k0_t2_loop i).trips) : Fin 3 → Nat :=
  let c2_i32_229 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v845 : BitVec 32 := Scalar.muli c2_i32_229 arg17
  let v1006 : Index := Scalar.indexCast v845
  let c0_286 : Index := 0#32
  let c0_287 : Index := 0#32
  ![v1006.toNat, 0, 0]
def k0_off8 (i : grid0.Coords) (k0_t2 : Fin (k0_t2_loop i).trips) : Fin 3 → Nat :=
  let c2_i32_230 : BitVec 32 := 2#32
  let c0_i32_50 : BitVec 32 := 0#32
  let arg2 : BitVec 32 := BitVec.ofNat 32 (i 2).val
  let v175 : BitVec 32 := Scalar.subi arg2 c0_i32_50
  let c1_i32_51 : BitVec 32 := 1#32
  let v177 : BitVec 32 := Scalar.divsi v175 c1_i32_51
  let v178 : BitVec 32 := Scalar.muli v177 c1_i32_51
  let v179 : BitVec 32 := Scalar.addi c0_i32_50 v178
  let c1_i32_53 : BitVec 32 := 1#32
  let arg17 : BitVec 32 := Scf.iv v179 c1_i32_53 k0_t2
  let v846 : BitVec 32 := Scalar.muli c2_i32_230 arg17
  let c1_i32_231 : BitVec 32 := 1#32
  let v847 : BitVec 32 := Scalar.addi v846 c1_i32_231
  let v1044 : Index := Scalar.indexCast v847
  let c0_298 : Index := 0#32
  let c0_299 : Index := 0#32
  ![v1044.toNat, 0, 0]
def k0_mult5 (i : grid0.Coords) : BitVec 32 :=
  let c2_i32 : BitVec 32 := 2#32
  let arg2 : BitVec 32 := BitVec.ofNat 32 (i 2).val
  let v182 : BitVec 32 := Scalar.muli c2_i32 arg2
  let c256_i32 : BitVec 32 := 256#32
  let v185 : BitVec 32 := Scalar.muli v182 c256_i32
  v185
def k0_mult6 (i : grid0.Coords) : BitVec 32 :=
  let c2_i32_54 : BitVec 32 := 2#32
  let arg2 : BitVec 32 := BitVec.ofNat 32 (i 2).val
  let v183 : BitVec 32 := Scalar.muli c2_i32_54 arg2
  let c1_i32_55 : BitVec 32 := 1#32
  let v184 : BitVec 32 := Scalar.addi v183 c1_i32_55
  let c256_i32_56 : BitVec 32 := 256#32
  let v187 : BitVec 32 := Scalar.muli v184 c256_i32_56
  v187
def k0_off9 (i : grid0.Coords) : Fin 2 → Nat :=
  let c2_i32 : BitVec 32 := 2#32
  let arg2 : BitVec 32 := BitVec.ofNat 32 (i 2).val
  let v182 : BitVec 32 := Scalar.muli c2_i32 arg2
  let c256_i32 : BitVec 32 := 256#32
  let v185 : BitVec 32 := Scalar.muli v182 c256_i32
  let v186 : BitVec 32 := v185
  let v189 : Index := Scalar.indexCast v186
  let c0_57 : Index := 0#32
  ![v189.toNat, 0]
def k0_off10 (i : grid0.Coords) : Fin 2 → Nat :=
  let c2_i32_54 : BitVec 32 := 2#32
  let arg2 : BitVec 32 := BitVec.ofNat 32 (i 2).val
  let v183 : BitVec 32 := Scalar.muli c2_i32_54 arg2
  let c1_i32_55 : BitVec 32 := 1#32
  let v184 : BitVec 32 := Scalar.addi v183 c1_i32_55
  let c256_i32_56 : BitVec 32 := 256#32
  let v187 : BitVec 32 := Scalar.muli v184 c256_i32_56
  let v188 : BitVec 32 := v187
  let v192 : Index := Scalar.indexCast v188
  let c0_58 : Index := 0#32
  ![v192.toNat, 0]
def k0_off11 (i : grid0.Coords) : Fin 3 → Nat :=
  let c2_i32 : BitVec 32 := 2#32
  let arg2 : BitVec 32 := BitVec.ofNat 32 (i 2).val
  let v182 : BitVec 32 := Scalar.muli c2_i32 arg2
  let v564 : Index := Scalar.indexCast v182
  let c0_144 : Index := 0#32
  let c0_145 : Index := 0#32
  ![v564.toNat, 0, 0]
def k0_off12 (i : grid0.Coords) : Fin 3 → Nat :=
  let c2_i32_54 : BitVec 32 := 2#32
  let arg2 : BitVec 32 := BitVec.ofNat 32 (i 2).val
  let v183 : BitVec 32 := Scalar.muli c2_i32_54 arg2
  let c1_i32_55 : BitVec 32 := 1#32
  let v184 : BitVec 32 := Scalar.addi v183 c1_i32_55
  let v655 : Index := Scalar.indexCast v184
  let c0_171 : Index := 0#32
  let c0_172 : Index := 0#32
  ![v655.toNat, 0, 0]
def k0_cond3 (i : grid0.Coords) : BitVec 1 :=
  let arg2 : BitVec 32 := BitVec.ofNat 32 (i 2).val
  let c3_i32 : BitVec 32 := 3#32
  let v842 : BitVec 1 := Scalar.cmpi .eq arg2 c3_i32
  let v843 : BitVec 32 := Scalar.extui v842
  let c0_i32_228 : BitVec 32 := 0#32
  let v844 : BitVec 1 := Scalar.cmpi .ne v843 c0_i32_228
  v844

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c4_i32_0 : BitVec 32 := 4#32
  let v2 : BitVec 32 := Scalar.addi c4_i32_0 arg0
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== SbRefIdeal.lean ====
abbrev S2x2048x1536 : Shape := ⟨3, ![2, 2048, 1536]⟩
abbrev S1x512 : Shape := ⟨2, ![1, 512]⟩
abbrev S2x2048x1024 : Shape := ⟨3, ![2, 2048, 1024]⟩
abbrev S2x2048x512 : Shape := ⟨3, ![2, 2048, 512]⟩
abbrev S512 : Shape := ⟨1, ![512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x2048x8 : Shape := ⟨3, ![2, 2048, 8]⟩
abbrev S2x2048x8x1 : Shape := ⟨4, ![2, 2048, 8, 1]⟩
abbrev S1x1x512 : Shape := ⟨3, ![1, 1, 512]⟩
abbrev S2x8x64x2048 : Shape := ⟨4, ![2, 8, 64, 2048]⟩
abbrev S4096x512 : Shape := ⟨2, ![4096, 512]⟩

abbrev nBuf : Space → Nat
  | .hbm => 227
  | .vmem => 0
  | .smem => 0
  | _ => 0

abbrev hbmTy0_0 (i : Nat) : BufTy := match i % 128 with
  | 0 => ⟨S2x2048x1536, .f32⟩
  | 1 => ⟨S1x512, .f32⟩
  | 2 => ⟨S2x2048x1024, .f32⟩
  | 3 => ⟨S2x2048x512, .f32⟩
  | 4 => ⟨S2x2048x512, .f32⟩
  | 5 => ⟨S2x2048x512, .f32⟩
  | 6 => ⟨S512, .f32⟩
  | 7 => ⟨S2x2048x8x64, .f32⟩
  | 8 => ⟨S2x8x2048x64, .f32⟩
  | 9 => ⟨S2x2048x8x64, .f32⟩
  | 10 => ⟨S2x8x2048x64, .f32⟩
  | 11 => ⟨S2x2048x8x64, .f32⟩
  | 12 => ⟨S2x8x2048x64, .f32⟩
  | 13 => ⟨S2x8x2048x2048, .f32⟩
  | 14 => ⟨S_, .f32⟩
  | 15 => ⟨S2x8x2048x2048, .f32⟩
  | 16 => ⟨S2x8x2048x2048, .f32⟩
  | 17 => ⟨S2048, .i32⟩
  | 18 => ⟨S1x2048, .i32⟩
  | 19 => ⟨S2048x1, .i32⟩
  | 20 => ⟨S2048x2048, .i32⟩
  | 21 => ⟨S2048x2048, .i32⟩
  | 22 => ⟨S2048x2048, .i1⟩
  | 23 => ⟨S_, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .i1⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S_, .f32⟩
  | 38 => ⟨S2x8x2048x2048, .f32⟩
  | 39 => ⟨S2x8x2048x2048, .i1⟩
  | 40 => ⟨S_, .f32⟩
  | 41 => ⟨S2x8x2048x2048, .f32⟩
  | 42 => ⟨S2x8x2048x2048, .f32⟩
  | 43 => ⟨S_, .f32⟩
  | 44 => ⟨S2x8x2048x2048, .f32⟩
  | 45 => ⟨S2x8x2048x2048, .i1⟩
  | 46 => ⟨S_, .f32⟩
  | 47 => ⟨S2x8x2048x2048, .f32⟩
  | 48 => ⟨S2x8x2048x2048, .f32⟩
  | 49 => ⟨S2x8x2048x2048, .f32⟩
  | 50 => ⟨S2x8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x8x2048x2048, .f32⟩
  | 59 => ⟨S2x8x2048x2048, .i1⟩
  | 60 => ⟨S_, .f32⟩
  | 61 => ⟨S2x8x2048x2048, .f32⟩
  | 62 => ⟨S2x8x2048x2048, .f32⟩
  | 63 => ⟨S2x8x2048x2048, .f32⟩
  | 64 => ⟨S2x8x2048x2048, .f32⟩
  | 65 => ⟨S2x8x2048x2048, .f32⟩
  | 66 => ⟨S_, .f32⟩
  | 67 => ⟨S2x8x2048x2048, .f32⟩
  | 68 => ⟨S2x8x2048x2048, .f32⟩
  | 69 => ⟨S_, .f32⟩
  | 70 => ⟨S_, .f32⟩
  | 71 => ⟨S2x8x2048x2048, .i1⟩
  | 72 => ⟨S2x8x2048x2048, .f32⟩
  | 73 => ⟨S2x8x2048x2048, .f32⟩
  | 74 => ⟨S_, .f32⟩
  | 75 => ⟨S2x8x2048x2048, .f32⟩
  | 76 => ⟨S_, .f32⟩
  | 77 => ⟨S_, .f32⟩
  | 78 => ⟨S2x8x2048x2048, .f32⟩
  | 79 => ⟨S2x8x2048x2048, .f32⟩
  | 80 => ⟨S2x8x2048x2048, .f32⟩
  | 81 => ⟨S_, .f32⟩
  | 82 => ⟨S2x8x2048x2048, .f32⟩
  | 83 => ⟨S2x8x2048x2048, .f32⟩
  | 84 => ⟨S2x8x2048x2048, .f32⟩
  | 85 => ⟨S2x8x2048x2048, .f32⟩
  | 86 => ⟨S2x8x2048x2048, .i1⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S2x8x2048x2048, .f32⟩
  | 95 => ⟨S_, .f32⟩
  | 96 => ⟨S2x8x2048x2048, .f32⟩
  | 97 => ⟨S2x8x2048x2048, .i1⟩
  | 98 => ⟨S_, .f32⟩
  | 99 => ⟨S2x8x2048x2048, .f32⟩
  | 100 => ⟨S2x8x2048x2048, .f32⟩
  | 101 => ⟨S_, .f32⟩
  | 102 => ⟨S2x8x2048x2048, .f32⟩
  | 103 => ⟨S2x8x2048x2048, .i1⟩
  | 104 => ⟨S_, .f32⟩
  | 105 => ⟨S2x8x2048x2048, .f32⟩
  | 106 => ⟨S2x8x2048x2048, .f32⟩
  | 107 => ⟨S2x8x2048x2048, .f32⟩
  | 108 => ⟨S2x8x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S2x8x2048x2048, .f32⟩
  | 117 => ⟨S2x8x2048x2048, .i1⟩
  | 118 => ⟨S_, .f32⟩
  | 119 => ⟨S2x8x2048x2048, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S_, .f32⟩
  | 125 => ⟨S2x8x2048x2048, .f32⟩
  | 126 => ⟨S2x8x2048x2048, .f32⟩
  | 127 => ⟨S2x8x2048x2048, .f32⟩
  | _ => ⟨S2x2048x1536, .f32⟩

abbrev hbmTy0_1 (i : Nat) : BufTy := match i % 128 with
  | 0 => ⟨S2x8x2048x2048, .f32⟩
  | 1 => ⟨S2x8x2048x2048, .f32⟩
  | 2 => ⟨S_, .f32⟩
  | 3 => ⟨S_, .f32⟩
  | 4 => ⟨S2x8x2048x2048, .i1⟩
  | 5 => ⟨S2x8x2048x2048, .f32⟩
  | 6 => ⟨S2x8x2048x2048, .f32⟩
  | 7 => ⟨S_, .f32⟩
  | 8 => ⟨S2x8x2048x2048, .f32⟩
  | 9 => ⟨S2x8x2048x64, .f32⟩
  | 10 => ⟨S2x2048x8x64, .f32⟩
  | 11 => ⟨S2x2048x8x64, .f32⟩
  | 12 => ⟨S_, .f32⟩
  | 13 => ⟨S2x2048x8, .f32⟩
  | 14 => ⟨S2x2048x8x1, .f32⟩
  | 15 => ⟨S_, .f32⟩
  | 16 => ⟨S2x2048x8x1, .f32⟩
  | 17 => ⟨S2x2048x8x1, .f32⟩
  | 18 => ⟨S_, .f32⟩
  | 19 => ⟨S2x2048x8x1, .f32⟩
  | 20 => ⟨S2x2048x8x1, .f32⟩
  | 21 => ⟨S2x2048x8x1, .f32⟩
  | 22 => ⟨S2x2048x8x1, .f32⟩
  | 23 => ⟨S_, .f32⟩
  | 24 => ⟨S2x2048x8x1, .f32⟩
  | 25 => ⟨S2x2048x8x1, .f32⟩
  | 26 => ⟨S2x2048x8x64, .f32⟩
  | 27 => ⟨S2x2048x8x64, .f32⟩
  | 28 => ⟨S2x2048x512, .f32⟩
  | 29 => ⟨S1x1x512, .f32⟩
  | 30 => ⟨S2x2048x512, .f32⟩
  | 31 => ⟨S2x2048x512, .f32⟩
  | 32 => ⟨S2x2048x512, .f32⟩
  | 33 => ⟨S2x2048x512, .f32⟩
  | 34 => ⟨S_, .f32⟩
  | 35 => ⟨S512, .f32⟩
  | 36 => ⟨S1x1x512, .f32⟩
  | 37 => ⟨S2x2048x512, .f32⟩
  | 38 => ⟨S2x2048x512, .f32⟩
  | 39 => ⟨S_, .f32⟩
  | 40 => ⟨S512, .f32⟩
  | 41 => ⟨S2x2048x8x64, .f32⟩
  | 42 => ⟨S2x2048x8x64, .f32⟩
  | 43 => ⟨S_, .f32⟩
  | 44 => ⟨S2x2048x8, .f32⟩
  | 45 => ⟨S2x2048x8x1, .f32⟩
  | 46 => ⟨S2x2048x8x64, .f32⟩
  | 47 => ⟨S2x2048x8x64, .f32⟩
  | 48 => ⟨S2x2048x8x1, .f32⟩
  | 49 => ⟨S_, .f32⟩
  | 50 => ⟨S2x2048x8x1, .f32⟩
  | 51 => ⟨S2x2048x8x1, .f32⟩
  | 52 => ⟨S_, .f32⟩
  | 53 => ⟨S2x2048x8, .f32⟩
  | 54 => ⟨S2x2048x8x64, .f32⟩
  | 55 => ⟨S2x2048x8x64, .f32⟩
  | 56 => ⟨S2x2048x8x64, .f32⟩
  | 57 => ⟨S2x2048x8x64, .f32⟩
  | 58 => ⟨S2x2048x8x64, .f32⟩
  | 59 => ⟨S2x8x2048x64, .f32⟩
  | 60 => ⟨S2x8x64x2048, .f32⟩
  | 61 => ⟨S2x8x2048x64, .f32⟩
  | 62 => ⟨S2x8x2048x2048, .f32⟩
  | 63 => ⟨S_, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S2x8x2048x2048, .f32⟩
  | 70 => ⟨S2x8x2048x2048, .f32⟩
  | 71 => ⟨S2x8x2048x2048, .f32⟩
  | 72 => ⟨S_, .f32⟩
  | 73 => ⟨S_, .f32⟩
  | 74 => ⟨S2x8x2048x2048, .f32⟩
  | 75 => ⟨S2x8x2048x2048, .f32⟩
  | 76 => ⟨S_, .f32⟩
  | 77 => ⟨S2x8x2048x2048, .f32⟩
  | 78 => ⟨S2x8x2048x2048, .f32⟩
  | 79 => ⟨S2x8x2048x2048, .f32⟩
  | 80 => ⟨S2x8x2048x2048, .f32⟩
  | 81 => ⟨S_, .f32⟩
  | 82 => ⟨S2x8x2048x2048, .f32⟩
  | 83 => ⟨S2x8x2048x2048, .f32⟩
  | 84 => ⟨S2x8x2048x64, .f32⟩
  | 85 => ⟨S2x8x2048x64, .f32⟩
  | 86 => ⟨S2x2048x8x64, .f32⟩
  | 87 => ⟨S2x2048x512, .f32⟩
  | 88 => ⟨S2x2048x8x64, .f32⟩
  | 89 => ⟨S2x2048x512, .f32⟩
  | 90 => ⟨S2x2048x8x64, .f32⟩
  | 91 => ⟨S2x2048x512, .f32⟩
  | 92 => ⟨S1x512, .f32⟩
  | 93 => ⟨S4096x512, .f32⟩
  | 94 => ⟨S4096x512, .bf16⟩
  | 95 => ⟨S4096x512, .f32⟩
  | 96 => ⟨S4096x512, .bf16⟩
  | 97 => ⟨S4096x512, .f32⟩
  | 98 => ⟨S4096x512, .bf16⟩
  | _ => ⟨S2x2048x1536, .f32⟩

abbrev hbmTy (i : Nat) : BufTy := match i / 128 with
  | 0 => hbmTy0_0 i
  | 1 => hbmTy0_1 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v19_0 : Ref sig .tc := ⟨.hbm, 36, rfl⟩
abbrev main_call0_cst_0 : Ref sig .tc := ⟨.hbm, 37, rfl⟩
abbrev main_call0_v13 : Ref sig .tc := ⟨.hbm, 38, rfl⟩
abbrev main_call0_v14 : Ref sig .tc := ⟨.hbm, 39, rfl⟩
abbrev main_call0_cst_1 : Ref sig .tc := ⟨.hbm, 40, rfl⟩
abbrev main_call0_v15 : Ref sig .tc := ⟨.hbm, 41, rfl⟩
abbrev main_call0_v16 : Ref sig .tc := ⟨.hbm, 42, rfl⟩
abbrev main_call0_cst_2 : Ref sig .tc := ⟨.hbm, 43, rfl⟩
abbrev main_call0_v17 : Ref sig .tc := ⟨.hbm, 44, rfl⟩
abbrev main_call0_v18 : Ref sig .tc := ⟨.hbm, 45, rfl⟩
abbrev main_call0_cst_3 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_v19_1 : Ref sig .tc := ⟨.hbm, 50, rfl⟩
abbrev main_call0_cst_4 : Ref sig .tc := ⟨.hbm, 51, rfl⟩
abbrev main_call0_cst_5 : Ref sig .tc := ⟨.hbm, 52, rfl⟩
abbrev main_call0_v23 : Ref sig .tc := ⟨.hbm, 53, rfl⟩
abbrev main_call0_cst_6 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_v26 : Ref sig .tc := ⟨.hbm, 59, rfl⟩
abbrev main_call0_cst_9 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_10 : Ref sig .tc := ⟨.hbm, 66, rfl⟩
abbrev main_call0_v32 : Ref sig .tc := ⟨.hbm, 67, rfl⟩
abbrev main_v19_2 : Ref sig .tc := ⟨.hbm, 68, rfl⟩
abbrev main_cst_0 : Ref sig .tc := ⟨.hbm, 69, rfl⟩
abbrev main_call1_v0 : Ref sig .tc := ⟨.hbm, 70, rfl⟩
abbrev main_v20_1 : Ref sig .tc := ⟨.hbm, 71, rfl⟩
abbrev main_call1_v2 : Ref sig .tc := ⟨.hbm, 72, rfl⟩
abbrev main_v20_0 : Ref sig .tc := ⟨.hbm, 73, rfl⟩
abbrev main_call1_cst : Ref sig .tc := ⟨.hbm, 74, rfl⟩
abbrev main_v20_2 : Ref sig .tc := ⟨.hbm, 75, rfl⟩
abbrev main_call2_cst : Ref sig .tc := ⟨.hbm, 76, rfl⟩
abbrev main_call2_v0 : Ref sig .tc := ⟨.hbm, 77, rfl⟩
abbrev main_v21 : Ref sig .tc := ⟨.hbm, 78, rfl⟩
abbrev main_v22 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v23_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v23_2 : Ref sig .tc := ⟨.hbm, 126, rfl⟩
abbrev main_v23_0 : Ref sig .tc := ⟨.hbm, 127, rfl⟩
abbrev main_v24 : Ref sig .tc := ⟨.hbm, 128, rfl⟩
abbrev main_v25 : Ref sig .tc := ⟨.hbm, 129, rfl⟩
abbrev main_cst_1 : Ref sig .tc := ⟨.hbm, 130, rfl⟩
abbrev main_call4_v0 : Ref sig .tc := ⟨.hbm, 131, rfl⟩
abbrev main_v26_1 : Ref sig .tc := ⟨.hbm, 132, rfl⟩
abbrev main_call4_v2 : Ref sig .tc := ⟨.hbm, 133, rfl⟩
abbrev main_v26_0 : Ref sig .tc := ⟨.hbm, 134, rfl⟩
abbrev main_call4_cst : Ref sig .tc := ⟨.hbm, 135, rfl⟩
abbrev main_v26_2 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_cst_2 : Ref sig .tc := ⟨.hbm, 140, rfl⟩
abbrev main_v30 : Ref sig .tc := ⟨.hbm, 141, rfl⟩
abbrev main_v31 : Ref sig .tc := ⟨.hbm, 142, rfl⟩
abbrev main_cst_3 : Ref sig .tc := ⟨.hbm, 143, rfl⟩
abbrev main_v32 : Ref sig .tc := ⟨.hbm, 144, rfl⟩
abbrev main_v33 : Ref sig .tc := ⟨.hbm, 145, rfl⟩
abbrev main_cst_4 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_cst_5 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_cst_6 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_cst_7 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_cst_8 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_cst_9 : Ref sig .tc := ⟨.hbm, 177, rfl⟩
abbrev main_v60 : Ref sig .tc := ⟨.hbm, 178, rfl⟩
abbrev main_v61 : Ref sig .tc := ⟨.hbm, 179, rfl⟩
abbrev main_cst_10 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_call5_cst : Ref sig .tc := ⟨.hbm, 191, rfl⟩
abbrev main_call5_v0 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_call6_v0 : Ref sig .tc := ⟨.hbm, 196, rfl⟩
abbrev main_call6_v1 : Ref sig .tc := ⟨.hbm, 197, rfl⟩
abbrev main_v75 : Ref sig .tc := ⟨.hbm, 198, rfl⟩
abbrev main_v76 : Ref sig .tc := ⟨.hbm, 199, rfl⟩
abbrev main_call7_cst : Ref sig .tc := ⟨.hbm, 200, rfl⟩
abbrev main_call7_v0 : Ref sig .tc := ⟨.hbm, 201, rfl⟩
abbrev main_v77 : Ref sig .tc := ⟨.hbm, 202, rfl⟩
abbrev main_v78 : Ref sig .tc := ⟨.hbm, 203, rfl⟩
abbrev main_call8_cst : Ref sig .tc := ⟨.hbm, 204, rfl⟩
abbrev main_call8_v0 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_cst_11 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_v98 : Ref sig .tc := ⟨.hbm, 226, rfl⟩

abbrev nD : Nat := 1
abbrev τ : Topo := Topo.v7x

variable {F : FTy → Type} [FloatOps F]
-- ==== DhFfn.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x1024x1024 : Shape := ⟨3, ![1, 1024, 1024]⟩
abbrev S2x2048x2816 : Shape := ⟨3, ![2, 2048, 2816]⟩
abbrev S1024x2816 : Shape := ⟨2, ![1024, 2816]⟩
abbrev S2816x1024 : Shape := ⟨2, ![2816, 1024]⟩
abbrev S1024x1024 : Shape := ⟨2, ![1024, 1024]⟩
abbrev S4096x2816 : Shape := ⟨2, ![4096, 2816]⟩
abbrev S4096x1024 : Shape := ⟨2, ![4096, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 25
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x1024x1024, .f32⟩
  | .hbm, ⟨5, _⟩ => ⟨S2x2048x2816, .f32⟩
  | .hbm, ⟨6, _⟩ => ⟨S2x2048x2816, .f32⟩
  | .hbm, ⟨7, _⟩ => ⟨S2x2048x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S1024x1024, .f32⟩
  | .hbm, ⟨15, _⟩ => ⟨S1024x1024, .bf16⟩
  | .hbm, ⟨16, _⟩ => ⟨S4096x2816, .f32⟩
  | .hbm, ⟨17, _⟩ => ⟨S4096x2816, .bf16⟩
  | .hbm, ⟨18, _⟩ => ⟨S4096x2816, .f32⟩
  | .hbm, ⟨19, _⟩ => ⟨S4096x2816, .bf16⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DhFfnRefIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x1024x1024 : Shape := ⟨3, ![1, 1024, 1024]⟩
abbrev S2x2048x2816 : Shape := ⟨3, ![2, 2048, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S1024x1024 : Shape := ⟨2, ![1024, 1024]⟩
abbrev S4096x1024 : Shape := ⟨2, ![4096, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x1024x1024, .f32⟩
  | .hbm, ⟨5, _⟩ => ⟨S2x2048x2816, .f32⟩
  | .hbm, ⟨6, _⟩ => ⟨S2x2048x2816, .f32⟩
  | .hbm, ⟨7, _⟩ => ⟨S2x2048x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S1024x2816, .f32⟩
  | .hbm, ⟨30, _⟩ => ⟨S2x2048x2816, .f32⟩
  | .hbm, ⟨31, _⟩ => ⟨S1024x2816, .f32⟩
  | .hbm, ⟨32, _⟩ => ⟨S2x2048x2816, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S1024, .f32⟩
  | .hbm, ⟨44, _⟩ => ⟨S2x2048x1024, .f32⟩
  | .hbm, ⟨45, _⟩ => ⟨S_, .f32⟩
  | .hbm, ⟨46, _⟩ => ⟨S2x2048, .f32⟩
  | .hbm, ⟨47, _⟩ => ⟨S2x2048x1, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S_, .f32⟩
  | .hbm, ⟨56, _⟩ => ⟨S2x2048, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S1x1024, .f32⟩
  | .hbm, ⟨63, _⟩ => ⟨S_, .f32⟩
  | .hbm, ⟨64, _⟩ => ⟨S2x2048x1024, .f32⟩
  | .hbm, ⟨65, _⟩ => ⟨S1024x1024, .f32⟩
  | .hbm, ⟨66, _⟩ => ⟨S2x2048x1024, .f32⟩
  | .hbm, ⟨67, _⟩ => ⟨S2x2048x1024, .f32⟩
  | .hbm, ⟨68, _⟩ => ⟨S4096x1024, .f32⟩
  | .hbm, ⟨69, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== DhMix.lean ====
abbrev S2x2048x1024 : Shape := ⟨3, ![2, 2048, 1024]⟩
abbrev S1x1024 : Shape := ⟨2, ![1, 1024]⟩
abbrev S1x1024x3584 : Shape := ⟨3, ![1, 1024, 3584]⟩
abbrev S2x2048x3584 : Shape := ⟨3, ![2, 2048, 3584]⟩
abbrev S1024x3584 : Shape := ⟨2, ![1024, 3584]⟩
abbrev S3584x1024 : Shape := ⟨2, ![3584, 1024]⟩
abbrev S2x2048x512 : Shape := ⟨3, ![2, 2048, 512]⟩
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 33
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3584, .f32⟩
  | .hbm, ⟨3, _⟩ => ⟨S2x2048x3584, .f32⟩
  | .hbm, ⟨4, _⟩ => ⟨S2x2048x1024, .f32⟩
  | .hbm, ⟨5, _⟩ => ⟨S1024x3584, .f32⟩
  | .hbm, ⟨6, _⟩ => ⟨S3584x1024, .f32⟩
  | .hbm, ⟨7, _⟩ => ⟨S3584x1024, .bf16⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S4096x512, .bf16⟩
  | .hbm, ⟨23, _⟩ => ⟨S4096x512, .f32⟩
  | .hbm, ⟨24, _⟩ => ⟨S4096x512, .bf16⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .bf16⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== DhMixRefIdeal.lean ====
abbrev S2x2048x1024 : Shape := ⟨3, ![2, 2048, 1024]⟩
abbrev S1x1024 : Shape := ⟨2, ![1, 1024]⟩
abbrev S1x1024x3584 : Shape := ⟨3, ![1, 1024, 3584]⟩
abbrev S2x2048x3584 : Shape := ⟨3, ![2, 2048, 3584]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3584 : Shape := ⟨2, ![1024, 3584]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3584, .f32⟩
  | .hbm, ⟨3, _⟩ => ⟨S2x2048x3584, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x3584, .f32⟩
  | .hbm, ⟨27, _⟩ => ⟨S2x2048x3584, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== DownLoss.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1024 : Shape := ⟨1, ![1024]⟩
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 16
  | .vmem => 14
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S4096x2816, .f32⟩
  | .hbm, ⟨6, _⟩ => ⟨S4096x2816, .bf16⟩
  | .hbm, ⟨7, _⟩ => ⟨S2816x1024, .f32⟩
  | .hbm, ⟨8, _⟩ => ⟨S2816x1024, .bf16⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1024 : Shape := ⟨1, ![1024]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S2816x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S4096x1024, .f32⟩
  | .hbm, ⟨77, _⟩ => ⟨S4096x1024, .bf16⟩
  | .hbm, ⟨78, _⟩ => ⟨S1x1024, .f32⟩
  | .hbm, ⟨79, _⟩ => ⟨S1x128, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== FfnUp.lean ====
abbrev S2x2048x1024 : Shape := ⟨3, ![2, 2048, 1024]⟩
abbrev S1x1024x2816 : Shape := ⟨3, ![1, 1024, 2816]⟩
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1x1024x2816, .f32⟩
  | .hbm, ⟨2, _⟩ => ⟨S1x1024x2816, .f32⟩
  | .hbm, ⟨3, _⟩ => ⟨S4096x1024, .f32⟩
  | .hbm, ⟨4, _⟩ => ⟨S4096x1024, .bf16⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S2x2048x1024 : Shape := ⟨3, ![2, 2048, 1024]⟩
abbrev S1x1024x2816 : Shape := ⟨3, ![1, 1024, 2816]⟩
abbrev S1024x2816 : Shape := ⟨2, ![1024, 2816]⟩
abbrev S2x2048x2816 : Shape := ⟨3, ![2, 2048, 2816]⟩
abbrev S_ : Shape := ⟨0, ![]⟩
abbrev S4096x2816 : Shape := ⟨2, ![4096, 2816]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S2x2048x2816, .f32⟩
  | .hbm, ⟨5, _⟩ => ⟨S1024x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S4096x2816, .f32⟩
  | .hbm, ⟨18, _⟩ => ⟨S4096x2816, .bf16⟩
  | .hbm, ⟨19, _⟩ => ⟨S4096x2816, .f32⟩
  | .hbm, ⟨20, _⟩ => ⟨S4096x2816, .bf16⟩
  | .hbm, ⟨21, _⟩ => ⟨S4096x2816, .f32⟩
  | .hbm, ⟨22, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== MixOut.lean ====
abbrev S2x2048x1024 : Shape := ⟨3, ![2, 2048, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x1024 : Shape := ⟨2, ![1024, 1024]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S3x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_20 : BitVec 32) : Fin 1 → Nat :=
  let c3_i32_21 : BitVec 32 := 3#32
  let v40 : BitVec 32 := Scalar.remsi c0_i32_20 c3_i32_21
  ![v40.toNat]
def k0_off2 (c0_i32_20 : BitVec 32) : Fin 3 → Nat :=
  let c3_i32_21 : BitVec 32 := 3#32
  let v40 : BitVec 32 := Scalar.remsi c0_i32_20 c3_i32_21
  let c0_i32_22 : BitVec 32 := 0#32
  let c0_i32_23 : BitVec 32 := 0#32
  ![v40.toNat, 0, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off3 (i : grid0.Coords) : Fin 1 → Nat :=
  let arg0 : BitVec 32 := BitVec.ofNat 32 (i 0).val
  let c2_i32_20 : BitVec 32 := 2#32
  let v40 : BitVec 32 := Scalar.addi arg0 c2_i32_20
  let c3_i32_21 : BitVec 32 := 3#32
  let v41 : BitVec 32 := Scalar.remsi v40 c3_i32_21
  ![v41.toNat]
def k0_off4 (i : grid0.Coords) : Fin 3 → Nat :=
  let arg0 : BitVec 32 := BitVec.ofNat 32 (i 0).val
  let c2_i32_20 : BitVec 32 := 2#32
  let v40 : BitVec 32 := Scalar.addi arg0 c2_i32_20
  let c3_i32_21 : BitVec 32 := 3#32
  let v41 : BitVec 32 := Scalar.remsi v40 c3_i32_21
  let c0_i32_23 : BitVec 32 := 0#32
  let c0_i32_24 : BitVec 32 := 0#32
  ![v41.toNat, 0, 0]
def k0_off5 (i : grid0.Coords) : Fin 2 → Nat :=
  let arg0 : BitVec 32 := BitVec.ofNat 32 (i 0).val
  let c2_i32_20 : BitVec 32 := 2#32
  let v40 : BitVec 32 := Scalar.addi arg0 c2_i32_20
  let c512_i32_22 : BitVec 32 := 512#32
  let v42 : BitVec 32 := Scalar.muli v40 c512_i32_22
  let c0_i32_25 : BitVec 32 := 0#32
  ![v42.toNat, 0]
def k0_off6 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off7 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off8 (i : grid0.Coords) : Fin 2 → Nat :=
  let arg0 : BitVec 32 := BitVec.ofNat 32 (i 0).val
  let c512_i32 : BitVec 32 := 512#32
  let v8 : BitVec 32 := Scalar.muli arg0 c512_i32
  let c0_i32_4 : BitVec 32 := 0#32
  ![v8.toNat, 0]
def k0_off9 (i : grid0.Coords) : Fin 3 → Nat :=
  let arg0 : BitVec 32 := BitVec.ofNat 32 (i 0).val
  let c3_i32_5 : BitVec 32 := 3#32
  let v14 : BitVec 32 := Scalar.remsi arg0 c3_i32_5
  let v15 : Index := Scalar.indexCast v14
  let c0 : Index := 0#32
  let c0_6 : Index := 0#32
  ![v15.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutRefIdeal.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== SbFwd.lean ====
abbrev S2x2048x1536 : Shape := ⟨3, ![2, 2048, 1536]⟩
abbrev S1x512 : Shape := ⟨2, ![1, 512]⟩
abbrev S2x2048x1024 : Shape := ⟨3, ![2, 2048, 1024]⟩
abbrev S4096x1536 : Shape := ⟨2, ![4096, 1536]⟩
abbrev S4096x1024 : Shape := ⟨2, ![4096, 1024]⟩
abbrev S256x256 : Shape := ⟨2, ![256, 256]⟩
abbrev S_ : Shape := ⟨0, ![]⟩
abbrev S4096x512 : Shape := ⟨2, ![4096, 512]⟩
abbrev S512x128 : Shape := ⟨2, ![512, 128]⟩
abbrev S2048x128 : Shape := ⟨2, ![2048, 128]⟩
abbrev S1x128 : Shape := ⟨2, ![1, 128]⟩
abbrev S256x128 : Shape := ⟨2, ![256, 128]⟩
abbrev S256x1 : Shape := ⟨2, ![256, 1]⟩
abbrev S128x128 : Shape := ⟨2, ![128, 128]⟩
abbrev S128x256 : Shape := ⟨2, ![128, 256]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S2x2048x1536, .f32⟩
  | .hbm, ⟨1, _⟩ => ⟨S1x512, .f32⟩
  | .hbm, ⟨2, _⟩ => ⟨S2x2048x1024, .f32⟩
  | .hbm, ⟨3, _⟩ => ⟨S4096x1536, .f32⟩
  | .hbm, ⟨4, _⟩ => ⟨S4096x1536, .bf16⟩
  | .hbm, ⟨5, _⟩ => ⟨S4096x1024, .f32⟩
  | .hbm, ⟨6, _⟩ => ⟨S4096x1024, .bf16⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S4096x1024, .bf16⟩
  | .hbm, ⟨17, _⟩ => ⟨S4096x512, .f32⟩
  | .hbm, ⟨18, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S256x256, .bf16⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 2, 4], ![false, false, false]⟩

def k0_mult1 (i : grid0.Coords) : BitVec 32 :=
  let c2_i32 : BitVec 32 := 2#32
  let arg2 : BitVec 32 := BitVec.ofNat 32 (i 2).val
  let v43 : BitVec 32 := Scalar.muli c2_i32 arg2
  let c256_i32 : BitVec 32 := 256#32
  let v46 : BitVec 32 := Scalar.muli v43 c256_i32
  v46
def k0_mult2 (i : grid0.Coords) : BitVec 32 :=
  let c2_i32_18 : BitVec 32 := 2#32
  let arg2 : BitVec 32 := BitVec.ofNat 32 (i 2).val
  let v44 : BitVec 32 := Scalar.muli c2_i32_18 arg2
  let c1_i32 : BitVec 32 := 1#32
  let v45 : BitVec 32 := Scalar.addi v44 c1_i32
  let c256_i32_19 : BitVec 32 := 256#32
  let v48 : BitVec 32 := Scalar.muli v45 c256_i32_19
  v48
def k0_off1 (i : grid0.Coords) : Fin 2 → Nat :=
  let c2_i32 : BitVec 32 := 2#32
  let arg2 : BitVec 32 := BitVec.ofNat 32 (i 2).val
  let v43 : BitVec 32 := Scalar.muli c2_i32 arg2
  let c256_i32 : BitVec 32 := 256#32
  let v46 : BitVec 32 := Scalar.muli v43 c256_i32
  let v47 : BitVec 32 := v46
  let v50 : Index := Scalar.indexCast v47
  let c0_20 : Index := 0#32
  ![v50.toNat, 0]
def k0_off2 (i : grid0.Coords) : Fin 2 → Nat :=
  let c2_i32_18 : BitVec 32 := 2#32
  let arg2 : BitVec 32 := BitVec.ofNat 32 (i 2).val
  let v44 : BitVec 32 := Scalar.muli c2_i32_18 arg2
  let c1_i32 : BitVec 32 := 1#32
  let v45 : BitVec 32 := Scalar.addi v44 c1_i32
  let c256_i32_19 : BitVec 32 := 256#32
  let v48 : BitVec 32 := Scalar.muli v45 c256_i32_19
  let v49 : BitVec 32 := v48
  let v53 : Index := Scalar.indexCast v49
  let c0_21 : Index := 0#32
  ![v53.toNat, 0]
@[reducible] def k0_t1_loop (i : grid0.Coords) : Scf.Loop 32 :=
  let c0_i32 : BitVec 32 := 0#32
  let arg2 : BitVec 32 := BitVec.ofNat 32 (i 2).val
  let v418 : BitVec 32 := Scalar.subi arg2 c0_i32
  let c1_i32_108 : BitVec 32 := 1#32
  let v420 : BitVec 32 := Scalar.divsi v418 c1_i32_108
  let v421 : BitVec 32 := Scalar.muli v420 c1_i32_108
  let v422 : BitVec 32 := Scalar.addi c0_i32 v421
  let c1_i32_109 : BitVec 32 := 1#32
  ⟨c0_i32, v422, c1_i32_109⟩
def k0_mult3 (i : grid0.Coords) (k0_t1 : Fin (k0_t1_loop i).trips) : BitVec 32 :=
  let c2_i32_125 : BitVec 32 := 2#32
  let arg2 : BitVec 32 := BitVec.ofNat 32 (i 2).val
  let c0_i32 : BitVec 32 := 0#32
  let c1_i32_109 : BitVec 32 := 1#32
  let arg12 : BitVec 32 := Scf.iv c0_i32 c1_i32_109 k0_t1
  let v485 : BitVec 32 := Scalar.subi arg2 arg12
  let v486 : BitVec 32 := Scalar.muli c2_i32_125 v485
  let c1_i32_126 : BitVec 32 := 1#32
  let v487 : BitVec 32 := Scalar.subi v486 c1_i32_126
  let c256_i32_129 : BitVec 32 := 256#32
  let v491 : BitVec 32 := Scalar.muli v487 c256_i32_129
  v491
def k0_mult4 (i : grid0.Coords) (k0_t1 : Fin (k0_t1_loop i).trips) : BitVec 32 :=
  let c2_i32_127 : BitVec 32 := 2#32
  let arg2 : BitVec 32 := BitVec.ofNat 32 (i 2).val
  let c0_i32 : BitVec 32 := 0#32
  let c1_i32_109 : BitVec 32 := 1#32
  let arg12 : BitVec 32 := Scf.iv c0_i32 c1_i32_109 k0_t1
  let v488 : BitVec 32 := Scalar.subi arg2 arg12
  let v489 : BitVec 32 := Scalar.muli c2_i32_127 v488
  let c2_i32_128 : BitVec 32 := 2#32
  let v490 : BitVec 32 := Scalar.subi v489 c2_i32_128
  let c256_i32_130 : BitVec 32 := 256#32
  let v493 : BitVec 32 := Scalar.muli v490 c256_i32_130
  v493
def k0_off3 (i : grid0.Coords) (k0_t1 : Fin (k0_t1_loop i).trips) (c1_i32_126 : BitVec 32) : Fin 2 → Nat :=
  let c2_i32_125 : BitVec 32 := 2#32
  let arg2 : BitVec 32 := BitVec.ofNat 32 (i 2).val
  let c0_i32 : BitVec 32 := 0#32
  let c1_i32_109 : BitVec 32 := 1#32
  let arg12 : BitVec 32 := Scf.iv c0_i32 c1_i32_109 k0_t1
  let v485 : BitVec 32 := Scalar.subi arg2 arg12
  let v486 : BitVec 32 := Scalar.muli c2_i32_125 v485
  let v487 : BitVec 32 := Scalar.subi v486 c1_i32_126
  let c256_i32_129 : BitVec 32 := 256#32
  let v491 : BitVec 32 := Scalar.muli v487 c256_i32_129
  let v492 : BitVec 32 := v491
  let v495 : Index := Scalar.indexCast v492
  let c0_131 : Index := 0#32
  ![v495.toNat, 0]
@[reducible] def k0_t2_loop (i : grid0.Coords) : Scf.Loop 32 :=
  let c0_i32 : BitVec 32 := 0#32
  let arg2 : BitVec 32 := BitVec.ofNat 32 (i 2).val
  let v418 : BitVec 32 := Scalar.subi arg2 c0_i32
  let c1_i32_108 : BitVec 32 := 1#32
  let v420 : BitVec 32 := Scalar.divsi v418 c1_i32_108
  let v421 : BitVec 32 := Scalar.muli v420 c1_i32_108
  let v422 : BitVec 32 := Scalar.addi c0_i32 v421
  let v419 : BitVec 32 := Scalar.addi c0_i32 v418
  let c1_i32_110 : BitVec 32 := 1#32
  ⟨v422, v419, c1_i32_110⟩
def k0_mult5 (i : grid0.Coords) (k0_t2 : Fin (k0_t2_loop i).trips) : BitVec 32 :=
  let c2_i32_125 : BitVec 32 := 2#32
  let arg2 : BitVec 32 := BitVec.ofNat 32 (i 2).val
  let c0_i32 : BitVec 32 := 0#32
  let v418 : BitVec 32 := Scalar.subi arg2 c0_i32
  let c1_i32_108 : BitVec 32 := 1#32
  let v420 : BitVec 32 := Scalar.divsi v418 c1_i32_108
  let v421 : BitVec 32 := Scalar.muli v420 c1_i32_108
  let v422 : BitVec 32 := Scalar.addi c0_i32 v421
  let c1_i32_110 : BitVec 32 := 1#32
  let arg12 : BitVec 32 := Scf.iv v422 c1_i32_110 k0_t2
  let v485 : BitVec 32 := Scalar.subi arg2 arg12
  let v486 : BitVec 32 := Scalar.muli c2_i32_125 v485
  let c1_i32_126 : BitVec 32 := 1#32
  let v487 : BitVec 32 := Scalar.subi v486 c1_i32_126
  let c256_i32_129 : BitVec 32 := 256#32
  let v491 : BitVec 32 := Scalar.muli v487 c256_i32_129
  v491
def k0_mult6 (i : grid0.Coords) (k0_t2 : Fin (k0_t2_loop i).trips) : BitVec 32 :=
  let c2_i32_127 : BitVec 32 := 2#32
  let arg2 : BitVec 32 := BitVec.ofNat 32 (i 2).val
  let c0_i32 : BitVec 32 := 0#32
  let v418 : BitVec 32 := Scalar.subi arg2 c0_i32
  let c1_i32_108 : BitVec 32 := 1#32
  let v420 : BitVec 32 := Scalar.divsi v418 c1_i32_108
  let v421 : BitVec 32 := Scalar.muli v420 c1_i32_108
  let v422 : BitVec 32 := Scalar.addi c0_i32 v421
  let c1_i32_110 : BitVec 32 := 1#32
  let arg12 : BitVec 32 := Scf.iv v422 c1_i32_110 k0_t2
  let v488 : BitVec 32 := Scalar.subi arg2 arg12
  let v489 : BitVec 32 := Scalar.muli c2_i32_127 v488
  let c2_i32_128 : BitVec 32 := 2#32
  let v490 : BitVec 32 := Scalar.subi v489 c2_i32_128
  let c256_i32_130 : BitVec 32 := 256#32
  let v493 : BitVec 32 := Scalar.muli v490 c256_i32_130
  v493
def k0_off4 (i : grid0.Coords) (k0_t2 : Fin (k0_t2_loop i).trips) (c1_i32_126 : BitVec 32) : Fin 2 → Nat :=
  let c2_i32_125 : BitVec 32 := 2#32
  let arg2 : BitVec 32 := BitVec.ofNat 32 (i 2).val
  let c0_i32 : BitVec 32 := 0#32
  let v418 : BitVec 32 := Scalar.subi arg2 c0_i32
  let c1_i32_108 : BitVec 32 := 1#32
  let v420 : BitVec 32 := Scalar.divsi v418 c1_i32_108
  let v421 : BitVec 32 := Scalar.muli v420 c1_i32_108
  let v422 : BitVec 32 := Scalar.addi c0_i32 v421
  let c1_i32_110 : BitVec 32 := 1#32
  let arg12 : BitVec 32 := Scf.iv v422 c1_i32_110 k0_t2
  let v485 : BitVec 32 := Scalar.subi arg2 arg12
  let v486 : BitVec 32 := Scalar.muli c2_i32_125 v485
  let v487 : BitVec 32 := Scalar.subi v486 c1_i32_126
  let c256_i32_129 : BitVec 32 := 256#32
  let v491 : BitVec 32 := Scalar.muli v487 c256_i32_129
  let v492 : BitVec 32 := v491
  let v495 : Index := Scalar.indexCast v492
  let c0_131 : Index := 0#32
  ![v495.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c4_i32_0 : BitVec 32 := 4#32
  let v2 : BitVec 32 := Scalar.addi c4_i32_0 arg0
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== SbFwdRefIdeal.lean ====
abbrev S2x2048x1536 : Shape := ⟨3, ![2, 2048, 1536]⟩
abbrev S1x512 : Shape := ⟨2, ![1, 512]⟩
abbrev S2x2048x1024 : Shape := ⟨3, ![2, 2048, 1024]⟩
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S512 : Shape := ⟨1, ![512]⟩
abbrev S1x1x512 : Shape := ⟨3, ![1, 1, 512]⟩
abbrev S4096x1024 : Shape := ⟨2, ![4096, 1024]⟩
abbrev S4096x512 : Shape := ⟨2, ![4096, 512]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S1x512, .f32⟩
  | .hbm, ⟨2, _⟩ => ⟨S2x2048x1024, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x8x64, .f32⟩
  | .hbm, ⟨7, _⟩ => ⟨S2x8x2048x64, .f32⟩
  | .hbm, ⟨8, _⟩ => ⟨S2x2048x8x64, .f32⟩
  | .hbm, ⟨9, _⟩ => ⟨S2x8x2048x64, .f32⟩
  | .hbm, ⟨10, _⟩ => ⟨S2x2048x8x64, .f32⟩
  | .hbm, ⟨11, _⟩ => ⟨S2x8x2048x64, .f32⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S_, .f32⟩
  | .hbm, ⟨38, _⟩ => ⟨S2x8x2048x2048, .i1⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S_, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .f32⟩
  | .hbm, ⟨46, _⟩ => ⟨S_, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S2x8x2048x2048, .i1⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S_, .f32⟩
  | .hbm, ⟨64, _⟩ => ⟨S_, .f32⟩
  | .hbm, ⟨65, _⟩ => ⟨S2x8x2048x2048, .i1⟩
  | .hbm, ⟨66, _⟩ => ⟨S2x8x2048x2048, .f32⟩
  | .hbm, ⟨67, _⟩ => ⟨S2x8x2048x2048, .f32⟩
  | .hbm, ⟨68, _⟩ => ⟨S2x8x2048x64, .f32⟩
  | .hbm, ⟨69, _⟩ => ⟨S2x2048x8x64, .f32⟩
  | .hbm, ⟨70, _⟩ => ⟨S_, .f32⟩
  | .hbm, ⟨71, _⟩ => ⟨S2x8x2048, .f32⟩
  | .hbm, ⟨72, _⟩ => ⟨S2x2048x8, .f32⟩
  | .hbm, ⟨73, _⟩ => ⟨S2x2048x8x1, .f32⟩
  | .hbm, ⟨74, _⟩ => ⟨S2x2048x8x64, .f32⟩
  | .hbm, ⟨75, _⟩ => ⟨S2x2048x8x64, .f32⟩
  | .hbm, ⟨76, _⟩ => ⟨S_, .f32⟩
  | .hbm, ⟨77, _⟩ => ⟨S2x2048x8, .f32⟩
  | .hbm, ⟨78, _⟩ => ⟨S2x2048x8x1, .f32⟩
  | .hbm, ⟨79, _⟩ => ⟨S_, .f32⟩
  | .hbm, ⟨80, _⟩ => ⟨S2x2048x8x1, .f32⟩
  | .hbm, ⟨81, _⟩ => ⟨S2x2048x8x1, .f32⟩
  | .hbm, ⟨82, _⟩ => ⟨S_, .f32⟩
  | .hbm, ⟨83, _⟩ => ⟨S2x2048x8x1, .f32⟩
  | .hbm, ⟨84, _⟩ => ⟨S2x2048x8x1, .f32⟩
  | .hbm, ⟨85, _⟩ => ⟨S2x2048x8x1, .f32⟩
  | .hbm, ⟨86, _⟩ => ⟨S2x2048x8x64, .f32⟩
  | .hbm, ⟨87, _⟩ => ⟨S2x2048x8x64, .f32⟩
  | .hbm, ⟨88, _⟩ => ⟨S2x2048x512, .f32⟩
  | .hbm, ⟨89, _⟩ => ⟨S2x2048x512, .f32⟩
  | .hbm, ⟨90, _⟩ => ⟨S512, .f32⟩
  | .hbm, ⟨91, _⟩ => ⟨S1x1x512, .f32⟩
  | .hbm, ⟨92, _⟩ => ⟨S2x2048x512, .f32⟩
  | .hbm, ⟨93, _⟩ => ⟨S2x2048x512, .f32⟩
  | .hbm, ⟨94, _⟩ => ⟨S2x2048x1024, .f32⟩
  | .hbm, ⟨95, _⟩ => ⟨S4096x1024, .f32⟩
  | .hbm, ⟨96, _⟩ => ⟨S4096x1024, .bf16⟩
  | .hbm, ⟨97, _⟩ => ⟨S4096x512, .f32⟩
  | .hbm, ⟨98, _⟩ => ⟨S4096x512, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_v33 : Ref sig .tc := ⟨.hbm, 77, rfl⟩
abbrev main_v34 : Ref sig .tc := ⟨.hbm, 78, rfl⟩
abbrev main_cst_4 : Ref sig .tc := ⟨.hbm, 79, rfl⟩
abbrev main_v35 : Ref sig .tc := ⟨.hbm, 80, rfl⟩
abbrev main_v36 : Ref sig .tc := ⟨.hbm, 81, rfl⟩
abbrev main_cst_5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩

abbrev nD : Nat := 1
abbrev τ : Topo := Topo.v7x

variable {F : FTy → Type} [FloatOps F]
-- ==== Proof.Reals.lean ====
/- Extended reals that are real numbers: the arithmetic that the value proofs of this certificate share. -/
module

public import Idealize.ShloMosaic.Lib.Pointwise
public import Idealize.ShloMosaic.Lib.IdealHost

@[expose] public section

noncomputable section

namespace Cert.Reals

open Idealize.ShloMosaic

/-- `x` is a real number, that is, neither infinity. -/
def IsRe (x : EReal) : Prop := ∃ r : ℝ, x = (r : EReal)

theorem IsRe.coe (r : ℝ) : IsRe (r : EReal) := ⟨r, rfl⟩

theorem IsRe.zero : IsRe 0 := ⟨0, rfl⟩

theorem IsRe.one : IsRe 1 := ⟨1, rfl⟩

theorem IsRe.add {x y : EReal} (hx : IsRe x) (hy : IsRe y) : IsRe (x + y) := by
  obtain ⟨a, rfl⟩ := hx; obtain ⟨b, rfl⟩ := hy; exact ⟨a + b, (EReal.coe_add a b).symm⟩

theorem IsRe.sub {x y : EReal} (hx : IsRe x) (hy : IsRe y) : IsRe (x - y) := by
  obtain ⟨a, rfl⟩ := hx; obtain ⟨b, rfl⟩ := hy; exact ⟨a - b, (EReal.coe_sub a b).symm⟩

theorem IsRe.mul {x y : EReal} (hx : IsRe x) (hy : IsRe y) : IsRe (x * y) := by
  obtain ⟨a, rfl⟩ := hx; obtain ⟨b, rfl⟩ := hy; exact ⟨a * b, (EReal.coe_mul a b).symm⟩

theorem IsRe.neg {x : EReal} (hx : IsRe x) : IsRe (-x) := by
  obtain ⟨a, rfl⟩ := hx; exact ⟨-a, (EReal.coe_neg a).symm⟩

theorem IsRe.exp {x : EReal} (hx : IsRe x) : IsRe (Ideal.exp x) := by
  obtain ⟨a, rfl⟩ := hx; exact ⟨_, rfl⟩

/-- A finite sum of coercions is the coercion of the sum. -/
theorem coe_sum {ι : Type*} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

theorem IsRe.sum {ι : Type*} (s : Finset ι) {f : ι → EReal} (h : ∀ k ∈ s, IsRe (f k)) : IsRe (∑ k ∈ s, f k) := by
  classical
  induction s using Finset.induction_on with
  | empty => exact IsRe.zero
  | insert a s ha ih =>
    rw [Finset.sum_insert ha]
    exact (h a (Finset.mem_insert_self a s)).add (ih fun k hk => h k (Finset.mem_insert_of_mem hk))

/-- A family of real numbers is the coercion of a family of reals. -/
theorem IsRe.family {ι : Type*} {f : ι → EReal} (h : ∀ i, IsRe (f i)) : ∃ g : ι → ℝ, f = fun i => (g i : EReal) :=
  ⟨fun i => (h i).choose, funext fun i => (h i).choose_spec⟩

/-- What the comparison `|x| < ∞` says where it gives one. -/
theorem isRe_of_abs_lt {x : EReal}
    (h : Ideal.cmp .olt (max x (-x)) (Ideal.ofBits .f32 0x7F800000#32) = 1#1) : IsRe x := by
  have hb : Ideal.ofBits .f32 0x7F800000#32 = ⊤ := by
    simp [Ideal.ofBits, Ideal.ieee]
  induction x with
  | bot => rw [hb] at h; simp [Ideal.cmp] at h
  | top => rw [hb] at h; simp [Ideal.cmp] at h
  | coe r => exact ⟨r, rfl⟩

/-- The logistic factor, as both programs spell it: one over one plus the exponential of the negated argument. -/
def sg (g : EReal) : EReal := Ideal.div 1 (1 + Ideal.exp (-g))

theorem sg_coe (r : ℝ) : sg r = ((1 / (1 + Real.exp (-r)) : ℝ) : EReal) := by
  have hp : (1 + Real.exp (-r)) ≠ 0 := by positivity
  unfold sg
  rw [← EReal.coe_neg, Ideal.exp_coe, ← EReal.coe_one, ← EReal.coe_add, Ideal.div_coe hp, ← EReal.coe_mul, one_mul]

theorem sg_top : sg ⊤ = 1 := by
  simp [sg, Ideal.div]

theorem sg_bot : sg ⊥ = 0 := by
  have h1 : (1 : EReal) + ⊤ = ⊤ := EReal.add_top_of_ne_bot (EReal.coe_ne_bot 1)
  simp [sg, Ideal.div, h1]

/-- The derivative of `g * sg g`, scaled: the two programs' spellings agree at every `g`, the infinities too, where the
    scale is a real number. -/
theorem silu_grad (a : ℝ) (g : EReal) :
    (a : EReal) * sg g * (1 + g * (1 - sg g)) = a * sg g + (g * a) * (sg g * (1 - sg g)) := by
  induction g with
  | bot => simp [sg_bot]
  | top =>
    have h1 : (1 : EReal) - 1 = 0 := by rw [← EReal.coe_one, ← EReal.coe_sub, sub_self, EReal.coe_zero]
    simp [sg_top, h1]
  | coe r =>
    rw [sg_coe]
    generalize (1 / (1 + Real.exp (-r)) : ℝ) = s
    rw [← EReal.coe_one]
    simp only [← EReal.coe_mul, ← EReal.coe_sub, ← EReal.coe_add]
    congr 1
    ring

/-! ## The constants the kernels write -/

theorem bits_eighth_bf16 : Ideal.ofBits .bf16 0x3E00#16 = ((1 / 8 : ℝ) : EReal) := by
  simp [Ideal.ofBits, Ideal.ieee, -EReal.coe_mul]
  norm_num

theorem bits_eighth : Ideal.ofBits .f32 0x3E000000#32 = ((1 / 8 : ℝ) : EReal) := by
  simp [Ideal.ofBits, Ideal.ieee, -EReal.coe_mul]
  norm_num

theorem bits_sixtyfourth : Ideal.ofBits .f32 0x3C800000#32 = ((1 / 64 : ℝ) : EReal) := by
  simp [Ideal.ofBits, Ideal.ieee, -EReal.coe_mul]
  norm_num

/-- The number the norm adds under its root. -/
def small : ℝ := 8796093 / 8796093022208

theorem small_pos : 0 < small := by
  unfold small
  norm_num

theorem bits_small : Ideal.ofBits .f32 0x358637BD#32 = (small : EReal) := by
  unfold small
  simp [Ideal.ofBits, Ideal.ieee, -EReal.coe_mul]
  norm_num

theorem bits_sixtyfour : Ideal.ofBits .f32 0x42800000#32 = ((64 : ℝ) : EReal) := by
  simp [Ideal.ofBits, Ideal.ieee, -EReal.coe_mul]
  norm_num

theorem bits_half_neg : Ideal.ofBits .f32 0xBF000000#32 = ((-(1 / 2) : ℝ) : EReal) := by
  simp [Ideal.ofBits, Ideal.ieee, -EReal.coe_mul, -EReal.coe_neg]
  norm_num

theorem bits_inf : Ideal.ofBits .f32 0x7F800000#32 = ⊤ := by
  simp [Ideal.ofBits, Ideal.ieee]

end Cert.Reals

end
-- ==== Proof.Act.lean ====
/- The feed-forward activations' gradient: the two arrays that the kernel leaves are the reference's, index by index. -/
module

public import proofs.«01_k».proof.Proof.Reals
public import proofs.«01_k».proof.Proof.Gen.FfnActIdeal.Value
public import proofs.«01_k».proof.Proof.Gen.FfnActRefIdeal.Read
public import proofs.«01_k».proof.Proof.Gen.Pre_finite_ffn_act
public import Idealize.ShloMosaic.Lib.Pipeline.ValueKit
public import Idealize.ShloMosaic.Lib.Pointwise

@[expose] public section

set_option maxRecDepth 16384

noncomputable section

namespace Cert.FfnActIdeal.Closed

open Idealize.ShloMosaic Idealize.ShloMosaic.TcCoe Idealize.SL.Sem Idealize.ShloMosaic.Pipeline
open Cert.FfnActIdeal Cert.FfnActIdeal.Gen Cert.Reals

/-! ## The closed forms -/

abbrev sq (n : Fin 4096) : Fin 2 := ⟨n.val / 2048, by omega⟩
abbrev tk (n : Fin 4096) : Fin 2048 := ⟨n.val % 2048, by omega⟩

/-- A row of the tokens against a column of one of the two weights into the hidden width. -/
def into (h : Vec Ideal S2x2048x1024 .f32) (w : Vec Ideal S1x1024x2816 .f32) (j : S4096x2816.Idx) : EReal :=
  ∑ k : Fin 1024, h (ix3 (sq (j 0)) (tk (j 0)) k) * w (ix3 0 k (j 1))

/-- A row of the incoming gradient against a row of the weight out of the hidden width. -/
def back (dx : Vec Ideal S2x2048x1024 .f32) (w : Vec Ideal S1x2816x1024 .f32) (j : S4096x2816.Idx) : EReal :=
  ∑ k : Fin 1024, dx (ix3 (sq (j 0)) (tk (j 0)) k) * w (ix3 0 (j 1) k)

variable (m : (ℓ : Loc nD τ sig) → Buf (Elt Ideal) ℓ) (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)

theorem idx : ∀ t : Fin cfg0.N, win0_0.index t = ![(grid0.coords t 1).val, 0] ∧ win0_1.index t = ![(grid0.coords t 0).val, 0]
    ∧ win0_2.index t = ![(grid0.coords t 1).val, (grid0.coords t 0).val] := by decide +kernel

theorem idx4 : ∀ t : Fin cfg0.N, win0_4.index t = ![(grid0.coords t 1).val, (grid0.coords t 0).val]
    ∧ win0_5.index t = ![(grid0.coords t 1).val, (grid0.coords t 0).val] := by decide +kernel

theorem gate_read (j : S4096x2816.Idx) : V m c main_v13 j = into (arg0 m c) (arg1 m c) j := by
  entry_read
  unfold into
  pointwise

theorem up_read (j : S4096x2816.Idx) : V m c main_v17 j = into (arg0 m c) (arg2 m c) j := by
  entry_read
  unfold into
  pointwise

theorem down_read (j : S2816x1024.Idx) : V m c main_v9 j = arg3 m c (ix3 0 (j 0) (j 1)) := by
  entry_read
  pointwise

theorem dx_read (j : S4096x1024.Idx) : V m c main_v19 j = arg4 m c
    (ix3 (sq (j 0)) (tk (j 0)) (j 1)) := by
  entry_read
  pointwise

theorem pay4 (x0 : Vec Ideal S1024x1024 .bf16) (x1 : Vec Ideal S1408x1024 .bf16) (x2 : Vec Ideal S1024x1408 .bf16) (x3 : Vec Ideal S1024x1408 .bf16) (y : S1024x1408.Idx) :
    k0_pay4 x0 x1 x2 x3 y = (∑ k : Fin 1024, x0 (ix2 (y 0) k) * x1 (ix2 (y 1) k)) * x3 y * sg (x2 y) * (1 + x2 y * (1 - sg (x2 y))) := by
  pointwise [k0_pay4, k0_pay1, k0_pay2, k0_pay3]
  simp only [sg, zero_sub]

theorem pay5 (x0 : Vec Ideal S1024x1024 .bf16) (x1 : Vec Ideal S1408x1024 .bf16) (x2 : Vec Ideal S1024x1408 .bf16) (y : S1024x1408.Idx) :
    k0_pay5 x0 x1 x2 y = (∑ k : Fin 1024, x0 (ix2 (y 0) k) * x1 (ix2 (y 1) k)) * x2 y * sg (x2 y) := by
  pointwise [k0_pay5, k0_pay1, k0_pay2, k0_pay3]
  simp only [sg, zero_sub]

theorem gate_block (t : Fin cfg0.N) (y : S1024x1408.Idx) :
    iblk m c 2 t y = into (arg0 m c) (arg1 m c) (((View.whole main_v20_0).slice (win0_4.rect t)).emb y) := by
  blk_simp [iblk, idx t]
  rw [gate_read]
  rfl

theorem up_block (t : Fin cfg0.N) (y : S1024x1408.Idx) :
    iblk m c 3 t y = into (arg0 m c) (arg2 m c) (((View.whole main_v20_0).slice (win0_4.rect t)).emb y) := by
  blk_simp [iblk, idx t]
  rw [up_read]
  rfl

/-- The block of the incoming gradient, and the block of the weight out of the hidden width, that point `t` is given. -/
abbrev inDx (t : Fin cfg0.N) : Vec Ideal S1024x1024 .bf16 := iblk m c 0 t
abbrev inW (t : Fin cfg0.N) : Vec Ideal S1408x1024 .bf16 := iblk m c 1 t

theorem back_block (t : Fin cfg0.N) (y : S1024x1408.Idx) :
    (∑ k : Fin 1024, inDx m c t (ix2 (y 0) k) * inW m c t (ix2 (y 1) k))
      = back (arg4 m c) (arg3 m c) (((View.whole main_v20_0).slice (win0_4.rect t)).emb y) := by
  unfold back
  refine Finset.sum_congr rfl fun k _ => ?_
  have h0 : inDx m c t (ix2 (y 0) k) = V m c main_v19 (ix2 ((((View.whole main_v20_0).slice (win0_4.rect t)).emb y) 0) k) := by
    blk_ext [inDx, iblk, idx t, idx4 t]
  have h1 : inW m c t (ix2 (y 1) k) = V m c main_v9 (ix2 ((((View.whole main_v20_0).slice (win0_4.rect t)).emb y) 1) k) := by
    blk_ext [inW, iblk, idx t, idx4 t]
  rw [h0, h1, dx_read, down_read]
  rfl

theorem ref_v1 (x0 : Vec Ideal S2x2048x1024 .f32) (x1 : Vec Ideal S1x1024x2816 .f32) (j : S4096x2816.Idx) :
    FfnActRefIdeal.Read.val_main_v1 (F := Ideal) x0 x1 (FfnActRefIdeal.Read.idx_main_v12 j) = into x0 x1 j := by
  rw [FfnActRefIdeal.Read.val_main_v1_apply]
  unfold into
  refine Finset.sum_congr rfl fun k _ => ?_
  rw [FfnActRefIdeal.Read.val_main_v0_apply]
  congr 1 <;> blk_ext

theorem ref_v3 (x0 : Vec Ideal S2x2048x1024 .f32) (x2 : Vec Ideal S1x1024x2816 .f32) (j : S4096x2816.Idx) :
    FfnActRefIdeal.Read.val_main_v3 (F := Ideal) x0 x2 (FfnActRefIdeal.Read.idx_main_v12 j) = into x0 x2 j :=
  ref_v1 x0 x2 j

theorem ref_v8 (x3 : Vec Ideal S1x2816x1024 .f32) (x4 : Vec Ideal S2x2048x1024 .f32) (j : S4096x2816.Idx) :
    FfnActRefIdeal.Read.val_main_v8 (F := Ideal) x3 x4 (FfnActRefIdeal.Read.idx_main_v12 j) = back x4 x3 j := by
  rw [FfnActRefIdeal.Read.val_main_v8_apply]
  unfold back
  refine Finset.sum_congr rfl fun k _ => ?_
  rw [FfnActRefIdeal.Read.val_main_v6_apply]
  congr 1 <;> blk_ext

theorem ref_sg (x0 : Vec Ideal S2x2048x1024 .f32) (x1 : Vec Ideal S1x1024x2816 .f32) (i : FfnActRefIdeal.S2x2048x2816.Idx) :
    FfnActRefIdeal.Read.val_main_v4_2 (F := Ideal) x0 x1 i = sg (FfnActRefIdeal.Read.val_main_v1 (F := Ideal) x0 x1 i) := by
  pointwise [FfnActRefIdeal.Read.val_main_v4_2, FfnActRefIdeal.Read.val_main_call0_v4, FfnActRefIdeal.Read.val_main_call0_v3, FfnActRefIdeal.Read.val_main_call0_v2, FfnActRefIdeal.Read.val_main_call0_v1, FfnActRefIdeal.Read.val_main_call0_v0, FfnActRefIdeal.Read.val_main_call0_cst, FfnActRefIdeal.Read.val_main_call0_cst_0]
  rfl

theorem ref_dsg (x0 : Vec Ideal S2x2048x1024 .f32) (x1 : Vec Ideal S1x1024x2816 .f32) (i : FfnActRefIdeal.S2x2048x2816.Idx) :
    FfnActRefIdeal.Read.val_main_v4_1 (F := Ideal) x0 x1 i = sg (FfnActRefIdeal.Read.val_main_v1 (F := Ideal) x0 x1 i) * (1 - sg (FfnActRefIdeal.Read.val_main_v1 (F := Ideal) x0 x1 i)) := by
  rw [← ref_sg]
  pointwise [FfnActRefIdeal.Read.val_main_v4_1, FfnActRefIdeal.Read.val_main_call0_v7, FfnActRefIdeal.Read.val_main_call0_v6, FfnActRefIdeal.Read.val_main_call0_cst_1]

theorem ref_dgate (x0 : Vec Ideal S2x2048x1024 .f32) (x1 x2 : Vec Ideal S1x1024x2816 .f32) (x3 : Vec Ideal S1x2816x1024 .f32) (x4 : Vec Ideal S2x2048x1024 .f32) (j : S4096x2816.Idx) :
    FfnActRefIdeal.Read.val_main_v13 (F := Ideal) x0 x1 x2 x3 x4 j
      = back x4 x3 j * into x0 x2 j * sg (into x0 x1 j) + into x0 x1 j * (back x4 x3 j * into x0 x2 j) * (sg (into x0 x1 j) * (1 - sg (into x0 x1 j))) := by
  rw [FfnActRefIdeal.Read.val_main_v13_apply, FfnActRefIdeal.Read.val_main_v12_apply, FfnActRefIdeal.Read.val_main_v11_apply,
    FfnActRefIdeal.Read.val_main_call1_v1_apply, FfnActRefIdeal.Read.val_main_call1_v2_apply, FfnActRefIdeal.Read.val_main_call1_v0_apply,
    FfnActRefIdeal.Read.val_main_v10_apply, ref_v8, ref_v3, ref_dsg, ref_sg, ref_v1]
  rfl

theorem ref_dup (x0 : Vec Ideal S2x2048x1024 .f32) (x1 : Vec Ideal S1x1024x2816 .f32) (x3 : Vec Ideal S1x2816x1024 .f32) (x4 : Vec Ideal S2x2048x1024 .f32) (j : S4096x2816.Idx) :
    FfnActRefIdeal.Read.val_main_v15 (F := Ideal) x0 x1 x3 x4 j = into x0 x1 j * sg (into x0 x1 j) * back x4 x3 j := by
  rw [FfnActRefIdeal.Read.val_main_v15_apply, FfnActRefIdeal.Read.val_main_v14_apply, FfnActRefIdeal.Read.val_main_v9_apply,
    FfnActRefIdeal.Read.val_main_v4_0_apply]
  have h : FfnActRefIdeal.Read.idx_main_v14 j = FfnActRefIdeal.Read.idx_main_v12 j := rfl
  rw [h, ref_v8, ref_sg, ref_v1]
  rfl

/-! ## What a point writes -/

abbrev inG (t : Fin cfg0.N) : Vec Ideal S1024x1408 .bf16 := iblk m c 2 t
abbrev inU (t : Fin cfg0.N) : Vec Ideal S1024x1408 .bf16 := iblk m c 3 t

/-- The index of the result array under index `y` of point `t`'s block. -/
abbrev at4 (t : Fin cfg0.N) (y : S1024x1408.Idx) : S4096x2816.Idx := ((View.whole main_v20_0).slice (win0_4.rect t)).emb y

theorem point4 (t : Fin cfg0.N) (y : S1024x1408.Idx) :
    k0_pay4 (inDx m c t) (inW m c t) (inG m c t) (inU m c t) y
      = back (arg4 m c) (arg3 m c) (at4 t y) * into (arg0 m c) (arg2 m c) (at4 t y)
        * sg (into (arg0 m c) (arg1 m c) (at4 t y))
        * (1 + into (arg0 m c) (arg1 m c) (at4 t y) * (1 - sg (into (arg0 m c) (arg1 m c) (at4 t y)))) := by
  rw [pay4, back_block, show inG m c t y = _ from gate_block m c t y, show inU m c t y = _ from up_block m c t y]

theorem point5 (t : Fin cfg0.N) (y : S1024x1408.Idx) :
    k0_pay5 (inDx m c t) (inW m c t) (inG m c t) y
      = back (arg4 m c) (arg3 m c) (at4 t y) * into (arg0 m c) (arg1 m c) (at4 t y)
        * sg (into (arg0 m c) (arg1 m c) (at4 t y)) := by
  rw [pay5, back_block, show inG m c t y = _ from gate_block m c t y]

theorem into_re {h : Vec Ideal S2x2048x1024 .f32} {w : Vec Ideal S1x1024x2816 .f32} (hh : ∀ i, IsRe (h i)) (hw : ∀ i, IsRe (w i)) (j : S4096x2816.Idx) :
    IsRe (into h w j) := IsRe.sum _ fun _ _ => (hh _).mul (hw _)

theorem back_re {h : Vec Ideal S2x2048x1024 .f32} {w : Vec Ideal S1x2816x1024 .f32} (hh : ∀ i, IsRe (h i)) (hw : ∀ i, IsRe (w i)) (j : S4096x2816.Idx) :
    IsRe (back h w j) := IsRe.sum _ fun _ _ => (hh _).mul (hw _)

/-! ## The two arrays -/

/-- The kernel's first result is the reference's, where the tokens, the second weight into the hidden width, the weight out
    of it and the incoming gradient are real numbers. -/
theorem dgate (h0 : ∀ i, IsRe (arg0 m c i)) (h2 : ∀ i, IsRe (arg2 m c i))
    (h3 : ∀ i, IsRe (arg3 m c i)) (h4 : ∀ i, IsRe (arg4 m c i)) :
    (dats m 0 c).arrAt 4 cfg0.N = FfnActRefIdeal.Read.val_main_v13 (F := Ideal) (arg0 m c) (arg1 m c) (arg2 m c) (arg3 m c) (arg4 m c) := by
  refine (dats m 0 c).arrAt_eq_of_covers 4 _ (by decide +kernel) fun t hf y => ?_
  blk_simp
  rw [after0_4]
  frame_out
  refine (point4 m c t y).trans (Eq.trans ?_ (ref_dgate _ _ _ _ _ _).symm)
  obtain ⟨a, ha⟩ := (back_re h4 h3 (at4 t y)).mul (into_re h0 h2 (at4 t y))
  rw [ha]
  exact silu_grad a _

/-- The kernel's second result is the reference's. -/
theorem dup : (dats m 0 c).arrAt 5 cfg0.N = FfnActRefIdeal.Read.val_main_v15 (F := Ideal) (arg0 m c) (arg1 m c) (arg3 m c) (arg4 m c) := by
  refine (dats m 0 c).arrAt_eq_of_covers 5 _ (by decide +kernel) fun t hf y => ?_
  blk_simp
  rw [after0_5]
  frame_out
  refine (point5 m c t y).trans (Eq.trans ?_ (ref_dup _ _ _ _ (at4 t y)).symm)
  rw [mul_assoc, mul_comm]

/-! ## The claim -/

/-- The precondition at an element of each array it reads. -/
theorem reals_of_pre (h0 : Vec Ideal S2x2048x1024 .f32) (w1 w2 : Vec Ideal S1x1024x2816 .f32) (w3 : Vec Ideal S1x2816x1024 .f32) (h4 : Vec Ideal S2x2048x1024 .f32)
    (H : (Cert.Pre_finite_ffn_act.fn (F := Ideal) h0 w1 w2 w3 h4).1 = (fun _ => 1#1)
      ∧ (Cert.Pre_finite_ffn_act.fn (F := Ideal) h0 w1 w2 w3 h4).2.1 = (fun _ => 1#1)
      ∧ (Cert.Pre_finite_ffn_act.fn (F := Ideal) h0 w1 w2 w3 h4).2.2.1 = (fun _ => 1#1)
      ∧ (Cert.Pre_finite_ffn_act.fn (F := Ideal) h0 w1 w2 w3 h4).2.2.2 = (fun _ => 1#1)) :
    (∀ i, IsRe (h0 i)) ∧ (∀ i, IsRe (w2 i)) ∧ (∀ i, IsRe (w3 i)) ∧ (∀ i, IsRe (h4 i)) :=
  ⟨fun i => isRe_of_abs_lt (congrFun H.1 i), fun i => isRe_of_abs_lt (congrFun H.2.1 i), fun i => isRe_of_abs_lt (congrFun H.2.2.1 i),
    fun i => isRe_of_abs_lt (congrFun H.2.2.2 i)⟩

end Cert.FfnActIdeal.Closed

end
-- ==== Proof.SbTile.lean ====
/- One tile of the attention's gradient: the step that the kernel takes for a block of queries, a tile of keys and a head,
   as an operation on the values it carries; and what a trip of its loop over the tiles carries and writes. -/
module

public import proofs.«01_k».proof.Proof.Gen.SbIdeal.Value

@[expose] public section

set_option maxRecDepth 16384

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

/-! ## The step -/

/-- What is carried along a row of tiles for a block of queries and a head: the sum so far of the logits' softplus, the
    sum so far of the weights' gradient times the weights, and the queries' gradient so far. -/
abbrev Carry (F : FTy → Type) [FloatOps F] := FVec F S256x1 .f32 × FVec F S256x1 .f32 × FVec F S256x128 .f32

def keysOf (k : Vec F S256x128 .bf16) : FVec F S256x128 .bf16 := shapeCast S256x128 k shapeCasts_S256x128_S256x128

/-- The product of rows with the rows of a tile. -/
def rowsBy (q k : FVec F S256x128 .bf16) : FVec F S256x256 .f32 :=
  matmul dot_S256x128_S256x128_S256x256_1_1_0_0_n_n none q k (constant S256x256 .f32 0x00000000#32)

/-- The sums along a row up to each place of it, by the triangle. -/
def upTo (tri : FVec F S256x256 .bf16) (x : FVec F S256x256 .f32) : FVec F S256x256 .f32 :=
  matmul dot_S256x256_S256x256_S256x256_1_0_0_1_n_n none (truncf .bf16 x bitsLt_bf16_f32) tri (constant S256x256 .f32 0x00000000#32)

/-- The logarithm of a weight, from the logit's log-sigmoid and the sums of the softplus. -/
def logitOf (tri : FVec F S256x256 .bf16) (tot pc : FVec F S256x1 .f32) (c lsig : FVec F S256x256 .f32) : FVec F S256x256 .f32 :=
  subf (addf lsig (upTo tri c)) (broadcastTo S256x256 (subf tot pc) broadcasts_S256x1_S256x256)

/-- The gradient at the logits. -/
def dzOf (tri : FVec F S256x256 .bf16) (pdl : FVec F S256x1 .f32) (sig dl : FVec F S256x256 .f32) : FVec F S256x256 .bf16 :=
  truncf .bf16 (subf dl (mulf sig (addf (broadcastTo S256x256 pdl broadcasts_S256x1_S256x256) (upTo tri dl)))) bitsLt_bf16_f32

def lastOf (x : FVec F S256x256 .f32) : FVec F S256x1 .f32 := extractStridedSlice S256x1 ![0, 255] x slices_S256x256_o0_255_S256x1

/-- What is carried on from a tile. -/
def onward (tri : FVec F S256x256 .bf16) (c dl : FVec F S256x256 .f32) (dz : FVec F S256x256 .bf16) (k : FVec F S256x128 .bf16) (s : Carry F) : Carry F :=
  (addf s.1 (lastOf (upTo tri c)), addf s.2.1 (lastOf (upTo tri dl)),
    addf s.2.2 (matmul dot_S256x256_S256x128_S256x128_1_0_0_1_n_n none dz k (constant S256x128 .f32 0x00000000#32)))

/-- A tile of the keys' or the values' gradient with a product added. -/
def grown (w : FVec F S128x256 .bf16) (d : FVec F S256x256 .bf16) (old : Vec F S1x128x256 .f32) : Vec F S1x128x256 .f32 :=
  shapeCast S1x128x256 (addf (shapeCast S128x256 old shapeCasts_S1x128x256_S128x256)
    (matmul dot_S128x256_S256x256_S128x256_1_0_0_1_n_n none w d (constant S128x256 .f32 0x00000000#32))) shapeCasts_S128x256_S1x128x256

/-! ### The gates of a tile: before the queries, or across them -/

/-- What the logits of a tile give before the carried sums come in: their softplus and the odds' exponential, both kept
    only where the key comes before the query, the log-sigmoid, and the exponential that keeps as much. -/
structure Gates (F : FTy → Type) [FloatOps F] where
  c : FVec F S256x256 .f32
  l : FVec F S256x256 .f32
  s : FVec F S256x256 .f32
  ex : FVec F S256x256 .f32 → FVec F S256x256 .f32

def softplusOf (z : FVec F S256x256 .f32) : FVec F S256x256 .f32 :=
  addf (maximumf z (broadcast S256x256 (Scalar.ofBits .f32 0x00000000#32)))
    (log (addf (broadcast S256x256 (Scalar.ofBits .f32 0x3F800000#32)) (exp (subf (broadcast S256x256 (Scalar.ofBits .f32 0x00000000#32)) (absf z)))))

def fullGates (z : FVec F S256x256 .f32) : Gates F where
  c := softplusOf z
  l := subf z (softplusOf z)
  s := exp (subf z (softplusOf z))
  ex := fun l => exp l

def softplusQ (z : FVec F S128x128 .f32) : FVec F S128x128 .f32 :=
  addf (maximumf z (broadcast S128x128 (Scalar.ofBits .f32 0x00000000#32)))
    (log (addf (broadcast S128x128 (Scalar.ofBits .f32 0x3F800000#32)) (exp (subf (broadcast S128x128 (Scalar.ofBits .f32 0x00000000#32)) (absf z)))))

/-- The part of a square below its diagonal. -/
def below (x : FVec F S128x128 .f32) : FVec F S128x128 .f32 :=
  select (cmpi .slt (iota .tc S128x128 32 [1] iota_S128x128_d1_w32) (iota .tc S128x128 32 [0] iota_S128x128_d0_w32)) x
    (broadcast S128x128 (Scalar.ofBits .f32 0x00000000#32))

/-- A square with a zero quadrant above the diagonal. -/
def quads (a b d : FVec F S128x128 .f32) : FVec F S256x256 .f32 :=
  concatenate S256x256 0
    [⟨S128x256, concatenate S128x256 1 [⟨S128x128, a⟩, ⟨S128x128, broadcast S128x128 (Scalar.ofBits .f32 0x00000000#32)⟩] concatenates_S128x128_S128x128_S128x256_d1⟩,
     ⟨S128x256, concatenate S128x256 1 [⟨S128x128, b⟩, ⟨S128x128, d⟩] concatenates_S128x128_S128x128_S128x256_d1⟩] concatenates_S128x256_S128x256_S256x256_d0

def q00 (z : FVec F S256x256 .f32) : FVec F S128x128 .f32 := extractStridedSlice S128x128 ![0, 0] z slices_S256x256_o0_0_S128x128
def q10 (z : FVec F S256x256 .f32) : FVec F S128x128 .f32 := extractStridedSlice S128x128 ![128, 0] z slices_S256x256_o128_0_S128x128
def q11 (z : FVec F S256x256 .f32) : FVec F S128x128 .f32 := extractStridedSlice S128x128 ![128, 128] z slices_S256x256_o128_128_S128x128

def diagGates (z : FVec F S256x256 .f32) : Gates F where
  c := quads (below (softplusQ (q00 z))) (softplusQ (q10 z)) (below (softplusQ (q11 z)))
  l := quads (subf (q00 z) (softplusQ (q00 z))) (subf (q10 z) (softplusQ (q10 z))) (subf (q11 z) (softplusQ (q11 z)))
  s := quads (below (exp (subf (q00 z) (softplusQ (q00 z))))) (exp (subf (q10 z) (softplusQ (q10 z)))) (below (exp (subf (q11 z) (softplusQ (q11 z)))))
  ex := fun l => quads (below (exp (q00 l))) (exp (q10 l)) (below (exp (q11 l)))

/-- What a tile reads besides what it carries: the triangle, the rows' total of the softplus, the head's queries and
    the head's gradient of the output. -/
structure Rows (F : FTy → Type) [FloatOps F] where
  tri : FVec F S256x256 .bf16
  tot : FVec F S256x1 .f32
  q : FVec F S256x128 .bf16
  d : FVec F S256x128 .bf16

variable (w : Rows F) (g : Gates F) (k v : Vec F S256x128 .bf16) (s : Carry F)

def tileZ : FVec F S256x256 .f32 := rowsBy w.q (keysOf k)
def tileA : FVec F S256x256 .f32 := g.ex (logitOf w.tri w.tot s.1 g.c g.l)
def tileDl : FVec F S256x256 .f32 := mulf (tileA w g s) (rowsBy w.d (keysOf v))
def tileDz : FVec F S256x256 .bf16 := dzOf w.tri s.2.1 g.s (tileDl w g v s)
def tileOn : Carry F := onward w.tri g.c (tileDl w g v s) (tileDz w g v s) (keysOf k) s

def fullA : FVec F S256x256 .f32 := tileA w (fullGates (tileZ w k)) s
def fullDz : FVec F S256x256 .bf16 := tileDz w (fullGates (tileZ w k)) v s
def fullOn : Carry F := tileOn w (fullGates (tileZ w k)) k v s

def diagA : FVec F S256x256 .f32 := tileA w (diagGates (tileZ w k)) s
def diagDz : FVec F S256x256 .bf16 := tileDz w (diagGates (tileZ w k)) v s
def diagOn : Carry F := tileOn w (diagGates (tileZ w k)) k v s

/-! ## Writing a tile over what it was -/

theorem readCov_of_mem {sg : RefSig} {κ : Kind} {sp : Space} {S : Shape} {e : EltTy} {Val : EltTy → Type} [∀ e, Nonempty (Val e)] (v : View sg κ sp S e)
    (f : v.ty.Contents Val) (L : List (View.Piece Val S e)) (r : Rect S) (x : r.shape.Idx → Val e) (hp : (⟨r, x⟩ : View.Piece Val S e) ∈ L) :
    v.readCov L r.toLoadRect = v.readAt Val r.toLoadRect (v.writes Val f L) :=
  (View.readAt_writes_of_cover v f L _ fun j => ⟨_, hp, r.toLoadRect.idx_mem j⟩).symm

abbrev tileRect (o : Fin 3 → ℕ) (inb : ∀ a, o a + S1x128x256.size a ≤ S8x128x256.size a) : Rect S8x128x256 := Rect.unit o S1x128x256.size inb

/-- The contents with the tile at `o` replaced by `g` of it. -/
def upd (r : Memref sig .tc .vmem S8x128x256 .f32) (o : Fin 3 → ℕ) (inb : ∀ a, o a + S1x128x256.size a ≤ S8x128x256.size a)
    (g : Vec F S1x128x256 .f32 → Vec F S1x128x256 .f32) (f : BufTy.Contents (Elt F) r.view.ty) : BufTy.Contents (Elt F) r.view.ty :=
  r.view.writes (Elt F) f [⟨tileRect o inb, g (r.view.readAt (Elt F) (tileRect o inb).toLoadRect f)⟩]

theorem upd_cons (r : Memref sig .tc .vmem S8x128x256 .f32) (o : Fin 3 → ℕ) (inb : ∀ a, o a + S1x128x256.size a ≤ S8x128x256.size a)
    (g : Vec F S1x128x256 .f32 → Vec F S1x128x256 .f32) (f f' : BufTy.Contents (Elt F) r.view.ty) (L : List (View.Piece (Elt F) S8x128x256 .f32))
    (v : Vec F S1x128x256 .f32) (hf : r.view.writes (Elt F) f L = f')
    (hv : v = g (r.view.readAt (Elt F) (tileRect o inb).toLoadRect (r.view.writes (Elt F) f L))) :
    r.view.writes (Elt F) f (⟨tileRect o inb, v⟩ :: L) = upd r o inb g f' := by
  subst hf hv; rfl

theorem upd_cov (r : Memref sig .tc .vmem S8x128x256 .f32) (o : Fin 3 → ℕ) (inb : ∀ a, o a + S1x128x256.size a ≤ S8x128x256.size a)
    (g : Vec F S1x128x256 .f32 → Vec F S1x128x256 .f32) (f f' : BufTy.Contents (Elt F) r.view.ty) (L : List (View.Piece (Elt F) S8x128x256 .f32))
    (v x : Vec F S1x128x256 .f32) (hp : (⟨tileRect o inb, x⟩ : View.Piece (Elt F) S8x128x256 .f32) ∈ L) (hf : r.view.writes (Elt F) f L = f')
    (hv : v = g (r.view.readCov L (tileRect o inb).toLoadRect)) :
    r.view.writes (Elt F) f (⟨tileRect o inb, v⟩ :: L) = upd r o inb g f' :=
  upd_cons r o inb g f f' L v hf (hv.trans (congrArg g (readCov_of_mem (Val := Elt F) (e := .f32) r.view f L (tileRect o inb) x hp)))

theorem upd_off (r : Memref sig .tc .vmem S8x128x256 .f32) (o o' : Fin 3 → ℕ) (inb : ∀ a, o a + S1x128x256.size a ≤ S8x128x256.size a)
    (inb' : ∀ a, o' a + S1x128x256.size a ≤ S8x128x256.size a)
    (g : Vec F S1x128x256 .f32 → Vec F S1x128x256 .f32) (f f' : BufTy.Contents (Elt F) r.view.ty)
    (v x : Vec F S1x128x256 .f32) (ho : o' 0 < o 0)
    (hf : r.view.writes (Elt F) f [⟨tileRect o' inb', x⟩] = f') (hv : v = g (r.view.readAt (Elt F) (tileRect o inb).toLoadRect f)) :
    r.view.writes (Elt F) f [⟨tileRect o inb, v⟩, ⟨tileRect o' inb', x⟩] = upd r o inb g f' := by
  refine upd_cons r o inb g f f' _ v hf (hv.trans (congrArg g (View.readAt_writes_of_forall_not_mem r.view f _ _ ?_).symm))
  intro j p hp hm
  rw [List.mem_singleton] at hp
  subst hp
  have h1 : ((tileRect o inb).toLoadRect.idx j 0 : ℕ) < o' 0 + 1 := ((Rect.mem_set_unit (inb := inb')).mp hm 0).2
  have h2 : o 0 ≤ ((tileRect o inb).toLoadRect.idx j 0 : ℕ) := ((Rect.mem_set_unit (inb := inb)).mp ((tileRect o inb).toLoadRect.idx_mem j) 0).1
  omega

/-! ### The offsets -/

theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![512 * k.val + 256, 0] := by decide +kernel
theorem off3_eq : ∀ (i : grid0.Coords) (k : Fin (k0_t1_loop i).trips), k0_off3 i k = ![2 * k.val, 0, 0] := by decide +kernel
theorem off4_eq : ∀ (i : grid0.Coords) (k : Fin (k0_t1_loop i).trips), k0_off4 i k = ![2 * k.val + 1, 0, 0] := by decide +kernel
theorem off9_eq : ∀ (i : grid0.Coords), k0_off9 i = ![512 * (i 2).val, 0] := by decide +kernel
theorem off10_eq : ∀ (i : grid0.Coords), k0_off10 i = ![512 * (i 2).val + 256, 0] := by decide +kernel
theorem off11_eq : ∀ (i : grid0.Coords), k0_off11 i = ![2 * (i 2).val, 0, 0] := by decide +kernel
theorem off12_eq : ∀ (i : grid0.Coords), k0_off12 i = ![2 * (i 2).val + 1, 0, 0] := by decide +kernel
theorem trips1 : ∀ (i : grid0.Coords), (k0_t1_loop i).trips = (i 2).val := by decide +kernel
theorem trips2 : ∀ (i : grid0.Coords), (k0_t2_loop i).trips = 0 := by decide +kernel

/-- A tile of the keys or the values, as it is loaded. -/
abbrev tileRows (r : Memref sig .tc .vmem S2048x128 .bf16) (X : BufTy.Contents (Elt F) r.view.ty) (o : Fin 2 → ℕ)
    (inb : ∀ a, o a + S256x128.size a ≤ S2048x128.size a) : Vec F S256x128 .bf16 :=
  r.view.readAt (Elt F) (Rect.unit (s := S2048x128) o S256x128.size inb).toLoadRect X

end Cert.SbIdeal.Closed
-- ==== Proof.SbTrip.lean ====
/- What a trip of the loop over the full tiles carries on and writes. -/
module

public import proofs.«01_k».proof.Proof.SbTile

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

theorem trip_carry (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (arg2 : BitVec 32) (v12 : FVec F S256x256 .bf16) (v97 : FVec F S256x128 .bf16) (v100 : FVec F S256x128 .bf16) (v103 : FVec F S256x128 .bf16) (v106 : FVec F S256x128 .bf16) (v109 : FVec F S256x128 .bf16) (v112 : FVec F S256x128 .bf16) (v115 : FVec F S256x128 .bf16) (v118 : FVec F S256x128 .bf16) (v141 : FVec F S128x256 .bf16) (v144 : FVec F S128x256 .bf16) (v147 : FVec F S128x256 .bf16) (v150 : FVec F S128x256 .bf16) (v155 : FVec F S128x256 .bf16) (v158 : FVec F S128x256 .bf16) (v161 : FVec F S128x256 .bf16) (v164 : FVec F S128x256 .bf16) (v166 : FVec F S256x1 .f32) (v168 : FVec F S256x1 .f32) (v170 : FVec F S256x1 .f32) (v172 : FVec F S256x1 .f32) (v173 : FVec F S256x1 .f32) (v174 : FVec F S256x128 .f32) (c0_i32_50 : BitVec 32) (X_arg4 : BufTy.Contents (Elt F) arg4.view.ty) (X_arg5 : BufTy.Contents (Elt F) arg5.view.ty) (k : Fin (k0_t1_loop i).trips)  (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) (f15 : BufTy.Contents (Elt F) arg15.view.ty) (f16 : BufTy.Contents (Elt F) arg16.view.ty) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).1 acc f15 f16 =
      ((fullOn ⟨v12, v166, v97, v109⟩ (tileRows arg4 X_arg4 (k0_off2 i k) (k0_off2_inb i k)) (tileRows arg5 X_arg5 (k0_off2 i k) (k0_off2_inb i k)) (fullOn ⟨v12, v166, v97, v109⟩ (tileRows arg4 X_arg4 (k0_off1 i k) (k0_off1_inb i k)) (tileRows arg5 X_arg5 (k0_off1 i k) (k0_off1_inb i k)) (acc.1, acc.2.1, acc.2.2.1))).1,
        (fullOn ⟨v12, v166, v97, v109⟩ (tileRows arg4 X_arg4 (k0_off2 i k) (k0_off2_inb i k)) (tileRows arg5 X_arg5 (k0_off2 i k) (k0_off2_inb i k)) (fullOn ⟨v12, v166, v97, v109⟩ (tileRows arg4 X_arg4 (k0_off1 i k) (k0_off1_inb i k)) (tileRows arg5 X_arg5 (k0_off1 i k) (k0_off1_inb i k)) (acc.1, acc.2.1, acc.2.2.1))).2.1,
        (fullOn ⟨v12, v166, v97, v109⟩ (tileRows arg4 X_arg4 (k0_off2 i k) (k0_off2_inb i k)) (tileRows arg5 X_arg5 (k0_off2 i k) (k0_off2_inb i k)) (fullOn ⟨v12, v166, v97, v109⟩ (tileRows arg4 X_arg4 (k0_off1 i k) (k0_off1_inb i k)) (tileRows arg5 X_arg5 (k0_off1 i k) (k0_off1_inb i k)) (acc.1, acc.2.1, acc.2.2.1))).2.2,
        (fullOn ⟨v12, v168, v100, v112⟩ (tileRows arg4 X_arg4 (k0_off2 i k) (k0_off2_inb i k)) (tileRows arg5 X_arg5 (k0_off2 i k) (k0_off2_inb i k)) (fullOn ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1))).1,
        (fullOn ⟨v12, v168, v100, v112⟩ (tileRows arg4 X_arg4 (k0_off2 i k) (k0_off2_inb i k)) (tileRows arg5 X_arg5 (k0_off2 i k) (k0_off2_inb i k)) (fullOn ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1))).2.1,
        (fullOn ⟨v12, v168, v100, v112⟩ (tileRows arg4 X_arg4 (k0_off2 i k) (k0_off2_inb i k)) (tileRows arg5 X_arg5 (k0_off2 i k) (k0_off2_inb i k)) (fullOn ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1))).2.2,
        (fullOn ⟨v12, v170, v103, v115⟩ (tileRows arg4 X_arg4 (k0_off2 i k) (k0_off2_inb i k)) (tileRows arg5 X_arg5 (k0_off2 i k) (k0_off2_inb i k)) (fullOn ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1))).1,
        (fullOn ⟨v12, v170, v103, v115⟩ (tileRows arg4 X_arg4 (k0_off2 i k) (k0_off2_inb i k)) (tileRows arg5 X_arg5 (k0_off2 i k) (k0_off2_inb i k)) (fullOn ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1))).2.1,
        (fullOn ⟨v12, v170, v103, v115⟩ (tileRows arg4 X_arg4 (k0_off2 i k) (k0_off2_inb i k)) (tileRows arg5 X_arg5 (k0_off2 i k) (k0_off2_inb i k)) (fullOn ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1))).2.2,
        (fullOn ⟨v12, v172, v106, v118⟩ (tileRows arg4 X_arg4 (k0_off2 i k) (k0_off2_inb i k)) (tileRows arg5 X_arg5 (k0_off2 i k) (k0_off2_inb i k)) (fullOn ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2))).1,
        (fullOn ⟨v12, v172, v106, v118⟩ (tileRows arg4 X_arg4 (k0_off2 i k) (k0_off2_inb i k)) (tileRows arg5 X_arg5 (k0_off2 i k) (k0_off2_inb i k)) (fullOn ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2))).2.1,
        (fullOn ⟨v12, v172, v106, v118⟩ (tileRows arg4 X_arg4 (k0_off2 i k) (k0_off2_inb i k)) (tileRows arg5 X_arg5 (k0_off2 i k) (k0_off2_inb i k)) (fullOn ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2))).2.2) := by
  unfold trip_k0_t1
  rfl

theorem trip_keys (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (arg2 : BitVec 32) (v12 : FVec F S256x256 .bf16) (v97 : FVec F S256x128 .bf16) (v100 : FVec F S256x128 .bf16) (v103 : FVec F S256x128 .bf16) (v106 : FVec F S256x128 .bf16) (v109 : FVec F S256x128 .bf16) (v112 : FVec F S256x128 .bf16) (v115 : FVec F S256x128 .bf16) (v118 : FVec F S256x128 .bf16) (v141 : FVec F S128x256 .bf16) (v144 : FVec F S128x256 .bf16) (v147 : FVec F S128x256 .bf16) (v150 : FVec F S128x256 .bf16) (v155 : FVec F S128x256 .bf16) (v158 : FVec F S128x256 .bf16) (v161 : FVec F S128x256 .bf16) (v164 : FVec F S128x256 .bf16) (v166 : FVec F S256x1 .f32) (v168 : FVec F S256x1 .f32) (v170 : FVec F S256x1 .f32) (v172 : FVec F S256x1 .f32) (v173 : FVec F S256x1 .f32) (v174 : FVec F S256x128 .f32) (c0_i32_50 : BitVec 32) (X_arg4 : BufTy.Contents (Elt F) arg4.view.ty) (X_arg5 : BufTy.Contents (Elt F) arg5.view.ty) (k : Fin (k0_t1_loop i).trips)  (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) (f15 : BufTy.Contents (Elt F) arg15.view.ty) (f16 : BufTy.Contents (Elt F) arg16.view.ty) :
    arg15.view.writes (Elt F) f15 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).2.1 acc f15 f16) =
      (upd arg15 (k0_off4 i k) (k0_off4_inb i k) (grown v150 (fullDz ⟨v12, v172, v106, v118⟩ (tileRows arg4 X_arg4 (k0_off2 i k) (k0_off2_inb i k)) (tileRows arg5 X_arg5 (k0_off2 i k) (k0_off2_inb i k)) (fullOn ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2)))) (upd arg15 (k0_off3 i k) (k0_off3_inb i k) (grown v150 (fullDz ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2))) (upd arg15 (k0_off4 i k) (k0_off4_inb i k) (grown v144 (fullDz ⟨v12, v168, v100, v112⟩ (tileRows arg4 X_arg4 (k0_off2 i k) (k0_off2_inb i k)) (tileRows arg5 X_arg5 (k0_off2 i k) (k0_off2_inb i k)) (fullOn ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1)))) (upd arg15 (k0_off3 i k) (k0_off3_inb i k) (grown v144 (fullDz ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1))) (upd arg15 (k0_off4 i k) (k0_off4_inb i k) (grown v147 (fullDz ⟨v12, v170, v103, v115⟩ (tileRows arg4 X_arg4 (k0_off2 i k) (k0_off2_inb i k)) (tileRows arg5 X_arg5 (k0_off2 i k) (k0_off2_inb i k)) (fullOn ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1)))) (upd arg15 (k0_off3 i k) (k0_off3_inb i k) (grown v147 (fullDz ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1))) (upd arg15 (k0_off4 i k) (k0_off4_inb i k) (grown v141 (fullDz ⟨v12, v166, v97, v109⟩ (tileRows arg4 X_arg4 (k0_off2 i k) (k0_off2_inb i k)) (tileRows arg5 X_arg5 (k0_off2 i k) (k0_off2_inb i k)) (fullOn ⟨v12, v166, v97, v109⟩ (tileRows arg4 X_arg4 (k0_off1 i k) (k0_off1_inb i k)) (tileRows arg5 X_arg5 (k0_off1 i k) (k0_off1_inb i k)) (acc.1, acc.2.1, acc.2.2.1)))) (upd arg15 (k0_off3 i k) (k0_off3_inb i k) (grown v141 (fullDz ⟨v12, v166, v97, v109⟩ (tileRows arg4 X_arg4 (k0_off1 i k) (k0_off1_inb i k)) (tileRows arg5 X_arg5 (k0_off1 i k) (k0_off1_inb i k)) (acc.1, acc.2.1, acc.2.2.1))) f15)))))))) := by
  unfold trip_k0_t1
  dsimp only
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_off _ _ _ _ _ _ _ _ _ _ (by rw [off3_eq, off4_eq]; exact Nat.lt_succ_self _) ?_ ?_
  rotate_left
  · rfl
  refine upd_cons _ _ _ _ _ _ _ _ ?_ ?_
  rotate_left
  · rfl
  rfl

theorem trip_values (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (arg2 : BitVec 32) (v12 : FVec F S256x256 .bf16) (v97 : FVec F S256x128 .bf16) (v100 : FVec F S256x128 .bf16) (v103 : FVec F S256x128 .bf16) (v106 : FVec F S256x128 .bf16) (v109 : FVec F S256x128 .bf16) (v112 : FVec F S256x128 .bf16) (v115 : FVec F S256x128 .bf16) (v118 : FVec F S256x128 .bf16) (v141 : FVec F S128x256 .bf16) (v144 : FVec F S128x256 .bf16) (v147 : FVec F S128x256 .bf16) (v150 : FVec F S128x256 .bf16) (v155 : FVec F S128x256 .bf16) (v158 : FVec F S128x256 .bf16) (v161 : FVec F S128x256 .bf16) (v164 : FVec F S128x256 .bf16) (v166 : FVec F S256x1 .f32) (v168 : FVec F S256x1 .f32) (v170 : FVec F S256x1 .f32) (v172 : FVec F S256x1 .f32) (v173 : FVec F S256x1 .f32) (v174 : FVec F S256x128 .f32) (c0_i32_50 : BitVec 32) (X_arg4 : BufTy.Contents (Elt F) arg4.view.ty) (X_arg5 : BufTy.Contents (Elt F) arg5.view.ty) (k : Fin (k0_t1_loop i).trips)  (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) (f15 : BufTy.Contents (Elt F) arg15.view.ty) (f16 : BufTy.Contents (Elt F) arg16.view.ty) :
    arg16.view.writes (Elt F) f16 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).2.2.1 acc f15 f16) =
      (upd arg16 (k0_off4 i k) (k0_off4_inb i k) (grown v164 (truncf .bf16 (fullA ⟨v12, v172, v106, v118⟩ (tileRows arg4 X_arg4 (k0_off2 i k) (k0_off2_inb i k)) (fullOn ⟨v12, v172, v106, v118⟩ (tileRows arg4 X_arg4 (k0_off1 i k) (k0_off1_inb i k)) (tileRows arg5 X_arg5 (k0_off1 i k) (k0_off1_inb i k)) (acc.2.2.2.2.2.2.2.2.2.1, acc.2.2.2.2.2.2.2.2.2.2.1, acc.2.2.2.2.2.2.2.2.2.2.2))) bitsLt_bf16_f32)) (upd arg16 (k0_off3 i k) (k0_off3_inb i k) (grown v164 (truncf .bf16 (fullA ⟨v12, v172, v106, v118⟩ (tileRows arg4 X_arg4 (k0_off1 i k) (k0_off1_inb i k)) (acc.2.2.2.2.2.2.2.2.2.1, acc.2.2.2.2.2.2.2.2.2.2.1, acc.2.2.2.2.2.2.2.2.2.2.2)) bitsLt_bf16_f32)) (upd arg16 (k0_off4 i k) (k0_off4_inb i k) (grown v158 (truncf .bf16 (fullA ⟨v12, v168, v100, v112⟩ (tileRows arg4 X_arg4 (k0_off2 i k) (k0_off2_inb i k)) (fullOn ⟨v12, v168, v100, v112⟩ (tileRows arg4 X_arg4 (k0_off1 i k) (k0_off1_inb i k)) (tileRows arg5 X_arg5 (k0_off1 i k) (k0_off1_inb i k)) (acc.2.2.2.1, acc.2.2.2.2.1, acc.2.2.2.2.2.1))) bitsLt_bf16_f32)) (upd arg16 (k0_off3 i k) (k0_off3_inb i k) (grown v158 (truncf .bf16 (fullA ⟨v12, v168, v100, v112⟩ (tileRows arg4 X_arg4 (k0_off1 i k) (k0_off1_inb i k)) (acc.2.2.2.1, acc.2.2.2.2.1, acc.2.2.2.2.2.1)) bitsLt_bf16_f32)) (upd arg16 (k0_off4 i k) (k0_off4_inb i k) (grown v161 (truncf .bf16 (fullA ⟨v12, v170, v103, v115⟩ (tileRows arg4 X_arg4 (k0_off2 i k) (k0_off2_inb i k)) (fullOn ⟨v12, v170, v103, v115⟩ (tileRows arg4 X_arg4 (k0_off1 i k) (k0_off1_inb i k)) (tileRows arg5 X_arg5 (k0_off1 i k) (k0_off1_inb i k)) (acc.2.2.2.2.2.2.1, acc.2.2.2.2.2.2.2.1, acc.2.2.2.2.2.2.2.2.1))) bitsLt_bf16_f32)) (upd arg16 (k0_off3 i k) (k0_off3_inb i k) (grown v161 (truncf .bf16 (fullA ⟨v12, v170, v103, v115⟩ (tileRows arg4 X_arg4 (k0_off1 i k) (k0_off1_inb i k)) (acc.2.2.2.2.2.2.1, acc.2.2.2.2.2.2.2.1, acc.2.2.2.2.2.2.2.2.1)) bitsLt_bf16_f32)) (upd arg16 (k0_off4 i k) (k0_off4_inb i k) (grown v155 (truncf .bf16 (fullA ⟨v12, v166, v97, v109⟩ (tileRows arg4 X_arg4 (k0_off2 i k) (k0_off2_inb i k)) (fullOn ⟨v12, v166, v97, v109⟩ (tileRows arg4 X_arg4 (k0_off1 i k) (k0_off1_inb i k)) (tileRows arg5 X_arg5 (k0_off1 i k) (k0_off1_inb i k)) (acc.1, acc.2.1, acc.2.2.1))) bitsLt_bf16_f32)) (upd arg16 (k0_off3 i k) (k0_off3_inb i k) (grown v155 (truncf .bf16 (fullA ⟨v12, v166, v97, v109⟩ (tileRows arg4 X_arg4 (k0_off1 i k) (k0_off1_inb i k)) (acc.1, acc.2.1, acc.2.2.1)) bitsLt_bf16_f32)) f16)))))))) := by
  unfold trip_k0_t1
  dsimp only
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_cov _ _ _ _ _ _ _ _ _ (List.mem_cons_of_mem _ List.mem_cons_self) ?_ ?_
  rotate_left
  · rfl
  refine upd_off _ _ _ _ _ _ _ _ _ _ (by rw [off3_eq, off4_eq]; exact Nat.lt_succ_self _) ?_ ?_
  rotate_left
  · rfl
  refine upd_cons _ _ _ _ _ _ _ _ ?_ ?_
  rotate_left
  · rfl
  rfl

end Cert.SbIdeal.Closed
-- ==== Proof.SbReal.lean ====
/- One tile of the attention's gradient over the reals: what the kernel carries along a row of tiles are sums up to the
   tile, and the tile's weights and gradients are the whole matrix's at the tile's place. -/
module

public import proofs.«01_k».proof.Proof.SbTile
public import proofs.«01_k».proof.Proof.Reals
public import Idealize.ShloMosaic.Lib.Pipeline.ValueKit
public import Idealize.ShloMosaic.Lib.Pointwise
public import Idealize.ShloMosaic.Lib.WritesUnit

@[expose] public section

set_option maxRecDepth 16384

noncomputable section

namespace Cert.SbIdeal.Closed

open Idealize.ShloMosaic Idealize.ShloMosaic.TcCoe Idealize.SL.Sem Idealize.ShloMosaic.Pipeline
open Cert.SbIdeal Cert.SbIdeal.Gen Cert.Reals

/-- A matrix whose entries are real numbers, given by a function of the two places. -/
def Rep {n p : ℕ} (X : (⟨2, ![n, p]⟩ : Shape).Idx → EReal) (x : ℕ → ℕ → ℝ) : Prop :=
  ∀ j, X j = ((x (j 0).val (j 1).val : ℝ) : EReal)

theorem Rep.of_eq {n p : ℕ} {X : (⟨2, ![n, p]⟩ : Shape).Idx → EReal} {x y : ℕ → ℕ → ℝ} (h : Rep X x)
    (e : ∀ r c, r < n → c < p → x r c = y r c) : Rep X y :=
  fun j => (h j).trans (congrArg _ (e _ _ (j 0).isLt (j 1).isLt))

/-- A row of one matrix times a row or a column of another. -/
theorem sum_coe_mul {n : ℕ} (f g : ℕ → ℝ) :
    (∑ k : Fin n, ((f k.val : ℝ) : EReal) * ((g k.val : ℝ) : EReal)) = ((∑ k ∈ Finset.range n, f k * g k : ℝ) : EReal) := by
  rw [← Fin.sum_univ_eq_sum_range (fun k => f k * g k) n, coe_sum]
  exact Finset.sum_congr rfl fun k _ => (EReal.coe_mul _ _).symm

/-! ## The whole matrix -/

/-- The data of one head: the scaled queries and the output's gradient (zero outside the head's lanes), the keys, the
    values, and the total of the softplus along each row. -/
structure Head where
  q : ℕ → ℕ → ℝ
  k : ℕ → ℕ → ℝ
  d : ℕ → ℕ → ℝ
  v : ℕ → ℕ → ℝ
  tot : ℕ → ℝ

def sp (z : ℝ) : ℝ := max z 0 + Real.log (1 + Real.exp (0 - |z|))

namespace Head

variable (H : Head)

def Z (s t : ℕ) : ℝ := ∑ e ∈ Finset.range 128, H.q s e * H.k t e
def Cc (s t : ℕ) : ℝ := if t < s then sp (H.Z s t) else 0
def PC (s T : ℕ) : ℝ := ∑ u ∈ Finset.range T, H.Cc s u
def Aw (s t : ℕ) : ℝ := if t < s then Real.exp (H.Z s t - sp (H.Z s t) + H.PC s (t + 1) - H.tot s) else 0
def Da (s t : ℕ) : ℝ := ∑ e ∈ Finset.range 128, H.d s e * H.v t e
def Dl (s t : ℕ) : ℝ := H.Aw s t * H.Da s t
def PD (s T : ℕ) : ℝ := ∑ u ∈ Finset.range T, H.Dl s u
def Sg (s t : ℕ) : ℝ := if t < s then Real.exp (H.Z s t - sp (H.Z s t)) else 0
def Dz (s t : ℕ) : ℝ := H.Dl s t - H.Sg s t * H.PD s (t + 1)
def DQ (s T e : ℕ) : ℝ := ∑ t ∈ Finset.range T, H.Dz s t * H.k t e

theorem Aw_of_le {s t : ℕ} (h : s ≤ t) : H.Aw s t = 0 := if_neg (Nat.not_lt.mpr h)

theorem Dz_of_le {s t : ℕ} (h : s ≤ t) : H.Dz s t = 0 := by
  unfold Dz Dl Sg
  rw [H.Aw_of_le h, if_neg (Nat.not_lt.mpr h), zero_mul, zero_mul, sub_zero]

theorem PC_add (s T n : ℕ) : H.PC s (T + n) = H.PC s T + ∑ u ∈ Finset.range n, H.Cc s (T + u) := Finset.sum_range_add _ _ _
theorem PD_add (s T n : ℕ) : H.PD s (T + n) = H.PD s T + ∑ u ∈ Finset.range n, H.Dl s (T + u) := Finset.sum_range_add _ _ _
theorem DQ_add (s T n e : ℕ) : H.DQ s (T + n) e = H.DQ s T e + ∑ u ∈ Finset.range n, H.Dz s (T + u) * H.k (T + u) e := Finset.sum_range_add _ _ _

end Head

/-! ## The operations -/

theorem rep_keysOf {k : Vec Ideal S256x128 .bf16} {x : ℕ → ℕ → ℝ} (h : Rep k x) : Rep (keysOf k) x := by
  intro j
  refine Eq.trans ?_ (h j)
  pointwise [keysOf]

theorem rep_rowsBy {q k : FVec Ideal S256x128 .bf16} {x y : ℕ → ℕ → ℝ} (hq : Rep q x) (hk : Rep k y) :
    Rep (rowsBy q k) (fun s t => ∑ e ∈ Finset.range 128, x s e * y t e) := by
  intro j
  have e : rowsBy q k j = ∑ e : Fin 128, q (ix2 (j 0) e) * k (ix2 (j 1) e) := by pointwise [rowsBy]
  rw [e, ← sum_coe_mul]
  exact Finset.sum_congr rfl fun e _ => congrArg₂ (· * ·) (hq _) (hk _)

/-- The triangle that sums up to a place and the place itself. -/
def triR (r c : ℕ) : ℝ := if r ≤ c then 1 else 0

theorem sum_triR (x : ℕ → ℝ) {c n : ℕ} (h : c < n) : (∑ u ∈ Finset.range n, x u * triR u c) = ∑ u ∈ Finset.range (c + 1), x u := by
  have hs : Finset.range (c + 1) ⊆ Finset.range n := Finset.range_subset_range.mpr h
  rw [← Finset.sum_subset hs (f := fun u => x u * triR u c)]
  · refine Finset.sum_congr rfl fun u hu => ?_
    rw [triR, if_pos (Nat.lt_succ_iff.mp (Finset.mem_range.mp hu)), mul_one]
  · intro u _ hu
    rw [triR, if_neg (fun hle => hu (Finset.mem_range.mpr (Nat.lt_succ_of_le hle))), mul_zero]

theorem rep_upTo {tri : FVec Ideal S256x256 .bf16} {c : FVec Ideal S256x256 .f32} {x : ℕ → ℕ → ℝ} (ht : Rep tri triR) (hc : Rep c x) :
    Rep (upTo tri c) (fun s t => ∑ u ∈ Finset.range (t + 1), x s u) := by
  intro j
  have e : upTo tri c j = ∑ u : Fin 256, c (ix2 (j 0) u) * tri (ix2 u (j 1)) := by pointwise [upTo]
  have hj : (j 1).val < 256 := (j 1).isLt
  refine (e.trans (Finset.sum_congr rfl fun e _ => congrArg₂ (· * ·) (hc _) (ht _))).trans
    ((sum_coe_mul (n := 256) (fun u => x (j 0).val u) (fun u => triR u (j 1).val)).trans (congrArg _ (sum_triR (x (j 0).val) hj)))

theorem rep_lastOf {c : FVec Ideal S256x256 .f32} {x : ℕ → ℕ → ℝ} (hc : Rep c x) : Rep (lastOf c) (fun s _ => x s 255) := by
  intro j
  have e : lastOf c j = c (ix2 (j 0) 255) := by pointwise [lastOf]
  exact e.trans (hc _)

theorem rep_logitOf {tri : FVec Ideal S256x256 .bf16} {tot pc : FVec Ideal S256x1 .f32} {c l : FVec Ideal S256x256 .f32}
    {xt xp xc xl : ℕ → ℕ → ℝ} (ht : Rep tri triR) (hT : Rep tot xt) (hp : Rep pc xp) (hc : Rep c xc) (hl : Rep l xl) :
    Rep (logitOf tri tot pc c l) (fun s t => xl s t + (∑ u ∈ Finset.range (t + 1), xc s u) - (xt s 0 - xp s 0)) := by
  intro j
  have e : logitOf tri tot pc c l j = l j + upTo tri c j - (tot (ix2 (j 0) 0) - pc (ix2 (j 0) 0)) := by pointwise [logitOf]
  rw [e, hl j, rep_upTo ht hc j, hT _, hp _, ← EReal.coe_add, ← EReal.coe_sub, ← EReal.coe_sub]
  rfl

theorem rep_dzOf {tri : FVec Ideal S256x256 .bf16} {pd : FVec Ideal S256x1 .f32} {s dl : FVec Ideal S256x256 .f32}
    {xp xs xd : ℕ → ℕ → ℝ} (ht : Rep tri triR) (hp : Rep pd xp) (hs : Rep s xs) (hd : Rep dl xd) :
    Rep (dzOf tri pd s dl) (fun r t => xd r t - xs r t * (xp r 0 + ∑ u ∈ Finset.range (t + 1), xd r u)) := by
  intro j
  have e : dzOf tri pd s dl j = dl j - s j * (pd (ix2 (j 0) 0) + upTo tri dl j) := by pointwise [dzOf]
  rw [e, hd j, hs j, rep_upTo ht hd j, hp _, ← EReal.coe_add, ← EReal.coe_mul, ← EReal.coe_sub]
  rfl

theorem rep_onward {tri : FVec Ideal S256x256 .bf16} {c dl : FVec Ideal S256x256 .f32} {dz : FVec Ideal S256x256 .bf16} {k : FVec Ideal S256x128 .bf16}
    {s : Carry Ideal} {xc xd xz xk p1 p2 p3 : ℕ → ℕ → ℝ} (ht : Rep tri triR) (hc : Rep c xc) (hd : Rep dl xd) (hz : Rep dz xz) (hk : Rep k xk)
    (h1 : Rep s.1 p1) (h2 : Rep s.2.1 p2) (h3 : Rep s.2.2 p3) :
    Rep (onward tri c dl dz k s).1 (fun r _ => p1 r 0 + ∑ u ∈ Finset.range 256, xc r u) ∧
    Rep (onward tri c dl dz k s).2.1 (fun r _ => p2 r 0 + ∑ u ∈ Finset.range 256, xd r u) ∧
    Rep (onward tri c dl dz k s).2.2 (fun r e => p3 r e + ∑ u ∈ Finset.range 256, xz r u * xk u e) := by
  refine ⟨fun j => ?_, fun j => ?_, fun j => ?_⟩
  · have e : (onward tri c dl dz k s).1 j = s.1 j + lastOf (upTo tri c) j := by pointwise [onward]
    have h0 : (j 1).val = 0 := by have h : (j 1).val < 1 := (j 1).isLt; omega
    rw [e, h1 j, rep_lastOf (rep_upTo ht hc) j, ← EReal.coe_add, h0]
  · have e : (onward tri c dl dz k s).2.1 j = s.2.1 j + lastOf (upTo tri dl) j := by pointwise [onward]
    have h0 : (j 1).val = 0 := by have h : (j 1).val < 1 := (j 1).isLt; omega
    rw [e, h2 j, rep_lastOf (rep_upTo ht hd) j, ← EReal.coe_add, h0]
  · have e : (onward tri c dl dz k s).2.2 j = s.2.2 j + ∑ u : Fin 256, dz (ix2 (j 0) u) * k (ix2 u (j 1)) := by pointwise [onward]
    rw [e, h3 j, EReal.coe_add, ← sum_coe_mul]
    exact congrArg _ (Finset.sum_congr rfl fun e _ => congrArg₂ (· * ·) (hz _) (hk _))

/-! ## The gates -/

theorem absf_coe (r : ℝ) : FloatOps.absf (F := Ideal) (φ := .f32) ((r : EReal) : Ideal .f32) = ((|r| : ℝ) : EReal) := by
  show max ((r : EReal)) (-(r : EReal)) = _
  rw [← EReal.coe_neg]
  exact (EReal.coe_strictMono.monotone.map_max).symm

theorem sp_coe (r : ℝ) :
    max (r : EReal) 0 + Ideal.log (1 + Ideal.exp (0 - FloatOps.absf (F := Ideal) (φ := .f32) ((r : EReal) : Ideal .f32))) = ((sp r : ℝ) : EReal) := by
  have hp : (0 : ℝ) < 1 + Real.exp (0 - |r|) := by positivity
  rw [absf_coe, ← EReal.coe_zero, ← EReal.coe_one, ← EReal.coe_sub, Ideal.exp_coe, ← EReal.coe_add, Ideal.log_coe, if_neg (not_le.mpr hp),
    ← (EReal.coe_strictMono.monotone.map_max (a := r) (b := 0)), ← EReal.coe_add]
  rfl

theorem rep_softplusOf {z : FVec Ideal S256x256 .f32} {x : ℕ → ℕ → ℝ} (h : Rep z x) : Rep (softplusOf z) (fun s t => sp (x s t)) := by
  intro j
  have e : softplusOf z j = max (z j) 0 + Ideal.log (1 + Ideal.exp (0 - FloatOps.absf (F := Ideal) (φ := .f32) (z j))) := by pointwise [softplusOf]
  rw [e, h j, sp_coe]

theorem rep_softplusQ {z : FVec Ideal S128x128 .f32} {x : ℕ → ℕ → ℝ} (h : Rep z x) : Rep (softplusQ z) (fun s t => sp (x s t)) := by
  intro j
  have e : softplusQ z j = max (z j) 0 + Ideal.log (1 + Ideal.exp (0 - FloatOps.absf (F := Ideal) (φ := .f32) (z j))) := by pointwise [softplusQ]
  rw [e, h j, sp_coe]

theorem rep_subf {n p : ℕ} {a b : FVec Ideal ⟨2, ![n, p]⟩ .f32} {x y : ℕ → ℕ → ℝ} (ha : Rep a x) (hb : Rep b y) : Rep (subf a b) (fun s t => x s t - y s t) :=
  fun j => (congrArg₂ (· - ·) (ha j) (hb j)).trans (EReal.coe_sub _ _).symm

theorem rep_mulf {n p : ℕ} {a b : FVec Ideal ⟨2, ![n, p]⟩ .f32} {x y : ℕ → ℕ → ℝ} (ha : Rep a x) (hb : Rep b y) : Rep (mulf a b) (fun s t => x s t * y s t) :=
  fun j => (congrArg₂ (· * ·) (ha j) (hb j)).trans (EReal.coe_mul _ _).symm

theorem rep_exp {n p : ℕ} {a : FVec Ideal ⟨2, ![n, p]⟩ .f32} {x : ℕ → ℕ → ℝ} (ha : Rep a x) : Rep (exp a) (fun s t => Real.exp (x s t)) :=
  fun j => (congrArg Ideal.exp (ha j)).trans (Ideal.exp_coe _)

theorem rep_q00 {z : FVec Ideal S256x256 .f32} {x : ℕ → ℕ → ℝ} (h : Rep z x) : Rep (q00 z) x := by
  intro j
  have e : q00 z j = z (ix2 ⟨(j 0).val, (j 0).isLt.trans (by decide)⟩ ⟨(j 1).val, (j 1).isLt.trans (by decide)⟩) := by pointwise [q00]
  exact e.trans (h _)

theorem rep_q10 {z : FVec Ideal S256x256 .f32} {x : ℕ → ℕ → ℝ} (h : Rep z x) : Rep (q10 z) (fun s t => x (128 + s) t) := by
  intro j
  have e : q10 z j = z (ix2 ⟨128 + (j 0).val, Nat.add_lt_add_left (j 0).isLt 128⟩ ⟨(j 1).val, (j 1).isLt.trans (by decide)⟩) := by pointwise [q10]
  exact e.trans (h _)

theorem rep_q11 {z : FVec Ideal S256x256 .f32} {x : ℕ → ℕ → ℝ} (h : Rep z x) : Rep (q11 z) (fun s t => x (128 + s) (128 + t)) := by
  intro j
  have e : q11 z j = z (ix2 ⟨128 + (j 0).val, Nat.add_lt_add_left (j 0).isLt 128⟩ ⟨128 + (j 1).val, Nat.add_lt_add_left (j 1).isLt 128⟩) := by pointwise [q11]
  exact e.trans (h _)

theorem slt_small : ∀ a b : Fin 128, IntOp.cmpi .slt (BitVec.ofNat 32 a.val) (BitVec.ofNat 32 b.val) = if a.val < b.val then 1#1 else 0#1 := by decide +kernel

theorem rep_below {z : FVec Ideal S128x128 .f32} {x : ℕ → ℕ → ℝ} (h : Rep z x) : Rep (below z) (fun s t => if t < s then x s t else 0) := by
  intro j
  have e : below z j = Scalar.select (IntOp.cmpi .slt (BitVec.ofNat 32 (j 1).val) (BitVec.ofNat 32 (j 0).val)) (z j) 0 := by pointwise [below]
  rw [e, slt_small (j 1) (j 0), h j]
  by_cases hj : (j 1).val < (j 0).val
  · rw [if_pos hj]; exact (congrArg (fun r : ℝ => (r : EReal)) (if_pos hj)).symm
  · rw [if_neg hj]; exact (congrArg (fun r : ℝ => (r : EReal)) (if_neg hj)).symm

theorem rep_quads {a b d : FVec Ideal S128x128 .f32} {x y w : ℕ → ℕ → ℝ} (ha : Rep a x) (hb : Rep b y) (hd : Rep d w) :
    Rep (quads a b d) (fun s t => if s < 128 then (if t < 128 then x s t else 0) else (if t < 128 then y (s - 128) t else w (s - 128) (t - 128))) := by
  intro j
  pointwise [quads]
  by_cases h0 : (j 0).val < 128 <;> by_cases h1 : (j 1).val < 128
  · rw [dif_pos h0, dif_pos h1, if_pos h0, if_pos h1]; exact ha _
  · rw [dif_pos h0, dif_neg h1, if_pos h0, if_neg h1]; rfl
  · rw [dif_neg h0, dif_pos h1, if_neg h0, if_pos h1]; exact hb _
  · rw [dif_neg h0, dif_neg h1, if_neg h0, if_neg h1]; exact hd _

/-! ## A tile -/

/-- The gates of the tile of the rows from `S0` on and the keys from `T0` on. -/
structure GatesRep (g : Gates Ideal) (H : Head) (S0 T0 : ℕ) : Prop where
  c : Rep g.c (fun s t => H.Cc (S0 + s) (T0 + t))
  s : Rep g.s (fun s t => H.Sg (S0 + s) (T0 + t))
  l : ∃ l, Rep g.l l ∧ ∀ s t, T0 + t < S0 + s → l s t = H.Z (S0 + s) (T0 + t) - sp (H.Z (S0 + s) (T0 + t))
  ex : ∀ (L : FVec Ideal S256x256 .f32) (l : ℕ → ℕ → ℝ), Rep L l → Rep (g.ex L) (fun s t => if T0 + t < S0 + s then Real.exp (l s t) else 0)

theorem gates_full {z : FVec Ideal S256x256 .f32} {H : Head} {S0 T0 : ℕ} (hz : Rep z (fun s t => H.Z (S0 + s) (T0 + t))) (h : T0 + 256 ≤ S0) :
    GatesRep (fullGates z) H S0 T0 where
  c := (rep_softplusOf hz).of_eq fun s t _ ht => (if_pos (by omega)).symm
  s := (rep_exp (rep_subf hz (rep_softplusOf hz))).of_eq fun s t _ ht => (if_pos (by omega)).symm
  l := ⟨_, rep_subf hz (rep_softplusOf hz), fun _ _ _ => rfl⟩
  ex := fun L l hl => (rep_exp hl).of_eq fun s t _ ht => (if_pos (by omega)).symm

theorem quads_mask {a b d : FVec Ideal S128x128 .f32} {x : ℕ → ℕ → ℝ} {S0 : ℕ} (ha : Rep a x) (hb : Rep b (fun s t => x (128 + s) t))
    (hd : Rep d (fun s t => x (128 + s) (128 + t))) :
    Rep (quads (below a) b (below d)) (fun s t => if S0 + t < S0 + s then x s t else 0) := by
  refine (rep_quads (rep_below ha) hb (rep_below hd)).of_eq fun s t _ _ => ?_
  by_cases h0 : s < 128 <;> by_cases h1 : t < 128
  · rw [if_pos h0, if_pos h1]
    exact if_congr (by omega) rfl rfl
  · rw [if_pos h0, if_neg h1, if_neg (by omega)]
  · rw [if_neg h0, if_pos h1, if_pos (by omega)]
    show x (128 + (s - 128)) t = _
    rw [show 128 + (s - 128) = s by omega]
  · rw [if_neg h0, if_neg h1]
    refine if_congr (by omega) ?_ rfl
    show x (128 + (s - 128)) (128 + (t - 128)) = _
    rw [show 128 + (s - 128) = s by omega, show 128 + (t - 128) = t by omega]

theorem gates_diag {z : FVec Ideal S256x256 .f32} {H : Head} {S0 : ℕ} (hz : Rep z (fun s t => H.Z (S0 + s) (S0 + t))) :
    GatesRep (diagGates z) H S0 S0 where
  c := quads_mask (rep_softplusQ (rep_q00 hz)) (rep_softplusQ (rep_q10 hz)) (rep_softplusQ (rep_q11 hz))
  s := quads_mask (rep_exp (rep_subf (rep_q00 hz) (rep_softplusQ (rep_q00 hz)))) (rep_exp (rep_subf (rep_q10 hz) (rep_softplusQ (rep_q10 hz))))
    (rep_exp (rep_subf (rep_q11 hz) (rep_softplusQ (rep_q11 hz))))
  l := by
    refine ⟨_, rep_quads (rep_subf (rep_q00 hz) (rep_softplusQ (rep_q00 hz))) (rep_subf (rep_q10 hz) (rep_softplusQ (rep_q10 hz)))
      (rep_subf (rep_q11 hz) (rep_softplusQ (rep_q11 hz))), fun s t hm => ?_⟩
    by_cases h0 : s < 128 <;> by_cases h1 : t < 128
    · rw [if_pos h0, if_pos h1]
    · omega
    · rw [if_neg h0, if_pos h1]
      rw [show 128 + (s - 128) = s by omega]
    · rw [if_neg h0, if_neg h1]
      rw [show 128 + (s - 128) = s by omega, show 128 + (t - 128) = t by omega]
  ex := fun L l hl => quads_mask (x := fun s t => Real.exp (l s t)) (rep_exp (rep_q00 hl)) (rep_exp (rep_q10 hl)) (rep_exp (rep_q11 hl))

/-- The rows of a head from `S0` on. -/
structure RowsRep (w : Rows Ideal) (H : Head) (S0 : ℕ) : Prop where
  tri : Rep w.tri triR
  tot : Rep w.tot (fun s _ => H.tot (S0 + s))
  q : Rep w.q (fun s e => H.q (S0 + s) e)
  d : Rep w.d (fun s e => H.d (S0 + s) e)

/-- What is carried up to the key `T`: the sums over the keys before it. -/
structure CarryRep (s : Carry Ideal) (H : Head) (S0 T : ℕ) : Prop where
  c : Rep s.1 (fun r _ => H.PC (S0 + r) T)
  d : Rep s.2.1 (fun r _ => H.PD (S0 + r) T)
  q : Rep s.2.2 (fun r e => H.DQ (S0 + r) T e)

section Tile

variable {w : Rows Ideal} {g : Gates Ideal} {k v : Vec Ideal S256x128 .bf16} {s : Carry Ideal} {H : Head} {S0 T0 : ℕ}

theorem tile_z (hw : RowsRep w H S0) (hk : Rep k (fun t e => H.k (T0 + t) e)) : Rep (tileZ w k) (fun s t => H.Z (S0 + s) (T0 + t)) :=
  rep_rowsBy hw.q (rep_keysOf hk)

theorem tile_a (hw : RowsRep w H S0) (hg : GatesRep g H S0 T0) (hs : CarryRep s H S0 T0) :
    Rep (tileA w g s) (fun s t => H.Aw (S0 + s) (T0 + t)) := by
  obtain ⟨l, hl, hm⟩ := hg.l
  refine (hg.ex _ _ (rep_logitOf hw.tri hw.tot hs.c hg.c hl)).of_eq fun r t _ _ => ?_
  unfold Head.Aw
  by_cases h : T0 + t < S0 + r
  · rw [if_pos h, if_pos h, hm r t h, Nat.add_assoc, H.PC_add]
    congr 1; ring
  · rw [if_neg h, if_neg h]

theorem tile_dl (hw : RowsRep w H S0) (hg : GatesRep g H S0 T0) (hs : CarryRep s H S0 T0) (hv : Rep v (fun t e => H.v (T0 + t) e)) :
    Rep (tileDl w g v s) (fun s t => H.Dl (S0 + s) (T0 + t)) :=
  rep_mulf (tile_a hw hg hs) (rep_rowsBy hw.d (rep_keysOf hv))

theorem tile_dz (hw : RowsRep w H S0) (hg : GatesRep g H S0 T0) (hs : CarryRep s H S0 T0) (hv : Rep v (fun t e => H.v (T0 + t) e)) :
    Rep (tileDz w g v s) (fun s t => H.Dz (S0 + s) (T0 + t)) := by
  refine (rep_dzOf hw.tri hs.d hg.s (tile_dl hw hg hs hv)).of_eq fun r t _ _ => ?_
  unfold Head.Dz
  rw [Nat.add_assoc, H.PD_add]

theorem tile_on (hw : RowsRep w H S0) (hg : GatesRep g H S0 T0) (hs : CarryRep s H S0 T0) (hk : Rep k (fun t e => H.k (T0 + t) e))
    (hv : Rep v (fun t e => H.v (T0 + t) e)) : CarryRep (tileOn w g k v s) H S0 (T0 + 256) := by
  obtain ⟨h1, h2, h3⟩ := rep_onward hw.tri hg.c (tile_dl hw hg hs hv) (tile_dz hw hg hs hv) (rep_keysOf hk) hs.c hs.d hs.q
  exact ⟨h1.of_eq fun r _ _ _ => (H.PC_add _ _ _).symm, h2.of_eq fun r _ _ _ => (H.PD_add _ _ _).symm, h3.of_eq fun r e _ _ => (H.DQ_add _ _ _ _).symm⟩

end Tile

/-! ## The accumulators -/

/-- The contents read as what was there before plus a real number at each place. -/
def Acc (r : Memref sig .tc .vmem S8x128x256 .f32) (f f0 : BufTy.Contents (Elt Ideal) r.view.ty) (e : ℕ → ℕ → ℕ → ℝ) : Prop :=
  ∀ y : S8x128x256.Idx, r.view.read (Elt Ideal) f y = r.view.read (Elt Ideal) f0 y + ((e (y 0).val (y 1).val (y 2).val : ℝ) : EReal)

theorem Acc.refl (r : Memref sig .tc .vmem S8x128x256 .f32) (f : BufTy.Contents (Elt Ideal) r.view.ty) : Acc r f f (fun _ _ _ => 0) :=
  fun _ => (add_zero _).symm

theorem Acc.of_eq {r : Memref sig .tc .vmem S8x128x256 .f32} {f f0 : BufTy.Contents (Elt Ideal) r.view.ty} {e e' : ℕ → ℕ → ℕ → ℝ} (h : Acc r f f0 e)
    (he : ∀ j d t, j < 8 → d < 128 → t < 256 → e j d t = e' j d t) : Acc r f f0 e' :=
  fun y => (h y).trans (by rw [he _ _ _ (y 0).isLt (y 1).isLt (y 2).isLt])

theorem Acc.upd {r : Memref sig .tc .vmem S8x128x256 .f32} {f f0 : BufTy.Contents (Elt Ideal) r.view.ty} {e : ℕ → ℕ → ℕ → ℝ} (h : Acc r f f0 e)
    {o : Fin 3 → ℕ} {inb : ∀ a, o a + S1x128x256.size a ≤ S8x128x256.size a} {J : ℕ} (ho : o = ![J, 0, 0])
    {W : FVec Ideal S128x256 .bf16} {D : FVec Ideal S256x256 .bf16} {x y : ℕ → ℕ → ℝ} (hW : Rep W x) (hD : Rep D y) :
    Acc r (upd r o inb (grown W D) f) f0 (fun j d t => e j d t + if j = J then ∑ u ∈ Finset.range 256, x d u * y u t else 0) := by
  subst ho
  intro z
  unfold Closed.upd
  by_cases hz : (z 0).val = J
  · have hx : ∀ a, (z a).val = (![J, 0, 0] : Fin 3 → ℕ) a + ((ix3 (0 : Fin 1) (z 1) (z 2) : S1x128x256.Idx) a).val := by
      intro a
      fin_cases a
      · exact hz
      · exact (Nat.zero_add _).symm
      · exact (Nat.zero_add _).symm
    have he : grown W D (r.view.readAt (Elt Ideal) (tileRect ![J, 0, 0] inb).toLoadRect f) (ix3 (0 : Fin 1) (z 1) (z 2))
        = r.view.readAt (Elt Ideal) (tileRect ![J, 0, 0] inb).toLoadRect f (ix3 (0 : Fin 1) (z 1) (z 2)) + ∑ u : Fin 256, W (ix2 (z 1) u) * D (ix2 u (z 2)) := by
      pointwise [grown]
    have hr : r.view.readAt (Elt Ideal) (tileRect ![J, 0, 0] inb).toLoadRect f (ix3 (0 : Fin 1) (z 1) (z 2)) = r.view.read (Elt Ideal) f z := by
      refine congrArg (r.view.read (Elt Ideal) f) (funext fun a => Fin.ext ?_)
      refine Eq.trans ?_ (hx a).symm
      show (![J, 0, 0] : Fin 3 → ℕ) a + 1 * _ = _
      rw [Nat.one_mul]
    refine (View.read_writes_cons_unit_of_mem r.view f inb _ [] z (ix3 (0 : Fin 1) (z 1) (z 2)) rfl hx).trans (he.trans ?_)
    show _ = _ + ((e (z 0).val (z 1).val (z 2).val + (if (z 0).val = J then _ else 0 : ℝ) : ℝ) : EReal)
    rw [hr, h z, if_pos hz, EReal.coe_add, ← add_assoc, ← sum_coe_mul]
    exact congrArg _ (Finset.sum_congr rfl fun u _ => congrArg₂ (· * ·) (hW _) (hD _))
  · refine (View.read_writes_cons_unit_of_not_mem r.view f inb _ [] z rfl 0 ?_).trans ((h z).trans ?_)
    · show (z 0).val < J ∨ J + 1 ≤ (z 0).val
      omega
    · show _ = _ + ((e (z 0).val (z 1).val (z 2).val + (if (z 0).val = J then _ else 0 : ℝ) : ℝ) : EReal)
      rw [if_neg hz, add_zero]

end Cert.SbIdeal.Closed
-- ==== Proof.SbLoop.lean ====
/- The loop over the full tiles: what it carries is the sums over the keys it has passed, and the accumulators have grown
   by the products of those keys' tiles. -/
module

public import proofs.«01_k».proof.Proof.SbReal
public import proofs.«01_k».proof.Proof.SbTrip

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen

theorem rep_tileRows {r : Memref sig .tc .vmem S2048x128 .bf16} {X : BufTy.Contents (Elt Ideal) r.view.ty} {x : ℕ → ℕ → ℝ}
    (h : Rep (n := 2048) (p := 128) (r.view.read (Elt Ideal) X) x) {o : Fin 2 → ℕ} {inb : ∀ a, o a + S256x128.size a ≤ S2048x128.size a} {T0 : ℕ} (ho : o = ![T0, 0]) :
    Rep (n := 256) (p := 128) (tileRows r X o inb) (fun t e => x (T0 + t) e) := by
  subst ho
  intro j
  refine (h _).trans ?_
  show ((x (T0 + 1 * (j 0).val) (0 + 1 * (j 1).val) : ℝ) : EReal) = ((x (T0 + (j 0).val) (j 1).val : ℝ) : EReal)
  rw [Nat.one_mul, Nat.one_mul, Nat.zero_add]

section Tiles

variable {w : Rows Ideal} {k v : Vec Ideal S256x128 .bf16} {s : Carry Ideal} {H : Head} {S0 T0 : ℕ}

theorem full_gates (hw : RowsRep w H S0) (hk : Rep k (fun t e => H.k (T0 + t) e)) (h : T0 + 256 ≤ S0) : GatesRep (fullGates (tileZ w k)) H S0 T0 :=
  gates_full (tile_z hw hk) h

theorem full_a (hw : RowsRep w H S0) (hs : CarryRep s H S0 T0) (hk : Rep k (fun t e => H.k (T0 + t) e)) (h : T0 + 256 ≤ S0) :
    Rep (fullA w k s) (fun s t => H.Aw (S0 + s) (T0 + t)) := tile_a hw (full_gates hw hk h) hs

theorem full_dz (hw : RowsRep w H S0) (hs : CarryRep s H S0 T0) (hk : Rep k (fun t e => H.k (T0 + t) e)) (hv : Rep v (fun t e => H.v (T0 + t) e))
    (h : T0 + 256 ≤ S0) : Rep (fullDz w k v s) (fun s t => H.Dz (S0 + s) (T0 + t)) := tile_dz hw (full_gates hw hk h) hs hv

theorem full_on (hw : RowsRep w H S0) (hs : CarryRep s H S0 T0) (hk : Rep k (fun t e => H.k (T0 + t) e)) (hv : Rep v (fun t e => H.v (T0 + t) e))
    (h : T0 + 256 ≤ S0) : CarryRep (fullOn w k v s) H S0 (T0 + 256) := tile_on hw (full_gates hw hk h) hs hk hv

theorem diag_a (hw : RowsRep w H S0) (hs : CarryRep s H S0 S0) (hk : Rep k (fun t e => H.k (S0 + t) e)) :
    Rep (diagA w k s) (fun s t => H.Aw (S0 + s) (S0 + t)) := tile_a hw (gates_diag (tile_z hw hk)) hs

theorem diag_dz (hw : RowsRep w H S0) (hs : CarryRep s H S0 S0) (hk : Rep k (fun t e => H.k (S0 + t) e)) (hv : Rep v (fun t e => H.v (S0 + t) e)) :
    Rep (diagDz w k v s) (fun s t => H.Dz (S0 + s) (S0 + t)) := tile_dz hw (gates_diag (tile_z hw hk)) hs hv

theorem diag_on (hw : RowsRep w H S0) (hs : CarryRep s H S0 S0) (hk : Rep k (fun t e => H.k (S0 + t) e)) (hv : Rep v (fun t e => H.v (S0 + t) e)) :
    CarryRep (diagOn w k v s) H S0 (S0 + 256) := tile_on hw (gates_diag (tile_z hw hk)) hs hk hv

end Tiles

/-- What the 256 rows from `S0` on add to the keys' gradient. -/
def Head.Ek (H : Head) (S0 e T : ℕ) : ℝ := ∑ u ∈ Finset.range 256, H.q (S0 + u) e * H.Dz (S0 + u) T

/-- What the 256 rows from `S0` on add to the values' gradient. -/
def Head.Ev (H : Head) (S0 e T : ℕ) : ℝ := ∑ u ∈ Finset.range 256, H.d (S0 + u) e * H.Aw (S0 + u) T

def sumK (H0 H1 : Head) (S0 e T : ℕ) : ℝ := H0.Ek S0 e T + H0.Ek (S0 + 256) e T + H1.Ek S0 e T + H1.Ek (S0 + 256) e T
def sumV (H0 H1 : Head) (S0 e T : ℕ) : ℝ := H0.Ev S0 e T + H0.Ev (S0 + 256) e T + H1.Ev S0 e T + H1.Ev (S0 + 256) e T

/-- The rows of one head and block of rows, and the same as columns. -/
structure GrpRep (tri : FVec Ideal S256x256 .bf16) (tot : FVec Ideal S256x1 .f32) (q d : FVec Ideal S256x128 .bf16) (qt dt : FVec Ideal S128x256 .bf16)
    (H : Head) (S0 : ℕ) : Prop where
  rows : RowsRep ⟨tri, tot, q, d⟩ H S0
  qt : Rep qt (fun e s => H.q (S0 + s) e)
  dt : Rep dt (fun e s => H.d (S0 + s) e)

abbrev Flat := FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32

/-- After the keys before `512 * n`. -/
structure Inv (H0 H1 : Head) (S0 : ℕ) (r15 r16 : Memref sig .tc .vmem S8x128x256 .f32) (g15 : BufTy.Contents (Elt Ideal) r15.view.ty)
    (g16 : BufTy.Contents (Elt Ideal) r16.view.ty) (n : ℕ) (acc : Flat) (f15 : BufTy.Contents (Elt Ideal) r15.view.ty)
    (f16 : BufTy.Contents (Elt Ideal) r16.view.ty) : Prop where
  a : CarryRep (acc.1, acc.2.1, acc.2.2.1) H0 S0 (512 * n)
  b : CarryRep (acc.2.2.2.1, acc.2.2.2.2.1, acc.2.2.2.2.2.1) H1 S0 (512 * n)
  c : CarryRep (acc.2.2.2.2.2.2.1, acc.2.2.2.2.2.2.2.1, acc.2.2.2.2.2.2.2.2.1) H0 (S0 + 256) (512 * n)
  d : CarryRep (acc.2.2.2.2.2.2.2.2.2.1, acc.2.2.2.2.2.2.2.2.2.2.1, acc.2.2.2.2.2.2.2.2.2.2.2) H1 (S0 + 256) (512 * n)
  keys : Acc r15 f15 g15 (fun j e t => if j < 2 * n then sumK H0 H1 S0 e (256 * j + t) else 0)
  vals : Acc r16 f16 g16 (fun j e t => if j < 2 * n then sumV H0 H1 S0 e (256 * j + t) else 0)

theorem grow_eq (E : ℕ → ℕ → ℕ → ℕ → ℝ) (n j e t : ℕ) (S : ℕ → ℝ) (hS : ∀ T, S T = E 0 e T 0 + E 1 e T 0 + E 2 e T 0 + E 3 e T 0) :
    (((((((((if j < 2 * n then S (256 * j + t) else 0) + if j = 2 * n then E 0 e (512 * n + t) 0 else 0) + if j = 2 * n + 1 then E 0 e (512 * n + 256 + t) 0 else 0)
      + if j = 2 * n then E 1 e (512 * n + t) 0 else 0) + if j = 2 * n + 1 then E 1 e (512 * n + 256 + t) 0 else 0)
      + if j = 2 * n then E 2 e (512 * n + t) 0 else 0) + if j = 2 * n + 1 then E 2 e (512 * n + 256 + t) 0 else 0)
      + if j = 2 * n then E 3 e (512 * n + t) 0 else 0) + if j = 2 * n + 1 then E 3 e (512 * n + 256 + t) 0 else 0)
    = if j < 2 * (n + 1) then S (256 * j + t) else 0 := by
  rcases Nat.lt_trichotomy j (2 * n) with h | h | h
  · simp only [if_pos h, if_neg (show ¬ j = 2 * n by omega), if_neg (show ¬ j = 2 * n + 1 by omega), if_pos (show j < 2 * (n + 1) by omega), add_zero]
  · simp only [if_neg (show ¬ j < 2 * n by omega), if_pos h, if_neg (show ¬ j = 2 * n + 1 by omega), if_pos (show j < 2 * (n + 1) by omega), add_zero, zero_add]
    rw [hS, show 256 * j + t = 512 * n + t by omega]
  · by_cases h1 : j = 2 * n + 1
    · simp only [if_neg (show ¬ j < 2 * n by omega), if_neg (show ¬ j = 2 * n by omega), if_pos h1, if_pos (show j < 2 * (n + 1) by omega), add_zero, zero_add]
      rw [hS, show 256 * j + t = 512 * n + 256 + t by omega]
    · simp only [if_neg (show ¬ j < 2 * n by omega), if_neg (show ¬ j = 2 * n by omega), if_neg h1, if_neg (show ¬ j < 2 * (n + 1) by omega), add_zero]

theorem trip_inv (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (arg2 : BitVec 32) (v12 : FVec Ideal S256x256 .bf16) (v97 : FVec Ideal S256x128 .bf16) (v100 : FVec Ideal S256x128 .bf16) (v103 : FVec Ideal S256x128 .bf16) (v106 : FVec Ideal S256x128 .bf16) (v109 : FVec Ideal S256x128 .bf16) (v112 : FVec Ideal S256x128 .bf16) (v115 : FVec Ideal S256x128 .bf16) (v118 : FVec Ideal S256x128 .bf16) (v141 : FVec Ideal S128x256 .bf16) (v144 : FVec Ideal S128x256 .bf16) (v147 : FVec Ideal S128x256 .bf16) (v150 : FVec Ideal S128x256 .bf16) (v155 : FVec Ideal S128x256 .bf16) (v158 : FVec Ideal S128x256 .bf16) (v161 : FVec Ideal S128x256 .bf16) (v164 : FVec Ideal S128x256 .bf16) (v166 : FVec Ideal S256x1 .f32) (v168 : FVec Ideal S256x1 .f32) (v170 : FVec Ideal S256x1 .f32) (v172 : FVec Ideal S256x1 .f32) (v173 : FVec Ideal S256x1 .f32) (v174 : FVec Ideal S256x128 .f32) (c0_i32_50 : BitVec 32) (X_arg4 : BufTy.Contents (Elt Ideal) arg4.view.ty) (X_arg5 : BufTy.Contents (Elt Ideal) arg5.view.ty) (k : Fin (k0_t1_loop i).trips)  {H0 H1 : Head} {S0 : ℕ} (hS : S0 = 512 * (i 2).val)
    (ga : GrpRep v12 v166 v97 v109 v141 v155 H0 S0)
    (gb : GrpRep v12 v168 v100 v112 v144 v158 H1 S0)
    (gc : GrpRep v12 v170 v103 v115 v147 v161 H0 (S0 + 256))
    (gd : GrpRep v12 v172 v106 v118 v150 v164 H1 (S0 + 256))
    (hk0 : Rep (n := 2048) (p := 128) (arg4.view.read (Elt Ideal) X_arg4) H0.k) (hk1 : Rep (n := 2048) (p := 128) (arg4.view.read (Elt Ideal) X_arg4) H1.k)
    (hv0 : Rep (n := 2048) (p := 128) (arg5.view.read (Elt Ideal) X_arg5) H0.v) (hv1 : Rep (n := 2048) (p := 128) (arg5.view.read (Elt Ideal) X_arg5) H1.v)
    {g15 : BufTy.Contents (Elt Ideal) arg15.view.ty} {g16 : BufTy.Contents (Elt Ideal) arg16.view.ty} (acc : Flat)
    (f15 : BufTy.Contents (Elt Ideal) arg15.view.ty) (f16 : BufTy.Contents (Elt Ideal) arg16.view.ty) (h : Inv H0 H1 S0 arg15 arg16 g15 g16 k.val acc f15 f16) :
    Inv H0 H1 S0 arg15 arg16 g15 g16 (k.val + 1) ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).1 acc f15 f16)
      (arg15.view.writes (Elt Ideal) f15 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).2.1 acc f15 f16))
      (arg16.view.writes (Elt Ideal) f16 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 k).2.2.1 acc f15 f16)) := by
  have hlt : k.val < (i 2).val := lt_of_lt_of_eq k.isLt (trips1 i)
  have ha0 : 512 * k.val + 256 ≤ S0 := by omega
  have ha1 : 512 * k.val + 256 + 256 ≤ S0 := by omega
  have ka0 := rep_tileRows hk0 (inb := k0_off1_inb i k) (off1_eq i k)
  have ka1 := rep_tileRows hk0 (inb := k0_off2_inb i k) (off2_eq i k)
  have va0 := rep_tileRows hv0 (inb := k0_off1_inb i k) (off1_eq i k)
  have va1 := rep_tileRows hv0 (inb := k0_off2_inb i k) (off2_eq i k)
  have sa := full_on ga.rows h.a ka0 va0 ha0
  have ea := full_on ga.rows sa ka1 va1 ha1
  have hb0 : 512 * k.val + 256 ≤ S0 := by omega
  have hb1 : 512 * k.val + 256 + 256 ≤ S0 := by omega
  have kb0 := rep_tileRows hk1 (inb := k0_off1_inb i k) (off1_eq i k)
  have kb1 := rep_tileRows hk1 (inb := k0_off2_inb i k) (off2_eq i k)
  have vb0 := rep_tileRows hv1 (inb := k0_off1_inb i k) (off1_eq i k)
  have vb1 := rep_tileRows hv1 (inb := k0_off2_inb i k) (off2_eq i k)
  have sb := full_on gb.rows h.b kb0 vb0 hb0
  have eb := full_on gb.rows sb kb1 vb1 hb1
  have hc0 : 512 * k.val + 256 ≤ (S0 + 256) := by omega
  have hc1 : 512 * k.val + 256 + 256 ≤ (S0 + 256) := by omega
  have kc0 := rep_tileRows hk0 (inb := k0_off1_inb i k) (off1_eq i k)
  have kc1 := rep_tileRows hk0 (inb := k0_off2_inb i k) (off2_eq i k)
  have vc0 := rep_tileRows hv0 (inb := k0_off1_inb i k) (off1_eq i k)
  have vc1 := rep_tileRows hv0 (inb := k0_off2_inb i k) (off2_eq i k)
  have sc := full_on gc.rows h.c kc0 vc0 hc0
  have ec := full_on gc.rows sc kc1 vc1 hc1
  have hd0 : 512 * k.val + 256 ≤ (S0 + 256) := by omega
  have hd1 : 512 * k.val + 256 + 256 ≤ (S0 + 256) := by omega
  have kd0 := rep_tileRows hk1 (inb := k0_off1_inb i k) (off1_eq i k)
  have kd1 := rep_tileRows hk1 (inb := k0_off2_inb i k) (off2_eq i k)
  have vd0 := rep_tileRows hv1 (inb := k0_off1_inb i k) (off1_eq i k)
  have vd1 := rep_tileRows hv1 (inb := k0_off2_inb i k) (off2_eq i k)
  have sd := full_on gd.rows h.d kd0 vd0 hd0
  have ed := full_on gd.rows sd kd1 vd1 hd1
  rw [trip_carry, trip_keys, trip_values]
  refine ⟨⟨ea.c, ea.d, ea.q⟩, ⟨eb.c, eb.d, eb.q⟩, ⟨ec.c, ec.d, ec.q⟩, ⟨ed.c, ed.d, ed.q⟩, ?_, ?_⟩
  · refine Acc.of_eq ((((((((h.keys.upd (inb := k0_off3_inb i k) (off3_eq i k) ga.qt (full_dz ga.rows h.a ka0 va0 ha0)).upd (inb := k0_off4_inb i k) (off4_eq i k) ga.qt (full_dz ga.rows sa ka1 va1 ha1)).upd (inb := k0_off3_inb i k) (off3_eq i k) gc.qt (full_dz gc.rows h.c kc0 vc0 hc0)).upd (inb := k0_off4_inb i k) (off4_eq i k) gc.qt (full_dz gc.rows sc kc1 vc1 hc1)).upd (inb := k0_off3_inb i k) (off3_eq i k) gb.qt (full_dz gb.rows h.b kb0 vb0 hb0)).upd (inb := k0_off4_inb i k) (off4_eq i k) gb.qt (full_dz gb.rows sb kb1 vb1 hb1)).upd (inb := k0_off3_inb i k) (off3_eq i k) gd.qt (full_dz gd.rows h.d kd0 vd0 hd0)).upd (inb := k0_off4_inb i k) (off4_eq i k) gd.qt (full_dz gd.rows sd kd1 vd1 hd1)) fun j e t _ _ _ => ?_
    exact grow_eq (fun m e T _ => if m = 0 then H0.Ek S0 e T else if m = 1 then H0.Ek (S0 + 256) e T else if m = 2 then H1.Ek S0 e T else H1.Ek (S0 + 256) e T) k.val j e t (fun T => sumK H0 H1 S0 e T) (fun T => rfl)
  · refine Acc.of_eq ((((((((h.vals.upd (inb := k0_off3_inb i k) (off3_eq i k) ga.dt (full_a ga.rows h.a ka0 ha0)).upd (inb := k0_off4_inb i k) (off4_eq i k) ga.dt (full_a ga.rows sa ka1 ha1)).upd (inb := k0_off3_inb i k) (off3_eq i k) gc.dt (full_a gc.rows h.c kc0 hc0)).upd (inb := k0_off4_inb i k) (off4_eq i k) gc.dt (full_a gc.rows sc kc1 hc1)).upd (inb := k0_off3_inb i k) (off3_eq i k) gb.dt (full_a gb.rows h.b kb0 hb0)).upd (inb := k0_off4_inb i k) (off4_eq i k) gb.dt (full_a gb.rows sb kb1 hb1)).upd (inb := k0_off3_inb i k) (off3_eq i k) gd.dt (full_a gd.rows h.d kd0 hd0)).upd (inb := k0_off4_inb i k) (off4_eq i k) gd.dt (full_a gd.rows sd kd1 hd1)) fun j e t _ _ _ => ?_
    exact grow_eq (fun m e T _ => if m = 0 then H0.Ev S0 e T else if m = 1 then H0.Ev (S0 + 256) e T else if m = 2 then H1.Ev S0 e T else H1.Ev (S0 + 256) e T) k.val j e t (fun T => sumV H0 H1 S0 e T) (fun T => rfl)

theorem loop_inv (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (arg2 : BitVec 32) (v12 : FVec Ideal S256x256 .bf16) (v97 : FVec Ideal S256x128 .bf16) (v100 : FVec Ideal S256x128 .bf16) (v103 : FVec Ideal S256x128 .bf16) (v106 : FVec Ideal S256x128 .bf16) (v109 : FVec Ideal S256x128 .bf16) (v112 : FVec Ideal S256x128 .bf16) (v115 : FVec Ideal S256x128 .bf16) (v118 : FVec Ideal S256x128 .bf16) (v141 : FVec Ideal S128x256 .bf16) (v144 : FVec Ideal S128x256 .bf16) (v147 : FVec Ideal S128x256 .bf16) (v150 : FVec Ideal S128x256 .bf16) (v155 : FVec Ideal S128x256 .bf16) (v158 : FVec Ideal S128x256 .bf16) (v161 : FVec Ideal S128x256 .bf16) (v164 : FVec Ideal S128x256 .bf16) (v166 : FVec Ideal S256x1 .f32) (v168 : FVec Ideal S256x1 .f32) (v170 : FVec Ideal S256x1 .f32) (v172 : FVec Ideal S256x1 .f32) (v173 : FVec Ideal S256x1 .f32) (v174 : FVec Ideal S256x128 .f32) (c0_i32_50 : BitVec 32) (X_arg4 : BufTy.Contents (Elt Ideal) arg4.view.ty) (X_arg5 : BufTy.Contents (Elt Ideal) arg5.view.ty)  {H0 H1 : Head} {S0 : ℕ} (hS : S0 = 512 * (i 2).val)
    (ga : GrpRep v12 v166 v97 v109 v141 v155 H0 S0)
    (gb : GrpRep v12 v168 v100 v112 v144 v158 H1 S0)
    (gc : GrpRep v12 v170 v103 v115 v147 v161 H0 (S0 + 256))
    (gd : GrpRep v12 v172 v106 v118 v150 v164 H1 (S0 + 256))
    (hk0 : Rep (n := 2048) (p := 128) (arg4.view.read (Elt Ideal) X_arg4) H0.k) (hk1 : Rep (n := 2048) (p := 128) (arg4.view.read (Elt Ideal) X_arg4) H1.k)
    (hv0 : Rep (n := 2048) (p := 128) (arg5.view.read (Elt Ideal) X_arg5) H0.v) (hv1 : Rep (n := 2048) (p := 128) (arg5.view.read (Elt Ideal) X_arg5) H1.v)
    (g15 : BufTy.Contents (Elt Ideal) arg15.view.ty) (g16 : BufTy.Contents (Elt Ideal) arg16.view.ty) (init : Flat)
    (h : Inv H0 H1 S0 arg15 arg16 g15 g16 0 init g15 g16) :
    ∀ n, n ≤ (k0_t1_loop i).trips → Inv H0 H1 S0 arg15 arg16 g15 g16 n (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 g15 g16 init n).1
      (arg15.view.writes (Elt Ideal) g15 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 g15 g16 init n).2.1) (arg16.view.writes (Elt Ideal) g16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 g15 g16 init n).2.2)
  | 0, _ => h
  | n + 1, hn => by
    have ih := loop_inv 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 hS ga gb gc gd hk0 hk1 hv0 hv1 g15 g16 init h n (Nat.le_of_succ_le hn)
    have := trip_inv 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 ⟨n, hn⟩ hS ga gb gc gd hk0 hk1 hv0 hv1 _ _ _ ih
    rw [st_k0_t1_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v12 v97 v100 v103 v106 v109 v112 v115 v118 v141 v144 v147 v150 v155 v158 v161 v164 v166 v168 v170 v172 v173 v174 c0_i32_50 X_arg4 X_arg5 g15 g16 init ⟨n, hn⟩]
    dsimp only
    rw [View.writes_append, View.writes_append]
    exact this

end Cert.SbIdeal.Closed
-- ==== Proof.SbDefs.lean ====
/- What a grid point leaves: the loop, then the tiles on the diagonal. -/
module

public import proofs.«01_k».proof.Proof.SbTile
public import proofs.«01_k».proof.Proof.Gen.SbIdeal.Value

@[expose] public section

set_option maxRecDepth 16384
set_option maxHeartbeats 8000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole)  (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32)

def pTri : FVec F S256x256 .bf16 := k0_pay277 (View.readAt (Elt F) arg7.view (Rect.unit (s := S256x256) ![0, 0] S256x256.size inb_S256x256_S256x256_0_0).toLoadRect (harg7.unread x4))
def pr_1 : FVec F S512x128 .f32 := k0_pay281 (View.readAt (Elt F) arg9.view (Rect.unit (s := S512x128) ![0, 0] S512x128.size inb_S512x128_S512x128_0_0).toLoadRect (harg9.unread x6))
def pr_2 : FVec F S512x128 .f32 := k0_pay282 (View.readAt (Elt F) arg9.view (Rect.unit (s := S512x128) ![0, 0] S512x128.size inb_S512x128_S512x128_0_0).toLoadRect (harg9.unread x6))
def pr_3 : FVec F S512x128 .f32 := k0_pay283 (View.readAt (Elt F) arg9.view (Rect.unit (s := S512x128) ![0, 0] S512x128.size inb_S512x128_S512x128_0_0).toLoadRect (harg9.unread x6))
def pr_4 : FVec F S512x128 .f32 := k0_pay285 k0_pay276 (pr_2 arg9 harg9 x6) (pr_3 arg9 harg9 x6) k0_pay284
def pr_5 : FVec F S512x128 .f32 := k0_pay286 k0_pay276 (pr_1 arg9 harg9 x6) (pr_2 arg9 harg9 x6) (pr_3 arg9 harg9 x6) k0_pay284
def pr_6 : FVec F S512x128 .f32 := k0_pay289 (View.readAt (Elt F) arg8.view (Rect.unit (s := S512x128) ![0, 0] S512x128.size inb_S512x128_S512x128_0_0).toLoadRect (harg8.unread x5)) (View.readAt (Elt F) arg6.view (Rect.unit (s := S1x128) ![0, 0] S1x128.size inb_S1x128_S1x128_0_0).toLoadRect (harg6.unread x3))
def pr_7 : FVec F S512x128 .f32 := k0_pay291 k0_pay275 k0_pay276 (pr_1 arg9 harg9 x6) (pr_2 arg9 harg9 x6) (pr_3 arg9 harg9 x6) k0_pay284 (View.readAt (Elt F) arg8.view (Rect.unit (s := S512x128) ![0, 0] S512x128.size inb_S512x128_S512x128_0_0).toLoadRect (harg8.unread x5)) (View.readAt (Elt F) arg6.view (Rect.unit (s := S1x128) ![0, 0] S1x128.size inb_S1x128_S1x128_0_0).toLoadRect (harg6.unread x3))
def pr_8 : FVec F S512x128 .f32 := k0_pay292 k0_pay276 (pr_1 arg9 harg9 x6) (pr_2 arg9 harg9 x6) (pr_3 arg9 harg9 x6) k0_pay284 (View.readAt (Elt F) arg8.view (Rect.unit (s := S512x128) ![0, 0] S512x128.size inb_S512x128_S512x128_0_0).toLoadRect (harg8.unread x5)) (View.readAt (Elt F) arg6.view (Rect.unit (s := S1x128) ![0, 0] S1x128.size inb_S1x128_S1x128_0_0).toLoadRect (harg6.unread x3))
def pr_9 : FVec F S512x128 .f32 := k0_pay293 k0_pay276
def pr_10 : FVec F S256x128 .bf16 := k0_pay295 (View.readAt (Elt F) arg3.view (Rect.unit (s := S512x128) ![0, 0] S256x128.size inb_S512x128_S256x128_0_0).toLoadRect (harg3.unread x0))
def pr_11 : FVec F S256x128 .bf16 := k0_pay296 (View.readAt (Elt F) arg3.view (Rect.unit (s := S512x128) ![256, 0] S256x128.size inb_S512x128_S256x128_256_0).toLoadRect (harg3.unread x0))
def pr_12 : FVec F S256x128 .f32 := k0_pay297 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pr_13 : FVec F S256x128 .f32 := k0_pay298 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pQa : FVec F S256x128 .bf16 := k0_pay299 k0_pay275 (View.readAt (Elt F) arg3.view (Rect.unit (s := S512x128) ![0, 0] S256x128.size inb_S512x128_S256x128_0_0).toLoadRect (harg3.unread x0))
def pQb : FVec F S256x128 .bf16 := k0_pay300 k0_pay276 (View.readAt (Elt F) arg3.view (Rect.unit (s := S512x128) ![0, 0] S256x128.size inb_S512x128_S256x128_0_0).toLoadRect (harg3.unread x0))
def pQc : FVec F S256x128 .bf16 := k0_pay301 k0_pay275 (View.readAt (Elt F) arg3.view (Rect.unit (s := S512x128) ![256, 0] S256x128.size inb_S512x128_S256x128_256_0).toLoadRect (harg3.unread x0))
def pQd : FVec F S256x128 .bf16 := k0_pay302 k0_pay276 (View.readAt (Elt F) arg3.view (Rect.unit (s := S512x128) ![256, 0] S256x128.size inb_S512x128_S256x128_256_0).toLoadRect (harg3.unread x0))
def pDa : FVec F S256x128 .bf16 := k0_pay303 k0_pay275 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pDb : FVec F S256x128 .bf16 := k0_pay304 k0_pay276 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pDc : FVec F S256x128 .bf16 := k0_pay305 k0_pay275 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pDd : FVec F S256x128 .bf16 := k0_pay306 k0_pay276 (pr_4 arg9 harg9 x6) (pr_5 arg9 harg9 x6) (pr_6 arg6 harg6 arg8 harg8 x3 x5) (pr_7 arg6 harg6 arg8 harg8 arg9 harg9 x3 x5 x6) (pr_8 arg6 harg6 arg8 harg8 arg9 harg9 x3 x5 x6) (pr_9)
def pQta : FVec F S128x256 .bf16 := k0_pay312 (pr_10 arg3 harg3 x0) k0_pay307
def pQtb : FVec F S128x256 .bf16 := k0_pay313 (pr_10 arg3 harg3 x0) (iota Kind.tc S128x1 32 [0] iota_S128x1_d0_w32) k0_pay308
def pQtc : FVec F S128x256 .bf16 := k0_pay314 (pr_11 arg3 harg3 x0) k0_pay307
def pQtd : FVec F S128x256 .bf16 := k0_pay315 (pr_11 arg3 harg3 x0) (iota Kind.tc S128x1 32 [0] iota_S128x1_d0_w32) k0_pay308
def pDta : FVec F S128x256 .bf16 := k0_pay318 (pr_12 arg6 harg6 arg8 harg8 arg9 harg9 x3 x5 x6) k0_pay307
def pDtb : FVec F S128x256 .bf16 := k0_pay319 (pr_12 arg6 harg6 arg8 harg8 arg9 harg9 x3 x5 x6) (iota Kind.tc S128x1 32 [0] iota_S128x1_d0_w32) k0_pay308
def pDtc : FVec F S128x256 .bf16 := k0_pay320 (pr_13 arg6 harg6 arg8 harg8 arg9 harg9 x3 x5 x6) k0_pay307
def pDtd : FVec F S128x256 .bf16 := k0_pay321 (pr_13 arg6 harg6 arg8 harg8 arg9 harg9 x3 x5 x6) (iota Kind.tc S128x1 32 [0] iota_S128x1_d0_w32) k0_pay308
def pTa : FVec F S256x1 .f32 := k0_pay322 (View.readAt (Elt F) arg10.view (Rect.unit (s := S512x128) ![0, 0] S256x1.size inb_S512x128_S256x1_0_0).toLoadRect (harg10.unread x7))
def pTb : FVec F S256x1 .f32 := k0_pay323 (View.readAt (Elt F) arg10.view (Rect.unit (s := S512x128) ![0, 64] S256x1.size inb_S512x128_S256x1_0_64).toLoadRect (harg10.unread x7))
def pTc : FVec F S256x1 .f32 := k0_pay324 (View.readAt (Elt F) arg10.view (Rect.unit (s := S512x128) ![256, 0] S256x1.size inb_S512x128_S256x1_256_0).toLoadRect (harg10.unread x7))
def pTd : FVec F S256x1 .f32 := k0_pay325 (View.readAt (Elt F) arg10.view (Rect.unit (s := S512x128) ![256, 64] S256x1.size inb_S512x128_S256x1_256_64).toLoadRect (harg10.unread x7))

def initial : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 := (k0_pay326, k0_pay326, k0_pay327, k0_pay326, k0_pay326, k0_pay327, k0_pay326, k0_pay326, k0_pay327, k0_pay326, k0_pay326, k0_pay327)

/-- The loop over the full tiles, from given contents. -/
def loop1 (g15 : BufTy.Contents (Elt F) arg15.view.ty) (g16 : BufTy.Contents (Elt F) arg16.view.ty) : (FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) × List (View.Piece (Elt F) S8x128x256 .f32) × List (View.Piece (Elt F) S8x128x256 .f32) :=
  st_k0_t1 Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 ↑(i 2)) (pTri arg7 harg7 x4) (pQa arg3 harg3 x0) (pQb arg3 harg3 x0) (pQc arg3 harg3 x0) (pQd arg3 harg3 x0) (pDa arg6 harg6 arg8 harg8 arg9 harg9 x3 x5 x6) (pDb arg6 harg6 arg8 harg8 arg9 harg9 x3 x5 x6) (pDc arg6 harg6 arg8 harg8 arg9 harg9 x3 x5 x6) (pDd arg6 harg6 arg8 harg8 arg9 harg9 x3 x5 x6) (pQta arg3 harg3 x0) (pQtb arg3 harg3 x0) (pQtc arg3 harg3 x0) (pQtd arg3 harg3 x0) (pDta arg6 harg6 arg8 harg8 arg9 harg9 x3 x5 x6) (pDtb arg6 harg6 arg8 harg8 arg9 harg9 x3 x5 x6) (pDtc arg6 harg6 arg8 harg8 arg9 harg9 x3 x5 x6) (pDtd arg6 harg6 arg8 harg8 arg9 harg9 x3 x5 x6) (pTa arg10 harg10 x7) (pTb arg10 harg10 x7) (pTc arg10 harg10 x7) (pTd arg10 harg10 x7) k0_pay326 k0_pay327 (0#32) (harg4.unread x1) (harg5.unread x2) g15 g16 initial (Scf.trips (k0_t1_loop i).lb (k0_t1_loop i).ub (k0_t1_loop i).st)

/-- The loop's remainder, which has no trip. -/
def loop2 (g15 : BufTy.Contents (Elt F) arg15.view.ty) (g16 : BufTy.Contents (Elt F) arg16.view.ty) (b15 : BufTy.Contents (Elt F) arg15.view.ty) (b16 : BufTy.Contents (Elt F) arg16.view.ty) : (FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) × List (View.Piece (Elt F) S8x128x256 .f32) × List (View.Piece (Elt F) S8x128x256 .f32) :=
  st_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 ↑(i 2)) (pTri arg7 harg7 x4) (pQa arg3 harg3 x0) (pQb arg3 harg3 x0) (pQc arg3 harg3 x0) (pQd arg3 harg3 x0) (pDa arg6 harg6 arg8 harg8 arg9 harg9 x3 x5 x6) (pDb arg6 harg6 arg8 harg8 arg9 harg9 x3 x5 x6) (pDc arg6 harg6 arg8 harg8 arg9 harg9 x3 x5 x6) (pDd arg6 harg6 arg8 harg8 arg9 harg9 x3 x5 x6) (pQta arg3 harg3 x0) (pQtb arg3 harg3 x0) (pQtc arg3 harg3 x0) (pQtd arg3 harg3 x0) (pDta arg6 harg6 arg8 harg8 arg9 harg9 x3 x5 x6) (pDtb arg6 harg6 arg8 harg8 arg9 harg9 x3 x5 x6) (pDtc arg6 harg6 arg8 harg8 arg9 harg9 x3 x5 x6) (pDtd arg6 harg6 arg8 harg8 arg9 harg9 x3 x5 x6) (pTa arg10 harg10 x7) (pTb arg10 harg10 x7) (pTc arg10 harg10 x7) (pTd arg10 harg10 x7) k0_pay326 k0_pay327 (0#32) (Scalar.addi (0#32) (Scalar.muli (Scalar.divsi (Scalar.subi (BitVec.ofNat 32 ↑(i 2)) 0#32) 1#32) 1#32)) (harg4.unread x1) (harg5.unread x2) b15 b16
    (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).1 (Scf.trips (k0_t2_loop i).lb (k0_t2_loop i).ub (k0_t2_loop i).st)

theorem loop2_eq (g15 : BufTy.Contents (Elt F) arg15.view.ty) (g16 : BufTy.Contents (Elt F) arg16.view.ty) (b15 : BufTy.Contents (Elt F) arg15.view.ty) (b16 : BufTy.Contents (Elt F) arg16.view.ty) : loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16 = ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).1, [], []) := by
  have h : Scf.trips (k0_t2_loop i).lb (k0_t2_loop i).ub (k0_t2_loop i).st = 0 := trips2 i
  unfold loop2
  rw [h]
  rfl

/-- The tiles on the diagonal, after the loop carried `acc`. -/
def fin15 (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) (f : BufTy.Contents (Elt F) arg15.view.ty) : BufTy.Contents (Elt F) arg15.view.ty :=
  (upd arg15 (k0_off12 i) (k0_off12_inb i) (grown (pQtd arg3 harg3 x0) (diagDz ⟨(pTri arg7 harg7 x4), (pTd arg10 harg10 x7), (pQd arg3 harg3 x0), (pDd arg6 harg6 arg8 harg8 arg9 harg9 x3 x5 x6)⟩ (tileRows arg4 (harg4.unread x1) (k0_off10 i) (k0_off10_inb i)) (tileRows arg5 (harg5.unread x2) (k0_off10 i) (k0_off10_inb i)) (fullOn ⟨(pTri arg7 harg7 x4), (pTd arg10 harg10 x7), (pQd arg3 harg3 x0), (pDd arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.2.2.2.1, acc.2.2.2.2.2.2.2.2.2.2.1, acc.2.2.2.2.2.2.2.2.2.2.2))))
      (upd arg15 (k0_off11 i) (k0_off11_inb i) (grown (pQtd arg3 harg3 x0) (fullDz ⟨(pTri arg7 harg7 x4), (pTd arg10 harg10 x7), (pQd arg3 harg3 x0), (pDd arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.2.2.2.1, acc.2.2.2.2.2.2.2.2.2.2.1, acc.2.2.2.2.2.2.2.2.2.2.2)))
      (upd arg15 (k0_off11 i) (k0_off11_inb i) (grown (pQtb arg3 harg3 x0) (diagDz ⟨(pTri arg7 harg7 x4), (pTb arg10 harg10 x7), (pQb arg3 harg3 x0), (pDb arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.1, acc.2.2.2.2.1, acc.2.2.2.2.2.1)))
      (upd arg15 (k0_off12 i) (k0_off12_inb i) (grown (pQtc arg3 harg3 x0) (diagDz ⟨(pTri arg7 harg7 x4), (pTc arg10 harg10 x7), (pQc arg3 harg3 x0), (pDc arg6 harg6 arg8 harg8 arg9 harg9 x3 x5 x6)⟩ (tileRows arg4 (harg4.unread x1) (k0_off10 i) (k0_off10_inb i)) (tileRows arg5 (harg5.unread x2) (k0_off10 i) (k0_off10_inb i)) (fullOn ⟨(pTri arg7 harg7 x4), (pTc arg10 harg10 x7), (pQc arg3 harg3 x0), (pDc arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.1, acc.2.2.2.2.2.2.2.1, acc.2.2.2.2.2.2.2.2.1))))
      (upd arg15 (k0_off11 i) (k0_off11_inb i) (grown (pQtc arg3 harg3 x0) (fullDz ⟨(pTri arg7 harg7 x4), (pTc arg10 harg10 x7), (pQc arg3 harg3 x0), (pDc arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.1, acc.2.2.2.2.2.2.2.1, acc.2.2.2.2.2.2.2.2.1)))
      (upd arg15 (k0_off11 i) (k0_off11_inb i) (grown (pQta arg3 harg3 x0) (diagDz ⟨(pTri arg7 harg7 x4), (pTa arg10 harg10 x7), (pQa arg3 harg3 x0), (pDa arg6 harg6 arg8 harg8 arg9 harg9 x3 x5 x6)⟩ (tileRows arg4 (harg4.unread x1) (k0_off9 i) (k0_off9_inb i)) (tileRows arg5 (harg5.unread x2) (k0_off9 i) (k0_off9_inb i)) (acc.1, acc.2.1, acc.2.2.1)))
      f))))))

def fin16 (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) (f : BufTy.Contents (Elt F) arg16.view.ty) : BufTy.Contents (Elt F) arg16.view.ty :=
  (upd arg16 (k0_off12 i) (k0_off12_inb i) (grown (pDtd arg6 harg6 arg8 harg8 arg9 harg9 x3 x5 x6) (truncf .bf16 (diagA ⟨(pTri arg7 harg7 x4), (pTd arg10 harg10 x7), (pQd arg3 harg3 x0), (pDd arg6 harg6 arg8 harg8 arg9 harg9 x3 x5 x6)⟩ (tileRows arg4 (harg4.unread x1) (k0_off10 i) (k0_off10_inb i)) (fullOn ⟨(pTri arg7 harg7 x4), (pTd arg10 harg10 x7), (pQd arg3 harg3 x0), (pDd arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.2.2.2.1, acc.2.2.2.2.2.2.2.2.2.2.1, acc.2.2.2.2.2.2.2.2.2.2.2))) bitsLt_bf16_f32))
      (upd arg16 (k0_off11 i) (k0_off11_inb i) (grown (pDtd arg6 harg6 arg8 harg8 arg9 harg9 x3 x5 x6) (truncf .bf16 (fullA ⟨(pTri arg7 harg7 x4), (pTd arg10 harg10 x7), (pQd arg3 harg3 x0), (pDd arg6 harg6 arg8 harg8 arg9 harg9 x3 x5 x6)⟩ (tileRows arg4 (harg4.unread x1) (k0_off9 i) (k0_off9_inb i)) (acc.2.2.2.2.2.2.2.2.2.1, acc.2.2.2.2.2.2.2.2.2.2.1, acc.2.2.2.2.2.2.2.2.2.2.2)) bitsLt_bf16_f32))
      (upd arg16 (k0_off11 i) (k0_off11_inb i) (grown (pDtb arg6 harg6 arg8 harg8 arg9 harg9 x3 x5 x6) (truncf .bf16 (diagA ⟨(pTri arg7 harg7 x4), (pTb arg10 harg10 x7), (pQb arg3 harg3 x0), (pDb arg6 harg6 arg8 harg8 arg9 harg9 x3 x5 x6)⟩ (tileRows arg4 (harg4.unread x1) (k0_off9 i) (k0_off9_inb i)) (acc.2.2.2.1, acc.2.2.2.2.1, acc.2.2.2.2.2.1)) bitsLt_bf16_f32))
      (upd arg16 (k0_off12 i) (k0_off12_inb i) (grown (pDtc arg6 harg6 arg8 harg8 arg9 harg9 x3 x5 x6) (truncf .bf16 (diagA ⟨(pTri arg7 harg7 x4), (pTc arg10 harg10 x7), (pQc arg3 harg3 x0), (pDc arg6 harg6 arg8 harg8 arg9 harg9 x3 x5 x6)⟩ (tileRows arg4 (harg4.unread x1) (k0_off10 i) (k0_off10_inb i)) (fullOn ⟨(pTri arg7 harg7 x4), (pTc arg10 harg10 x7), (pQc arg3 harg3 x0), (pDc arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.1, acc.2.2.2.2.2.2.2.1, acc.2.2.2.2.2.2.2.2.1))) bitsLt_bf16_f32))
      (upd arg16 (k0_off11 i) (k0_off11_inb i) (grown (pDtc arg6 harg6 arg8 harg8 arg9 harg9 x3 x5 x6) (truncf .bf16 (fullA ⟨(pTri arg7 harg7 x4), (pTc arg10 harg10 x7), (pQc arg3 harg3 x0), (pDc arg6 harg6 arg8 harg8 arg9 harg9 x3 x5 x6)⟩ (tileRows arg4 (harg4.unread x1) (k0_off9 i) (k0_off9_inb i)) (acc.2.2.2.2.2.2.1, acc.2.2.2.2.2.2.2.1, acc.2.2.2.2.2.2.2.2.1)) bitsLt_bf16_f32))
      (upd arg16 (k0_off11 i) (k0_off11_inb i) (grown (pDta arg6 harg6 arg8 harg8 arg9 harg9 x3 x5 x6) (truncf .bf16 (diagA ⟨(pTri arg7 harg7 x4), (pTa arg10 harg10 x7), (pQa arg3 harg3 x0), (pDa arg6 harg6 arg8 harg8 arg9 harg9 x3 x5 x6)⟩ (tileRows arg4 (harg4.unread x1) (k0_off9 i) (k0_off9_inb i)) (acc.1, acc.2.1, acc.2.2.1)) bitsLt_bf16_f32))
      f))))))

def dqa (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) : FVec F S256x128 .f32 := (diagOn ⟨(pTri arg7 harg7 x4), (pTa arg10 harg10 x7), (pQa arg3 harg3 x0), (pDa arg6 harg6 arg8 harg8 arg9 harg9 x3 x5 x6)⟩ (tileRows arg4 (harg4.unread x1) (k0_off9 i) (k0_off9_inb i)) (tileRows arg5 (harg5.unread x2) (k0_off9 i) (k0_off9_inb i)) (acc.1, acc.2.1, acc.2.2.1)).2.2
def dqb (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) : FVec F S256x128 .f32 := (diagOn ⟨(pTri arg7 harg7 x4), (pTb arg10 harg10 x7), (pQb arg3 harg3 x0), (pDb arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.1, acc.2.2.2.2.1, acc.2.2.2.2.2.1)).2.2
def dqc (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) : FVec F S256x128 .f32 := (diagOn ⟨(pTri arg7 harg7 x4), (pTc arg10 harg10 x7), (pQc arg3 harg3 x0), (pDc arg6 harg6 arg8 harg8 arg9 harg9 x3 x5 x6)⟩ (tileRows arg4 (harg4.unread x1) (k0_off10 i) (k0_off10_inb i)) (tileRows arg5 (harg5.unread x2) (k0_off10 i) (k0_off10_inb i)) (fullOn ⟨(pTri arg7 harg7 x4), (pTc arg10 harg10 x7), (pQc arg3 harg3 x0), (pDc arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.1, acc.2.2.2.2.2.2.2.1, acc.2.2.2.2.2.2.2.2.1))).2.2
def dqd (acc : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) : FVec F S256x128 .f32 := (diagOn ⟨(pTri arg7 harg7 x4), (pTd arg10 harg10 x7), (pQd arg3 harg3 x0), (pDd arg6 harg6 arg8 harg8 arg9 harg9 x3 x5 x6)⟩ (tileRows arg4 (harg4.unread x1) (k0_off10 i) (k0_off10_inb i)) (tileRows arg5 (harg5.unread x2) (k0_off10 i) (k0_off10_inb i)) (fullOn ⟨(pTri arg7 harg7 x4), (pTd arg10 harg10 x7), (pQd arg3 harg3 x0), (pDd arg6 harg6 arg8 harg8 arg9 harg9 x3 x5 x6)⟩ (tileRows arg4 (harg4.unread x1) (k0_off9 i) (k0_off9_inb i)) (tileRows arg5 (harg5.unread x2) (k0_off9 i) (k0_off9_inb i)) (acc.2.2.2.2.2.2.2.2.2.1, acc.2.2.2.2.2.2.2.2.2.2.1, acc.2.2.2.2.2.2.2.2.2.2.2))).2.2

end Cert.SbIdeal.Closed
-- ==== Proof.SbCaseA.lean ====
/- What a grid point of one kind leaves. -/
module

public import proofs.«01_k».proof.Proof.SbDefs
public import proofs.«01_k».proof.Proof.Gen.SbIdeal.Value

@[expose] public section

set_option maxRecDepth 16384
set_option maxHeartbeats 8000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : cond0_0 i) (hc1 : cond0_1 i) (hc2 : ¬cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32)

attribute [local irreducible] st_k0_t1 st_k0_t2

theorem run_keys_A :
    arg15.view.writes (Elt F) (arg15.view.junk) (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1 =
      fin15 i arg3 harg3 arg4 harg4 arg5 harg5 arg6 harg6 arg7 harg7 arg8 harg8 arg9 harg9 arg10 harg10 arg15 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1 (arg15.view.writes (Elt F) (arg15.view.writes (Elt F) (arg15.view.writes (Elt F) (arg15.view.junk) [⟨Rect.unit (s := S8x128x256) ![0, 0, 0] S8x128x256.size inb_S8x128x256_S8x128x256_0_0_0, k0_pay278⟩]) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).2.1) := by
  unfold fin15
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  refine (View.writes_append _ _ _ _).trans (congrArg (fun z => arg15.view.writes (Elt F) z _) ?_)
  exact View.writes_append _ _ _ _

theorem run_vals_A :
    arg16.view.writes (Elt F) (arg16.view.junk) (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2 =
      fin16 i arg3 harg3 arg4 harg4 arg5 harg5 arg6 harg6 arg7 harg7 arg8 harg8 arg9 harg9 arg10 harg10 arg16 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1 (arg16.view.writes (Elt F) (arg16.view.writes (Elt F) (arg16.view.writes (Elt F) (arg16.view.junk) [⟨Rect.unit (s := S8x128x256) ![0, 0, 0] S8x128x256.size inb_S8x128x256_S8x128x256_0_0_0, k0_pay279⟩]) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).2.2) := by
  unfold fin16
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  refine (View.writes_append _ _ _ _).trans (congrArg (fun z => arg16.view.writes (Elt F) z _) ?_)
  exact View.writes_append _ _ _ _

theorem run_dq_A :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).1 = [⟨Rect.unit (s := S512x128) ![0, 0] S512x128.size inb_S512x128_S512x128_0_0,
      k0_pay1 k0_pay275 k0_pay276 (dqa i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqc i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqb i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqd i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1)⟩] := by
  rfl

theorem run_dng_A :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1 = ⟨Rect.unit (s := S1x128) ![0, 0] S1x128.size inb_S1x128_S1x128_0_0,
      k0_pay288 k0_pay276 (pr_1 arg9 harg9 x6) (pr_2 arg9 harg9 x6) (pr_3 arg9 harg9 x6) k0_pay284
        (View.readAt (Elt F) arg8.view (Rect.unit (s := S512x128) ![0, 0] S512x128.size inb_S512x128_S512x128_0_0).toLoadRect (harg8.unread x5)) (arg14.view.readCov [⟨Rect.unit (s := S1x128) ![0, 0] S1x128.size inb_S1x128_S1x128_0_0, k0_pay280⟩] (Rect.unit (s := S1x128) ![0, 0] S1x128.size inb_S1x128_S1x128_0_0).toLoadRect)⟩ :: [⟨Rect.unit (s := S1x128) ![0, 0] S1x128.size inb_S1x128_S1x128_0_0, k0_pay280⟩] := by
  rfl

end Cert.SbIdeal.Closed
-- ==== Proof.SbCaseB.lean ====
/- What a grid point of one kind leaves. -/
module

public import proofs.«01_k».proof.Proof.SbDefs
public import proofs.«01_k».proof.Proof.Gen.SbIdeal.Value

@[expose] public section

set_option maxRecDepth 16384
set_option maxHeartbeats 8000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : ¬cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32)

attribute [local irreducible] st_k0_t1 st_k0_t2

theorem run_keys_B (xo11 : Vec F S1x128 .f32) (xs0 : Vec F S8x128x256 .f32) (xs1 : Vec F S8x128x256 .f32) :
    arg15.view.writes (Elt F) (harg15.unread xs0) (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1 =
      fin15 i arg3 harg3 arg4 harg4 arg5 harg5 arg6 harg6 arg7 harg7 arg8 harg8 arg9 harg9 arg10 harg10 arg15 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1 (arg15.view.writes (Elt F) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).2.1) := by
  unfold fin15
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  exact View.writes_append _ _ _ _

theorem run_vals_B (xo11 : Vec F S1x128 .f32) (xs0 : Vec F S8x128x256 .f32) (xs1 : Vec F S8x128x256 .f32) :
    arg16.view.writes (Elt F) (harg16.unread xs1) (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2 =
      fin16 i arg3 harg3 arg4 harg4 arg5 harg5 arg6 harg6 arg7 harg7 arg8 harg8 arg9 harg9 arg10 harg10 arg16 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1 (arg16.view.writes (Elt F) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).2.2) := by
  unfold fin16
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  exact View.writes_append _ _ _ _

theorem run_dq_B (xo11 : Vec F S1x128 .f32) (xs0 : Vec F S8x128x256 .f32) (xs1 : Vec F S8x128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).1 = [⟨Rect.unit (s := S512x128) ![0, 0] S512x128.size inb_S512x128_S512x128_0_0,
      k0_pay1 k0_pay275 k0_pay276 (dqa i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqc i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqb i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqd i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1)⟩] := by
  rfl

theorem run_dng_B (xo11 : Vec F S1x128 .f32) (xs0 : Vec F S8x128x256 .f32) (xs1 : Vec F S8x128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.1 = ⟨Rect.unit (s := S1x128) ![0, 0] S1x128.size inb_S1x128_S1x128_0_0,
      k0_pay288 k0_pay276 (pr_1 arg9 harg9 x6) (pr_2 arg9 harg9 x6) (pr_3 arg9 harg9 x6) k0_pay284
        (View.readAt (Elt F) arg8.view (Rect.unit (s := S512x128) ![0, 0] S512x128.size inb_S512x128_S512x128_0_0).toLoadRect (harg8.unread x5)) (View.readAt (Elt F) arg14.view (Rect.unit (s := S1x128) ![0, 0] S1x128.size inb_S1x128_S1x128_0_0).toLoadRect (harg14.unread xo11))⟩ :: [] := by
  rfl

end Cert.SbIdeal.Closed
-- ==== Proof.SbCaseC.lean ====
/- What a grid point of one kind leaves. -/
module

public import proofs.«01_k».proof.Proof.SbDefs
public import proofs.«01_k».proof.Proof.Gen.SbIdeal.Value

@[expose] public section

set_option maxRecDepth 16384
set_option maxHeartbeats 8000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32)

attribute [local irreducible] st_k0_t1 st_k0_t2

theorem run_keys_C (xo11 : Vec F S1x128 .f32) (xs0 : Vec F S8x128x256 .f32) (xs1 : Vec F S8x128x256 .f32) :
    arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1 =
      fin15 i arg3 harg3 arg4 harg4 arg5 harg5 arg6 harg6 arg7 harg7 arg8 harg8 arg9 harg9 arg10 harg10 arg15 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1 (arg15.view.writes (Elt F) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).2.1) := by
  unfold fin15
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  exact View.writes_append _ _ _ _

theorem run_vals_C (xo11 : Vec F S1x128 .f32) (xs0 : Vec F S8x128x256 .f32) (xs1 : Vec F S8x128x256 .f32) :
    arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2 =
      fin16 i arg3 harg3 arg4 harg4 arg5 harg5 arg6 harg6 arg7 harg7 arg8 harg8 arg9 harg9 arg10 harg10 arg16 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1 (arg16.view.writes (Elt F) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).2.2) := by
  unfold fin16
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  exact View.writes_append _ _ _ _

theorem run_dq_C (xo11 : Vec F S1x128 .f32) (xs0 : Vec F S8x128x256 .f32) (xs1 : Vec F S8x128x256 .f32) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).1 = [⟨Rect.unit (s := S512x128) ![0, 0] S512x128.size inb_S512x128_S512x128_0_0,
      k0_pay1 k0_pay275 k0_pay276 (dqa i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqc i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqb i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1) (dqd i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1) (arg15.view.writes (Elt F) (harg15.unread xs0) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.1) (arg16.view.writes (Elt F) (harg16.unread xs1) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (harg15.unread xs0) (harg16.unread xs1)).2.2)).1)⟩] := by
  rfl

theorem run_dng_C (xo11 : Vec F S1x128 .f32) (xs0 : Vec F S8x128x256 .f32) (xs1 : Vec F S8x128x256 .f32) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.1 = ⟨Rect.unit (s := S1x128) ![0, 0] S1x128.size inb_S1x128_S1x128_0_0,
      k0_pay288 k0_pay276 (pr_1 arg9 harg9 x6) (pr_2 arg9 harg9 x6) (pr_3 arg9 harg9 x6) k0_pay284
        (View.readAt (Elt F) arg8.view (Rect.unit (s := S512x128) ![0, 0] S512x128.size inb_S512x128_S512x128_0_0).toLoadRect (harg8.unread x5)) (View.readAt (Elt F) arg14.view (Rect.unit (s := S1x128) ![0, 0] S1x128.size inb_S1x128_S1x128_0_0).toLoadRect (harg14.unread xo11))⟩ :: [] := by
  rfl

end Cert.SbIdeal.Closed
-- ==== Proof.SbCaseD.lean ====
/- What a grid point of one kind leaves. -/
module

public import proofs.«01_k».proof.Proof.SbDefs
public import proofs.«01_k».proof.Proof.Gen.SbIdeal.Value

@[expose] public section

set_option maxRecDepth 16384
set_option maxHeartbeats 8000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : cond0_0 i) (hc1 : ¬cond0_1 i) (hc2 : ¬cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32)

attribute [local irreducible] st_k0_t1 st_k0_t2

theorem run_keys_D (xo11 : Vec F S1x128 .f32) :
    arg15.view.writes (Elt F) (arg15.view.junk) (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.2.1 =
      fin15 i arg3 harg3 arg4 harg4 arg5 harg5 arg6 harg6 arg7 harg7 arg8 harg8 arg9 harg9 arg10 harg10 arg15 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1 (arg15.view.writes (Elt F) (arg15.view.writes (Elt F) (arg15.view.writes (Elt F) (arg15.view.junk) [⟨Rect.unit (s := S8x128x256) ![0, 0, 0] S8x128x256.size inb_S8x128x256_S8x128x256_0_0_0, k0_pay278⟩]) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).2.1) := by
  unfold fin15
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  refine (View.writes_append _ _ _ _).trans (congrArg (fun z => arg15.view.writes (Elt F) z _) ?_)
  exact View.writes_append _ _ _ _

theorem run_vals_D (xo11 : Vec F S1x128 .f32) :
    arg16.view.writes (Elt F) (arg16.view.junk) (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.2.2 =
      fin16 i arg3 harg3 arg4 harg4 arg5 harg5 arg6 harg6 arg7 harg7 arg8 harg8 arg9 harg9 arg10 harg10 arg16 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1 (arg16.view.writes (Elt F) (arg16.view.writes (Elt F) (arg16.view.writes (Elt F) (arg16.view.junk) [⟨Rect.unit (s := S8x128x256) ![0, 0, 0] S8x128x256.size inb_S8x128x256_S8x128x256_0_0_0, k0_pay279⟩]) (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).2.2) := by
  unfold fin16
  refine upd_cov _ _ _ _ _ _ _ _ _ (List.mem_cons_of_mem _ (List.mem_cons_of_mem _ List.mem_cons_self)) ?_ ?_
  rotate_left
  · rfl
  refine upd_cov _ _ _ _ _ _ _ _ _ List.mem_cons_self ?_ ?_
  rotate_left
  · rfl
  refine upd_cov _ _ _ _ _ _ _ _ _ (List.mem_cons_of_mem _ List.mem_cons_self) ?_ ?_
  rotate_left
  · rfl
  refine upd_cons _ _ _ _ _ _ _ _ ?_ ?_
  rotate_left
  · rfl
  refine upd_cov _ _ _ _ _ _ _ _ _ List.mem_cons_self ?_ ?_
  rotate_left
  · rfl
  refine upd_cons _ _ _ _ _ _ _ _ ?_ ?_
  rotate_left
  · rfl
  refine (View.writes_append _ _ _ _).trans (congrArg (fun z => arg16.view.writes (Elt F) z _) ?_)
  exact View.writes_append _ _ _ _

theorem run_dq_D (xo11 : Vec F S1x128 .f32) :
    (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).1 = [⟨Rect.unit (s := S512x128) ![0, 0] S512x128.size inb_S512x128_S512x128_0_0,
      k0_pay1 k0_pay275 k0_pay276 (dqa i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqc i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqb i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1) (dqd i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩]) (arg15.view.writes (Elt F) (arg15.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.1 ++ [⟨Rect.unit (s := S8x128x256) ![0, 0, 0] S8x128x256.size inb_S8x128x256_S8x128x256_0_0_0, k0_pay278⟩])) (arg16.view.writes (Elt F) (arg16.view.junk) ((loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (arg15.view.writes (Elt F) (arg15.view.junk) [⟨Rect.unit (s := S8x128x256) ![0, 0, 0] S8x128x256.size inb_S8x128x256_S8x128x256_0_0_0, k0_pay278⟩]) (arg16.view.writes (Elt F) (arg16.view.junk) [⟨Rect.unit (s := S8x128x256) ![0, 0, 0] S8x128x256.size inb_S8x128x256_S8x128x256_0_0_0, k0_pay279⟩])).2.2 ++ [⟨Rect.unit (s := S8x128x256) ![0, 0, 0] S8x128x256.size inb_S8x128x256_S8x128x256_0_0_0, k0_pay279⟩]))).1)⟩] := by
  rfl

theorem run_dng_D (xo11 : Vec F S1x128 .f32) :
    (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.1 = ⟨Rect.unit (s := S1x128) ![0, 0] S1x128.size inb_S1x128_S1x128_0_0,
      k0_pay288 k0_pay276 (pr_1 arg9 harg9 x6) (pr_2 arg9 harg9 x6) (pr_3 arg9 harg9 x6) k0_pay284
        (View.readAt (Elt F) arg8.view (Rect.unit (s := S512x128) ![0, 0] S512x128.size inb_S512x128_S512x128_0_0).toLoadRect (harg8.unread x5)) (View.readAt (Elt F) arg14.view (Rect.unit (s := S1x128) ![0, 0] S1x128.size inb_S1x128_S1x128_0_0).toLoadRect (harg14.unread xo11))⟩ :: [] := by
  rfl

end Cert.SbIdeal.Closed
-- ==== Proof.SbPre.lean ====
/- What a grid point computes before its loop, over the reals: the scaled queries, the output's gradient through the norm,
   and the totals of the softplus. -/
module

public import proofs.«01_k».proof.Proof.SbLoop
public import proofs.«01_k».proof.Proof.SbDefs

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.SbIdeal Cert.SbIdeal.Gen Cert.Reals

def hm (h e : ℕ) : ℝ := if e / 64 = h then 1 else 0

/-! ## The norm -/

/-- The rows of one pair of heads: the output before the norm, its gradient after it, and the norm's scale. -/
structure Nrm where
  o : ℕ → ℕ → ℝ
  dm : ℕ → ℕ → ℝ
  ng : ℕ → ℝ

namespace Nrm
variable (N : Nrm)

def ms (h r : ℕ) : ℝ := (∑ e ∈ Finset.range 128, N.o r e * N.o r e * hm h e) * (1 / 64) + small
def rs (h r : ℕ) : ℝ := (Real.sqrt (N.ms h r))⁻¹
def RS (r e : ℕ) : ℝ := N.rs 0 r * hm 0 e + N.rs 1 r * hm 1 e
def OH (r e : ℕ) : ℝ := N.o r e * N.RS r e
def DOH (r e : ℕ) : ℝ := N.dm r e * N.ng e
def MD (h r : ℕ) : ℝ := (∑ e ∈ Finset.range 128, N.DOH r e * N.OH r e * hm h e) * (1 / 64)
def DO (r e : ℕ) : ℝ := N.RS r e * (N.DOH r e - N.OH r e * (N.MD 0 r * hm 0 e + N.MD 1 r * hm 1 e))

theorem hm_nonneg (h e : ℕ) : 0 ≤ hm h e := by
  unfold hm
  split <;> norm_num

theorem ms_pos (h r : ℕ) : 0 < N.ms h r := by
  unfold ms
  have : 0 ≤ ∑ e ∈ Finset.range 128, N.o r e * N.o r e * hm h e :=
    Finset.sum_nonneg fun e _ => mul_nonneg (mul_self_nonneg _) (hm_nonneg h e)
  have := small_pos
  positivity

end Nrm

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem lane0 : ∀ e : Fin 128, (if IntOp.cmpi .slt (BitVec.ofNat 32 e.val) 64#32 = 1#1 then 1 else 0 : ℕ) = if e.val / 64 = 0 then 1 else 0 := by
  decide +kernel
theorem lane1 : ∀ e : Fin 128, (if IntOp.cmpi .sge (BitVec.ofNat 32 e.val) 64#32 = 1#1 then 1 else 0 : ℕ) = if e.val / 64 = 1 then 1 else 0 := by
  decide +kernel
theorem lane0' : ∀ e : Fin 128, (if IntOp.cmpi .eq (IntOp.shrsi .vector (BitVec.ofNat 32 e.val) 6#32) 0#32 = 1#1 then 1 else 0 : ℕ) = if e.val / 64 = 0 then 1 else 0 := by
  decide +kernel
theorem lane1' : ∀ e : Fin 128, (if IntOp.cmpi .eq (IntOp.shrsi .vector (BitVec.ofNat 32 e.val) 6#32) 1#32 = 1#1 then 1 else 0 : ℕ) = if e.val / 64 = 1 then 1 else 0 := by
  decide +kernel

theorem select_of_lane {b : BitVec 1} {P : Prop} [Decidable P] (h : (if b = 1#1 then 1 else 0 : ℕ) = if P then 1 else 0) :
    Scalar.select b (1 : EReal) 0 = ((if P then 1 else 0 : ℝ) : EReal) := by
  show (if b = 1#1 then (1 : EReal) else 0) = _
  by_cases hb : b = 1#1 <;> by_cases hP : P <;> simp_all

theorem mul_at {X Y : EReal} {x y : ℝ} (hX : X = (x : EReal)) (hY : Y = (y : EReal)) : X * Y = ((x * y : ℝ) : EReal) := by
  rw [hX, hY, ← EReal.coe_mul]

theorem select_at {b : BitVec 1} {P : Prop} [Decidable P] {X : EReal} {x : ℝ} (h : (if b = 1#1 then 1 else 0 : ℕ) = if P then 1 else 0)
    (hX : X = (x : EReal)) : Scalar.select b X 0 = ((x * (if P then 1 else 0) : ℝ) : EReal) := by
  show (if b = 1#1 then X else 0) = _
  by_cases hb : b = 1#1 <;> by_cases hP : P <;> simp_all

theorem rep_m0 : Rep (n := 1) (p := 128) (k0_pay275 (F := Ideal)) (fun _ e => hm 0 e) := fun j => by
  pointwise [k0_pay275]
  exact select_of_lane (lane0 (j 1))
theorem rep_m1 : Rep (n := 1) (p := 128) (k0_pay276 (F := Ideal)) (fun _ e => hm 1 e) := fun j => by
  pointwise [k0_pay276]
  exact select_of_lane (lane1 (j 1))
theorem rep_m0c : Rep (n := 128) (p := 1) (k0_pay307 (F := Ideal)) (fun e _ => hm 0 e) := fun j => by
  pointwise [k0_pay307]
  exact select_of_lane (lane0' (j 0))

theorem rep_m1c (j : S128x1.Idx) : Scalar.select (IntOp.cmpi .eq (IntOp.shrsi .vector (BitVec.ofNat 32 (j 0).val) 6#32) 1#32) (1 : EReal) 0 = ((hm 1 (j 0).val : ℝ) : EReal) :=
  select_of_lane (lane1' (j 0))

theorem rep_281 {x : FVec Ideal S512x128 .f32} {o : ℕ → ℕ → ℝ} (h : Rep (n := 512) (p := 128) x o) : Rep (n := 512) (p := 128) (k0_pay281 (F := Ideal) x) o := fun j => by
  pointwise [k0_pay281]
  exact h j
theorem rep_287 {x : FVec Ideal S512x128 .f32} {o : ℕ → ℕ → ℝ} (h : Rep (n := 512) (p := 128) x o) : Rep (n := 512) (p := 128) (k0_pay287 (F := Ideal) x) o := fun j => by
  pointwise [k0_pay287]
  exact h j
theorem rep_282 {x : FVec Ideal S512x128 .f32} {o : ℕ → ℕ → ℝ} (h : Rep (n := 512) (p := 128) x o) :
    Rep (n := 512) (p := 128) (k0_pay282 (F := Ideal) x) (fun r e => o r e * o r e) := fun j => by
  pointwise [k0_pay282]
  exact mul_at (rep_281 h j) (rep_281 h j)
theorem rep_284 : Rep (n := 512) (p := 128) (k0_pay284 (F := Ideal)) (fun _ e => hm 1 e) := fun j => by
  pointwise [k0_pay284]
  exact rep_m1 (ix2 0 (j 1))
theorem rep_293 : Rep (n := 512) (p := 128) (k0_pay293 (F := Ideal) k0_pay276) (fun _ e => hm 1 e) := fun j => by
  pointwise [k0_pay293]
  exact rep_m1 (ix2 0 (j 1))

variable {N : Nrm} {S0 : ℕ}

theorem rep_283 {x : FVec Ideal S512x128 .f32} (h : Rep (n := 512) (p := 128) x (fun r e => N.o (S0 + r) e)) :
    Rep (n := 512) (p := 128) (k0_pay283 (F := Ideal) x) (fun r e => N.rs 0 (S0 + r) * hm 0 e) := fun j => by
  pointwise [k0_pay283]
  simp only [rep_282 h _, rep_m0 _]
  rw [bits_sixtyfourth, bits_small]
  erw [sum_coe_mul (n := 128) (fun e => N.o (S0 + (j 0).val) e * N.o (S0 + (j 0).val) e) (hm 0)]
  rw [← EReal.coe_mul, ← EReal.coe_add]
  erw [rsqrt_pos (N.ms_pos 0 (S0 + (j 0).val))]
  rw [← EReal.coe_mul]
  rfl

theorem rep_285 {m : FVec Ideal S1x128 .f32} {a b d : FVec Ideal S512x128 .f32} (hm' : Rep (n := 1) (p := 128) m (fun _ e => hm 1 e))
    (ha : Rep (n := 512) (p := 128) a (fun r e => N.o (S0 + r) e * N.o (S0 + r) e))
    (hb : Rep (n := 512) (p := 128) b (fun r e => N.rs 0 (S0 + r) * hm 0 e)) (hd : Rep (n := 512) (p := 128) d (fun _ e => hm 1 e)) :
    Rep (n := 512) (p := 128) (k0_pay285 m a b d) (fun r e => N.RS (S0 + r) e) := fun j => by
  pointwise [k0_pay285]
  simp only [ha _, hb _, hd _, hm' _]
  rw [bits_sixtyfourth, bits_small]
  erw [sum_coe_mul (n := 128) (fun e => N.o (S0 + (j 0).val) e * N.o (S0 + (j 0).val) e) (hm 1)]
  rw [← EReal.coe_mul, ← EReal.coe_add]
  erw [rsqrt_pos (N.ms_pos 1 (S0 + (j 0).val))]
  rw [← EReal.coe_mul, ← EReal.coe_add]
  rfl

theorem rep_286 {m : FVec Ideal S1x128 .f32} {x a b d : FVec Ideal S512x128 .f32} (hm' : Rep (n := 1) (p := 128) m (fun _ e => hm 1 e))
    (hx : Rep (n := 512) (p := 128) x (fun r e => N.o (S0 + r) e))
    (ha : Rep (n := 512) (p := 128) a (fun r e => N.o (S0 + r) e * N.o (S0 + r) e))
    (hb : Rep (n := 512) (p := 128) b (fun r e => N.rs 0 (S0 + r) * hm 0 e)) (hd : Rep (n := 512) (p := 128) d (fun _ e => hm 1 e)) :
    Rep (n := 512) (p := 128) (k0_pay286 m x a b d) (fun r e => N.OH (S0 + r) e) := fun j => by
  pointwise [k0_pay286]
  rw [hx, rep_285 hm' ha hb hd, ← EReal.coe_mul]
  rfl

theorem rep_288 {m w : FVec Ideal S1x128 .f32} {x a b d v : FVec Ideal S512x128 .f32} {old : ℕ → ℝ} (hm' : Rep (n := 1) (p := 128) m (fun _ e => hm 1 e))
    (hx : Rep (n := 512) (p := 128) x (fun r e => N.o (S0 + r) e))
    (ha : Rep (n := 512) (p := 128) a (fun r e => N.o (S0 + r) e * N.o (S0 + r) e))
    (hb : Rep (n := 512) (p := 128) b (fun r e => N.rs 0 (S0 + r) * hm 0 e)) (hd : Rep (n := 512) (p := 128) d (fun _ e => hm 1 e))
    (hv : Rep (n := 512) (p := 128) v (fun r e => N.dm (S0 + r) e)) (hw : Rep (n := 1) (p := 128) w (fun _ e => old e)) :
    Rep (n := 1) (p := 128) (k0_pay288 m x a b d v w) (fun _ e => old e + ∑ r ∈ Finset.range 512, N.dm (S0 + r) e * N.OH (S0 + r) e) := fun j => by
  pointwise [k0_pay288]
  simp only [rep_287 hv _, rep_286 hm' hx ha hb hd _, hw _]
  erw [sum_coe_mul (n := 512) (fun r => N.dm (S0 + r) (j 1).val) (fun r => N.OH (S0 + r) (j 1).val)]
  rw [← EReal.coe_add]

theorem rep_289 {v : FVec Ideal S512x128 .f32} {g : FVec Ideal S1x128 .f32} (hv : Rep (n := 512) (p := 128) v (fun r e => N.dm (S0 + r) e))
    (hg : Rep (n := 1) (p := 128) g (fun _ e => N.ng e)) : Rep (n := 512) (p := 128) (k0_pay289 (F := Ideal) v g) (fun r e => N.DOH (S0 + r) e) := fun j => by
  pointwise [k0_pay289]
  exact mul_at (rep_287 hv j) (hg _)

section
variable {m n g : FVec Ideal S1x128 .f32} {x a b d v : FVec Ideal S512x128 .f32} (hn : Rep (n := 1) (p := 128) n (fun _ e => hm 0 e))
    (hm' : Rep (n := 1) (p := 128) m (fun _ e => hm 1 e))
    (hx : Rep (n := 512) (p := 128) x (fun r e => N.o (S0 + r) e))
    (ha : Rep (n := 512) (p := 128) a (fun r e => N.o (S0 + r) e * N.o (S0 + r) e))
    (hb : Rep (n := 512) (p := 128) b (fun r e => N.rs 0 (S0 + r) * hm 0 e)) (hd : Rep (n := 512) (p := 128) d (fun _ e => hm 1 e))
    (hv : Rep (n := 512) (p := 128) v (fun r e => N.dm (S0 + r) e)) (hg : Rep (n := 1) (p := 128) g (fun _ e => N.ng e))
include hm' hx ha hb hd hv hg

theorem rep_290 : Rep (n := 512) (p := 128) (k0_pay290 m x a b d v g) (fun r e => N.DOH (S0 + r) e * N.OH (S0 + r) e) := fun j => by
  pointwise [k0_pay290]
  simp only [rep_289 hv hg _, rep_286 hm' hx ha hb hd _]
  rw [← EReal.coe_mul]

theorem rep_292 : Rep (n := 512) (p := 128) (k0_pay292 m x a b d v g) (fun r _ => N.MD 1 (S0 + r)) := fun j => by
  pointwise [k0_pay292]
  simp only [rep_290 hm' hx ha hb hd hv hg _, hm' _]
  rw [bits_sixtyfourth]
  erw [sum_coe_mul (n := 128) (fun e => N.DOH (S0 + (j 0).val) e * N.OH (S0 + (j 0).val) e) (hm 1)]
  rw [← EReal.coe_mul]
  rfl

include hn in
theorem rep_291 : Rep (n := 512) (p := 128) (k0_pay291 n m x a b d v g) (fun r e => N.MD 0 (S0 + r) * hm 0 e) := fun j => by
  pointwise [k0_pay291]
  simp only [rep_290 hm' hx ha hb hd hv hg _, hn _]
  rw [bits_sixtyfourth]
  erw [sum_coe_mul (n := 128) (fun e => N.DOH (S0 + (j 0).val) e * N.OH (S0 + (j 0).val) e) (hm 0)]
  rw [← EReal.coe_mul, ← EReal.coe_mul]
  rfl
end

section
variable {a b d e u w : FVec Ideal S512x128 .f32} (ha : Rep (n := 512) (p := 128) a (fun r e => N.RS (S0 + r) e))
  (hb : Rep (n := 512) (p := 128) b (fun r e => N.OH (S0 + r) e)) (hd : Rep (n := 512) (p := 128) d (fun r e => N.DOH (S0 + r) e))
  (he : Rep (n := 512) (p := 128) e (fun r e => N.MD 0 (S0 + r) * hm 0 e)) (hu : Rep (n := 512) (p := 128) u (fun r _ => N.MD 1 (S0 + r)))
  (hw : Rep (n := 512) (p := 128) w (fun _ e => hm 1 e))
include ha hb hd he hu hw

theorem rep_294 : Rep (n := 512) (p := 128) (k0_pay294 a b d e u w) (fun r e => N.DO (S0 + r) e) := fun j => by
  pointwise [k0_pay294]
  simp only [ha _, hb _, hd _, he _, hu _, hw _]
  rw [← EReal.coe_mul, ← EReal.coe_add, ← EReal.coe_mul, ← EReal.coe_sub, ← EReal.coe_mul]
  rfl

theorem rep_297 : Rep (n := 256) (p := 128) (k0_pay297 a b d e u w) (fun r e => N.DO (S0 + r) e) := fun j => by
  pointwise [k0_pay297]
  exact rep_294 ha hb hd he hu hw _

theorem rep_298 : Rep (n := 256) (p := 128) (k0_pay298 a b d e u w) (fun r e => N.DO (S0 + 256 + r) e) := fun j => by
  pointwise [k0_pay298]
  refine (rep_294 ha hb hd he hu hw _).trans ?_
  show ((N.DO (S0 + (256 + (j 0).val)) (j 1).val : ℝ) : EReal) = _
  rw [Nat.add_assoc]

theorem rep_303 : Rep (n := 256) (p := 128) (k0_pay303 (F := Ideal) k0_pay275 a b d e u w) (fun r e => N.DO (S0 + r) e * hm 0 e) := fun j => by
  pointwise [k0_pay303]
  exact mul_at (rep_297 ha hb hd he hu hw _) (rep_m0 _)
theorem rep_304 : Rep (n := 256) (p := 128) (k0_pay304 (F := Ideal) k0_pay276 a b d e u w) (fun r e => N.DO (S0 + r) e * hm 1 e) := fun j => by
  pointwise [k0_pay304]
  exact mul_at (rep_297 ha hb hd he hu hw _) (rep_m1 _)
theorem rep_305 : Rep (n := 256) (p := 128) (k0_pay305 (F := Ideal) k0_pay275 a b d e u w) (fun r e => N.DO (S0 + 256 + r) e * hm 0 e) := fun j => by
  pointwise [k0_pay305]
  exact mul_at (rep_298 ha hb hd he hu hw _) (rep_m0 _)
theorem rep_306 : Rep (n := 256) (p := 128) (k0_pay306 (F := Ideal) k0_pay276 a b d e u w) (fun r e => N.DO (S0 + 256 + r) e * hm 1 e) := fun j => by
  pointwise [k0_pay306]
  exact mul_at (rep_298 ha hb hd he hu hw _) (rep_m1 _)
end

/-! ## The queries -/

section
variable {x : FVec Ideal S256x128 .bf16} {q : ℕ → ℕ → ℝ} (h : Rep (n := 256) (p := 128) x q)
include h

theorem rep_295 : Rep (n := 256) (p := 128) (k0_pay295 (F := Ideal) x) (fun r e => q r e * (1 / 8)) := fun j => by
  pointwise [k0_pay295]
  rw [h, bits_eighth_bf16, ← EReal.coe_mul]
theorem rep_296 : Rep (n := 256) (p := 128) (k0_pay296 (F := Ideal) x) (fun r e => q r e * (1 / 8)) := fun j => by
  pointwise [k0_pay296]
  rw [h, bits_eighth_bf16, ← EReal.coe_mul]
theorem rep_299 : Rep (n := 256) (p := 128) (k0_pay299 (F := Ideal) k0_pay275 x) (fun r e => q r e * (1 / 8) * hm 0 e) := fun j => by
  pointwise [k0_pay299]
  exact mul_at (rep_295 h _) (rep_m0 _)
theorem rep_300 : Rep (n := 256) (p := 128) (k0_pay300 (F := Ideal) k0_pay276 x) (fun r e => q r e * (1 / 8) * hm 1 e) := fun j => by
  pointwise [k0_pay300]
  exact mul_at (rep_295 h _) (rep_m1 _)
theorem rep_301 : Rep (n := 256) (p := 128) (k0_pay301 (F := Ideal) k0_pay275 x) (fun r e => q r e * (1 / 8) * hm 0 e) := fun j => by
  pointwise [k0_pay301]
  exact mul_at (rep_296 h _) (rep_m0 _)
theorem rep_302 : Rep (n := 256) (p := 128) (k0_pay302 (F := Ideal) k0_pay276 x) (fun r e => q r e * (1 / 8) * hm 1 e) := fun j => by
  pointwise [k0_pay302]
  exact mul_at (rep_296 h _) (rep_m1 _)

theorem rep_312 : Rep (n := 128) (p := 256) (k0_pay312 (F := Ideal) x k0_pay307) (fun e r => q r e * hm 0 e) := fun j => by
  pointwise [k0_pay312, k0_pay310]
  exact mul_at (h _) (rep_m0c _)
theorem rep_314 : Rep (n := 128) (p := 256) (k0_pay314 (F := Ideal) x k0_pay307) (fun e r => q r e * hm 0 e) := fun j => by
  pointwise [k0_pay314, k0_pay311]
  exact mul_at (h _) (rep_m0c _)
theorem rep_313 : Rep (n := 128) (p := 256) (k0_pay313 (F := Ideal) x (iota Kind.tc S128x1 32 [0] iota_S128x1_d0_w32) k0_pay308) (fun e r => q r e * hm 1 e) := fun j => by
  pointwise [k0_pay313, k0_pay310, k0_pay309, k0_pay308]
  exact select_at (lane1' (j 0)) (h _)
theorem rep_315 : Rep (n := 128) (p := 256) (k0_pay315 (F := Ideal) x (iota Kind.tc S128x1 32 [0] iota_S128x1_d0_w32) k0_pay308) (fun e r => q r e * hm 1 e) := fun j => by
  pointwise [k0_pay315, k0_pay311, k0_pay309, k0_pay308]
  exact select_at (lane1' (j 0)) (h _)
end

section
variable {x : FVec Ideal S256x128 .f32} {q : ℕ → ℕ → ℝ} (h : Rep (n := 256) (p := 128) x q)
include h
theorem rep_318 : Rep (n := 128) (p := 256) (k0_pay318 (F := Ideal) x k0_pay307) (fun e r => q r e * hm 0 e) := fun j => by
  pointwise [k0_pay318, k0_pay316]
  exact mul_at (h _) (rep_m0c _)
theorem rep_320 : Rep (n := 128) (p := 256) (k0_pay320 (F := Ideal) x k0_pay307) (fun e r => q r e * hm 0 e) := fun j => by
  pointwise [k0_pay320, k0_pay317]
  exact mul_at (h _) (rep_m0c _)
theorem rep_319 : Rep (n := 128) (p := 256) (k0_pay319 (F := Ideal) x (iota Kind.tc S128x1 32 [0] iota_S128x1_d0_w32) k0_pay308) (fun e r => q r e * hm 1 e) := fun j => by
  pointwise [k0_pay319, k0_pay316, k0_pay309, k0_pay308]
  exact select_at (lane1' (j 0)) (h _)
theorem rep_321 : Rep (n := 128) (p := 256) (k0_pay321 (F := Ideal) x (iota Kind.tc S128x1 32 [0] iota_S128x1_d0_w32) k0_pay308) (fun e r => q r e * hm 1 e) := fun j => by
  pointwise [k0_pay321, k0_pay317, k0_pay309, k0_pay308]
  exact select_at (lane1' (j 0)) (h _)
end

/-- What is read from a buffer that holds `x`. -/
theorem readAt_unread {S : Shape} {φ : EltTy} {r : Memref sig .tc .vmem S φ} (hr : r.IsWhole) (x : Vec Ideal S φ) (R : LoadRect S) (j) :
    View.readAt (Elt Ideal) r.view R (hr.unread x) j = x (R.idx j) := congrFun (hr.read_unread x) _

end Cert.SbIdeal.Closed
-- ==== Proof.SbPoint.lean ====
/- One grid point over the reals: what its loop and its tiles on the diagonal add to the accumulators, the queries'
   gradient, and the norm's. -/
module

public import proofs.«01_k».proof.Proof.SbPre

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen Cert.Reals

/-- The blocks of one sequence and one pair of heads: queries, keys, values, the output before the norm, its gradient
    after it, the totals of the softplus, and the norm's scale. -/
structure Dat where
  Q : ℕ → ℕ → ℝ
  K : ℕ → ℕ → ℝ
  V : ℕ → ℕ → ℝ
  O : ℕ → ℕ → ℝ
  DM : ℕ → ℕ → ℝ
  CT : ℕ → ℕ → ℝ
  NG : ℕ → ℝ

namespace Dat
variable (D : Dat)

def N : Nrm := ⟨D.O, D.DM, D.NG⟩
def head (h : ℕ) : Head := ⟨fun s e => D.Q s e * (1 / 8) * hm h e, D.K, fun s e => D.N.DO s e * hm h e, D.V, fun s => D.CT s (64 * h)⟩
def gradQ (s e : ℕ) : ℝ := ((D.head 0).DQ s 2048 e * hm 0 e + (D.head 1).DQ s 2048 e * hm 1 e) * (1 / 8)
def addK (S0 e t : ℕ) : ℝ := sumK (D.head 0) (D.head 1) S0 e t
def addV (S0 e t : ℕ) : ℝ := sumV (D.head 0) (D.head 1) S0 e t
def addG (S0 e : ℕ) : ℝ := ∑ r ∈ Finset.range 512, D.N.dm (S0 + r) e * D.N.OH (S0 + r) e

end Dat

structure PtRep (D : Dat) (S0 : ℕ) (x0 : FVec Ideal S512x128 .bf16) (x1 x2 : FVec Ideal S2048x128 .bf16) (x3 : FVec Ideal S1x128 .f32)
    (x4 : FVec Ideal S256x256 .bf16) (x5 x6 x7 : FVec Ideal S512x128 .f32) : Prop where
  q : Rep (n := 512) (p := 128) x0 (fun r e => D.Q (S0 + r) e)
  k : Rep (n := 2048) (p := 128) x1 D.K
  v : Rep (n := 2048) (p := 128) x2 D.V
  g : Rep (n := 1) (p := 128) x3 (fun _ e => D.NG e)
  tri : Rep (n := 256) (p := 256) x4 triR
  dm : Rep (n := 512) (p := 128) x5 (fun r e => D.DM (S0 + r) e)
  o : Rep (n := 512) (p := 128) x6 (fun r e => D.O (S0 + r) e)
  c : Rep (n := 512) (p := 128) x7 (fun r e => D.CT (S0 + r) e)

theorem rep_whole_f32 {n p : ℕ} {r : Memref sig .tc .vmem ⟨2, ![n, p]⟩ .f32} (hr : r.IsWhole) {x : FVec Ideal ⟨2, ![n, p]⟩ .f32} {y : ℕ → ℕ → ℝ}
    (h : Rep (n := n) (p := p) x y) {n' p' a b : ℕ} (inb) :
    Rep (n := n') (p := p') (View.readAt (Elt Ideal) r.view (Rect.unit (s := ⟨2, ![n, p]⟩) ![a, b] ![n', p'] inb).toLoadRect (hr.unread x)) (fun i j => y (a + i) (b + j)) := by
  intro j
  refine (readAt_unread hr (φ := .f32) x (Rect.unit (s := ⟨2, ![n, p]⟩) ![a, b] ![n', p'] inb).toLoadRect j).trans ((h _).trans ?_)
  show ((y (a + 1 * (j 0).val) (b + 1 * (j 1).val) : ℝ) : EReal) = _
  rw [Nat.one_mul, Nat.one_mul]

theorem rep_whole_bf16 {n p : ℕ} {r : Memref sig .tc .vmem ⟨2, ![n, p]⟩ .bf16} (hr : r.IsWhole) {x : FVec Ideal ⟨2, ![n, p]⟩ .bf16} {y : ℕ → ℕ → ℝ}
    (h : Rep (n := n) (p := p) x y) {n' p' a b : ℕ} (inb) :
    Rep (n := n') (p := p') (View.readAt (Elt Ideal) r.view (Rect.unit (s := ⟨2, ![n, p]⟩) ![a, b] ![n', p'] inb).toLoadRect (hr.unread x)) (fun i j => y (a + i) (b + j)) := by
  intro j
  refine (readAt_unread hr (φ := .bf16) x (Rect.unit (s := ⟨2, ![n, p]⟩) ![a, b] ![n', p'] inb).toLoadRect j).trans ((h _).trans ?_)
  show ((y (a + 1 * (j 0).val) (b + 1 * (j 1).val) : ℝ) : EReal) = _
  rw [Nat.one_mul, Nat.one_mul]

theorem add_at {X Y : EReal} {x y : ℝ} (hX : X = (x : EReal)) (hY : Y = (y : EReal)) : X + Y = ((x + y : ℝ) : EReal) := by
  rw [hX, hY, ← EReal.coe_add]

theorem Rep.up {n p : ℕ} {X : (⟨2, ![n, p]⟩ : Shape).Idx → EReal} {y : ℕ → ℕ → ℝ} (h : Rep X (fun i j => y (0 + i) (0 + j))) : Rep X y :=
  h.of_eq fun i j _ _ => by rw [Nat.zero_add, Nat.zero_add]

theorem rep_277 {x : FVec Ideal S256x256 .bf16} {y : ℕ → ℕ → ℝ} (h : Rep (n := 256) (p := 256) x y) : Rep (n := 256) (p := 256) (k0_pay277 (F := Ideal) x) y := fun j => by
  pointwise [k0_pay277]
  exact h j
theorem rep_322 {x : FVec Ideal S256x1 .f32} {y : ℕ → ℕ → ℝ} (h : Rep (n := 256) (p := 1) x y) : Rep (n := 256) (p := 1) (k0_pay322 (F := Ideal) x) y := fun j => by
  pointwise [k0_pay322]
  exact (h j).trans (congrArg (fun k => ((y (j 0).val k : ℝ) : EReal)) (Nat.lt_one_iff.mp (j 1).isLt))
theorem rep_323 {x : FVec Ideal S256x1 .f32} {y : ℕ → ℕ → ℝ} (h : Rep (n := 256) (p := 1) x y) : Rep (n := 256) (p := 1) (k0_pay323 (F := Ideal) x) y := fun j => by
  pointwise [k0_pay323]
  exact (h j).trans (congrArg (fun k => ((y (j 0).val k : ℝ) : EReal)) (Nat.lt_one_iff.mp (j 1).isLt))
theorem rep_324 {x : FVec Ideal S256x1 .f32} {y : ℕ → ℕ → ℝ} (h : Rep (n := 256) (p := 1) x y) : Rep (n := 256) (p := 1) (k0_pay324 (F := Ideal) x) y := fun j => by
  pointwise [k0_pay324]
  exact (h j).trans (congrArg (fun k => ((y (j 0).val k : ℝ) : EReal)) (Nat.lt_one_iff.mp (j 1).isLt))
theorem rep_325 {x : FVec Ideal S256x1 .f32} {y : ℕ → ℕ → ℝ} (h : Rep (n := 256) (p := 1) x y) : Rep (n := 256) (p := 1) (k0_pay325 (F := Ideal) x) y := fun j => by
  pointwise [k0_pay325]
  exact (h j).trans (congrArg (fun k => ((y (j 0).val k : ℝ) : EReal)) (Nat.lt_one_iff.mp (j 1).isLt))

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole)  (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32)  {D : Dat} {S0 : ℕ} (hR : PtRep D S0 x0 x1 x2 x3 x4 x5 x6 x7)
include hR

theorem rep_p1 : Rep (n := 512) (p := 128) (pr_1 arg9 harg9 x6) (fun r e => D.N.o (S0 + r) e) := rep_281 (rep_whole_f32 harg9 hR.o _).up
theorem rep_p2 : Rep (n := 512) (p := 128) (pr_2 arg9 harg9 x6) (fun r e => D.N.o (S0 + r) e * D.N.o (S0 + r) e) := rep_282 (rep_whole_f32 harg9 hR.o _).up
theorem rep_p3 : Rep (n := 512) (p := 128) (pr_3 arg9 harg9 x6) (fun r e => D.N.rs 0 (S0 + r) * hm 0 e) := rep_283 (rep_whole_f32 harg9 hR.o _).up
theorem rep_dm8 : Rep (n := 512) (p := 128) (View.readAt (Elt Ideal) arg8.view (Rect.unit (s := S512x128) ![0, 0] S512x128.size inb_S512x128_S512x128_0_0).toLoadRect (harg8.unread x5)) (fun r e => D.N.dm (S0 + r) e) :=
  (rep_whole_f32 harg8 hR.dm _).up
theorem rep_ng6 : Rep (n := 1) (p := 128) (View.readAt (Elt Ideal) arg6.view (Rect.unit (s := S1x128) ![0, 0] S1x128.size inb_S1x128_S1x128_0_0).toLoadRect (harg6.unread x3)) (fun _ e => D.N.ng e) :=
  (rep_whole_f32 (y := fun _ e => D.N.ng e) harg6 hR.g _).up
theorem rep_p4 : Rep (n := 512) (p := 128) (pr_4 arg9 harg9 x6) (fun r e => D.N.RS (S0 + r) e) := rep_285 rep_m1 (rep_p2 arg9 harg9 x0 x1 x2 x3 x4 x5 x6 x7 hR) (rep_p3 arg9 harg9 x0 x1 x2 x3 x4 x5 x6 x7 hR) rep_284
theorem rep_p5 : Rep (n := 512) (p := 128) (pr_5 arg9 harg9 x6) (fun r e => D.N.OH (S0 + r) e) := rep_286 rep_m1 (rep_p1 arg9 harg9 x0 x1 x2 x3 x4 x5 x6 x7 hR) (rep_p2 arg9 harg9 x0 x1 x2 x3 x4 x5 x6 x7 hR) (rep_p3 arg9 harg9 x0 x1 x2 x3 x4 x5 x6 x7 hR) rep_284
theorem rep_p6 : Rep (n := 512) (p := 128) (pr_6 arg6 harg6 arg8 harg8 x3 x5) (fun r e => D.N.DOH (S0 + r) e) := rep_289 (rep_dm8 arg8 harg8 x0 x1 x2 x3 x4 x5 x6 x7 hR) (rep_ng6 arg6 harg6 x0 x1 x2 x3 x4 x5 x6 x7 hR)
theorem rep_p7 : Rep (n := 512) (p := 128) (pr_7 arg6 harg6 arg8 harg8 arg9 harg9 x3 x5 x6) (fun r e => D.N.MD 0 (S0 + r) * hm 0 e) :=
  rep_291 rep_m0 rep_m1 (rep_p1 arg9 harg9 x0 x1 x2 x3 x4 x5 x6 x7 hR) (rep_p2 arg9 harg9 x0 x1 x2 x3 x4 x5 x6 x7 hR) (rep_p3 arg9 harg9 x0 x1 x2 x3 x4 x5 x6 x7 hR) rep_284 (rep_dm8 arg8 harg8 x0 x1 x2 x3 x4 x5 x6 x7 hR) (rep_ng6 arg6 harg6 x0 x1 x2 x3 x4 x5 x6 x7 hR)
theorem rep_p8 : Rep (n := 512) (p := 128) (pr_8 arg6 harg6 arg8 harg8 arg9 harg9 x3 x5 x6) (fun r _ => D.N.MD 1 (S0 + r)) :=
  rep_292 rep_m1 (rep_p1 arg9 harg9 x0 x1 x2 x3 x4 x5 x6 x7 hR) (rep_p2 arg9 harg9 x0 x1 x2 x3 x4 x5 x6 x7 hR) (rep_p3 arg9 harg9 x0 x1 x2 x3 x4 x5 x6 x7 hR) rep_284 (rep_dm8 arg8 harg8 x0 x1 x2 x3 x4 x5 x6 x7 hR) (rep_ng6 arg6 harg6 x0 x1 x2 x3 x4 x5 x6 x7 hR)
theorem rep_p9 : Rep (n := 512) (p := 128) (pr_9 (F := Ideal)) (fun _ e => hm 1 e) := rep_293
theorem rep_tri : Rep (n := 256) (p := 256) (pTri arg7 harg7 x4) triR := rep_277 (rep_whole_bf16 harg7 hR.tri _).up
theorem rep_q0 : Rep (n := 256) (p := 128) (View.readAt (Elt Ideal) arg3.view (Rect.unit (s := S512x128) ![0, 0] S256x128.size inb_S512x128_S256x128_0_0).toLoadRect (harg3.unread x0)) (fun r e => D.Q (S0 + r) e) :=
  (rep_whole_bf16 harg3 hR.q _).of_eq fun r e _ _ => by
    show D.Q _ _ = D.Q _ _
    congr 1 <;> omega
theorem grp_a : GrpRep (pTri arg7 harg7 x4) (pTa arg10 harg10 x7) (pQa arg3 harg3 x0) (pDa arg6 harg6 arg8 harg8 arg9 harg9 x3 x5 x6) (pQta arg3 harg3 x0) (pDta arg6 harg6 arg8 harg8 arg9 harg9 x3 x5 x6) (D.head 0) (S0) where
  rows := {
    tri := rep_tri arg7 harg7 x0 x1 x2 x3 x4 x5 x6 x7 hR
    tot := (rep_322 (rep_whole_f32 harg10 hR.c _)).of_eq fun r e _ he => by
      have : e = 0 := by omega
      subst this
      show D.CT (S0 + (0 + r)) 0 = D.CT (S0 + r) 0
      congr 1
      omega
    q := rep_299 (rep_q0 arg3 harg3 x0 x1 x2 x3 x4 x5 x6 x7 hR)
    d := rep_303 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR) }
  qt := rep_312 (rep_295 (rep_q0 arg3 harg3 x0 x1 x2 x3 x4 x5 x6 x7 hR))
  dt := rep_318 (rep_297 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR))
theorem grp_b : GrpRep (pTri arg7 harg7 x4) (pTb arg10 harg10 x7) (pQb arg3 harg3 x0) (pDb arg6 harg6 arg8 harg8 arg9 harg9 x3 x5 x6) (pQtb arg3 harg3 x0) (pDtb arg6 harg6 arg8 harg8 arg9 harg9 x3 x5 x6) (D.head 1) (S0) where
  rows := {
    tri := rep_tri arg7 harg7 x0 x1 x2 x3 x4 x5 x6 x7 hR
    tot := (rep_323 (rep_whole_f32 harg10 hR.c _)).of_eq fun r e _ he => by
      have : e = 0 := by omega
      subst this
      show D.CT (S0 + (0 + r)) 64 = D.CT (S0 + r) 64
      congr 1
      omega
    q := rep_300 (rep_q0 arg3 harg3 x0 x1 x2 x3 x4 x5 x6 x7 hR)
    d := rep_304 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR) }
  qt := rep_313 (rep_295 (rep_q0 arg3 harg3 x0 x1 x2 x3 x4 x5 x6 x7 hR))
  dt := rep_319 (rep_297 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR))
theorem rep_q1 : Rep (n := 256) (p := 128) (View.readAt (Elt Ideal) arg3.view (Rect.unit (s := S512x128) ![256, 0] S256x128.size inb_S512x128_S256x128_256_0).toLoadRect (harg3.unread x0)) (fun r e => D.Q (S0 + 256 + r) e) :=
  (rep_whole_bf16 harg3 hR.q _).of_eq fun r e _ _ => by
    show D.Q _ _ = D.Q _ _
    congr 1 <;> omega
theorem grp_c : GrpRep (pTri arg7 harg7 x4) (pTc arg10 harg10 x7) (pQc arg3 harg3 x0) (pDc arg6 harg6 arg8 harg8 arg9 harg9 x3 x5 x6) (pQtc arg3 harg3 x0) (pDtc arg6 harg6 arg8 harg8 arg9 harg9 x3 x5 x6) (D.head 0) (S0 + 256) where
  rows := {
    tri := rep_tri arg7 harg7 x0 x1 x2 x3 x4 x5 x6 x7 hR
    tot := (rep_324 (rep_whole_f32 harg10 hR.c _)).of_eq fun r e _ he => by
      have : e = 0 := by omega
      subst this
      show D.CT (S0 + (256 + r)) 0 = D.CT (S0 + 256 + r) 0
      congr 1
      omega
    q := rep_301 (rep_q1 arg3 harg3 x0 x1 x2 x3 x4 x5 x6 x7 hR)
    d := rep_305 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR) }
  qt := rep_314 (rep_296 (rep_q1 arg3 harg3 x0 x1 x2 x3 x4 x5 x6 x7 hR))
  dt := rep_320 (rep_298 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR))
theorem grp_d : GrpRep (pTri arg7 harg7 x4) (pTd arg10 harg10 x7) (pQd arg3 harg3 x0) (pDd arg6 harg6 arg8 harg8 arg9 harg9 x3 x5 x6) (pQtd arg3 harg3 x0) (pDtd arg6 harg6 arg8 harg8 arg9 harg9 x3 x5 x6) (D.head 1) (S0 + 256) where
  rows := {
    tri := rep_tri arg7 harg7 x0 x1 x2 x3 x4 x5 x6 x7 hR
    tot := (rep_325 (rep_whole_f32 harg10 hR.c _)).of_eq fun r e _ he => by
      have : e = 0 := by omega
      subst this
      show D.CT (S0 + (256 + r)) 64 = D.CT (S0 + 256 + r) 64
      congr 1
      omega
    q := rep_302 (rep_q1 arg3 harg3 x0 x1 x2 x3 x4 x5 x6 x7 hR)
    d := rep_306 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR) }
  qt := rep_315 (rep_296 (rep_q1 arg3 harg3 x0 x1 x2 x3 x4 x5 x6 x7 hR))
  dt := rep_321 (rep_298 (rep_p4 arg9 harg9 x0 x1 x2 x3 x4 x5 x6 x7 hR) (rep_p5 arg9 harg9 x0 x1 x2 x3 x4 x5 x6 x7 hR) (rep_p6 arg6 harg6 arg8 harg8 x0 x1 x2 x3 x4 x5 x6 x7 hR) (rep_p7 arg6 harg6 arg8 harg8 arg9 harg9 x0 x1 x2 x3 x4 x5 x6 x7 hR) (rep_p8 arg6 harg6 arg8 harg8 arg9 harg9 x0 x1 x2 x3 x4 x5 x6 x7 hR) (rep_p9 x0 x1 x2 x3 x4 x5 x6 x7 hR))
end

theorem Ek_zero (H : Head) {S0 T : ℕ} (h : S0 + 255 ≤ T) (e : ℕ) : H.Ek S0 e T = 0 :=
  Finset.sum_eq_zero fun u hu => by rw [H.Dz_of_le (by have := Finset.mem_range.mp hu; omega), mul_zero]
theorem Ev_zero (H : Head) {S0 T : ℕ} (h : S0 + 255 ≤ T) (e : ℕ) : H.Ev S0 e T = 0 :=
  Finset.sum_eq_zero fun u hu => by rw [H.Aw_of_le (by have := Finset.mem_range.mp hu; omega), mul_zero]
theorem DQ_const (H : Head) {s T T' : ℕ} (h : s ≤ T) (h' : T ≤ T') (e : ℕ) : H.DQ s T e = H.DQ s T' e :=
  Finset.sum_subset (fun t ht => Finset.mem_range.mpr ((Finset.mem_range.mp ht).trans_le h')) fun t _ ht => by
    rw [H.Dz_of_le (by have := Finset.mem_range.not.mp ht; omega), zero_mul]

/-- The diagonal's tiles complete the sums. -/
theorem diag_sum (E0 E1 : ℕ → ℕ → ℕ → ℝ) (hz0 : ∀ S T e, S + 255 ≤ T → E0 S e T = 0) (hz1 : ∀ S T e, S + 255 ≤ T → E1 S e T = 0) (n j e t : ℕ) (t256 : t < 256) :
    (((((((if j < 2 * n then E0 (512 * n) e (256 * j + t) + E0 (512 * n + 256) e (256 * j + t) + E1 (512 * n) e (256 * j + t) + E1 (512 * n + 256) e (256 * j + t) else 0)
      + if j = 2 * n then E0 (512 * n) e (512 * n + t) else 0) + if j = 2 * n then E0 (512 * n + 256) e (512 * n + t) else 0)
      + if j = 2 * n + 1 then E0 (512 * n + 256) e (512 * n + 256 + t) else 0)
      + if j = 2 * n then E1 (512 * n) e (512 * n + t) else 0) + if j = 2 * n then E1 (512 * n + 256) e (512 * n + t) else 0)
      + if j = 2 * n + 1 then E1 (512 * n + 256) e (512 * n + 256 + t) else 0)
    = E0 (512 * n) e (256 * j + t) + E0 (512 * n + 256) e (256 * j + t) + E1 (512 * n) e (256 * j + t) + E1 (512 * n + 256) e (256 * j + t) := by
  rcases Nat.lt_trichotomy j (2 * n) with h | h | h
  · simp only [if_pos h, if_neg (show ¬ j = 2 * n by omega), if_neg (show ¬ j = 2 * n + 1 by omega), add_zero]
  · subst h
    simp only [lt_irrefl, if_false, if_pos, if_neg (show ¬ 2 * n = 2 * n + 1 by omega), show 256 * (2 * n) + t = 512 * n + t by omega]
    ring
  · by_cases h1 : j = 2 * n + 1
    · subst h1
      simp only [if_neg (show ¬ 2 * n + 1 < 2 * n by omega), if_neg (show ¬ 2 * n + 1 = 2 * n by omega), if_pos, show 256 * (2 * n + 1) + t = 512 * n + 256 + t by omega]
      rw [hz0 (512 * n) (512 * n + 256 + t) e (by omega), hz1 (512 * n) (512 * n + 256 + t) e (by omega)]
      ring
    · simp only [if_neg (show ¬ j < 2 * n by omega), if_neg (show ¬ j = 2 * n by omega), if_neg h1]
      rw [hz0 (512 * n) _ e (by omega), hz1 (512 * n) _ e (by omega), hz0 (512 * n + 256) _ e (by omega), hz1 (512 * n + 256) _ e (by omega)]
      ring

theorem initial_inv (H0 H1 : Head) (S0 : ℕ) (r15 r16 : Memref sig .tc .vmem S8x128x256 .f32) (g15 : BufTy.Contents (Elt Ideal) r15.view.ty)
    (g16 : BufTy.Contents (Elt Ideal) r16.view.ty) : Inv H0 H1 S0 r15 r16 g15 g16 0 initial g15 g16 := by
  have z0 : ∀ H : Head, ∀ S, CarryRep (k0_pay326 (F := Ideal), k0_pay326 (F := Ideal), k0_pay327 (F := Ideal)) H S (512 * 0) := fun H S => {
    c := fun j => by
      pointwise [k0_pay326]
      exact EReal.coe_zero.symm.trans (congrArg Real.toEReal (Finset.sum_range_zero _).symm)
    d := fun j => by
      pointwise [k0_pay326]
      exact EReal.coe_zero.symm.trans (congrArg Real.toEReal (Finset.sum_range_zero _).symm)
    q := fun j => by
      pointwise [k0_pay327]
      exact EReal.coe_zero.symm.trans (congrArg Real.toEReal (Finset.sum_range_zero _).symm) }
  exact {
    a := z0 _ _
    b := z0 _ _
    c := z0 _ _
    d := z0 _ _
    keys := (Acc.refl _ _).of_eq fun j d t _ _ _ => (if_neg (Nat.not_lt_zero _)).symm
    vals := (Acc.refl _ _).of_eq fun j d t _ _ _ => (if_neg (Nat.not_lt_zero _)).symm }

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole)  (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32)  {D : Dat} (hR : PtRep D (512 * (i 2).val) x0 x1 x2 x3 x4 x5 x6 x7)
include hR

theorem keys_rep : Rep (n := 2048) (p := 128) (arg4.view.read (Elt Ideal) (harg4.unread x1)) D.K := by
  rw [harg4.read_unread]
  exact hR.k
theorem vals_rep : Rep (n := 2048) (p := 128) (arg5.view.read (Elt Ideal) (harg5.unread x2)) D.V := by
  rw [harg5.read_unread]
  exact hR.v

theorem loop1_inv (g15 : BufTy.Contents (Elt Ideal) arg15.view.ty) (g16 : BufTy.Contents (Elt Ideal) arg16.view.ty) :
    Inv (D.head 0) (D.head 1) (512 * (i 2).val) arg15 arg16 g15 g16 (i 2).val (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).1 (arg15.view.writes (Elt Ideal) g15 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.1) (arg16.view.writes (Elt Ideal) g16 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.2) := by
  have h := loop_inv Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 ↑(i 2)) (pTri arg7 harg7 x4) (pQa arg3 harg3 x0) (pQb arg3 harg3 x0) (pQc arg3 harg3 x0) (pQd arg3 harg3 x0) (pDa arg6 harg6 arg8 harg8 arg9 harg9 x3 x5 x6) (pDb arg6 harg6 arg8 harg8 arg9 harg9 x3 x5 x6) (pDc arg6 harg6 arg8 harg8 arg9 harg9 x3 x5 x6) (pDd arg6 harg6 arg8 harg8 arg9 harg9 x3 x5 x6) (pQta arg3 harg3 x0) (pQtb arg3 harg3 x0) (pQtc arg3 harg3 x0) (pQtd arg3 harg3 x0) (pDta arg6 harg6 arg8 harg8 arg9 harg9 x3 x5 x6) (pDtb arg6 harg6 arg8 harg8 arg9 harg9 x3 x5 x6) (pDtc arg6 harg6 arg8 harg8 arg9 harg9 x3 x5 x6) (pDtd arg6 harg6 arg8 harg8 arg9 harg9 x3 x5 x6) (pTa arg10 harg10 x7) (pTb arg10 harg10 x7) (pTc arg10 harg10 x7) (pTd arg10 harg10 x7) k0_pay326 k0_pay327 (0#32) (harg4.unread x1) (harg5.unread x2)
    rfl (grp_a arg3 harg3 arg6 harg6 arg7 harg7 arg8 harg8 arg9 harg9 arg10 harg10 x0 x1 x2 x3 x4 x5 x6 x7 hR) (grp_b arg3 harg3 arg6 harg6 arg7 harg7 arg8 harg8 arg9 harg9 arg10 harg10 x0 x1 x2 x3 x4 x5 x6 x7 hR) (grp_c arg3 harg3 arg6 harg6 arg7 harg7 arg8 harg8 arg9 harg9 arg10 harg10 x0 x1 x2 x3 x4 x5 x6 x7 hR) (grp_d arg3 harg3 arg6 harg6 arg7 harg7 arg8 harg8 arg9 harg9 arg10 harg10 x0 x1 x2 x3 x4 x5 x6 x7 hR)
    (keys_rep i arg4 harg4 x0 x1 x2 x3 x4 x5 x6 x7 hR) (keys_rep i arg4 harg4 x0 x1 x2 x3 x4 x5 x6 x7 hR) (vals_rep i arg5 harg5 x0 x1 x2 x3 x4 x5 x6 x7 hR) (vals_rep i arg5 harg5 x0 x1 x2 x3 x4 x5 x6 x7 hR) g15 g16 initial (initial_inv _ _ _ _ _ _ _) (k0_t1_loop i).trips le_rfl
  rw [trips1] at h
  unfold loop1
  rw [show Scf.trips (k0_t1_loop i).lb (k0_t1_loop i).ub (k0_t1_loop i).st = (i 2).val from trips1 i]
  exact h

theorem fin_keys {g15 f15 : BufTy.Contents (Elt Ideal) arg15.view.ty} {g16 f16 : BufTy.Contents (Elt Ideal) arg16.view.ty} {acc : Flat} (hI : Inv (D.head 0) (D.head 1) (512 * (i 2).val) arg15 arg16 g15 g16 (i 2).val acc f15 f16) : Acc arg15 (fin15 i arg3 harg3 arg4 harg4 arg5 harg5 arg6 harg6 arg7 harg7 arg8 harg8 arg9 harg9 arg10 harg10 arg15 x0 x1 x2 x3 x4 x5 x6 x7 acc f15) g15 (fun j e t => D.addK (512 * (i 2).val) e (256 * j + t)) := by
  have k0 := rep_tileRows (keys_rep i arg4 harg4 _ _ _ _ _ _ _ _ hR) (inb := k0_off9_inb i) (off9_eq i)
  have k1 := rep_tileRows (keys_rep i arg4 harg4 _ _ _ _ _ _ _ _ hR) (inb := k0_off10_inb i) (off10_eq i)
  have v0 := rep_tileRows (vals_rep i arg5 harg5 _ _ _ _ _ _ _ _ hR) (inb := k0_off9_inb i) (off9_eq i)
  have v1 := rep_tileRows (vals_rep i arg5 harg5 _ _ _ _ _ _ _ _ hR) (inb := k0_off10_inb i) (off10_eq i)
  have ga := grp_a arg3 harg3 arg6 harg6 arg7 harg7 arg8 harg8 arg9 harg9 arg10 harg10 x0 x1 x2 x3 x4 x5 x6 x7 hR
  have gb := grp_b arg3 harg3 arg6 harg6 arg7 harg7 arg8 harg8 arg9 harg9 arg10 harg10 x0 x1 x2 x3 x4 x5 x6 x7 hR
  have gc := grp_c arg3 harg3 arg6 harg6 arg7 harg7 arg8 harg8 arg9 harg9 arg10 harg10 x0 x1 x2 x3 x4 x5 x6 x7 hR
  have gd := grp_d arg3 harg3 arg6 harg6 arg7 harg7 arg8 harg8 arg9 harg9 arg10 harg10 x0 x1 x2 x3 x4 x5 x6 x7 hR
  have sc := full_on gc.rows hI.c k0 v0 le_rfl
  have sd := full_on gd.rows hI.d k0 v0 le_rfl
  refine Acc.of_eq ((((((hI.keys.upd (inb := k0_off11_inb i) (off11_eq i) ga.qt (diag_dz ga.rows hI.a k0 v0)).upd (inb := k0_off11_inb i) (off11_eq i) gc.qt (full_dz gc.rows hI.c k0 v0 le_rfl)).upd (inb := k0_off12_inb i) (off12_eq i) gc.qt (diag_dz gc.rows sc k1 v1)).upd (inb := k0_off11_inb i) (off11_eq i) gb.qt (diag_dz gb.rows hI.b k0 v0)).upd (inb := k0_off11_inb i) (off11_eq i) gd.qt (full_dz gd.rows hI.d k0 v0 le_rfl)).upd (inb := k0_off12_inb i) (off12_eq i) gd.qt (diag_dz gd.rows sd k1 v1)) fun j e t _ _ ht => ?_
  exact diag_sum (fun S e T => (D.head 0).Ek S e T) (fun S e T => (D.head 1).Ek S e T) (fun S T e h => Ek_zero _ h e) (fun S T e h => Ek_zero _ h e) (i 2).val j e t ht

theorem fin_vals {g15 f15 : BufTy.Contents (Elt Ideal) arg15.view.ty} {g16 f16 : BufTy.Contents (Elt Ideal) arg16.view.ty} {acc : Flat} (hI : Inv (D.head 0) (D.head 1) (512 * (i 2).val) arg15 arg16 g15 g16 (i 2).val acc f15 f16) : Acc arg16 (fin16 i arg3 harg3 arg4 harg4 arg5 harg5 arg6 harg6 arg7 harg7 arg8 harg8 arg9 harg9 arg10 harg10 arg16 x0 x1 x2 x3 x4 x5 x6 x7 acc f16) g16 (fun j e t => D.addV (512 * (i 2).val) e (256 * j + t)) := by
  have k0 := rep_tileRows (keys_rep i arg4 harg4 _ _ _ _ _ _ _ _ hR) (inb := k0_off9_inb i) (off9_eq i)
  have k1 := rep_tileRows (keys_rep i arg4 harg4 _ _ _ _ _ _ _ _ hR) (inb := k0_off10_inb i) (off10_eq i)
  have v0 := rep_tileRows (vals_rep i arg5 harg5 _ _ _ _ _ _ _ _ hR) (inb := k0_off9_inb i) (off9_eq i)
  have v1 := rep_tileRows (vals_rep i arg5 harg5 _ _ _ _ _ _ _ _ hR) (inb := k0_off10_inb i) (off10_eq i)
  have ga := grp_a arg3 harg3 arg6 harg6 arg7 harg7 arg8 harg8 arg9 harg9 arg10 harg10 x0 x1 x2 x3 x4 x5 x6 x7 hR
  have gb := grp_b arg3 harg3 arg6 harg6 arg7 harg7 arg8 harg8 arg9 harg9 arg10 harg10 x0 x1 x2 x3 x4 x5 x6 x7 hR
  have gc := grp_c arg3 harg3 arg6 harg6 arg7 harg7 arg8 harg8 arg9 harg9 arg10 harg10 x0 x1 x2 x3 x4 x5 x6 x7 hR
  have gd := grp_d arg3 harg3 arg6 harg6 arg7 harg7 arg8 harg8 arg9 harg9 arg10 harg10 x0 x1 x2 x3 x4 x5 x6 x7 hR
  have sc := full_on gc.rows hI.c k0 v0 le_rfl
  have sd := full_on gd.rows hI.d k0 v0 le_rfl
  refine Acc.of_eq ((((((hI.vals.upd (inb := k0_off11_inb i) (off11_eq i) ga.dt (diag_a ga.rows hI.a k0)).upd (inb := k0_off11_inb i) (off11_eq i) gc.dt (full_a gc.rows hI.c k0 le_rfl)).upd (inb := k0_off12_inb i) (off12_eq i) gc.dt (diag_a gc.rows sc k1)).upd (inb := k0_off11_inb i) (off11_eq i) gb.dt (diag_a gb.rows hI.b k0)).upd (inb := k0_off11_inb i) (off11_eq i) gd.dt (full_a gd.rows hI.d k0 le_rfl)).upd (inb := k0_off12_inb i) (off12_eq i) gd.dt (diag_a gd.rows sd k1)) fun j e t _ _ ht => ?_
  exact diag_sum (fun S e T => (D.head 0).Ev S e T) (fun S e T => (D.head 1).Ev S e T) (fun S T e h => Ev_zero _ h e) (fun S T e h => Ev_zero _ h e) (i 2).val j e t ht

theorem fin_dq {g15 f15 : BufTy.Contents (Elt Ideal) arg15.view.ty} {g16 f16 : BufTy.Contents (Elt Ideal) arg16.view.ty} {acc : Flat} (hI : Inv (D.head 0) (D.head 1) (512 * (i 2).val) arg15 arg16 g15 g16 (i 2).val acc f15 f16) : Rep (n := 512) (p := 128) (k0_pay1 k0_pay275 k0_pay276 (dqa i arg3 harg3 arg4 harg4 arg5 harg5 arg6 harg6 arg7 harg7 arg8 harg8 arg9 harg9 arg10 harg10 x0 x1 x2 x3 x4 x5 x6 x7 acc) (dqc i arg3 harg3 arg4 harg4 arg5 harg5 arg6 harg6 arg7 harg7 arg8 harg8 arg9 harg9 arg10 harg10 x0 x1 x2 x3 x4 x5 x6 x7 acc) (dqb i arg3 harg3 arg4 harg4 arg5 harg5 arg6 harg6 arg7 harg7 arg8 harg8 arg9 harg9 arg10 harg10 x0 x1 x2 x3 x4 x5 x6 x7 acc) (dqd i arg3 harg3 arg4 harg4 arg5 harg5 arg6 harg6 arg7 harg7 arg8 harg8 arg9 harg9 arg10 harg10 x0 x1 x2 x3 x4 x5 x6 x7 acc)) (fun r e => D.gradQ (512 * (i 2).val + r) e) := by
  have k0 := rep_tileRows (keys_rep i arg4 harg4 _ _ _ _ _ _ _ _ hR) (inb := k0_off9_inb i) (off9_eq i)
  have k1 := rep_tileRows (keys_rep i arg4 harg4 _ _ _ _ _ _ _ _ hR) (inb := k0_off10_inb i) (off10_eq i)
  have v0 := rep_tileRows (vals_rep i arg5 harg5 _ _ _ _ _ _ _ _ hR) (inb := k0_off9_inb i) (off9_eq i)
  have v1 := rep_tileRows (vals_rep i arg5 harg5 _ _ _ _ _ _ _ _ hR) (inb := k0_off10_inb i) (off10_eq i)
  have ga := grp_a arg3 harg3 arg6 harg6 arg7 harg7 arg8 harg8 arg9 harg9 arg10 harg10 x0 x1 x2 x3 x4 x5 x6 x7 hR
  have gb := grp_b arg3 harg3 arg6 harg6 arg7 harg7 arg8 harg8 arg9 harg9 arg10 harg10 x0 x1 x2 x3 x4 x5 x6 x7 hR
  have gc := grp_c arg3 harg3 arg6 harg6 arg7 harg7 arg8 harg8 arg9 harg9 arg10 harg10 x0 x1 x2 x3 x4 x5 x6 x7 hR
  have gd := grp_d arg3 harg3 arg6 harg6 arg7 harg7 arg8 harg8 arg9 harg9 arg10 harg10 x0 x1 x2 x3 x4 x5 x6 x7 hR
  have sc := full_on gc.rows hI.c k0 v0 le_rfl
  have sd := full_on gd.rows hI.d k0 v0 le_rfl
  have ha : Rep (n := 256) (p := 128) (dqa i arg3 harg3 arg4 harg4 arg5 harg5 arg6 harg6 arg7 harg7 arg8 harg8 arg9 harg9 arg10 harg10 x0 x1 x2 x3 x4 x5 x6 x7 acc) _ := (diag_on ga.rows hI.a k0 v0).q
  have hb : Rep (n := 256) (p := 128) (dqb i arg3 harg3 arg4 harg4 arg5 harg5 arg6 harg6 arg7 harg7 arg8 harg8 arg9 harg9 arg10 harg10 x0 x1 x2 x3 x4 x5 x6 x7 acc) _ := (diag_on gb.rows hI.b k0 v0).q
  have hc : Rep (n := 256) (p := 128) (dqc i arg3 harg3 arg4 harg4 arg5 harg5 arg6 harg6 arg7 harg7 arg8 harg8 arg9 harg9 arg10 harg10 x0 x1 x2 x3 x4 x5 x6 x7 acc) _ := (diag_on gc.rows sc k1 v1).q
  have hd : Rep (n := 256) (p := 128) (dqd i arg3 harg3 arg4 harg4 arg5 harg5 arg6 harg6 arg7 harg7 arg8 harg8 arg9 harg9 arg10 harg10 x0 x1 x2 x3 x4 x5 x6 x7 acc) _ := (diag_on gd.rows sd k1 v1).q
  have hi : (i 2).val < 4 := (i 2).isLt
  intro j
  have hj : (j 0).val < 512 := (j 0).isLt
  pointwise [k0_pay1]
  rw [bits_eighth]
  refine mul_at ?_ rfl
  split
  · refine (add_at (mul_at (ha _) (rep_m0 _)) (mul_at (hb _) (rep_m1 _))).trans ?_
    show (((D.head 0).DQ (512 * (i 2).val + (j 0).val) (512 * (i 2).val + 256) (j 1).val * hm 0 (j 1).val + (D.head 1).DQ (512 * (i 2).val + (j 0).val) (512 * (i 2).val + 256) (j 1).val * hm 1 (j 1).val : ℝ) : EReal) = _
    rw [DQ_const (D.head 0) (T' := 2048) (by omega) (by omega), DQ_const (D.head 1) (T' := 2048) (by omega) (by omega)]
  · refine (add_at (mul_at (hc _) (rep_m0 _)) (mul_at (hd _) (rep_m1 _))).trans ?_
    show (((D.head 0).DQ (512 * (i 2).val + 256 + ((j 0).val - 256)) (512 * (i 2).val + 256 + 256) (j 1).val * hm 0 (j 1).val + (D.head 1).DQ (512 * (i 2).val + 256 + ((j 0).val - 256)) (512 * (i 2).val + 256 + 256) (j 1).val * hm 1 (j 1).val : ℝ) : EReal) = _
    rw [show 512 * (i 2).val + 256 + ((j 0).val - 256) = 512 * (i 2).val + (j 0).val by omega]
    rw [DQ_const (D.head 0) (T' := 2048) (by omega) (by omega), DQ_const (D.head 1) (T' := 2048) (by omega) (by omega)]

/-! ## The whole point -/

section
variable (g15 : BufTy.Contents (Elt Ideal) arg15.view.ty) (g16 : BufTy.Contents (Elt Ideal) arg16.view.ty) (b15 : BufTy.Contents (Elt Ideal) arg15.view.ty) (b16 : BufTy.Contents (Elt Ideal) arg16.view.ty)

theorem loop2_inv : Inv (D.head 0) (D.head 1) (512 * (i 2).val) arg15 arg16 g15 g16 (i 2).val (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1
    (arg15.view.writes (Elt Ideal) (arg15.view.writes (Elt Ideal) g15 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).2.1)
    (arg16.view.writes (Elt Ideal) (arg16.view.writes (Elt Ideal) g16 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).2.2) := by
  rw [loop2_eq]
  exact loop1_inv c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR g15 g16

theorem point_keys : Acc arg15 (fin15 i arg3 harg3 arg4 harg4 arg5 harg5 arg6 harg6 arg7 harg7 arg8 harg8 arg9 harg9 arg10 harg10 arg15 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1 (arg15.view.writes (Elt Ideal) (arg15.view.writes (Elt Ideal) g15 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.1) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).2.1)) g15
    (fun j e t => D.addK (512 * (i 2).val) e (256 * j + t)) := fin_keys i arg3 harg3 arg4 harg4 arg5 harg5 arg6 harg6 arg7 harg7 arg8 harg8 arg9 harg9 arg10 harg10 arg15 arg16 x0 x1 x2 x3 x4 x5 x6 x7 hR (loop2_inv c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR g15 g16 b15 b16)
theorem point_vals : Acc arg16 (fin16 i arg3 harg3 arg4 harg4 arg5 harg5 arg6 harg6 arg7 harg7 arg8 harg8 arg9 harg9 arg10 harg10 arg16 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1 (arg16.view.writes (Elt Ideal) (arg16.view.writes (Elt Ideal) g16 (loop1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16).2.2) (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).2.2)) g16
    (fun j e t => D.addV (512 * (i 2).val) e (256 * j + t)) := fin_vals i arg3 harg3 arg4 harg4 arg5 harg5 arg6 harg6 arg7 harg7 arg8 harg8 arg9 harg9 arg10 harg10 arg15 arg16 x0 x1 x2 x3 x4 x5 x6 x7 hR (loop2_inv c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR g15 g16 b15 b16)
theorem point_dq : Rep (n := 512) (p := 128) (k0_pay1 k0_pay275 k0_pay276 (dqa i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1) (dqc i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1) (dqb i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1) (dqd i arg3 harg3 arg4 harg4 arg5 harg5 arg6 harg6 arg7 harg7 arg8 harg8 arg9 harg9 arg10 harg10 x0 x1 x2 x3 x4 x5 x6 x7 (loop2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 g15 g16 b15 b16).1))
    (fun r e => D.gradQ (512 * (i 2).val + r) e) := fin_dq i arg3 harg3 arg4 harg4 arg5 harg5 arg6 harg6 arg7 harg7 arg8 harg8 arg9 harg9 arg10 harg10 arg15 arg16 x0 x1 x2 x3 x4 x5 x6 x7 hR (loop2_inv c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR g15 g16 b15 b16)
end

theorem point_dng {w : FVec Ideal S1x128 .f32} {old : ℕ → ℝ} (hw : Rep (n := 1) (p := 128) w (fun _ e => old e)) :
    Rep (n := 1) (p := 128) (k0_pay288 k0_pay276 (pr_1 arg9 harg9 x6) (pr_2 arg9 harg9 x6) (pr_3 arg9 harg9 x6) k0_pay284
      (View.readAt (Elt Ideal) arg8.view (Rect.unit (s := S512x128) ![0, 0] S512x128.size inb_S512x128_S512x128_0_0).toLoadRect (harg8.unread x5)) w)
      (fun _ e => old e + D.addG (512 * (i 2).val) e) :=
  rep_288 rep_m1 (rep_p1 arg9 harg9 x0 x1 x2 x3 x4 x5 x6 x7 hR) (rep_p2 arg9 harg9 x0 x1 x2 x3 x4 x5 x6 x7 hR) (rep_p3 arg9 harg9 x0 x1 x2 x3 x4 x5 x6 x7 hR) rep_284 (rep_dm8 arg8 harg8 x0 x1 x2 x3 x4 x5 x6 x7 hR) hw
end

end Cert.SbIdeal.Closed
-- ==== Proof.SbFlush.lean ====
/- What the last grid point of a sequence writes of the keys' and the values' gradients. -/
module

public import proofs.«01_k».proof.Proof.SbTile
public import proofs.«01_k».proof.Proof.Gen.SbIdeal.Value

@[expose] public section

set_option maxRecDepth 16384
set_option maxHeartbeats 2000000

noncomputable section

namespace Cert.SbIdeal.Closed

open Idealize.ShloMosaic Idealize.ShloMosaic.TcCoe Idealize.SL.Sem Idealize.ShloMosaic.Pipeline
open Cert.SbIdeal Cert.SbIdeal.Gen

variable {F : FTy → Type} [FloatOps F]

attribute [local irreducible] st_k0_t1 st_k0_t2

theorem run_dk_C (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32) (xo11 : Vec F S1x128 .f32) (xs0 : Vec F S8x128x256 .f32) (xs1 : Vec F S8x128x256 .f32) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.1 = [
      ⟨Rect.unit (s := S2048x128) ![1792, 0] S256x128.size inb_S2048x128_S256x128_1792_0, k0_pay6 (View.readAt (Elt F) arg15.view (Rect.unit (s := S8x128x256) ![7, 0, 0] S1x128x256.size inb_S8x128x256_S1x128x256_7_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![1536, 0] S256x128.size inb_S2048x128_S256x128_1536_0, k0_pay6 (View.readAt (Elt F) arg15.view (Rect.unit (s := S8x128x256) ![6, 0, 0] S1x128x256.size inb_S8x128x256_S1x128x256_6_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![1280, 0] S256x128.size inb_S2048x128_S256x128_1280_0, k0_pay6 (View.readAt (Elt F) arg15.view (Rect.unit (s := S8x128x256) ![5, 0, 0] S1x128x256.size inb_S8x128x256_S1x128x256_5_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![1024, 0] S256x128.size inb_S2048x128_S256x128_1024_0, k0_pay6 (View.readAt (Elt F) arg15.view (Rect.unit (s := S8x128x256) ![4, 0, 0] S1x128x256.size inb_S8x128x256_S1x128x256_4_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![768, 0] S256x128.size inb_S2048x128_S256x128_768_0, k0_pay6 (View.readAt (Elt F) arg15.view (Rect.unit (s := S8x128x256) ![3, 0, 0] S1x128x256.size inb_S8x128x256_S1x128x256_3_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![512, 0] S256x128.size inb_S2048x128_S256x128_512_0, k0_pay6 (View.readAt (Elt F) arg15.view (Rect.unit (s := S8x128x256) ![2, 0, 0] S1x128x256.size inb_S8x128x256_S1x128x256_2_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![256, 0] S256x128.size inb_S2048x128_S256x128_256_0, k0_pay6 (View.readAt (Elt F) arg15.view (Rect.unit (s := S8x128x256) ![1, 0, 0] S1x128x256.size inb_S8x128x256_S1x128x256_1_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩,
      ⟨Rect.unit (s := S2048x128) ![0, 0] S256x128.size inb_S2048x128_S256x128_0_0, k0_pay6 (View.readAt (Elt F) arg15.view (Rect.unit (s := S8x128x256) ![0, 0, 0] S1x128x256.size inb_S8x128x256_S1x128x256_0_0_0).toLoadRect
        (arg15.view.writes (Elt F) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1))⟩] := by
  rfl

theorem run_dv_C (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : cond0_2 i) (x0 : Vec F S512x128 .bf16) (x1 : Vec F S2048x128 .bf16) (x2 : Vec F S2048x128 .bf16) (x3 : Vec F S1x128 .f32) (x4 : Vec F S256x256 .bf16) (x5 : Vec F S512x128 .f32) (x6 : Vec F S512x128 .f32) (x7 : Vec F S512x128 .f32) (xo11 : Vec F S1x128 .f32) (xs0 : Vec F S8x128x256 .f32) (xs1 : Vec F S8x128x256 .f32) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.1 = [
      ⟨Rect.unit (s := S2048x128) ![1792, 0] S256x128.size inb_S2048x128_S256x128_1792_0, k0_pay6 (View.readAt (Elt F) arg16.view (Rect.unit (s := S8x128x256) ![7, 0, 0] S1x128x256.size inb_S8x128x256_S1x128x256_7_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![1536, 0] S256x128.size inb_S2048x128_S256x128_1536_0, k0_pay6 (View.readAt (Elt F) arg16.view (Rect.unit (s := S8x128x256) ![6, 0, 0] S1x128x256.size inb_S8x128x256_S1x128x256_6_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![1280, 0] S256x128.size inb_S2048x128_S256x128_1280_0, k0_pay6 (View.readAt (Elt F) arg16.view (Rect.unit (s := S8x128x256) ![5, 0, 0] S1x128x256.size inb_S8x128x256_S1x128x256_5_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![1024, 0] S256x128.size inb_S2048x128_S256x128_1024_0, k0_pay6 (View.readAt (Elt F) arg16.view (Rect.unit (s := S8x128x256) ![4, 0, 0] S1x128x256.size inb_S8x128x256_S1x128x256_4_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![768, 0] S256x128.size inb_S2048x128_S256x128_768_0, k0_pay6 (View.readAt (Elt F) arg16.view (Rect.unit (s := S8x128x256) ![3, 0, 0] S1x128x256.size inb_S8x128x256_S1x128x256_3_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![512, 0] S256x128.size inb_S2048x128_S256x128_512_0, k0_pay6 (View.readAt (Elt F) arg16.view (Rect.unit (s := S8x128x256) ![2, 0, 0] S1x128x256.size inb_S8x128x256_S1x128x256_2_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![256, 0] S256x128.size inb_S2048x128_S256x128_256_0, k0_pay6 (View.readAt (Elt F) arg16.view (Rect.unit (s := S8x128x256) ![1, 0, 0] S1x128x256.size inb_S8x128x256_S1x128x256_1_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩,
      ⟨Rect.unit (s := S2048x128) ![0, 0] S256x128.size inb_S2048x128_S256x128_0_0, k0_pay6 (View.readAt (Elt F) arg16.view (Rect.unit (s := S8x128x256) ![0, 0, 0] S1x128x256.size inb_S8x128x256_S1x128x256_0_0_0).toLoadRect
        (arg16.view.writes (Elt F) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2))⟩] := by
  rfl

end Cert.SbIdeal.Closed
-- ==== Proof.SbOut.lean ====
/- What the kinds of grid points leave, over the reals. -/
module

public import proofs.«01_k».proof.Proof.SbPoint
public import proofs.«01_k».proof.Proof.SbFlush
public import proofs.«01_k».proof.Proof.SbCaseA
public import proofs.«01_k».proof.Proof.SbCaseB
public import proofs.«01_k».proof.Proof.SbCaseC
public import proofs.«01_k».proof.Proof.SbCaseD

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen Cert.Reals

/-- An accumulator's tiles, by the lane and the key. -/
def Rep3 (X : S8x128x256.Idx → EReal) (x : ℕ → ℕ → ℝ) : Prop :=
  ∀ y, X y = ((x (y 1).val (256 * (y 0).val + (y 2).val) : ℝ) : EReal)

theorem read_one {S : Shape} {e : EltTy} {κ : Kind} {sp : Space} (V : View sig κ sp S e) (f) {off : Fin S.rank → ℕ} (h0 : ∀ a, off a = 0) (inb)
    (w : S.Idx → Elt Ideal e) (L : List (View.Piece (Elt Ideal) S e)) :
    V.read (Elt Ideal) (V.writes (Elt Ideal) f (⟨Rect.unit (s := S) off S.size inb, w⟩ :: L)) = w :=
  funext fun y => View.read_writes_cons_unit_of_mem V f inb w L y y rfl fun a => by rw [h0 a, Nat.zero_add]

theorem z2 : ∀ a : Fin 2, (![0, 0] : Fin 2 → ℕ) a = 0 := by decide
theorem z3 : ∀ a : Fin 3, (![0, 0, 0] : Fin 3 → ℕ) a = 0 := by decide

theorem Acc.rep3 {r : Memref sig .tc .vmem S8x128x256 .f32} {f f0 : BufTy.Contents (Elt Ideal) r.view.ty} {a b : ℕ → ℕ → ℝ}
    (h : Acc r f f0 (fun j e t => b e (256 * j + t))) (h0 : Rep3 (r.view.read (Elt Ideal) f0) a) :
    Rep3 (r.view.read (Elt Ideal) f) (fun e t => a e t + b e t) := fun y => (h y).trans (add_at (h0 y) rfl)

theorem rep3_fill {κ : Kind} {sp : Space} (V : View sig κ sp S8x128x256 .f32) (f) {inb} {w : FVec Ideal S8x128x256 .f32} (hw : ∀ y, w y = 0) :
    Rep3 (V.read (Elt Ideal) (V.writes (Elt Ideal) f [⟨Rect.unit (s := S8x128x256) ![0, 0, 0] S8x128x256.size inb, w⟩])) (fun _ _ => 0) := by
  rw [read_one V f z3 inb w []]
  exact fun y => (hw y).trans EReal.coe_zero.symm

theorem zero_278 (y) : k0_pay278 (F := Ideal) y = 0 := by
  pointwise [k0_pay278]
theorem zero_279 (y) : k0_pay279 (F := Ideal) y = 0 := by
  pointwise [k0_pay279]
theorem zero_280 : Rep (n := 1) (p := 128) (k0_pay280 (F := Ideal)) (fun _ _ => 0) := fun j => by
  pointwise [k0_pay280]
  exact EReal.coe_zero.symm

theorem rep_flush {r : Memref sig .tc .vmem S8x128x256 .f32} {f : BufTy.Contents (Elt Ideal) r.view.ty} {a : ℕ → ℕ → ℝ} (h : Rep3 (r.view.read (Elt Ideal) f) a)
    {k : ℕ} {inb} : Rep (n := 256) (p := 128) (k0_pay6 (F := Ideal) (View.readAt (Elt Ideal) r.view (Rect.unit (s := S8x128x256) ![k, 0, 0] S1x128x256.size inb).toLoadRect f))
      (fun t e => a e (256 * k + t)) := fun j => by
  pointwise [k0_pay6]
  refine (h _).trans ?_
  show ((a (0 + 1 * (j 1).val) (256 * (k + 1 * 0) + (0 + 1 * (j 0).val)) : ℝ) : EReal) = _
  simp only [Nat.one_mul, Nat.zero_add, Nat.mul_zero, Nat.add_zero]

/-- Eight tiles of rows, written one after the other. -/
theorem rep_tiles {κ : Kind} {sp : Space} (V : View sig κ sp S2048x128 .bf16) (f) {a : ℕ → ℕ → ℝ} {w0 w1 w2 w3 w4 w5 w6 w7 : FVec Ideal S256x128 .bf16}
    (h0 : Rep (n := 256) (p := 128) w0 (fun t e => a e (256 * 0 + t)))
    (h1 : Rep (n := 256) (p := 128) w1 (fun t e => a e (256 * 1 + t)))
    (h2 : Rep (n := 256) (p := 128) w2 (fun t e => a e (256 * 2 + t)))
    (h3 : Rep (n := 256) (p := 128) w3 (fun t e => a e (256 * 3 + t)))
    (h4 : Rep (n := 256) (p := 128) w4 (fun t e => a e (256 * 4 + t)))
    (h5 : Rep (n := 256) (p := 128) w5 (fun t e => a e (256 * 5 + t)))
    (h6 : Rep (n := 256) (p := 128) w6 (fun t e => a e (256 * 6 + t)))
    (h7 : Rep (n := 256) (p := 128) w7 (fun t e => a e (256 * 7 + t)))
    : Rep (n := 2048) (p := 128) (V.read (Elt Ideal) (V.writes (Elt Ideal) f [⟨Rect.unit (s := S2048x128) ![1792, 0] S256x128.size inb_S2048x128_S256x128_1792_0, w7⟩, ⟨Rect.unit (s := S2048x128) ![1536, 0] S256x128.size inb_S2048x128_S256x128_1536_0, w6⟩, ⟨Rect.unit (s := S2048x128) ![1280, 0] S256x128.size inb_S2048x128_S256x128_1280_0, w5⟩, ⟨Rect.unit (s := S2048x128) ![1024, 0] S256x128.size inb_S2048x128_S256x128_1024_0, w4⟩, ⟨Rect.unit (s := S2048x128) ![768, 0] S256x128.size inb_S2048x128_S256x128_768_0, w3⟩, ⟨Rect.unit (s := S2048x128) ![512, 0] S256x128.size inb_S2048x128_S256x128_512_0, w2⟩, ⟨Rect.unit (s := S2048x128) ![256, 0] S256x128.size inb_S2048x128_S256x128_256_0, w1⟩, ⟨Rect.unit (s := S2048x128) ![0, 0] S256x128.size inb_S2048x128_S256x128_0_0, w0⟩])) (fun t e => a e t) := by
  intro y
  have hy : (y 0).val < 2048 := (y 0).isLt
  by_cases g7 : 1792 ≤ (y 0).val
  · refine (View.read_writes_cons_unit_of_mem V f inb_S2048x128_S256x128_1792_0 w7 _ y (ix2 (⟨(y 0).val - 1792, by omega⟩ : Fin 256) (y 1)) rfl (fun a => by
      match a with
      | ⟨0, _⟩ => show (y 0).val = 1792 + ((y 0).val - 1792); omega
      | ⟨1, _⟩ => show (y 1).val = 0 + (y 1).val; omega)).trans ((h7 _).trans ?_)
    show ((a (y 1).val (256 * 7 + ((y 0).val - 1792)) : ℝ) : EReal) = _
    rw [show 256 * 7 + ((y 0).val - 1792) = (y 0).val by omega]
  refine (View.read_writes_cons_unit_of_not_mem V f inb_S2048x128_S256x128_1792_0 w7 _ y rfl 0 (Or.inl (show (y 0).val < 1792 by omega))).trans ?_
  by_cases g6 : 1536 ≤ (y 0).val
  · refine (View.read_writes_cons_unit_of_mem V f inb_S2048x128_S256x128_1536_0 w6 _ y (ix2 (⟨(y 0).val - 1536, by omega⟩ : Fin 256) (y 1)) rfl (fun a => by
      match a with
      | ⟨0, _⟩ => show (y 0).val = 1536 + ((y 0).val - 1536); omega
      | ⟨1, _⟩ => show (y 1).val = 0 + (y 1).val; omega)).trans ((h6 _).trans ?_)
    show ((a (y 1).val (256 * 6 + ((y 0).val - 1536)) : ℝ) : EReal) = _
    rw [show 256 * 6 + ((y 0).val - 1536) = (y 0).val by omega]
  refine (View.read_writes_cons_unit_of_not_mem V f inb_S2048x128_S256x128_1536_0 w6 _ y rfl 0 (Or.inl (show (y 0).val < 1536 by omega))).trans ?_
  by_cases g5 : 1280 ≤ (y 0).val
  · refine (View.read_writes_cons_unit_of_mem V f inb_S2048x128_S256x128_1280_0 w5 _ y (ix2 (⟨(y 0).val - 1280, by omega⟩ : Fin 256) (y 1)) rfl (fun a => by
      match a with
      | ⟨0, _⟩ => show (y 0).val = 1280 + ((y 0).val - 1280); omega
      | ⟨1, _⟩ => show (y 1).val = 0 + (y 1).val; omega)).trans ((h5 _).trans ?_)
    show ((a (y 1).val (256 * 5 + ((y 0).val - 1280)) : ℝ) : EReal) = _
    rw [show 256 * 5 + ((y 0).val - 1280) = (y 0).val by omega]
  refine (View.read_writes_cons_unit_of_not_mem V f inb_S2048x128_S256x128_1280_0 w5 _ y rfl 0 (Or.inl (show (y 0).val < 1280 by omega))).trans ?_
  by_cases g4 : 1024 ≤ (y 0).val
  · refine (View.read_writes_cons_unit_of_mem V f inb_S2048x128_S256x128_1024_0 w4 _ y (ix2 (⟨(y 0).val - 1024, by omega⟩ : Fin 256) (y 1)) rfl (fun a => by
      match a with
      | ⟨0, _⟩ => show (y 0).val = 1024 + ((y 0).val - 1024); omega
      | ⟨1, _⟩ => show (y 1).val = 0 + (y 1).val; omega)).trans ((h4 _).trans ?_)
    show ((a (y 1).val (256 * 4 + ((y 0).val - 1024)) : ℝ) : EReal) = _
    rw [show 256 * 4 + ((y 0).val - 1024) = (y 0).val by omega]
  refine (View.read_writes_cons_unit_of_not_mem V f inb_S2048x128_S256x128_1024_0 w4 _ y rfl 0 (Or.inl (show (y 0).val < 1024 by omega))).trans ?_
  by_cases g3 : 768 ≤ (y 0).val
  · refine (View.read_writes_cons_unit_of_mem V f inb_S2048x128_S256x128_768_0 w3 _ y (ix2 (⟨(y 0).val - 768, by omega⟩ : Fin 256) (y 1)) rfl (fun a => by
      match a with
      | ⟨0, _⟩ => show (y 0).val = 768 + ((y 0).val - 768); omega
      | ⟨1, _⟩ => show (y 1).val = 0 + (y 1).val; omega)).trans ((h3 _).trans ?_)
    show ((a (y 1).val (256 * 3 + ((y 0).val - 768)) : ℝ) : EReal) = _
    rw [show 256 * 3 + ((y 0).val - 768) = (y 0).val by omega]
  refine (View.read_writes_cons_unit_of_not_mem V f inb_S2048x128_S256x128_768_0 w3 _ y rfl 0 (Or.inl (show (y 0).val < 768 by omega))).trans ?_
  by_cases g2 : 512 ≤ (y 0).val
  · refine (View.read_writes_cons_unit_of_mem V f inb_S2048x128_S256x128_512_0 w2 _ y (ix2 (⟨(y 0).val - 512, by omega⟩ : Fin 256) (y 1)) rfl (fun a => by
      match a with
      | ⟨0, _⟩ => show (y 0).val = 512 + ((y 0).val - 512); omega
      | ⟨1, _⟩ => show (y 1).val = 0 + (y 1).val; omega)).trans ((h2 _).trans ?_)
    show ((a (y 1).val (256 * 2 + ((y 0).val - 512)) : ℝ) : EReal) = _
    rw [show 256 * 2 + ((y 0).val - 512) = (y 0).val by omega]
  refine (View.read_writes_cons_unit_of_not_mem V f inb_S2048x128_S256x128_512_0 w2 _ y rfl 0 (Or.inl (show (y 0).val < 512 by omega))).trans ?_
  by_cases g1 : 256 ≤ (y 0).val
  · refine (View.read_writes_cons_unit_of_mem V f inb_S2048x128_S256x128_256_0 w1 _ y (ix2 (⟨(y 0).val - 256, by omega⟩ : Fin 256) (y 1)) rfl (fun a => by
      match a with
      | ⟨0, _⟩ => show (y 0).val = 256 + ((y 0).val - 256); omega
      | ⟨1, _⟩ => show (y 1).val = 0 + (y 1).val; omega)).trans ((h1 _).trans ?_)
    show ((a (y 1).val (256 * 1 + ((y 0).val - 256)) : ℝ) : EReal) = _
    rw [show 256 * 1 + ((y 0).val - 256) = (y 0).val by omega]
  refine (View.read_writes_cons_unit_of_not_mem V f inb_S2048x128_S256x128_256_0 w1 _ y rfl 0 (Or.inl (show (y 0).val < 256 by omega))).trans ?_
  · refine (View.read_writes_cons_unit_of_mem V f inb_S2048x128_S256x128_0_0 w0 _ y (ix2 (⟨(y 0).val - 0, by omega⟩ : Fin 256) (y 1)) rfl (fun a => by
      match a with
      | ⟨0, _⟩ => show (y 0).val = 0 + ((y 0).val - 0); omega
      | ⟨1, _⟩ => show (y 1).val = 0 + (y 1).val; omega)).trans ((h0 _).trans ?_)
    show ((a (y 1).val (256 * 0 + ((y 0).val - 0)) : ℝ) : EReal) = _
    rw [show 256 * 0 + ((y 0).val - 0) = (y 0).val by omega]

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : cond0_0 i) (hc1 : cond0_1 i) (hc2 : ¬cond0_2 i) (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32) {D : Dat} (hR : PtRep D (512 * (i 2).val) x0 x1 x2 x3 x4 x5 x6 x7)
include hR

theorem dq_A {κ : Kind} {sp : Space} (V : View sig κ sp S512x128 .bf16) (f) :
    Rep (n := 512) (p := 128) (V.read (Elt Ideal) (V.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).1)) (fun r e => D.gradQ (512 * (i 2).val + r) e) := by
  rw [run_dq_A]
  intro j
  exact (congrFun (read_one V f z2 _ _ []) j).trans (point_dq c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _ j)

theorem keys_A :
    Rep3 (arg15.view.read (Elt Ideal) (arg15.view.writes (Elt Ideal) arg15.view.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1)) (fun e t => 0 + D.addK (512 * (i 2).val) e t) := by
  rw [run_keys_A]
  exact (point_keys c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (rep3_fill _ _ zero_278)

theorem vals_A :
    Rep3 (arg16.view.read (Elt Ideal) (arg16.view.writes (Elt Ideal) arg16.view.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2)) (fun e t => 0 + D.addV (512 * (i 2).val) e t) := by
  rw [run_vals_A]
  exact (point_vals c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (rep3_fill _ _ zero_279)

theorem dng_A {κ : Kind} {sp : Space} (V : View sig κ sp S1x128 .f32) (f) :
    Rep (n := 1) (p := 128) (V.read (Elt Ideal) (V.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1)) (fun _ e => 0 + D.addG (512 * (i 2).val) e) := by
  rw [run_dng_A]
  intro j
  refine (congrFun (read_one V f z2 _ _ _) j).trans (point_dng i arg8 harg8 arg9 harg9 x0 x1 x2 x3 x4 x5 x6 x7 hR (old := fun _ => 0) ?_ j)
  rw [View.readCov_cons_toLoadRect]
  exact zero_280

end

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : ¬cond0_2 i) (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32) (xo11 : Vec Ideal S1x128 .f32) (xs0 : Vec Ideal S8x128x256 .f32) (xs1 : Vec Ideal S8x128x256 .f32) {D : Dat} (hR : PtRep D (512 * (i 2).val) x0 x1 x2 x3 x4 x5 x6 x7)
include hR

theorem dq_B {κ : Kind} {sp : Space} (V : View sig κ sp S512x128 .bf16) (f) :
    Rep (n := 512) (p := 128) (V.read (Elt Ideal) (V.writes (Elt Ideal) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).1)) (fun r e => D.gradQ (512 * (i 2).val + r) e) := by
  rw [run_dq_B]
  intro j
  exact (congrFun (read_one V f z2 _ _ []) j).trans (point_dq c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _ j)

theorem keys_B {A : ℕ → ℕ → ℝ} (hA : Rep3 xs0 A) :
    Rep3 (arg15.view.read (Elt Ideal) (arg15.view.writes (Elt Ideal) (harg15.unread xs0) (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1)) (fun e t => A e t + D.addK (512 * (i 2).val) e t) := by
  rw [run_keys_B]
  exact (point_keys c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (by rw [harg15.read_unread]; exact hA)

theorem vals_B {A : ℕ → ℕ → ℝ} (hA : Rep3 xs1 A) :
    Rep3 (arg16.view.read (Elt Ideal) (arg16.view.writes (Elt Ideal) (harg16.unread xs1) (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2)) (fun e t => A e t + D.addV (512 * (i 2).val) e t) := by
  rw [run_vals_B]
  exact (point_vals c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (by rw [harg16.read_unread]; exact hA)

theorem dng_B {κ : Kind} {sp : Space} (V : View sig κ sp S1x128 .f32) (f) {G : ℕ → ℝ} (hG : Rep (n := 1) (p := 128) xo11 (fun _ e => G e)) :
    Rep (n := 1) (p := 128) (V.read (Elt Ideal) (V.writes (Elt Ideal) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.1)) (fun _ e => G e + D.addG (512 * (i 2).val) e) := by
  rw [run_dng_B]
  intro j
  exact (congrFun (read_one V f z2 _ _ _) j).trans (point_dng i arg8 harg8 arg9 harg9 x0 x1 x2 x3 x4 x5 x6 x7 hR (rep_whole_f32 (y := fun _ e => G e) harg14 hG _).up j)

end

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : ¬cond0_0 i) (hc1 : ¬cond0_1 i) (hc2 : cond0_2 i) (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32) (xo11 : Vec Ideal S1x128 .f32) (xs0 : Vec Ideal S8x128x256 .f32) (xs1 : Vec Ideal S8x128x256 .f32) {D : Dat} (hR : PtRep D (512 * (i 2).val) x0 x1 x2 x3 x4 x5 x6 x7)
include hR

theorem dq_C {κ : Kind} {sp : Space} (V : View sig κ sp S512x128 .bf16) (f) :
    Rep (n := 512) (p := 128) (V.read (Elt Ideal) (V.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).1)) (fun r e => D.gradQ (512 * (i 2).val + r) e) := by
  rw [run_dq_C]
  intro j
  exact (congrFun (read_one V f z2 _ _ []) j).trans (point_dq c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _ j)

theorem keys_C {A : ℕ → ℕ → ℝ} (hA : Rep3 xs0 A) :
    Rep3 (arg15.view.read (Elt Ideal) (arg15.view.writes (Elt Ideal) (harg15.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.1)) (fun e t => A e t + D.addK (512 * (i 2).val) e t) := by
  rw [run_keys_C]
  exact (point_keys c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (by rw [harg15.read_unread]; exact hA)

theorem vals_C {A : ℕ → ℕ → ℝ} (hA : Rep3 xs1 A) :
    Rep3 (arg16.view.read (Elt Ideal) (arg16.view.writes (Elt Ideal) (harg16.unread xs1) (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.2.2)) (fun e t => A e t + D.addV (512 * (i 2).val) e t) := by
  rw [run_vals_C]
  exact (point_vals c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (by rw [harg16.read_unread]; exact hA)

theorem dng_C {κ : Kind} {sp : Space} (V : View sig κ sp S1x128 .f32) (f) {G : ℕ → ℝ} (hG : Rep (n := 1) (p := 128) xo11 (fun _ e => G e)) :
    Rep (n := 1) (p := 128) (V.read (Elt Ideal) (V.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.2.1)) (fun _ e => G e + D.addG (512 * (i 2).val) e) := by
  rw [run_dng_C]
  intro j
  exact (congrFun (read_one V f z2 _ _ _) j).trans (point_dng i arg8 harg8 arg9 harg9 x0 x1 x2 x3 x4 x5 x6 x7 hR (rep_whole_f32 (y := fun _ e => G e) harg14 hG _).up j)

theorem dk_C {κ : Kind} {sp : Space} (V : View sig κ sp S2048x128 .bf16) (f) {A : ℕ → ℕ → ℝ} (hA : Rep3 xs0 A) :
    Rep (n := 2048) (p := 128) (V.read (Elt Ideal) (V.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.1)) (fun t e => A e t + D.addK (512 * (i 2).val) e t) := by
  rw [run_dk_C]
  have h := keys_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1 hR hA
  exact rep_tiles (a := fun e t => A e t + D.addK (512 * (i 2).val) e t) V f (rep_flush h) (rep_flush h) (rep_flush h) (rep_flush h) (rep_flush h) (rep_flush h) (rep_flush h) (rep_flush h)

theorem dv_C {κ : Kind} {sp : Space} (V : View sig κ sp S2048x128 .bf16) (f) {A : ℕ → ℕ → ℝ} (hA : Rep3 xs1 A) :
    Rep (n := 2048) (p := 128) (V.read (Elt Ideal) (V.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1).2.2.1)) (fun t e => A e t + D.addV (512 * (i 2).val) e t) := by
  rw [run_dv_C]
  have h := vals_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11 xs0 xs1 hR hA
  exact rep_tiles (a := fun e t => A e t + D.addV (512 * (i 2).val) e t) V f (rep_flush h) (rep_flush h) (rep_flush h) (rep_flush h) (rep_flush h) (rep_flush h) (rep_flush h) (rep_flush h)

end

section
variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S8x128x256 .f32) (harg15 : arg15.IsWhole) (arg16 : Memref sig .tc .vmem S8x128x256 .f32) (harg16 : arg16.IsWhole) (hc0 : cond0_0 i) (hc1 : ¬cond0_1 i) (hc2 : ¬cond0_2 i) (x0 : Vec Ideal S512x128 .bf16) (x1 : Vec Ideal S2048x128 .bf16) (x2 : Vec Ideal S2048x128 .bf16) (x3 : Vec Ideal S1x128 .f32) (x4 : Vec Ideal S256x256 .bf16) (x5 : Vec Ideal S512x128 .f32) (x6 : Vec Ideal S512x128 .f32) (x7 : Vec Ideal S512x128 .f32) (xo11 : Vec Ideal S1x128 .f32) {D : Dat} (hR : PtRep D (512 * (i 2).val) x0 x1 x2 x3 x4 x5 x6 x7)
include hR

theorem dq_D {κ : Kind} {sp : Space} (V : View sig κ sp S512x128 .bf16) (f) :
    Rep (n := 512) (p := 128) (V.read (Elt Ideal) (V.writes (Elt Ideal) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).1)) (fun r e => D.gradQ (512 * (i 2).val + r) e) := by
  rw [run_dq_D]
  intro j
  exact (congrFun (read_one V f z2 _ _ []) j).trans (point_dq c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _ j)

theorem keys_D :
    Rep3 (arg15.view.read (Elt Ideal) (arg15.view.writes (Elt Ideal) arg15.view.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.2.1)) (fun e t => 0 + D.addK (512 * (i 2).val) e t) := by
  rw [run_keys_D]
  exact (point_keys c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (rep3_fill _ _ zero_278)

theorem vals_D :
    Rep3 (arg16.view.read (Elt Ideal) (arg16.view.writes (Elt Ideal) arg16.view.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.2.2)) (fun e t => 0 + D.addV (512 * (i 2).val) e t) := by
  rw [run_vals_D]
  exact (point_vals c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hR _ _ _ _).rep3 (rep3_fill _ _ zero_279)

theorem dng_D {κ : Kind} {sp : Space} (V : View sig κ sp S1x128 .f32) (f) {G : ℕ → ℝ} (hG : Rep (n := 1) (p := 128) xo11 (fun _ e => G e)) :
    Rep (n := 1) (p := 128) (V.read (Elt Ideal) (V.writes (Elt Ideal) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo11).2.2.2.1)) (fun _ e => G e + D.addG (512 * (i 2).val) e) := by
  rw [run_dng_D]
  intro j
  exact (congrFun (read_one V f z2 _ _ _) j).trans (point_dng i arg8 harg8 arg9 harg9 x0 x1 x2 x3 x4 x5 x6 x7 hR (rep_whole_f32 (y := fun _ e => G e) harg14 hG _).up j)

end

end Cert.SbIdeal.Closed
-- ==== Proof.SbGrid.lean ====
/- The call's grid: what each point leaves, and the accumulators along the sequence. -/
module

public import proofs.«01_k».proof.Proof.SbOut

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen Cert.Reals

theorem coord2 : ∀ t : Fin cfg0.N, ((grid0.coords t) 2).val = t.val % 4 := by decide +kernel

/-- What point `n` leaves: its rows of the query's gradient, the sums over the blocks of the sequence so far, and the gain's
    gradient over both sequences so far. `D b p` is the data of sequence `b` and the `p`-th pair of heads. -/
structure St (D : ℕ → ℕ → Dat) (n : ℕ) (o : Vec Ideal S512x128 .bf16 × Vec Ideal S2048x128 .bf16 × Vec Ideal S2048x128 .bf16 ×
    Vec Ideal S1x128 .f32 × Vec Ideal S8x128x256 .f32 × Vec Ideal S8x128x256 .f32) : Prop where
  dq : Rep (n := 512) (p := 128) o.1 (fun r e => (D (n % 8 / 4) (n / 8)).gradQ (512 * (n % 4) + r) e)
  keys : Rep3 o.2.2.2.2.1 (fun e t => ∑ i ∈ Finset.range (n % 4 + 1), (D (n % 8 / 4) (n / 8)).addK (512 * i) e t)
  vals : Rep3 o.2.2.2.2.2 (fun e t => ∑ i ∈ Finset.range (n % 4 + 1), (D (n % 8 / 4) (n / 8)).addV (512 * i) e t)
  dng : Rep (n := 1) (p := 128) o.2.2.2.1 (fun _ e => ∑ k ∈ Finset.range (n % 8 + 1), (D (k / 4) (n / 8)).addG (512 * (k % 4)) e)
  dk : n % 4 = 3 → Rep (n := 2048) (p := 128) o.2.1 (fun t e => ∑ i ∈ Finset.range 4, (D (n % 8 / 4) (n / 8)).addK (512 * i) e t)
  dv : n % 4 = 3 → Rep (n := 2048) (p := 128) o.2.2.1 (fun t e => ∑ i ∈ Finset.range 4, (D (n % 8 / 4) (n / 8)).addV (512 * i) e t)

theorem Rep3.congr {X : S8x128x256.Idx → EReal} {x y : ℕ → ℕ → ℝ} (h : Rep3 X x) (e : ∀ a b, x a b = y a b) : Rep3 X y :=
  fun j => (h j).trans (congrArg _ (e _ _))

theorem Rep.congr {n p : ℕ} {X : (⟨2, ![n, p]⟩ : Shape).Idx → EReal} {x y : ℕ → ℕ → ℝ} (h : Rep X x) (e : ∀ a b, x a b = y a b) : Rep X y :=
  fun j => (h j).trans (congrArg _ (e _ _))

/-- A sum along a sequence takes the next block. -/
theorem sum_next (f : ℕ → ℝ) {n : ℕ} (h : ¬n % 4 = 0) :
    (∑ i ∈ Finset.range ((n - 1) % 4 + 1), f i) + f (n % 4) = ∑ i ∈ Finset.range (n % 4 + 1), f i := by
  rw [Finset.sum_range_succ _ (n % 4), show (n - 1) % 4 + 1 = n % 4 by omega]

theorem sum_first (f : ℕ → ℝ) {n : ℕ} (h : n % 4 = 0) : 0 + f (n % 4) = ∑ i ∈ Finset.range (n % 4 + 1), f i := by
  rw [h, Finset.sum_range_succ, Finset.sum_range_zero]

theorem sum_both (D : ℕ → ℕ → Dat) (e : ℕ) {n : ℕ} (h : ¬n % 8 = 0) :
    (∑ k ∈ Finset.range ((n - 1) % 8 + 1), (D (k / 4) ((n - 1) / 8)).addG (512 * (k % 4)) e) + (D (n % 8 / 4) (n / 8)).addG (512 * (n % 4)) e
      = ∑ k ∈ Finset.range (n % 8 + 1), (D (k / 4) (n / 8)).addG (512 * (k % 4)) e := by
  rw [Finset.sum_range_succ _ (n % 8), show (n - 1) % 8 + 1 = n % 8 by omega, show (n - 1) / 8 = n / 8 by omega,
    show n % 8 % 4 = n % 4 by omega]

variable (m : (ℓ : Loc nD τ sig) → Buf (Elt Ideal) ℓ) (D : ℕ → ℕ → Dat)

theorem st_A (c : Dev nD) (t : Fin cfg0.N) (h0 : t.val % 4 = 0) (h1 : t.val % 8 = 0) (h2 : ¬t.val % 4 = 3)
    (hR : PtRep (D (t.val % 8 / 4) (t.val / 8)) (512 * ((grid0.coords t) 2).val) (iblk m c 0 t) (iblk m c 1 t) (iblk m c 2 t) (iblk m c 3 t) (iblk m c 4 t) (iblk m c 5 t) (iblk m c 6 t) (iblk m c 7 t)) :
    St D t.val (outsAt0 m c t.val t.isLt) := by
  rw [outsAt0_A m c t h0 h1 h2]
  have hi := coord2 t
  have Hq := dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) hR VO0_8 VO0_8.junk
  rw [hi] at Hq
  have Hk := keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) hR
  rw [hi] at Hk
  have Hv := vals_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) hR
  rw [hi] at Hv
  have Hg := dng_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) hR VO0_11 VO0_11.junk
  rw [hi] at Hg
  refine ⟨?_, ?_, ?_, ?_, ?_, ?_⟩
  · dsimp only [out0_A_8]
    exact Hq
  · dsimp only [sout0_A_0]
    exact Hk.congr fun e s => sum_first (fun i => (D (t.val % 8 / 4) (t.val / 8)).addK (512 * i) e s) h0
  · dsimp only [sout0_A_1]
    exact Hv.congr fun e s => sum_first (fun i => (D (t.val % 8 / 4) (t.val / 8)).addV (512 * i) e s) h0
  · dsimp only [out0_A_11]
    exact Hg.congr fun _ e => by
      rw [h1, h0]; exact (Finset.sum_range_one (fun k => (D (k / 4) (t.val / 8)).addG (512 * (k % 4)) e) ▸ zero_add _)
  · exact fun h => absurd h h2
  · exact fun h => absurd h h2

theorem st_B (c : Dev nD) (t : Fin cfg0.N) (h0 : ¬t.val % 4 = 0) (h1 : ¬t.val % 8 = 0) (h2 : ¬t.val % 4 = 3)
    (hR : PtRep (D (t.val % 8 / 4) (t.val / 8)) (512 * ((grid0.coords t) 2).val) (iblk m c 0 t) (iblk m c 1 t) (iblk m c 2 t) (iblk m c 3 t) (iblk m c 4 t) (iblk m c 5 t) (iblk m c 6 t) (iblk m c 7 t))
    (hp : St D (t.val - 1) (outsAt0 m c (t.val - 1) (Nat.lt_of_le_of_lt (Nat.sub_le _ _) t.isLt))) :
    St D t.val (outsAt0 m c t.val t.isLt) := by
  rw [outsAt0_B m c t h0 h1 h2]
  have hi := coord2 t
  have Hq := dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_8 VO0_8.junk
  rw [hi] at Hq
  have Hk := keys_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR  hp.keys
  rw [hi] at Hk
  have Hv := vals_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR  hp.vals
  rw [hi] at Hv
  have Hg := dng_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_11 VO0_11.junk hp.dng
  rw [hi] at Hg
  refine ⟨?_, ?_, ?_, ?_, ?_, ?_⟩
  · dsimp only [out0_B_8]
    exact Hq
  · dsimp only [sout0_B_0]
    exact Hk.congr fun e s => by
      rw [show (t.val - 1) % 8 / 4 = t.val % 8 / 4 by omega, show (t.val - 1) / 8 = t.val / 8 by omega]
      exact sum_next (fun i => (D (t.val % 8 / 4) (t.val / 8)).addK (512 * i) e s) h0
  · dsimp only [sout0_B_1]
    exact Hv.congr fun e s => by
      rw [show (t.val - 1) % 8 / 4 = t.val % 8 / 4 by omega, show (t.val - 1) / 8 = t.val / 8 by omega]
      exact sum_next (fun i => (D (t.val % 8 / 4) (t.val / 8)).addV (512 * i) e s) h0
  · dsimp only [out0_B_11]
    exact Hg.congr fun _ e => sum_both D e h1
  · exact fun h => absurd h h2
  · exact fun h => absurd h h2

theorem st_C (c : Dev nD) (t : Fin cfg0.N) (h0 : ¬t.val % 4 = 0) (h1 : ¬t.val % 8 = 0) (h2 : t.val % 4 = 3)
    (hR : PtRep (D (t.val % 8 / 4) (t.val / 8)) (512 * ((grid0.coords t) 2).val) (iblk m c 0 t) (iblk m c 1 t) (iblk m c 2 t) (iblk m c 3 t) (iblk m c 4 t) (iblk m c 5 t) (iblk m c 6 t) (iblk m c 7 t))
    (hp : St D (t.val - 1) (outsAt0 m c (t.val - 1) (Nat.lt_of_le_of_lt (Nat.sub_le _ _) t.isLt))) :
    St D t.val (outsAt0 m c t.val t.isLt) := by
  rw [outsAt0_C m c t h0 h1 h2]
  have hi := coord2 t
  have Hq := dq_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_8 VO0_8.junk
  rw [hi] at Hq
  have Hk := keys_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR  hp.keys
  rw [hi] at Hk
  have Hv := vals_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR  hp.vals
  rw [hi] at Hv
  have Hg := dng_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_11 VO0_11.junk hp.dng
  rw [hi] at Hg
  have Hdk := dk_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_9 VO0_9.junk hp.keys
  rw [hi] at Hdk
  have Hdv := dv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hR VO0_10 VO0_10.junk hp.vals
  rw [hi] at Hdv
  refine ⟨?_, ?_, ?_, ?_, ?_, ?_⟩
  · dsimp only [out0_C_8]
    exact Hq
  · dsimp only [sout0_C_0]
    exact Hk.congr fun e s => by
      rw [show (t.val - 1) % 8 / 4 = t.val % 8 / 4 by omega, show (t.val - 1) / 8 = t.val / 8 by omega]
      exact sum_next (fun i => (D (t.val % 8 / 4) (t.val / 8)).addK (512 * i) e s) h0
  · dsimp only [sout0_C_1]
    exact Hv.congr fun e s => by
      rw [show (t.val - 1) % 8 / 4 = t.val % 8 / 4 by omega, show (t.val - 1) / 8 = t.val / 8 by omega]
      exact sum_next (fun i => (D (t.val % 8 / 4) (t.val / 8)).addV (512 * i) e s) h0
  · dsimp only [out0_C_11]
    exact Hg.congr fun _ e => sum_both D e h1
  · dsimp only [out0_C_9]
    exact fun _ => Hdk.congr fun s e => by
      rw [show (t.val - 1) % 8 / 4 = t.val % 8 / 4 by omega, show (t.val - 1) / 8 = t.val / 8 by omega]
      exact (sum_next (fun i => (D (t.val % 8 / 4) (t.val / 8)).addK (512 * i) e s) h0).trans (by rw [h2])
  · dsimp only [out0_C_10]
    exact fun _ => Hdv.congr fun s e => by
      rw [show (t.val - 1) % 8 / 4 = t.val % 8 / 4 by omega, show (t.val - 1) / 8 = t.val / 8 by omega]
      exact (sum_next (fun i => (D (t.val % 8 / 4) (t.val / 8)).addV (512 * i) e s) h0).trans (by rw [h2])

theorem st_D (c : Dev nD) (t : Fin cfg0.N) (h0 : t.val % 4 = 0) (h1 : ¬t.val % 8 = 0) (h2 : ¬t.val % 4 = 3)
    (hR : PtRep (D (t.val % 8 / 4) (t.val / 8)) (512 * ((grid0.coords t) 2).val) (iblk m c 0 t) (iblk m c 1 t) (iblk m c 2 t) (iblk m c 3 t) (iblk m c 4 t) (iblk m c 5 t) (iblk m c 6 t) (iblk m c 7 t))
    (hp : St D (t.val - 1) (outsAt0 m c (t.val - 1) (Nat.lt_of_le_of_lt (Nat.sub_le _ _) t.isLt))) :
    St D t.val (outsAt0 m c t.val t.isLt) := by
  rw [outsAt0_D m c t h0 h1 h2]
  have hi := coord2 t
  have Hq := dq_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 hR VO0_8 VO0_8.junk
  rw [hi] at Hq
  have Hk := keys_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 hR
  rw [hi] at Hk
  have Hv := vals_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 hR
  rw [hi] at Hv
  have Hg := dng_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 hR VO0_11 VO0_11.junk hp.dng
  rw [hi] at Hg
  refine ⟨?_, ?_, ?_, ?_, ?_, ?_⟩
  · dsimp only [out0_D_8]
    exact Hq
  · dsimp only [sout0_D_0]
    exact Hk.congr fun e s => sum_first (fun i => (D (t.val % 8 / 4) (t.val / 8)).addK (512 * i) e s) h0
  · dsimp only [sout0_D_1]
    exact Hv.congr fun e s => sum_first (fun i => (D (t.val % 8 / 4) (t.val / 8)).addV (512 * i) e s) h0
  · dsimp only [out0_D_11]
    exact Hg.congr fun _ e => sum_both D e h1
  · exact fun h => absurd h h2
  · exact fun h => absurd h h2

/-- Every point of the grid leaves what it should. -/
theorem st (c : Dev nD) (hB : ∀ t : Fin cfg0.N, PtRep (D (t.val % 8 / 4) (t.val / 8)) (512 * ((grid0.coords t) 2).val) (iblk m c 0 t) (iblk m c 1 t) (iblk m c 2 t) (iblk m c 3 t) (iblk m c 4 t) (iblk m c 5 t) (iblk m c 6 t) (iblk m c 7 t)) :
    ∀ (n : ℕ) (h : n < cfg0.N), St D n (outsAt0 m c n h)
  | 0, h => st_A m D c ⟨0, h⟩ rfl rfl (by show ¬0 % 4 = 3; decide) (hB ⟨0, h⟩)
  | n + 1, h => by
    have hp := st c hB n (Nat.lt_of_succ_lt h)
    by_cases h0 : (n + 1) % 4 = 0
    · by_cases h1 : (n + 1) % 8 = 0
      · exact st_A m D c ⟨n + 1, h⟩ h0 h1 (by show ¬(n + 1) % 4 = 3; omega) (hB ⟨n + 1, h⟩)
      · exact st_D m D c ⟨n + 1, h⟩ h0 h1 (by show ¬(n + 1) % 4 = 3; omega) (hB ⟨n + 1, h⟩) hp
    · have h1 : ¬(n + 1) % 8 = 0 := by omega
      by_cases h2 : (n + 1) % 4 = 3
      · exact st_C m D c ⟨n + 1, h⟩ h0 h1 h2 (hB ⟨n + 1, h⟩) hp
      · exact st_B m D c ⟨n + 1, h⟩ h0 h1 h2 (hB ⟨n + 1, h⟩) hp

end Cert.SbIdeal.Closed

end
-- ==== Proof.SbSum.lean ====
/- The stick-breaking attention on the host, over the reals: sums along a row, the softplus, the attention, and its
   gradients. -/
module

public import proofs.«01_k».proof.Proof.SbReal

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.Reals

/-! ## Sums along a row -/

theorem foldl_add {ι : Type} (f : ι → EReal) : ∀ (l : List ι) (v : EReal), l.foldl (fun r k => r + f k) v = v + (l.map f).sum
  | [], v => by simp
  | a :: l, v => by rw [List.foldl_cons, foldl_add f l, List.map_cons, List.sum_cons, add_assoc]

abbrev Sq : Shape := ⟨4, ![2, 8, 2048, 2048]⟩

theorem sum_last (f : ℕ → ℝ) : ∑ w : Shape.Idx ⟨4, ![1, 1, 1, 2048]⟩, ((f (w 3).val : ℝ) : EReal) = ((∑ n ∈ Finset.range 2048, f n : ℝ) : EReal) := by
  rw [sum_idx4, Fin.sum_univ_one, Fin.sum_univ_one, Fin.sum_univ_one, ← Fin.sum_univ_eq_sum_range, coe_sum]
  rfl

theorem window_sum {lo hi : Fin 4 → ℕ} (X : Sq.Idx → EReal) (x : ℕ → ℕ → ℕ → ℕ → ℝ)
    (hX : ∀ j, X j = ((x (j 0).val (j 1).val (j 2).val (j 3).val : ℝ) : EReal)) {l : ℕ} (hlo : lo = ![0, 0, 0, l])
    (h : Sq.ReduceWindows ![1, 1, 1, 2048] ![1, 1, 1, 1] lo hi Sq) (v : EReal) (hv : v = 0) (j : Sq.Idx) :
    Ideal.hostReduceWindowAdd ![1, 1, 1, 2048] ![1, 1, 1, 1] lo hi h X v j
      = ((∑ n ∈ Finset.range 2048, (if l ≤ (j 3).val + n ∧ (j 3).val + n - l < 2048 then x (j 0).val (j 1).val (j 2).val ((j 3).val + n - l) else 0) : ℝ) : EReal) := by
  subst hlo hv
  unfold Ideal.hostReduceWindowAdd Host.reduceWindow
  dsimp only
  rw [foldl_add, zero_add, ← Fin.sum_univ_def]
  refine (Fintype.sum_equiv (Shape.rowMajor ⟨4, ![1, 1, 1, 2048]⟩).symm _ (fun w => ((if l ≤ (j 3).val + (w 3).val ∧ (j 3).val + (w 3).val - l < 2048 then
    x (j 0).val (j 1).val (j 2).val ((j 3).val + (w 3).val - l) else 0 : ℝ) : EReal)) fun n => ?_).trans ?_
  · have h0 : (j 0).val < 2 := (j 0).isLt
    have h1 : (j 1).val < 8 := (j 1).isLt
    have h2 : (j 2).val < 2048 := (j 2).isLt
    have w0 : ((Shape.rowMajor ⟨4, ![1, 1, 1, 2048]⟩).symm n 0).val < 1 := ((Shape.rowMajor ⟨4, ![1, 1, 1, 2048]⟩).symm n 0).isLt
    have w1 : ((Shape.rowMajor ⟨4, ![1, 1, 1, 2048]⟩).symm n 1).val < 1 := ((Shape.rowMajor ⟨4, ![1, 1, 1, 2048]⟩).symm n 1).isLt
    have w2 : ((Shape.rowMajor ⟨4, ![1, 1, 1, 2048]⟩).symm n 2).val < 1 := ((Shape.rowMajor ⟨4, ![1, 1, 1, 2048]⟩).symm n 2).isLt
    by_cases hc : l ≤ (j 3).val + ((Shape.rowMajor ⟨4, ![1, 1, 1, 2048]⟩).symm n 3).val ∧ (j 3).val + ((Shape.rowMajor ⟨4, ![1, 1, 1, 2048]⟩).symm n 3).val - l < 2048
    · rw [if_pos hc]
      refine (dif_pos ?_).trans ((hX _).trans ?_)
      · intro a
        match a with
        | ⟨0, _⟩ => exact ⟨Nat.zero_le _, by show (j 0).val * 1 + ((Shape.rowMajor ⟨4, ![1, 1, 1, 2048]⟩).symm n 0).val - 0 < 2; omega⟩
        | ⟨1, _⟩ => exact ⟨Nat.zero_le _, by show (j 1).val * 1 + ((Shape.rowMajor ⟨4, ![1, 1, 1, 2048]⟩).symm n 1).val - 0 < 8; omega⟩
        | ⟨2, _⟩ => exact ⟨Nat.zero_le _, by show (j 2).val * 1 + ((Shape.rowMajor ⟨4, ![1, 1, 1, 2048]⟩).symm n 2).val - 0 < 2048; omega⟩
        | ⟨3, _⟩ => exact ⟨by show l ≤ (j 3).val * 1 + ((Shape.rowMajor ⟨4, ![1, 1, 1, 2048]⟩).symm n 3).val; omega, by show (j 3).val * 1 + ((Shape.rowMajor ⟨4, ![1, 1, 1, 2048]⟩).symm n 3).val - l < 2048; omega⟩
      · show ((x ((j 0).val * 1 + ((Shape.rowMajor ⟨4, ![1, 1, 1, 2048]⟩).symm n 0).val - 0) ((j 1).val * 1 + ((Shape.rowMajor ⟨4, ![1, 1, 1, 2048]⟩).symm n 1).val - 0) ((j 2).val * 1 + ((Shape.rowMajor ⟨4, ![1, 1, 1, 2048]⟩).symm n 2).val - 0) ((j 3).val * 1 + ((Shape.rowMajor ⟨4, ![1, 1, 1, 2048]⟩).symm n 3).val - l) : ℝ) : EReal) = _
        rw [show ((Shape.rowMajor ⟨4, ![1, 1, 1, 2048]⟩).symm n 0).val = 0 by omega, show ((Shape.rowMajor ⟨4, ![1, 1, 1, 2048]⟩).symm n 1).val = 0 by omega, show ((Shape.rowMajor ⟨4, ![1, 1, 1, 2048]⟩).symm n 2).val = 0 by omega]
        simp only [Nat.mul_one, Nat.add_zero, Nat.sub_zero]
    · rw [if_neg hc]
      refine (dif_neg fun hin => hc ?_).trans EReal.coe_zero.symm
      have h3 := hin 3
      exact ⟨by have : l ≤ (j 3).val * 1 + ((Shape.rowMajor ⟨4, ![1, 1, 1, 2048]⟩).symm n 3).val := h3.1; omega, by have : (j 3).val * 1 + ((Shape.rowMajor ⟨4, ![1, 1, 1, 2048]⟩).symm n 3).val - l < 2048 := h3.2; omega⟩
  · exact sum_last fun n => if l ≤ (j 3).val + n ∧ (j 3).val + n - l < 2048 then x (j 0).val (j 1).val (j 2).val ((j 3).val + n - l) else 0

end Cert.SbIdeal.Closed

end
-- ==== Proof.SbSrc.lean ====
/- The stick-breaking attention with its norm, over the reals, as the host writes it: the forward lines and the gradients. -/
module

public import proofs.«01_k».proof.Proof.SbSum

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.Reals

/-- An array of three or of four coordinates that holds real numbers. -/
def R3 {a b c : ℕ} (X : (⟨3, ![a, b, c]⟩ : Shape).Idx → EReal) (x : ℕ → ℕ → ℕ → ℝ) : Prop :=
  ∀ j, X j = ((x (j 0).val (j 1).val (j 2).val : ℝ) : EReal)
def R4 {a b c d : ℕ} (X : (⟨4, ![a, b, c, d]⟩ : Shape).Idx → EReal) (x : ℕ → ℕ → ℕ → ℕ → ℝ) : Prop :=
  ∀ j, X j = ((x (j 0).val (j 1).val (j 2).val (j 3).val : ℝ) : EReal)

/-- The arguments: the projections (sequence, row, lane), the norm's gain, the gradient of the mix. -/
structure Src where
  P : ℕ → ℕ → ℕ → ℝ
  G : ℕ → ℝ
  M : ℕ → ℕ → ℕ → ℝ

namespace Src
variable (S : Src)

def q (b h s e : ℕ) : ℝ := S.P b s (64 * h + e)
def k (b h s e : ℕ) : ℝ := S.P b s (512 + (64 * h + e))
def v (b h s e : ℕ) : ℝ := S.P b s (1024 + (64 * h + e))
def z (b h s t : ℕ) : ℝ := (∑ e ∈ Finset.range 64, S.q b h s e * S.k b h t e) * (1 / 8)
def c (b h s t : ℕ) : ℝ := if t < s then sp (S.z b h s t) else 0
def after (b h s t : ℕ) : ℝ :=
  (∑ n ∈ Finset.range 2048, if 0 ≤ t + n ∧ t + n - 0 < 2048 then S.c b h s (t + n - 0) else 0) - S.c b h s t
def lw (b h s t : ℕ) : ℝ := Real.exp (-sp (-S.z b h s t) - S.after b h s t)
def a (b h s t : ℕ) : ℝ := if t < s then S.lw b h s t else 0
def o (b h s e : ℕ) : ℝ := ∑ t ∈ Finset.range 2048, S.a b h s t * S.v b h t e
def tot (b h s : ℕ) : ℝ := ∑ t ∈ Finset.range 2048, S.c b h s t
def ms (b h s : ℕ) : ℝ := (∑ e ∈ Finset.range 64, S.o b h s e * S.o b h s e) * (1 / 64) + small
def rs (b h s : ℕ) : ℝ := (Real.sqrt (S.ms b h s))⁻¹
def n (b h s e : ℕ) : ℝ := S.o b h s e * S.rs b h s
def dm (b h s e : ℕ) : ℝ := S.M b s (512 + (64 * h + e))
def dn (b h s e : ℕ) : ℝ := S.dm b h s e * S.G (64 * h + e)
def od (b h s : ℕ) : ℝ :=
  (∑ e ∈ Finset.range 64, S.o b h s e * S.dn b h s e) * (-(1 / 2) * (S.rs b h s * (1 / S.ms b h s))) * (1 / 64)
def do' (b h s e : ℕ) : ℝ := S.dn b h s e * S.rs b h s + S.o b h s e * S.od b h s + S.od b h s * S.o b h s e
def da (b h s t : ℕ) : ℝ := ∑ e ∈ Finset.range 64, S.do' b h s e * S.v b h t e
def dl (b h s t : ℕ) : ℝ := (if t < s then S.da b h s t else 0) * S.lw b h s t
def dc (b h s t : ℕ) : ℝ :=
  S.dl b h s t + ∑ n ∈ Finset.range 2048, if 2047 ≤ t + n ∧ t + n - 2047 < 2048 then -S.dl b h s (t + n - 2047) else 0
def dz (b h s t : ℕ) : ℝ :=
  S.dl b h s t * Real.exp (-S.z b h s t - sp (-S.z b h s t)) +
    (if t < s then S.dc b h s t else 0) * Real.exp (S.z b h s t - sp (S.z b h s t))
def dv (b h t e : ℕ) : ℝ := ∑ s ∈ Finset.range 2048, S.do' b h s e * S.a b h s t
def dk (b h t e : ℕ) : ℝ := ∑ s ∈ Finset.range 2048, S.dz b h s t * (1 / 8) * S.q b h s e
def dq (b h s e : ℕ) : ℝ := ∑ t ∈ Finset.range 2048, S.dz b h s t * (1 / 8) * S.k b h t e
def dg (l : ℕ) : ℝ := ∑ b ∈ Finset.range 2, ∑ s ∈ Finset.range 2048, S.n b (l / 64) s (l % 64) * S.M b s (512 + l)

theorem ms_pos (b h s : ℕ) : 0 < S.ms b h s :=
  add_pos_of_nonneg_of_pos (mul_nonneg (Finset.sum_nonneg fun _ _ => mul_self_nonneg _) (by norm_num)) small_pos

end Src

/-! ## The host's operations at a point -/

theorem masked {a b : ℕ} (ha : a < 2048) (hb : b < 2048) (X Y : EReal) :
    Scalar.select (IntOp.cmpi .slt (BitVec.ofNat 32 a) (BitVec.ofNat 32 b)) X Y = if a < b then X else Y := by
  have e : (IntOp.cmpi .slt (BitVec.ofNat 32 a) (BitVec.ofNat 32 b) = 1#1) = (a < b) := by
    show (BitVec.ofBool (BitVec.slt (BitVec.ofNat 32 a) (BitVec.ofNat 32 b)) = 1#1) = _
    have h1 : (BitVec.ofNat 32 a).toInt = (a : ℤ) := by
      rw [BitVec.toInt_eq_toNat_of_lt (by rw [BitVec.toNat_ofNat]; omega), BitVec.toNat_ofNat, Nat.mod_eq_of_lt (by omega)]
    have h2 : (BitVec.ofNat 32 b).toInt = (b : ℤ) := by
      rw [BitVec.toInt_eq_toNat_of_lt (by rw [BitVec.toNat_ofNat]; omega), BitVec.toNat_ofNat, Nat.mod_eq_of_lt (by omega)]
    rw [BitVec.slt, h1, h2]
    by_cases h : a < b <;> simp [h]
  show (if _ = 1#1 then X else Y) = _
  simp only [e]

theorem masked_at {a b : ℕ} (ha : a < 2048) (hb : b < 2048) {X Y : EReal} {x : ℝ} (hX : X = (x : EReal)) (hY : Y = 0) :
    Scalar.select (IntOp.cmpi .slt (BitVec.ofNat 32 a) (BitVec.ofNat 32 b)) X Y = ((if a < b then x else 0 : ℝ) : EReal) := by
  rw [masked ha hb, hX, hY]
  by_cases h : a < b <;> simp [h]

theorem sub_at {X Y : EReal} {x y : ℝ} (hX : X = (x : EReal)) (hY : Y = (y : EReal)) : X - Y = ((x - y : ℝ) : EReal) := by
  rw [hX, hY, ← EReal.coe_sub]
theorem plus_at {X Y : EReal} {x y : ℝ} (hX : X = (x : EReal)) (hY : Y = (y : EReal)) : X + Y = ((x + y : ℝ) : EReal) := by
  rw [hX, hY, ← EReal.coe_add]
theorem times_at {X Y : EReal} {x y : ℝ} (hX : X = (x : EReal)) (hY : Y = (y : EReal)) : X * Y = ((x * y : ℝ) : EReal) := by
  rw [hX, hY, ← EReal.coe_mul]
theorem neg_at {X : EReal} {x : ℝ} (hX : X = (x : EReal)) : -X = ((-x : ℝ) : EReal) := by
  rw [hX, ← EReal.coe_neg]
theorem exp_at {X : EReal} {x : ℝ} (hX : X = (x : EReal)) : Ideal.exp X = ((Real.exp x : ℝ) : EReal) := by
  rw [hX, Ideal.exp_coe]
theorem div_at {X Y : EReal} {x y : ℝ} (hX : X = (x : EReal)) (hY : Y = (y : EReal)) (h : y ≠ 0) : Ideal.div X Y = ((x * (1 / y) : ℝ) : EReal) := by
  rw [hX, hY, Ideal.div_coe h, ← EReal.coe_mul]

/-- The host's softplus, with its test for what is not a number. -/
theorem softplus_at {X O : EReal} {x : ℝ} (hX : X = (x : EReal)) (hO : O = 0) :
    Scalar.select (Ideal.cmp .une (X - O) (X - O)) (X + O) (max X O + Ideal.log1p (Ideal.exp (-(max (X - O) (-(X - O)))))) = ((sp x : ℝ) : EReal) := by
  have e : Ideal.cmp .une (X - O) (X - O) = 0#1 := by
    show BitVec.ofBool (decide (X - O ≠ X - O)) = 0#1
    simp
  rw [e, hX, hO]
  show max (x : EReal) 0 + Ideal.log (1 + Ideal.exp (-(max ((x : EReal) - 0) (-((x : EReal) - 0))))) = _
  rw [← sp_coe x, sub_zero, absf_coe, ← zero_sub]
  rw [show max (x : EReal) (-(x : EReal)) = ((|x| : ℝ) : EReal) from absf_coe x]

/-- A real number is not the infinity its test asks for. -/
theorem not_inf {X I Y : EReal} {x : ℝ} (hX : X = (x : EReal)) (hI : I = ⊤) : Scalar.select (Ideal.cmp .oeq X I) Y X = (x : EReal) := by
  have e : Ideal.cmp .oeq X I = 0#1 := by
    show BitVec.ofBool (decide (X = I)) = 0#1
    rw [hX, hI, decide_eq_false (EReal.coe_ne_top x)]
    rfl
  rw [e, hX]
  rfl

end Cert.SbIdeal.Closed

end
-- ==== Proof.SbRef.lean ====
/- The reference's arrays, over the reals. -/
module

public import proofs.«01_k».proof.Proof.SbSrc
public import proofs.«01_k».proof.Proof.Gen.SbRefIdeal.Read

@[expose] public section

set_option maxRecDepth 16384
set_option maxHeartbeats 1000000

noncomputable section

namespace Cert.SbRefIdeal.Closed

open Idealize.ShloMosaic Idealize.ShloMosaic.TcCoe Idealize.SL.Sem Idealize.ShloMosaic.Pipeline
open Cert.SbRefIdeal Cert.SbRefIdeal.Gen Cert.SbRefIdeal.Read Cert.Reals
open Cert.SbIdeal.Closed (Src R3 R4 Rep sp sum_coe_mul window_sum masked_at sub_at plus_at times_at neg_at exp_at div_at softplus_at not_inf)

theorem eq3 (f : ℕ → ℕ → ℕ → ℝ) {a b c a' b' c' : ℕ} (ha : a = a') (hb : b = b') (hc : c = c') : ((f a b c : ℝ) : EReal) = ((f a' b' c' : ℝ) : EReal) := by
  rw [ha, hb, hc]
theorem eq4 (f : ℕ → ℕ → ℕ → ℕ → ℝ) {a b c d a' b' c' d' : ℕ} (ha : a = a') (hb : b = b') (hc : c = c') (hd : d = d') :
    ((f a b c d : ℝ) : EReal) = ((f a' b' c' d' : ℝ) : EReal) := by
  rw [ha, hb, hc, hd]

theorem rsqrt_at {X : EReal} {x : ℝ} (hX : X = (x : EReal)) (h : 0 < x) : Ideal.rsqrt X = (((Real.sqrt x)⁻¹ : ℝ) : EReal) := by
  rw [hX, Ideal.rsqrt_coe, if_neg (not_lt.mpr h.le), if_neg h.ne']

theorem sum_two_axes {n0 n1 n2 : ℕ} (h : (⟨3, ![n0, n1, n2]⟩ : Shape).ReducesTo [0, 1] ⟨1, ![n2]⟩) (X : (⟨3, ![n0, n1, n2]⟩ : Shape).Idx → EReal)
    (x : ℕ → ℕ → ℕ → ℝ) (hX : ∀ j, X j = ((x (j 0).val (j 1).val (j 2).val : ℝ) : EReal)) (v : EReal) (hv : v = 0) (j : (⟨1, ![n2]⟩ : Shape).Idx) :
    Ideal.hostReduceAdd h X v j = ((∑ b ∈ Finset.range n0, ∑ s ∈ Finset.range n1, x b s (j 0).val : ℝ) : EReal) := by
  unfold Ideal.hostReduceAdd
  rw [hv, zero_add, Finset.sum_filter, sum_idx3, ← Fin.sum_univ_eq_sum_range, coe_sum]
  refine Finset.sum_congr rfl fun b _ => ?_
  rw [← Fin.sum_univ_eq_sum_range, coe_sum]
  refine Finset.sum_congr rfl fun s _ => ?_
  rw [Finset.sum_eq_single (⟨(j 0).val, (j 0).isLt⟩ : Fin n2)]
  · rw [if_pos]
    · exact hX _
    · funext a
      match a with
      | ⟨0, _⟩ => rfl
  · intro l _ hl
    rw [if_neg]
    intro he
    exact hl (Fin.ext (congrArg (fun i : (⟨1, ![n2]⟩ : Shape).Idx => (i 0).val) he))
  · intro hn
    exact absurd (Finset.mem_univ _) hn

theorem win_apply {s t u : Shape} (w st lo hi : Fin s.rank → ℕ) (x : FVec Ideal s .f32) (init : FVec Ideal u .f32) (h : s.ReduceWindows w st lo hi t)
    (hu : 0 < u.numel) (j : t.Idx) : Host.reduceWindowAdd w st lo hi x init h hu j = Ideal.hostReduceWindowAdd w st lo hi h x (init (Shape.Idx.first hu)) j := rfl
theorem start_a (j : S_.Idx) : val_main_call2_v0 (F := Ideal) j = 0 := Ideal.ofBits_zero_f32
theorem start_b (j : S_.Idx) : val_main_call7_v0 (F := Ideal) j = 0 := Ideal.ofBits_zero_f32

variable (x0 : (⟨S2x2048x1536, .f32⟩ : BufTy).Contents (Elt Ideal)) (x1 : (⟨S1x512, .f32⟩ : BufTy).Contents (Elt Ideal))
  (x2 : (⟨S2x2048x1024, .f32⟩ : BufTy).Contents (Elt Ideal)) (S : Src)
  (h0 : R3 (a := 2) (b := 2048) (c := 1536) x0 S.P) (h1 : Rep (n := 1) (p := 512) x1 (fun _ e => S.G e)) (h2 : R3 (a := 2) (b := 2048) (c := 1024) x2 S.M)

theorem zero_at (j : S_.Idx) : (constant (F := Ideal) S_ .f32 0x00000000#32 : FVec Ideal S_ .f32) j = 0 := Ideal.ofBits_zero_f32

include h0 in
theorem r_v0 : R3 (a := 2) (b := 2048) (c := 512) (val_main_v0 (F := Ideal) x0) (fun b s l => S.P b s l) := fun j => by
  refine (val_main_v0_apply x0 j).trans ((h0 _).trans (eq3 S.P ?_ ?_ ?_))
  · first | rfl | exact Nat.zero_add _ | exact Nat.add_zero _
  · first | rfl | exact Nat.zero_add _ | exact Nat.add_zero _
  · first | rfl | exact Nat.add_comm _ _ | exact Nat.zero_add _

include h0 in
theorem r_v4 : R4 (a := 2) (b := 2048) (c := 8) (d := 64) (val_main_v4 (F := Ideal) x0) (fun b s h e => S.q b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v4_apply x0 j).trans ((r_v0 x0 S h0 _).trans ?_)
  refine eq3 (fun b s l => S.P b s l) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

include h0 in
theorem r_v5 : R4 (a := 2) (b := 8) (c := 2048) (d := 64) (val_main_v5 (F := Ideal) x0) (S.q) := fun j => by
  exact (val_main_v5_apply x0 j).trans (r_v4 x0 S h0 _)

include h0 in
theorem r_v1 : R3 (a := 2) (b := 2048) (c := 512) (val_main_v1 (F := Ideal) x0) (fun b s l => S.P b s (512 + l)) := fun j => by
  refine (val_main_v1_apply x0 j).trans ((h0 _).trans (eq3 S.P ?_ ?_ ?_))
  · first | rfl | exact Nat.zero_add _ | exact Nat.add_zero _
  · first | rfl | exact Nat.zero_add _ | exact Nat.add_zero _
  · first | rfl | exact Nat.add_comm _ _ | exact Nat.zero_add _

include h0 in
theorem r_v6 : R4 (a := 2) (b := 2048) (c := 8) (d := 64) (val_main_v6 (F := Ideal) x0) (fun b s h e => S.k b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v6_apply x0 j).trans ((r_v1 x0 S h0 _).trans ?_)
  refine eq3 (fun b s l => S.P b s (512 + l)) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

include h0 in
theorem r_v7 : R4 (a := 2) (b := 8) (c := 2048) (d := 64) (val_main_v7 (F := Ideal) x0) (S.k) := fun j => by
  exact (val_main_v7_apply x0 j).trans (r_v6 x0 S h0 _)

include h0 in
theorem r_v2 : R3 (a := 2) (b := 2048) (c := 512) (val_main_v2 (F := Ideal) x0) (fun b s l => S.P b s (1024 + l)) := fun j => by
  refine (val_main_v2_apply x0 j).trans ((h0 _).trans (eq3 S.P ?_ ?_ ?_))
  · first | rfl | exact Nat.zero_add _ | exact Nat.add_zero _
  · first | rfl | exact Nat.zero_add _ | exact Nat.add_zero _
  · first | rfl | exact Nat.add_comm _ _ | exact Nat.zero_add _

include h0 in
theorem r_v8 : R4 (a := 2) (b := 2048) (c := 8) (d := 64) (val_main_v8 (F := Ideal) x0) (fun b s h e => S.v b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v8_apply x0 j).trans ((r_v2 x0 S h0 _).trans ?_)
  refine eq3 (fun b s l => S.P b s (1024 + l)) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

include h0 in
theorem r_v9 : R4 (a := 2) (b := 8) (c := 2048) (d := 64) (val_main_v9 (F := Ideal) x0) (S.v) := fun j => by
  exact (val_main_v9_apply x0 j).trans (r_v8 x0 S h0 _)

include h0 in
theorem r_v10 : R4 (a := 2) (b := 8) (c := 2048) (d := 2048) (val_main_v10 (F := Ideal) x0) (fun b h s t => ∑ e ∈ Finset.range 64, S.q b h s e * S.k b h t e) := fun j => by
  refine (val_main_v10_apply x0 j).trans ?_
  refine (Finset.sum_congr rfl fun k _ => congrArg₂ (· * ·) (r_v5 x0 S h0 _) (r_v7 x0 S h0 _)).trans ?_
  exact sum_coe_mul (n := 64) (fun k => S.q (j 0).val (j 1).val (j 2).val k) (fun k => S.k (j 0).val (j 1).val (j 3).val k)

include h0 in
theorem r_v12 : R4 (a := 2) (b := 8) (c := 2048) (d := 2048) (val_main_v12 (F := Ideal) x0) (S.z) := fun j => by
  exact times_at (r_v10 x0 S h0 j) bits_eighth

include h0 in
theorem r_v19_0 : R4 (a := 2) (b := 8) (c := 2048) (d := 2048) (val_main_v19_0 (F := Ideal) x0) (fun b h s t => sp (S.z b h s t)) := fun j => by
  exact softplus_at (r_v12 x0 S h0 j) Ideal.ofBits_zero_f32

include h0 in
theorem r_v20_0 : R4 (a := 2) (b := 8) (c := 2048) (d := 2048) (val_main_v20_0 (F := Ideal) x0) (S.c) := fun j => by
  have j2 : (j 2).val < 2048 := (j 2).isLt
  have j3 : (j 3).val < 2048 := (j 3).isLt
  exact masked_at j3 j2 (r_v19_0 x0 S h0 j) Ideal.ofBits_zero_f32

include h0 in
theorem r_v22 : R4 (a := 2) (b := 8) (c := 2048) (d := 2048) (val_main_v22 (F := Ideal) x0) (S.after) := fun j => by
  refine sub_at ?_ (r_v20_0 x0 S h0 j)
  exact (win_apply _ _ _ _ _ _ reduceWindows_S2x8x2048x2048_S2x8x2048x2048_w1s1p0_0_w1s1p0_0_w1s1p0_0_w2048s1p0_2047 h_S_ j).trans
    (window_sum (val_main_v20_0 (F := Ideal) x0) S.c (r_v20_0 x0 S h0) (l := 0) rfl reduceWindows_S2x8x2048x2048_S2x8x2048x2048_w1s1p0_0_w1s1p0_0_w1s1p0_0_w2048s1p0_2047 _ (start_a _) j)

include h0 in
theorem r_call3_v1_0 : R4 (a := 2) (b := 8) (c := 2048) (d := 2048) (val_main_call3_v1_0 (F := Ideal) x0) (fun b h s t => sp (-S.z b h s t)) := fun j => by
  exact softplus_at (neg_at (r_v12 x0 S h0 j)) Ideal.ofBits_zero_f32

include h0 in
theorem r_v25 : R4 (a := 2) (b := 8) (c := 2048) (d := 2048) (val_main_v25 (F := Ideal) x0) (S.lw) := fun j => by
  exact exp_at (sub_at (neg_at (r_call3_v1_0 x0 S h0 j)) (r_v22 x0 S h0 j))

include h0 in
theorem r_v26_0 : R4 (a := 2) (b := 8) (c := 2048) (d := 2048) (val_main_v26_0 (F := Ideal) x0) (S.a) := fun j => by
  have j2 : (j 2).val < 2048 := (j 2).isLt
  have j3 : (j 3).val < 2048 := (j 3).isLt
  exact masked_at j3 j2 (r_v25 x0 S h0 j) Ideal.ofBits_zero_f32

include h0 in
theorem r_v27 : R4 (a := 2) (b := 8) (c := 2048) (d := 64) (val_main_v27 (F := Ideal) x0) (S.o) := fun j => by
  refine (val_main_v27_apply x0 j).trans ?_
  refine (Finset.sum_congr rfl fun k _ => congrArg₂ (· * ·) (r_v26_0 x0 S h0 _) (r_v9 x0 S h0 _)).trans ?_
  exact sum_coe_mul (n := 2048) (fun k => S.a (j 0).val (j 1).val (j 2).val k) (fun k => S.v (j 0).val (j 1).val k (j 3).val)

include h0 in
theorem r_v28 : R4 (a := 2) (b := 2048) (c := 8) (d := 64) (val_main_v28 (F := Ideal) x0) (fun b s h e => S.o b h s e) := fun j => by
  exact (val_main_v28_apply x0 j).trans (r_v27 x0 S h0 _)

include h0 in
theorem r_v30 : R3 (a := 2) (b := 2048) (c := 8) (val_main_v30 (F := Ideal) x0) (fun b s h => ∑ e ∈ Finset.range 64, S.o b h s e * S.o b h s e) := fun j => by
  refine (val_main_v30_apply x0 j).trans ?_
  rw [show val_main_cst_2 (F := Ideal) (Shape.Idx.first h_S_) = 0 from Ideal.ofBits_zero_f32, zero_add]
  refine (Finset.sum_congr rfl fun k _ => congrArg₂ (· * ·) (r_v28 x0 S h0 _) (r_v28 x0 S h0 _)).trans ?_
  exact sum_coe_mul (n := 64) (fun k => S.o (j 0).val (j 2).val (j 1).val k) (fun k => S.o (j 0).val (j 2).val (j 1).val k)

include h0 in
theorem r_v35 : R4 (a := 2) (b := 2048) (c := 8) (d := 1) (val_main_v35 (F := Ideal) x0) (fun b s h _ => S.ms b h s) := fun j => by
  refine plus_at (div_at ?_ bits_sixtyfour (by norm_num)) bits_small
  exact (val_main_v31_apply x0 j).trans (r_v30 x0 S h0 _)

include h0 in
theorem r_v36 : R4 (a := 2) (b := 2048) (c := 8) (d := 1) (val_main_v36 (F := Ideal) x0) (fun b s h _ => S.rs b h s) := fun j => by
  exact rsqrt_at (r_v35 x0 S h0 j) (S.ms_pos _ _ _)

include h0 in
theorem r_v39 : R4 (a := 2) (b := 2048) (c := 8) (d := 1) (val_main_v39 (F := Ideal) x0) (fun b s h _ => -(1 / 2) * (S.rs b h s * (1 / S.ms b h s))) := fun j => by
  exact times_at bits_half_neg (div_at (r_v36 x0 S h0 j) (r_v35 x0 S h0 j) (S.ms_pos _ _ _).ne')

include h0 in
theorem r_v41 : R4 (a := 2) (b := 2048) (c := 8) (d := 64) (val_main_v41 (F := Ideal) x0) (fun b s h e => S.n b h s e) := fun j => by
  exact times_at (r_v28 x0 S h0 j) ((val_main_v40_apply x0 j).trans (r_v36 x0 S h0 _))

include h0 in
theorem r_v42 : R3 (a := 2) (b := 2048) (c := 512) (val_main_v42 (F := Ideal) x0) (fun b s l => S.n b (l / 64) s (l % 64)) := fun j => by
  have j0 : (j 0).val < 2 := (j 0).isLt
  have j1 : (j 1).val < 2048 := (j 1).isLt
  have j2 : (j 2).val < 512 := (j 2).isLt
  refine (val_main_v42_apply x0 j).trans ((r_v41 x0 S h0 _).trans ?_)
  refine eq4 (fun b s h e => S.n b h s e) (a' := (j 0).val) (b' := (j 1).val) (c' := (j 2).val / 64) (d' := (j 2).val % 64) ?_ ?_ ?_ ?_
  · show (((j 0).val * 2048 + (j 1).val) * 512 + (j 2).val) / 1048576 = _; omega
  · show (((j 0).val * 2048 + (j 1).val) * 512 + (j 2).val) / 512 % 2048 = _; omega
  · show (((j 0).val * 2048 + (j 1).val) * 512 + (j 2).val) / 64 % 8 = _; omega
  · show (((j 0).val * 2048 + (j 1).val) * 512 + (j 2).val) % 64 = _; omega

include h2 in
theorem r_v46 : R3 (a := 2) (b := 2048) (c := 512) (val_main_v46 (F := Ideal) x2) (fun b s l => S.M b s (512 + l)) := fun j => by
  refine (val_main_v46_apply x2 j).trans ((h2 _).trans (eq3 S.M ?_ ?_ ?_))
  · first | rfl | exact Nat.zero_add _
  · first | rfl | exact Nat.zero_add _
  · first | rfl | exact Nat.add_comm _ _

include h1 in
theorem r_v43 (j : S1x1x512.Idx) : val_main_v43 (F := Ideal) x1 j = ((S.G (j 2).val : ℝ) : EReal) := by
  refine (val_main_v43_apply x1 j).trans ((val_main_v3_apply x1 _).trans ((h1 _).trans ?_))
  have j2 : (j 2).val < 512 := (j 2).isLt
  exact congrArg (fun e : ℕ => ((S.G e : ℝ) : EReal)) (Nat.mod_eq_of_lt j2)

include h1 h2 in
theorem r_v51 : R3 (a := 2) (b := 2048) (c := 512) (val_main_v51 (F := Ideal) x1 x2) (fun b s l => S.M b s (512 + l) * S.G l) := fun j => by
  exact times_at (r_v46 x2 S h2 j) ((val_main_v50_apply x1 j).trans (r_v43 x1 S h1 _))

include h1 h2 in
theorem r_v53 : R4 (a := 2) (b := 2048) (c := 8) (d := 64) (val_main_v53 (F := Ideal) x1 x2) (fun b s h e => S.dn b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v53_apply x1 x2 j).trans ((r_v51 x1 x2 S h1 h2 _).trans ?_)
  refine eq3 (fun b s l => S.M b s (512 + l) * S.G l) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

include h0 h1 h2 in
theorem r_v55 : R3 (a := 2) (b := 2048) (c := 8) (val_main_v55 (F := Ideal) x0 x1 x2) (fun b s h => ∑ e ∈ Finset.range 64, S.o b h s e * S.dn b h s e) := fun j => by
  refine (val_main_v55_apply x0 x1 x2 j).trans ?_
  rw [show val_main_cst_8 (F := Ideal) (Shape.Idx.first h_S_) = 0 from Ideal.ofBits_zero_f32, zero_add]
  refine (Finset.sum_congr rfl fun k _ => congrArg₂ (· * ·) (r_v28 x0 S h0 _) (r_v53 x1 x2 S h1 h2 _)).trans ?_
  exact sum_coe_mul (n := 64) (fun k => S.o (j 0).val (j 2).val (j 1).val k) (fun k => S.dn (j 0).val (j 2).val (j 1).val k)

include h0 h1 h2 in
theorem r_v61 : R4 (a := 2) (b := 2048) (c := 8) (d := 1) (val_main_v61 (F := Ideal) x0 x1 x2) (fun b s h _ => S.od b h s) := fun j => by
  have j0 : (j 0).val < 2 := (j 0).isLt
  have j1 : (j 1).val < 2048 := (j 1).isLt
  have j2 : (j 2).val < 8 := (j 2).isLt
  have j3 : (j 3).val < 1 := (j 3).isLt
  refine div_at (times_at ?_ (r_v39 x0 S h0 j)) bits_sixtyfour (by norm_num)
  refine (val_main_v56_apply x0 x1 x2 j).trans ((r_v55 x0 x1 x2 S h0 h1 h2 _).trans ?_)
  refine eq3 (fun b s h => ∑ e ∈ Finset.range 64, S.o b h s e * S.dn b h s e) ?_ ?_ ?_
  · show ((((j 0).val * 2048 + (j 1).val) * 8 + (j 2).val) * 1 + (j 3).val) / 16384 = _; omega
  · show ((((j 0).val * 2048 + (j 1).val) * 8 + (j 2).val) * 1 + (j 3).val) / 8 % 2048 = _; omega
  · show ((((j 0).val * 2048 + (j 1).val) * 8 + (j 2).val) * 1 + (j 3).val) % 8 = _; omega

include h0 h1 h2 in
theorem r_v63 : R4 (a := 2) (b := 2048) (c := 8) (d := 64) (val_main_v63 (F := Ideal) x0 x1 x2) (fun b s h _ => S.od b h s) := fun j => by
  refine (val_main_v63_apply x0 x1 x2 j).trans ((val_main_v62_apply x0 x1 x2 _).trans ?_)
  rw [show val_main_cst_10 (F := Ideal) (Shape.Idx.first h_S_) = 0 from Ideal.ofBits_zero_f32, zero_add, Fin.sum_univ_one]
  exact r_v61 x0 x1 x2 S h0 h1 h2 _

include h0 h1 h2 in
theorem r_v67 : R4 (a := 2) (b := 2048) (c := 8) (d := 64) (val_main_v67 (F := Ideal) x0 x1 x2) (fun b s h e => S.do' b h s e) := fun j => by
  refine plus_at (plus_at (times_at (r_v53 x1 x2 S h1 h2 j) ?_) ?_) ?_
  · exact (val_main_v57_apply x0 j).trans (r_v36 x0 S h0 _)
  · exact times_at (r_v28 x0 S h0 j) (r_v63 x0 x1 x2 S h0 h1 h2 j)
  · exact times_at (r_v63 x0 x1 x2 S h0 h1 h2 j) (r_v28 x0 S h0 j)

include h0 h1 h2 in
theorem r_v68 : R4 (a := 2) (b := 8) (c := 2048) (d := 64) (val_main_v68 (F := Ideal) x0 x1 x2) (S.do') := fun j => by
  exact (val_main_v68_apply x0 x1 x2 j).trans (r_v67 x0 x1 x2 S h0 h1 h2 _)

include h0 h1 h2 in
theorem r_v69 : R4 (a := 2) (b := 8) (c := 64) (d := 2048) (val_main_v69 (F := Ideal) x0 x1 x2) (fun b h e t => S.dv b h t e) := fun j => by
  refine (val_main_v69_apply x0 x1 x2 j).trans ?_
  refine (Finset.sum_congr rfl fun k _ => congrArg₂ (· * ·) (r_v68 x0 x1 x2 S h0 h1 h2 _) (r_v26_0 x0 S h0 _)).trans ?_
  exact sum_coe_mul (n := 2048) (fun k => S.do' (j 0).val (j 1).val k (j 2).val) (fun k => S.a (j 0).val (j 1).val k (j 3).val)

include h0 h1 h2 in
theorem r_v70 : R4 (a := 2) (b := 8) (c := 2048) (d := 64) (val_main_v70 (F := Ideal) x0 x1 x2) (S.dv) := fun j => by
  exact (val_main_v70_apply x0 x1 x2 j).trans (r_v69 x0 x1 x2 S h0 h1 h2 _)

include h0 h1 h2 in
theorem r_v71 : R4 (a := 2) (b := 8) (c := 2048) (d := 2048) (val_main_v71 (F := Ideal) x0 x1 x2) (S.da) := fun j => by
  refine (val_main_v71_apply x0 x1 x2 j).trans ?_
  refine (Finset.sum_congr rfl fun k _ => congrArg₂ (· * ·) (r_v68 x0 x1 x2 S h0 h1 h2 _) (r_v9 x0 S h0 _)).trans ?_
  exact sum_coe_mul (n := 64) (fun k => S.do' (j 0).val (j 1).val (j 2).val k) (fun k => S.v (j 0).val (j 1).val (j 3).val k)

include h0 h1 h2 in
theorem r_v73 : R4 (a := 2) (b := 8) (c := 2048) (d := 2048) (val_main_v73 (F := Ideal) x0 x1 x2) (S.dl) := fun j => by
  have j2 : (j 2).val < 2048 := (j 2).isLt
  have j3 : (j 3).val < 2048 := (j 3).isLt
  exact times_at (masked_at j3 j2 (r_v71 x0 x1 x2 S h0 h1 h2 j) Ideal.ofBits_zero_f32) (r_v25 x0 S h0 j)

include h0 h1 h2 in
theorem r_v78 : R4 (a := 2) (b := 8) (c := 2048) (d := 2048) (val_main_v78 (F := Ideal) x0 x1 x2) (S.dc) := fun j => by
  refine plus_at ((neg_at (neg_at (r_v73 x0 x1 x2 S h0 h1 h2 j))).trans (by rw [neg_neg])) ?_
  exact (win_apply _ _ _ _ _ _ reduceWindows_S2x8x2048x2048_S2x8x2048x2048_w1s1p0_0_w1s1p0_0_w1s1p0_0_w2048s1p2047_0 h_S_ j).trans
    (window_sum (val_main_v74 (F := Ideal) x0 x1 x2) (fun b h s t => -S.dl b h s t) (fun j => neg_at (r_v73 x0 x1 x2 S h0 h1 h2 j)) (l := 2047) rfl reduceWindows_S2x8x2048x2048_S2x8x2048x2048_w1s1p0_0_w1s1p0_0_w1s1p0_0_w2048s1p2047_0 _ (start_b _) j)

include h0 in
theorem r_v19_1 : R4 (a := 2) (b := 8) (c := 2048) (d := 2048) (val_main_v19_1 (F := Ideal) x0) (fun b h s t => Real.exp (S.z b h s t - sp (S.z b h s t))) := fun j => by
  exact exp_at (sub_at (not_inf (r_v12 x0 S h0 j) bits_inf) (not_inf (r_v19_0 x0 S h0 j) bits_inf))

include h0 in
theorem r_v23_1 : R4 (a := 2) (b := 8) (c := 2048) (d := 2048) (val_main_v23_1 (F := Ideal) x0) (fun b h s t => Real.exp (-S.z b h s t - sp (-S.z b h s t))) := fun j => by
  exact exp_at (sub_at (not_inf (neg_at (r_v12 x0 S h0 j)) bits_inf) (not_inf (r_call3_v1_0 x0 S h0 j) bits_inf))

include h0 h1 h2 in
theorem r_v81 : R4 (a := 2) (b := 8) (c := 2048) (d := 2048) (val_main_v81 (F := Ideal) x0 x1 x2) (S.dz) := fun j => by
  have j2 : (j 2).val < 2048 := (j 2).isLt
  have j3 : (j 3).val < 2048 := (j 3).isLt
  refine plus_at ((neg_at (times_at (neg_at (r_v73 x0 x1 x2 S h0 h1 h2 j)) (r_v23_1 x0 S h0 j))).trans ?_)
    (times_at (masked_at j3 j2 (r_v78 x0 x1 x2 S h0 h1 h2 j) Ideal.ofBits_zero_f32) (r_v19_1 x0 S h0 j))
  rw [neg_mul, neg_neg]

include h0 h1 h2 in
theorem r_v83 : R4 (a := 2) (b := 8) (c := 2048) (d := 2048) (val_main_v83 (F := Ideal) x0 x1 x2) (fun b h s t => S.dz b h s t * (1 / 8)) := fun j => by
  exact times_at (r_v81 x0 x1 x2 S h0 h1 h2 j) bits_eighth

include h0 h1 h2 in
theorem r_v84 : R4 (a := 2) (b := 8) (c := 2048) (d := 64) (val_main_v84 (F := Ideal) x0 x1 x2) (S.dk) := fun j => by
  refine (val_main_v84_apply x0 x1 x2 j).trans ?_
  refine (Finset.sum_congr rfl fun k _ => congrArg₂ (· * ·) (r_v83 x0 x1 x2 S h0 h1 h2 _) (r_v5 x0 S h0 _)).trans ?_
  exact sum_coe_mul (n := 2048) (fun k => S.dz (j 0).val (j 1).val k (j 2).val * (1 / 8)) (fun k => S.q (j 0).val (j 1).val k (j 3).val)

include h0 h1 h2 in
theorem r_v85 : R4 (a := 2) (b := 8) (c := 2048) (d := 64) (val_main_v85 (F := Ideal) x0 x1 x2) (S.dq) := fun j => by
  refine (val_main_v85_apply x0 x1 x2 j).trans ?_
  refine (Finset.sum_congr rfl fun k _ => congrArg₂ (· * ·) (r_v83 x0 x1 x2 S h0 h1 h2 _) (r_v7 x0 S h0 _)).trans ?_
  exact sum_coe_mul (n := 2048) (fun k => S.dz (j 0).val (j 1).val (j 2).val k * (1 / 8)) (fun k => S.k (j 0).val (j 1).val k (j 3).val)

include h0 h1 h2 in
theorem r_v90 : R4 (a := 2) (b := 2048) (c := 8) (d := 64) (val_main_v90 (F := Ideal) x0 x1 x2) (fun b s h e => S.dq b h s e) := fun j => by
  exact (val_main_v90_apply x0 x1 x2 j).trans (r_v85 x0 x1 x2 S h0 h1 h2 _)

include h0 h1 h2 in
theorem r_v91 : R3 (a := 2) (b := 2048) (c := 512) (val_main_v91 (F := Ideal) x0 x1 x2) (fun b s l => S.dq b (l / 64) s (l % 64)) := fun j => by
  have j0 : (j 0).val < 2 := (j 0).isLt
  have j1 : (j 1).val < 2048 := (j 1).isLt
  have j2 : (j 2).val < 512 := (j 2).isLt
  refine (val_main_v91_apply x0 x1 x2 j).trans ((r_v90 x0 x1 x2 S h0 h1 h2 _).trans ?_)
  refine eq4 (fun b s h e => S.dq b h s e) (a' := (j 0).val) (b' := (j 1).val) (c' := (j 2).val / 64) (d' := (j 2).val % 64) ?_ ?_ ?_ ?_
  · show (((j 0).val * 2048 + (j 1).val) * 512 + (j 2).val) / 1048576 = _; omega
  · show (((j 0).val * 2048 + (j 1).val) * 512 + (j 2).val) / 512 % 2048 = _; omega
  · show (((j 0).val * 2048 + (j 1).val) * 512 + (j 2).val) / 64 % 8 = _; omega
  · show (((j 0).val * 2048 + (j 1).val) * 512 + (j 2).val) % 64 = _; omega

include h0 h1 h2 in
theorem r_v94 : Rep (n := 4096) (p := 512) (val_main_v94 (F := Ideal) x0 x1 x2) (fun r l => S.dq (r / 2048) (l / 64) (r % 2048) (l % 64)) := fun j => by
  have j0 : (j 0).val < 4096 := (j 0).isLt
  have j1 : (j 1).val < 512 := (j 1).isLt
  refine (val_main_v93_apply x0 x1 x2 j).trans ((r_v91 x0 x1 x2 S h0 h1 h2 _).trans ?_)
  refine eq3 (fun b s l => S.dq b (l / 64) s (l % 64)) (a' := (j 0).val / 2048) (b' := (j 0).val % 2048) (c' := (j 1).val) ?_ ?_ ?_
  · show ((j 0).val * 512 + (j 1).val) / 1048576 = _; omega
  · show ((j 0).val * 512 + (j 1).val) / 512 % 2048 = _; omega
  · show ((j 0).val * 512 + (j 1).val) % 512 = _; omega

include h0 h1 h2 in
theorem r_v88 : R4 (a := 2) (b := 2048) (c := 8) (d := 64) (val_main_v88 (F := Ideal) x0 x1 x2) (fun b s h e => S.dk b h s e) := fun j => by
  exact (val_main_v88_apply x0 x1 x2 j).trans (r_v84 x0 x1 x2 S h0 h1 h2 _)

include h0 h1 h2 in
theorem r_v89 : R3 (a := 2) (b := 2048) (c := 512) (val_main_v89 (F := Ideal) x0 x1 x2) (fun b s l => S.dk b (l / 64) s (l % 64)) := fun j => by
  have j0 : (j 0).val < 2 := (j 0).isLt
  have j1 : (j 1).val < 2048 := (j 1).isLt
  have j2 : (j 2).val < 512 := (j 2).isLt
  refine (val_main_v89_apply x0 x1 x2 j).trans ((r_v88 x0 x1 x2 S h0 h1 h2 _).trans ?_)
  refine eq4 (fun b s h e => S.dk b h s e) (a' := (j 0).val) (b' := (j 1).val) (c' := (j 2).val / 64) (d' := (j 2).val % 64) ?_ ?_ ?_ ?_
  · show (((j 0).val * 2048 + (j 1).val) * 512 + (j 2).val) / 1048576 = _; omega
  · show (((j 0).val * 2048 + (j 1).val) * 512 + (j 2).val) / 512 % 2048 = _; omega
  · show (((j 0).val * 2048 + (j 1).val) * 512 + (j 2).val) / 64 % 8 = _; omega
  · show (((j 0).val * 2048 + (j 1).val) * 512 + (j 2).val) % 64 = _; omega

include h0 h1 h2 in
theorem r_v96 : Rep (n := 4096) (p := 512) (val_main_v96 (F := Ideal) x0 x1 x2) (fun r l => S.dk (r / 2048) (l / 64) (r % 2048) (l % 64)) := fun j => by
  have j0 : (j 0).val < 4096 := (j 0).isLt
  have j1 : (j 1).val < 512 := (j 1).isLt
  refine (val_main_v95_apply x0 x1 x2 j).trans ((r_v89 x0 x1 x2 S h0 h1 h2 _).trans ?_)
  refine eq3 (fun b s l => S.dk b (l / 64) s (l % 64)) (a' := (j 0).val / 2048) (b' := (j 0).val % 2048) (c' := (j 1).val) ?_ ?_ ?_
  · show ((j 0).val * 512 + (j 1).val) / 1048576 = _; omega
  · show ((j 0).val * 512 + (j 1).val) / 512 % 2048 = _; omega
  · show ((j 0).val * 512 + (j 1).val) % 512 = _; omega

include h0 h1 h2 in
theorem r_v86 : R4 (a := 2) (b := 2048) (c := 8) (d := 64) (val_main_v86 (F := Ideal) x0 x1 x2) (fun b s h e => S.dv b h s e) := fun j => by
  exact (val_main_v86_apply x0 x1 x2 j).trans (r_v70 x0 x1 x2 S h0 h1 h2 _)

include h0 h1 h2 in
theorem r_v87 : R3 (a := 2) (b := 2048) (c := 512) (val_main_v87 (F := Ideal) x0 x1 x2) (fun b s l => S.dv b (l / 64) s (l % 64)) := fun j => by
  have j0 : (j 0).val < 2 := (j 0).isLt
  have j1 : (j 1).val < 2048 := (j 1).isLt
  have j2 : (j 2).val < 512 := (j 2).isLt
  refine (val_main_v87_apply x0 x1 x2 j).trans ((r_v86 x0 x1 x2 S h0 h1 h2 _).trans ?_)
  refine eq4 (fun b s h e => S.dv b h s e) (a' := (j 0).val) (b' := (j 1).val) (c' := (j 2).val / 64) (d' := (j 2).val % 64) ?_ ?_ ?_ ?_
  · show (((j 0).val * 2048 + (j 1).val) * 512 + (j 2).val) / 1048576 = _; omega
  · show (((j 0).val * 2048 + (j 1).val) * 512 + (j 2).val) / 512 % 2048 = _; omega
  · show (((j 0).val * 2048 + (j 1).val) * 512 + (j 2).val) / 64 % 8 = _; omega
  · show (((j 0).val * 2048 + (j 1).val) * 512 + (j 2).val) % 64 = _; omega

include h0 h1 h2 in
theorem r_v98 : Rep (n := 4096) (p := 512) (val_main_v98 (F := Ideal) x0 x1 x2) (fun r l => S.dv (r / 2048) (l / 64) (r % 2048) (l % 64)) := fun j => by
  have j0 : (j 0).val < 4096 := (j 0).isLt
  have j1 : (j 1).val < 512 := (j 1).isLt
  refine (val_main_v97_apply x0 x1 x2 j).trans ((r_v87 x0 x1 x2 S h0 h1 h2 _).trans ?_)
  refine eq3 (fun b s l => S.dv b (l / 64) s (l % 64)) (a' := (j 0).val / 2048) (b' := (j 0).val % 2048) (c' := (j 1).val) ?_ ?_ ?_
  · show ((j 0).val * 512 + (j 1).val) / 1048576 = _; omega
  · show ((j 0).val * 512 + (j 1).val) / 512 % 2048 = _; omega
  · show ((j 0).val * 512 + (j 1).val) % 512 = _; omega

include h0 h2 in
theorem r_v47 : R3 (a := 2) (b := 2048) (c := 512) (val_main_v47 (F := Ideal) x0 x2) (fun b s l => S.n b (l / 64) s (l % 64) * S.M b s (512 + l)) :=
  fun j => times_at (r_v42 x0 S h0 j) (r_v46 x2 S h2 j)

include h0 h2 in
theorem r_v48 (j : S512.Idx) : val_main_v48 (F := Ideal) x0 x2 j = ((S.dg (j 0).val : ℝ) : EReal) :=
  sum_two_axes (n0 := 2) (n1 := 2048) (n2 := 512) reducesTo_S2x2048x512_S512_d0_1 _ (fun b s l => S.n b (l / 64) s (l % 64) * S.M b s (512 + l))
    (r_v47 x0 x2 S h0 h2) _ Ideal.ofBits_zero_f32 j

include h0 h2 in
theorem r_v49 : R3 (a := 1) (b := 1) (c := 512) (val_main_v49 (F := Ideal) x0 x2) (fun _ _ l => S.dg l) := fun j => by
  have j0 : (j 0).val < 1 := (j 0).isLt
  have j1 : (j 1).val < 1 := (j 1).isLt
  refine (val_main_v49_apply x0 x2 j).trans ((r_v48 x0 x2 S h0 h2 _).trans ?_)
  refine congrArg (fun l : ℕ => ((S.dg l : ℝ) : EReal)) ?_
  show ((j 0).val * 1 + (j 1).val) * 512 + (j 2).val = (j 2).val
  omega

include h0 h2 in
theorem r_v92 : Rep (n := 1) (p := 512) (val_main_v92 (F := Ideal) x0 x2) (fun _ l => S.dg l) := fun j => by
  refine (val_main_v92_apply x0 x2 j).trans ?_
  refine (sum_two_axes (n0 := 1) (n1 := 1) (n2 := 512) reducesTo_S1x1x512_S512_d0_1 _ (fun _ _ l => S.dg l) (r_v49 x0 x2 S h0 h2) _ Ideal.ofBits_zero_f32 _).trans ?_
  rw [Finset.sum_range_one, Finset.sum_range_one]

end Cert.SbRefIdeal.Closed

end
-- ==== Proof.SbLink.lean ====
/- The kernel's blocks of one sequence and one pair of heads, taken from the whole arrays: what the kernel computes of
   them are the attention's gradients. -/
module

public import proofs.«01_k».proof.Proof.SbSrc
public import proofs.«01_k».proof.Proof.SbPoint

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.Reals

/-! ## The softplus -/

theorem sp_neg (z : ℝ) : -sp (-z) = z - sp z := by
  unfold sp
  rw [abs_neg]
  rcases le_total 0 z with h | h
  · rw [max_eq_left h, max_eq_right (by linarith)]
    ring
  · rw [max_eq_right h, max_eq_left (by linarith)]
    ring

theorem exp_sp (z : ℝ) : Real.exp (sp z) = 1 + Real.exp z := by
  unfold sp
  rw [Real.exp_add, Real.exp_log (by positivity)]
  rcases le_total 0 z with h | h
  · rw [max_eq_left h, abs_of_nonneg h, mul_add, ← Real.exp_add, show z + (0 - z) = 0 by ring, Real.exp_zero]
    ring
  · rw [max_eq_right h, abs_of_nonpos h, Real.exp_zero, show 0 - -z = z by ring]
    ring

theorem sig_add (z : ℝ) : Real.exp (-z - sp (-z)) + Real.exp (z - sp z) = 1 := by
  have h : -z - sp (-z) = -sp z := by have := sp_neg z; linarith
  have hp : (1 : ℝ) + Real.exp z ≠ 0 := by positivity
  rw [h, Real.exp_sub, Real.exp_neg, exp_sp]
  field_simp

/-! ## Sums -/

theorem sum_blocks (f : ℕ → ℝ) (m : ℕ) : ∀ n, (∑ i ∈ Finset.range n, ∑ u ∈ Finset.range m, f (m * i + u)) = ∑ s ∈ Finset.range (m * n), f s
  | 0 => by simp
  | n + 1 => by rw [Finset.sum_range_succ, sum_blocks f m n, Nat.mul_succ, Finset.sum_range_add]

theorem sum_half (f : ℕ → ℝ) {hh : ℕ} (h : hh < 2) : (∑ e ∈ Finset.range 128, f e * hm hh e) = ∑ e ∈ Finset.range 64, f (64 * hh + e) := by
  rw [show (128 : ℕ) = 64 + 64 from rfl, Finset.sum_range_add]
  obtain rfl | rfl : hh = 0 ∨ hh = 1 := by omega
  · rw [Finset.sum_congr rfl (g := fun e => f (64 * 0 + e)), Finset.sum_eq_zero (s := Finset.range 64) (f := fun x => f (64 + x) * hm 0 (64 + x)), add_zero]
    · intro e he
      have := Finset.mem_range.mp he
      rw [hm, if_neg (by omega), mul_zero]
    · intro e he
      have := Finset.mem_range.mp he
      rw [hm, if_pos (by omega), mul_one, Nat.mul_zero, Nat.zero_add]
  · rw [Finset.sum_eq_zero (s := Finset.range 64) (f := fun x => f x * hm 1 x), zero_add]
    · refine Finset.sum_congr rfl fun e he => ?_
      have := Finset.mem_range.mp he
      rw [hm, if_pos (by omega), mul_one, Nat.mul_one]
    · intro e he
      have := Finset.mem_range.mp he
      rw [hm, if_neg (by omega), mul_zero]

theorem pick (f : ℕ → ℝ) {e : ℕ} (he : e < 128) : f 0 * hm 0 e + f 1 * hm 1 e = f (e / 64) := by
  have h : e / 64 = 0 ∨ e / 64 = 1 := by omega
  unfold hm
  rcases h with h | h <;> rw [h] <;> simp

theorem sum_two (f : ℕ → ℝ) : (∑ b ∈ Finset.range 2, f b) = f 0 + f 1 := by simp [Finset.sum_range_succ]

/-! ## The blocks -/

namespace Src
variable (S : Src)

def dat (b p : ℕ) : Dat where
  Q s e := S.P b s (128 * p + e)
  K t e := S.P b t (512 + (128 * p + e))
  V t e := S.P b t (1024 + (128 * p + e))
  O s e := S.o b (2 * p + e / 64) s (e % 64)
  DM s e := S.M b s (512 + (128 * p + e))
  CT s e := S.tot b (2 * p + e / 64) s
  NG e := S.G (128 * p + e)

theorem lane {p hh e : ℕ} : 128 * p + (64 * hh + e) = 64 * (2 * p + hh) + e := by omega
theorem lane' {p e : ℕ} : 128 * p + e = 64 * (2 * p + e / 64) + e % 64 := by omega
theorem half {hh e : ℕ} (he : e < 64) : (64 * hh + e) / 64 = hh := by omega
theorem rest {hh e : ℕ} (he : e < 64) : (64 * hh + e) % 64 = e := by omega

variable (b p : ℕ)

theorem Z_eq {hh : ℕ} (h : hh < 2) (s t : ℕ) : ((S.dat b p).head hh).Z s t = S.z b (2 * p + hh) s t := by
  show (∑ e ∈ Finset.range 128, S.P b s (128 * p + e) * (1 / 8) * hm hh e * S.P b t (512 + (128 * p + e))) = (∑ e ∈ Finset.range 64, S.P b s (64 * (2 * p + hh) + e) * S.P b t (512 + (64 * (2 * p + hh) + e))) * (1 / 8)
  rw [Finset.sum_congr rfl (g := fun e => S.P b s (128 * p + e) * (1 / 8) * S.P b t (512 + (128 * p + e)) * hm hh e) (fun e _ => by ring),
    sum_half _ h, Finset.sum_mul]
  refine Finset.sum_congr rfl fun e _ => ?_
  rw [lane]
  ring

theorem Cc_eq {hh : ℕ} (h : hh < 2) (s t : ℕ) : ((S.dat b p).head hh).Cc s t = S.c b (2 * p + hh) s t := by
  unfold Head.Cc Src.c
  rw [S.Z_eq b p h]

theorem PC_eq {hh : ℕ} (h : hh < 2) (s T : ℕ) : ((S.dat b p).head hh).PC s T = ∑ t ∈ Finset.range T, S.c b (2 * p + hh) s t :=
  Finset.sum_congr rfl fun _ _ => S.Cc_eq b p h s _

theorem after_eq (h s : ℕ) {t : ℕ} (ht : t < 2048) : S.after b h s t = S.tot b h s - ∑ u ∈ Finset.range (t + 1), S.c b h s u := by
  unfold after tot
  have e : (∑ n ∈ Finset.range 2048, if 0 ≤ t + n ∧ t + n - 0 < 2048 then S.c b h s (t + n - 0) else 0) = ∑ n ∈ Finset.range (2048 - t), S.c b h s (t + n) := by
    rw [← Finset.sum_subset (Finset.range_subset_range.mpr (Nat.sub_le 2048 t))]
    · refine Finset.sum_congr rfl fun n hn => ?_
      have := Finset.mem_range.mp hn
      rw [if_pos ⟨Nat.zero_le _, by omega⟩, Nat.sub_zero]
    · intro n _ hn
      rw [Finset.mem_range] at hn
      exact if_neg (by omega)
  have e2 : (∑ u ∈ Finset.range 2048, S.c b h s u) = ∑ u ∈ Finset.range (t + (2048 - t)), S.c b h s u := by
    rw [Nat.add_sub_cancel' ht.le]
  rw [e, e2, Finset.sum_range_add, Finset.sum_range_succ]
  ring

theorem tot_eq (hh s : ℕ) : ((S.dat b p).head hh).tot s = S.tot b (2 * p + hh) s := by
  show S.tot b (2 * p + 64 * hh / 64) s = _
  rw [Nat.mul_div_cancel_left _ (by norm_num)]

theorem Aw_eq {hh : ℕ} (h : hh < 2) (s : ℕ) {t : ℕ} (ht : t < 2048) : ((S.dat b p).head hh).Aw s t = S.a b (2 * p + hh) s t := by
  unfold Head.Aw Src.a Src.lw
  rw [S.Z_eq b p h, S.PC_eq b p h, S.tot_eq, S.after_eq b _ s ht, sp_neg]
  congr 2
  ring

/-! The norm -/

theorem o_half (hh r : ℕ) {e : ℕ} (he : e < 64) : (S.dat b p).N.o r (64 * hh + e) = S.o b (2 * p + hh) r e := by
  show S.o b (2 * p + (64 * hh + e) / 64) r ((64 * hh + e) % 64) = _
  rw [half he, rest he]

theorem Nms_eq {hh : ℕ} (h : hh < 2) (r : ℕ) : (S.dat b p).N.ms hh r = S.ms b (2 * p + hh) r := by
  unfold Nrm.ms Src.ms
  rw [sum_half _ h]
  congr 2
  exact Finset.sum_congr rfl fun e he => by rw [S.o_half b p hh r (Finset.mem_range.mp he)]

theorem RS_eq (r : ℕ) {e : ℕ} (he : e < 128) : (S.dat b p).N.RS r e = S.rs b (2 * p + e / 64) r := by
  unfold Nrm.RS
  rw [pick (fun hh => (S.dat b p).N.rs hh r) he]
  unfold Nrm.rs Src.rs
  rw [S.Nms_eq b p (by omega)]

theorem OH_eq (r : ℕ) {e : ℕ} (he : e < 128) : (S.dat b p).N.OH r e = S.n b (2 * p + e / 64) r (e % 64) := by
  unfold Nrm.OH Src.n
  rw [S.RS_eq b p r he]
  rfl

theorem DOH_eq (r e : ℕ) : (S.dat b p).N.DOH r e = S.dn b (2 * p + e / 64) r (e % 64) := by
  show S.M b r (512 + (128 * p + e)) * S.G (128 * p + e) = S.M b r (512 + (64 * (2 * p + e / 64) + e % 64)) * S.G (64 * (2 * p + e / 64) + e % 64)
  rw [← lane']

theorem MD_eq {hh : ℕ} (h : hh < 2) (r : ℕ) : (S.dat b p).N.MD hh r
    = (∑ e ∈ Finset.range 64, S.o b (2 * p + hh) r e * S.dn b (2 * p + hh) r e) * S.rs b (2 * p + hh) r * (1 / 64) := by
  unfold Nrm.MD
  rw [sum_half _ h, Finset.sum_mul (Finset.range 64) _ (S.rs b (2 * p + hh) r)]
  congr 1
  refine Finset.sum_congr rfl fun e he => ?_
  have he' := Finset.mem_range.mp he
  rw [S.DOH_eq, S.OH_eq b p r (by omega), half he', rest he']
  unfold Src.n
  ring

theorem rs_sq (h s : ℕ) : S.rs b h s * S.rs b h s = 1 / S.ms b h s := by
  unfold Src.rs
  rw [← mul_inv, Real.mul_self_sqrt (S.ms_pos b h s).le, one_div]

theorem DO_eq (r : ℕ) {e : ℕ} (he : e < 128) : (S.dat b p).N.DO r e = S.do' b (2 * p + e / 64) r (e % 64) := by
  unfold Nrm.DO Src.do' Src.od
  rw [pick (fun hh => (S.dat b p).N.MD hh r) he, S.MD_eq b p (by omega), S.RS_eq b p r he, S.OH_eq b p r he, S.DOH_eq, ← S.rs_sq]
  unfold Src.n
  ring

/-! The gradients -/

theorem d_half {hh : ℕ} (h : hh < 2) (s : ℕ) {e : ℕ} (he : e < 64) : (S.dat b p).N.DO s (64 * hh + e) = S.do' b (2 * p + hh) s e := by
  rw [S.DO_eq b p s (by omega), half he, rest he]

theorem Da_eq {hh : ℕ} (h : hh < 2) (s t : ℕ) : ((S.dat b p).head hh).Da s t = S.da b (2 * p + hh) s t := by
  show (∑ e ∈ Finset.range 128, (S.dat b p).N.DO s e * hm hh e * S.P b t (1024 + (128 * p + e))) = ∑ e ∈ Finset.range 64, S.do' b (2 * p + hh) s e * S.P b t (1024 + (64 * (2 * p + hh) + e))
  rw [Finset.sum_congr rfl (g := fun e => (S.dat b p).N.DO s e * S.P b t (1024 + (128 * p + e)) * hm hh e) (fun e _ => by ring), sum_half _ h]
  exact Finset.sum_congr rfl fun e he => by rw [S.d_half b p h s (Finset.mem_range.mp he), lane]

theorem Dl_eq {hh : ℕ} (h : hh < 2) (s : ℕ) {t : ℕ} (ht : t < 2048) : ((S.dat b p).head hh).Dl s t = S.dl b (2 * p + hh) s t := by
  unfold Head.Dl Src.dl
  rw [S.Aw_eq b p h s ht, S.Da_eq b p h]
  unfold Src.a
  split <;> ring

theorem PD_eq {hh : ℕ} (h : hh < 2) (s : ℕ) {T : ℕ} (hT : T ≤ 2048) : ((S.dat b p).head hh).PD s T = ∑ t ∈ Finset.range T, S.dl b (2 * p + hh) s t :=
  Finset.sum_congr rfl fun _ ht => S.Dl_eq b p h s (by have := Finset.mem_range.mp ht; omega)

theorem dc_eq (h s : ℕ) {t : ℕ} (ht : t < 2048) : S.dc b h s t = S.dl b h s t - ∑ u ∈ Finset.range (t + 1), S.dl b h s u := by
  unfold dc
  have e : (∑ n ∈ Finset.range 2048, if 2047 ≤ t + n ∧ t + n - 2047 < 2048 then -S.dl b h s (t + n - 2047) else 0) = ∑ u ∈ Finset.range (t + 1), -S.dl b h s u := by
    rw [show Finset.range 2048 = Finset.range ((2047 - t) + (t + 1)) by congr 1; omega, Finset.sum_range_add, Finset.sum_eq_zero, zero_add]
    · refine Finset.sum_congr rfl fun u hu => ?_
      have := Finset.mem_range.mp hu
      rw [if_pos (by omega), show t + (2047 - t + u) - 2047 = u by omega]
    · intro n hn
      have := Finset.mem_range.mp hn
      exact if_neg (by omega)
  rw [e, Finset.sum_neg_distrib, sub_eq_add_neg]

theorem Dz_eq {hh : ℕ} (h : hh < 2) (s : ℕ) {t : ℕ} (ht : t < 2048) : ((S.dat b p).head hh).Dz s t = S.dz b (2 * p + hh) s t := by
  unfold Head.Dz Src.dz Head.Sg
  rw [S.Dl_eq b p h s ht, S.Z_eq b p h, S.PD_eq b p h s (by omega), S.dc_eq b _ s ht]
  have hs := sig_add (S.z b (2 * p + hh) s t)
  by_cases hst : t < s
  · rw [if_pos hst, if_pos hst, show Real.exp (-S.z b (2 * p + hh) s t - sp (-S.z b (2 * p + hh) s t)) = 1 - Real.exp (S.z b (2 * p + hh) s t - sp (S.z b (2 * p + hh) s t)) by linarith]
    ring
  · rw [if_neg hst, if_neg hst, show S.dl b (2 * p + hh) s t = 0 by unfold Src.dl; rw [if_neg hst, zero_mul]]
    ring

theorem gradQ_eq (s : ℕ) {e : ℕ} (he : e < 128) : (S.dat b p).gradQ s e = S.dq b (2 * p + e / 64) s (e % 64) := by
  unfold Dat.gradQ
  rw [pick (fun hh => ((S.dat b p).head hh).DQ s 2048 e) he]
  unfold Head.DQ Src.dq
  rw [Finset.sum_mul]
  refine Finset.sum_congr rfl fun t ht => ?_
  rw [S.Dz_eq b p (by omega) s (Finset.mem_range.mp ht)]
  show _ * S.P b t (512 + (128 * p + e)) * _ = _ * _ * S.P b t (512 + (64 * (2 * p + e / 64) + e % 64))
  rw [← lane']
  ring

theorem sum_eights (f : ℕ → ℝ) : (∑ i ∈ Finset.range 4, (∑ u ∈ Finset.range 256, f (512 * i + u) + ∑ u ∈ Finset.range 256, f (512 * i + 256 + u))) = ∑ s ∈ Finset.range 2048, f s := by
  rw [← sum_blocks f 512 4]
  refine Finset.sum_congr rfl fun i _ => ?_
  rw [show (512 : ℕ) = 256 + 256 from rfl, Finset.sum_range_add]
  simp only [Nat.add_assoc]

theorem addK_eq {e t : ℕ} (he : e < 128) (ht : t < 2048) : (∑ i ∈ Finset.range 4, (S.dat b p).addK (512 * i) e t) = S.dk b (2 * p + e / 64) t (e % 64) := by
  have h1 : ∀ i ∈ Finset.range 4, (S.dat b p).addK (512 * i) e t
      = ∑ u ∈ Finset.range 256, S.dz b (2 * p + e / 64) (512 * i + u) t * (1 / 8) * S.q b (2 * p + e / 64) (512 * i + u) (e % 64)
        + ∑ u ∈ Finset.range 256, S.dz b (2 * p + e / 64) (512 * i + 256 + u) t * (1 / 8) * S.q b (2 * p + e / 64) (512 * i + 256 + u) (e % 64) := by
    intro i _
    have hE : ∀ {hh : ℕ}, hh < 2 → ∀ S0, ((S.dat b p).head hh).Ek S0 e t = (∑ u ∈ Finset.range 256, S.dz b (2 * p + hh) (S0 + u) t * (1 / 8) * S.P b (S0 + u) (128 * p + e)) * hm hh e := by
      intro hh h S0
      unfold Head.Ek
      rw [Finset.sum_mul]
      refine Finset.sum_congr rfl fun u _ => ?_
      rw [S.Dz_eq b p h _ ht]
      show S.P b (S0 + u) (128 * p + e) * (1 / 8) * hm hh e * _ = _
      ring
    have hq : ∀ s, S.q b (2 * p + e / 64) s (e % 64) = S.P b s (128 * p + e) := fun s => by unfold Src.q; rw [← lane']
    unfold Dat.addK sumK
    rw [hE (hh := 0) (by norm_num), hE (hh := 0) (by norm_num), hE (hh := 1) (by norm_num), hE (hh := 1) (by norm_num)]
    simp only [hq]
    rw [← pick (fun hh => ∑ u ∈ Finset.range 256, S.dz b (2 * p + hh) (512 * i + u) t * (1 / 8) * S.P b (512 * i + u) (128 * p + e)) he,
      ← pick (fun hh => ∑ u ∈ Finset.range 256, S.dz b (2 * p + hh) (512 * i + 256 + u) t * (1 / 8) * S.P b (512 * i + 256 + u) (128 * p + e)) he]
    ring
  rw [Finset.sum_congr rfl h1]
  exact sum_eights fun s => S.dz b (2 * p + e / 64) s t * (1 / 8) * S.q b (2 * p + e / 64) s (e % 64)

theorem addV_eq {e t : ℕ} (he : e < 128) (ht : t < 2048) : (∑ i ∈ Finset.range 4, (S.dat b p).addV (512 * i) e t) = S.dv b (2 * p + e / 64) t (e % 64) := by
  have h1 : ∀ i ∈ Finset.range 4, (S.dat b p).addV (512 * i) e t
      = ∑ u ∈ Finset.range 256, S.do' b (2 * p + e / 64) (512 * i + u) (e % 64) * S.a b (2 * p + e / 64) (512 * i + u) t
        + ∑ u ∈ Finset.range 256, S.do' b (2 * p + e / 64) (512 * i + 256 + u) (e % 64) * S.a b (2 * p + e / 64) (512 * i + 256 + u) t := by
    intro i _
    have hE : ∀ {hh : ℕ}, hh < 2 → ∀ S0, ((S.dat b p).head hh).Ev S0 e t = (∑ u ∈ Finset.range 256, S.do' b (2 * p + e / 64) (S0 + u) (e % 64) * S.a b (2 * p + hh) (S0 + u) t) * hm hh e := by
      intro hh h S0
      unfold Head.Ev
      rw [Finset.sum_mul]
      refine Finset.sum_congr rfl fun u _ => ?_
      rw [S.Aw_eq b p h _ ht]
      show (S.dat b p).N.DO (S0 + u) e * hm hh e * _ = _
      rw [S.DO_eq b p _ he]
      ring
    unfold Dat.addV sumV
    rw [hE (hh := 0) (by norm_num), hE (hh := 0) (by norm_num), hE (hh := 1) (by norm_num), hE (hh := 1) (by norm_num)]
    have p1 := pick (fun hh => ∑ u ∈ Finset.range 256, S.do' b (2 * p + e / 64) (512 * i + u) (e % 64) * S.a b (2 * p + hh) (512 * i + u) t) he
    have p2 := pick (fun hh => ∑ u ∈ Finset.range 256, S.do' b (2 * p + e / 64) (512 * i + 256 + u) (e % 64) * S.a b (2 * p + hh) (512 * i + 256 + u) t) he
    rw [← p1, ← p2]
    ring
  rw [Finset.sum_congr rfl h1]
  exact sum_eights fun s => S.do' b (2 * p + e / 64) s (e % 64) * S.a b (2 * p + e / 64) s t

theorem addG_eq {e : ℕ} (he : e < 128) : (∑ k ∈ Finset.range 8, (S.dat (k / 4) p).addG (512 * (k % 4)) e) = S.dg (128 * p + e) := by
  have hA : ∀ b i, (S.dat b p).addG (512 * i) e = ∑ u ∈ Finset.range 512, S.n b ((128 * p + e) / 64) (512 * i + u) ((128 * p + e) % 64) * S.M b (512 * i + u) (512 + (128 * p + e)) := by
    intro b i
    refine Finset.sum_congr rfl fun u _ => ?_
    show S.M b (512 * i + u) (512 + (128 * p + e)) * _ = _
    rw [S.OH_eq b p _ he, show (128 * p + e) / 64 = 2 * p + e / 64 by omega, show (128 * p + e) % 64 = e % 64 by omega]
    ring
  unfold dg
  rw [show (8 : ℕ) = 4 + 4 from rfl, Finset.sum_range_add, sum_two]
  congr 1
  · rw [← sum_blocks _ 512 4]
    refine Finset.sum_congr rfl fun i hi => ?_
    have := Finset.mem_range.mp hi
    rw [show i / 4 = 0 by omega, show i % 4 = i by omega, hA]
  · rw [← sum_blocks _ 512 4]
    refine Finset.sum_congr rfl fun i hi => ?_
    have := Finset.mem_range.mp hi
    rw [show (4 + i) / 4 = 1 by omega, show (4 + i) % 4 = i by omega, hA]

end Src

end Cert.SbIdeal.Closed

end
-- ==== Proof.SbHost.lean ====
/- What the host prepares for the kernel, over the reals. -/
module

public import proofs.«01_k».proof.Proof.SbLink
public import proofs.«01_k».proof.Proof.SbRef
public import proofs.«01_k».proof.Proof.Gen.SbIdeal.Value
public import Idealize.ShloMosaic.Lib.Pipeline.ValueKit
public import Idealize.ShloMosaic.Lib.Pointwise

@[expose] public section

set_option maxRecDepth 16384
set_option maxHeartbeats 4000000

noncomputable section

namespace Cert.SbIdeal.Closed

open Idealize.ShloMosaic Idealize.ShloMosaic.TcCoe Idealize.SL.Sem Idealize.ShloMosaic.Pipeline
open Cert.SbIdeal Cert.SbIdeal.Gen Cert.Reals
open Cert.SbRefIdeal.Read (val_main_v28 val_main_v20_0)

variable (m : (ℓ : Loc nD τ sig) → Buf (Elt Ideal) ℓ) (c : Dev nD)

theorem saved_read (j : S4096x512.Idx) : V m c main_v28 j
    = shapeCast S4096x512 (val_main_v28 (F := Ideal) (m ((c : Thread nD τ).loc main_arg0))) shapeCasts_S2x2048x8x64_S4096x512 j := by
  entry_read
  rfl

theorem total_read (j : S4096x512.Idx) : V m c main_v33 j
    = shapeCast S4096x512 (broadcastInDim S2x2048x8x64 ![0, 1, 2, 3] bcast_S2x2048x8x1_S2x2048x8x64_0_1_2_3 (broadcastInDim S2x2048x8x1 ![0, 1, 2] bcast_S2x2048x8_S2x2048x8x1_0_1_2
      (transpose S2x2048x8 [0, 2, 1] (Host.reduceAdd (val_main_v20_0 (F := Ideal) (m ((c : Thread nD τ).loc main_arg0))) (constant (F := Ideal) S_ .f32 0x00000000#32) reducesTo_S2x8x2048x2048_S2x8x2048_d3 h_S_) transposes_S2x8x2048_S2x2048x8_0_2_1))) shapeCasts_S2x2048x8x64_S4096x512 j := by
  entry_read
  rfl

theorem proj_read (j : S4096x1536.Idx) : V m c main_v35 j
    = shapeCast S4096x1536 (m ((c : Thread nD τ).loc main_arg0) : (⟨S2x2048x1536, .f32⟩ : BufTy).Contents (Elt Ideal)) shapeCasts_S2x2048x1536_S4096x1536 j := by
  entry_read
  rfl

theorem proj_flat (X : (⟨S2x2048x1536, .f32⟩ : BufTy).Contents (Elt Ideal)) (j : S4096x1536.Idx) : shapeCast S4096x1536 X shapeCasts_S2x2048x1536_S4096x1536 j = X
    (ix3 ⟨(j 0).val / 2048, by have h0 : (j 0).val < 4096 := (j 0).isLt; show (j 0).val / 2048 < 2; omega⟩ ⟨(j 0).val % 2048, by show (j 0).val % 2048 < 2048; omega⟩ (j 1)) := by
  pointwise

theorem dmix_read (j : S4096x1024.Idx) : V m c main_v36 j
    = shapeCast S4096x1024 (m ((c : Thread nD τ).loc main_arg2) : (⟨S2x2048x1024, .f32⟩ : BufTy).Contents (Elt Ideal)) shapeCasts_S2x2048x1024_S4096x1024 j := by
  entry_read
  rfl

theorem dmix_flat (X : (⟨S2x2048x1024, .f32⟩ : BufTy).Contents (Elt Ideal)) (j : S4096x1024.Idx) : shapeCast S4096x1024 X shapeCasts_S2x2048x1024_S4096x1024 j = X
    (ix3 ⟨(j 0).val / 2048, by have h0 : (j 0).val < 4096 := (j 0).isLt; show (j 0).val / 2048 < 2; omega⟩ ⟨(j 0).val % 2048, by show (j 0).val % 2048 < 2048; omega⟩ (j 1)) := by
  pointwise

theorem tri_read (j : S256x256.Idx) : V m c main_v41 j = Scalar.select (IntOp.cmpi .sle (BitVec.ofNat 32 (j 0).val) (BitVec.ofNat 32 (j 1).val)) (Ideal.ofBits .f32 0x3F800000#32) (Ideal.ofBits .f32 0x00000000#32) := by
  entry_read
  rfl

theorem sum_coe {n : ℕ} (f : ℕ → ℝ) : (∑ k : Fin n, ((f k.val : ℝ) : EReal)) = ((∑ k ∈ Finset.range n, f k : ℝ) : EReal) := by
  rw [← Fin.sum_univ_eq_sum_range f n, coe_sum]

theorem total_flat (X : (⟨S2x8x2048x2048, .f32⟩ : BufTy).Contents (Elt Ideal)) (x : ℕ → ℕ → ℕ → ℕ → ℝ) (hX : R4 (a := 2) (b := 8) (c := 2048) (d := 2048) X x) (j : S4096x512.Idx) :
    shapeCast S4096x512 (broadcastInDim S2x2048x8x64 ![0, 1, 2, 3] bcast_S2x2048x8x1_S2x2048x8x64_0_1_2_3 (broadcastInDim S2x2048x8x1 ![0, 1, 2] bcast_S2x2048x8_S2x2048x8x1_0_1_2
      (transpose S2x2048x8 [0, 2, 1] (Host.reduceAdd (X : FVec Ideal S2x8x2048x2048 .f32) (constant (F := Ideal) S_ .f32 0x00000000#32) reducesTo_S2x8x2048x2048_S2x8x2048_d3 h_S_) transposes_S2x8x2048_S2x2048x8_0_2_1))) shapeCasts_S2x2048x8x64_S4096x512 j
      = ((∑ t ∈ Finset.range 2048, x ((j 0).val / 2048) ((j 1).val / 64) ((j 0).val % 2048) t : ℝ) : EReal) := by
  pointwise
  exact Eq.trans (b := ∑ k : Fin 2048, ((x ((j 0).val / 2048) ((j 1).val / 64) ((j 0).val % 2048) k.val : ℝ) : EReal)) (Finset.sum_congr rfl fun k _ => hX _)
    (sum_coe (n := 2048) (x ((j 0).val / 2048) ((j 1).val / 64) ((j 0).val % 2048)))

theorem saved_flat (X : (⟨S2x2048x8x64, .f32⟩ : BufTy).Contents (Elt Ideal)) (x : ℕ → ℕ → ℕ → ℕ → ℝ) (hX : R4 (a := 2) (b := 2048) (c := 8) (d := 64) X x) (j : S4096x512.Idx) :
    shapeCast S4096x512 X shapeCasts_S2x2048x8x64_S4096x512 j
      = ((x ((j 0).val / 2048) ((j 0).val % 2048) ((j 1).val / 64) ((j 1).val % 64) : ℝ) : EReal) := by
  pointwise
  exact hX _

variable (S : Src) (h0 : R3 (a := 2) (b := 2048) (c := 1536) (m ((c : Thread nD τ).loc main_arg0)) S.P)
  (h2 : R3 (a := 2) (b := 2048) (c := 1024) (m ((c : Thread nD τ).loc main_arg2)) S.M)

include h0 in
theorem rep_proj : Rep (n := 4096) (p := 1536) (V m c main_v35) (fun r l => S.P (r / 2048) (r % 2048) l) := fun j => (((proj_read m c j).trans (proj_flat _ j))).trans (h0 _)

include h2 in
theorem rep_dmix : Rep (n := 4096) (p := 1024) (V m c main_v36) (fun r l => S.M (r / 2048) (r % 2048) l) := fun j => (((dmix_read m c j).trans (dmix_flat _ j))).trans (h2 _)

include h0 in
theorem rep_saved : Rep (n := 4096) (p := 512) (V m c main_v28) (fun r l => S.o (r / 2048) (l / 64) (r % 2048) (l % 64)) := fun j =>
  (saved_read m c j).trans (saved_flat _ (fun b s h e => S.o b h s e) (SbRefIdeal.Closed.r_v28 _ S h0) j)

include h0 in
theorem rep_total : Rep (n := 4096) (p := 512) (V m c main_v33) (fun r l => S.tot (r / 2048) (l / 64) (r % 2048)) := fun j =>
  (total_read m c j).trans (total_flat _ S.c (SbRefIdeal.Closed.r_v20_0 _ S h0) j)

theorem rep_tri0 : Rep (n := 256) (p := 256) (V m c main_v41) triR := fun j => by
  refine (tri_read m c j).trans ?_
  have j0 : (j 0).val < 256 := (j 0).isLt
  have j1 : (j 1).val < 256 := (j 1).isLt
  have e : (IntOp.cmpi .sle (BitVec.ofNat 32 (j 0).val) (BitVec.ofNat 32 (j 1).val) = 1#1) = ((j 0).val ≤ (j 1).val) := by
    show (BitVec.ofBool (BitVec.sle (BitVec.ofNat 32 (j 0).val) (BitVec.ofNat 32 (j 1).val)) = 1#1) = _
    have h1 : (BitVec.ofNat 32 (j 0).val).toInt = ((j 0).val : ℤ) := by
      rw [BitVec.toInt_eq_toNat_of_lt (by rw [BitVec.toNat_ofNat]; omega), BitVec.toNat_ofNat, Nat.mod_eq_of_lt (by omega)]
    have h2 : (BitVec.ofNat 32 (j 1).val).toInt = ((j 1).val : ℤ) := by
      rw [BitVec.toInt_eq_toNat_of_lt (by rw [BitVec.toNat_ofNat]; omega), BitVec.toNat_ofNat, Nat.mod_eq_of_lt (by omega)]
    rw [BitVec.sle, h1, h2]
    by_cases h : (j 0).val ≤ (j 1).val <;> simp [h]
  show (if _ = 1#1 then _ else _) = _
  simp only [e]
  unfold triR
  by_cases h : (j 0).val ≤ (j 1).val
  · rw [if_pos h, if_pos h]
    exact Ideal.ofBits_one_f32
  · rw [if_neg h, if_neg h]
    exact Ideal.ofBits_zero_f32

end Cert.SbIdeal.Closed

end
-- ==== Proof.SbBlk.lean ====
/- The blocks that a grid point is given, over the reals, and the four arrays that the kernel leaves. -/
module

public import proofs.«01_k».proof.Proof.SbLink
public import proofs.«01_k».proof.Proof.SbGrid
public import proofs.«01_k».proof.Proof.Gen.SbIdeal.Value
public import Idealize.ShloMosaic.Lib.Pipeline.ValueKit
public import Idealize.ShloMosaic.Lib.Pointwise

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.SbIdeal Cert.SbIdeal.Gen Cert.Reals

theorem idx : ∀ t : Fin cfg0.N, win0_0.index t = ![t.val % 8, t.val / 8] ∧ win0_1.index t = ![t.val % 8 / 4, 4 + t.val / 8] ∧ win0_2.index t = ![t.val % 8 / 4, 8 + t.val / 8]
    ∧ win0_3.index t = ![0, t.val / 8] ∧ win0_4.index t = ![0, 0] ∧ win0_5.index t = ![t.val % 8, 4 + t.val / 8] ∧ win0_6.index t = ![t.val % 8, t.val / 8] ∧ win0_7.index t = ![t.val % 8, t.val / 8] := by decide +kernel

theorem idx_out : ∀ t : Fin cfg0.N, win0_8.index t = ![t.val % 8, t.val / 8] ∧ win0_9.index t = ![t.val % 8 / 4, t.val / 8] ∧ win0_10.index t = ![t.val % 8 / 4, t.val / 8]
    ∧ win0_11.index t = ![0, t.val / 8] := by decide +kernel

variable (m : (ℓ : Loc nD τ sig) → Buf (Elt Ideal) ℓ) (c : Dev nD)

theorem in0 (t : Fin cfg0.N) {x : ℕ → ℕ → ℝ} (h : Rep (n := 4096) (p := 1536) (V m c main_v35) x) :
    Rep (n := 512) (p := 128) (iblk m c 0 t : FVec Ideal S512x128 .bf16) (fun r e => x (512 * (t.val % 8) + r) (128 * (t.val / 8) + e)) := fun y => by
  refine Eq.trans ?_ ((h ((View.slice (View.whole main_v35) (win0_0.rect t)).emb y)).trans ?_)
  · rfl
  · exact congrArg₂ (fun a b : ℕ => ((x a b : ℝ) : EReal)) (by show win0_0.index t 0 * 512 + 1 * (y 0).val = _; rw [(idx t).1]; show (t.val % 8) * 512 + 1 * _ = _; omega)
      (by show win0_0.index t 1 * 128 + 1 * (y 1).val = _; rw [(idx t).1]; show (t.val / 8) * 128 + 1 * _ = _; omega)

theorem in1 (t : Fin cfg0.N) {x : ℕ → ℕ → ℝ} (h : Rep (n := 4096) (p := 1536) (V m c main_v35) x) :
    Rep (n := 2048) (p := 128) (iblk m c 1 t : FVec Ideal S2048x128 .bf16) (fun r e => x (2048 * (t.val % 8 / 4) + r) (128 * (4 + t.val / 8) + e)) := fun y => by
  refine Eq.trans ?_ ((h ((View.slice (View.whole main_v35) (win0_1.rect t)).emb y)).trans ?_)
  · rfl
  · exact congrArg₂ (fun a b : ℕ => ((x a b : ℝ) : EReal)) (by show win0_1.index t 0 * 2048 + 1 * (y 0).val = _; rw [(idx t).2.1]; show (t.val % 8 / 4) * 2048 + 1 * _ = _; omega)
      (by show win0_1.index t 1 * 128 + 1 * (y 1).val = _; rw [(idx t).2.1]; show (4 + t.val / 8) * 128 + 1 * _ = _; omega)

theorem in2 (t : Fin cfg0.N) {x : ℕ → ℕ → ℝ} (h : Rep (n := 4096) (p := 1536) (V m c main_v35) x) :
    Rep (n := 2048) (p := 128) (iblk m c 2 t : FVec Ideal S2048x128 .bf16) (fun r e => x (2048 * (t.val % 8 / 4) + r) (128 * (8 + t.val / 8) + e)) := fun y => by
  refine Eq.trans ?_ ((h ((View.slice (View.whole main_v35) (win0_2.rect t)).emb y)).trans ?_)
  · rfl
  · exact congrArg₂ (fun a b : ℕ => ((x a b : ℝ) : EReal)) (by show win0_2.index t 0 * 2048 + 1 * (y 0).val = _; rw [(idx t).2.2.1]; show (t.val % 8 / 4) * 2048 + 1 * _ = _; omega)
      (by show win0_2.index t 1 * 128 + 1 * (y 1).val = _; rw [(idx t).2.2.1]; show (8 + t.val / 8) * 128 + 1 * _ = _; omega)

theorem in3 (t : Fin cfg0.N) {x : ℕ → ℕ → ℝ} (h : Rep (n := 1) (p := 512) (V m c main_arg1) x) :
    Rep (n := 1) (p := 128) (iblk m c 3 t : FVec Ideal S1x128 .f32) (fun r e => x (0 + r) (128 * (t.val / 8) + e)) := fun y => by
  refine Eq.trans ?_ ((h ((View.slice (View.whole main_arg1) (win0_3.rect t)).emb y)).trans ?_)
  · rfl
  · exact congrArg₂ (fun a b : ℕ => ((x a b : ℝ) : EReal)) (by show win0_3.index t 0 * 1 + 1 * (y 0).val = _; rw [(idx t).2.2.2.1]; show 0 * 1 + 1 * _ = _; omega)
      (by show win0_3.index t 1 * 128 + 1 * (y 1).val = _; rw [(idx t).2.2.2.1]; show (t.val / 8) * 128 + 1 * _ = _; omega)

theorem in4 (t : Fin cfg0.N) {x : ℕ → ℕ → ℝ} (h : Rep (n := 256) (p := 256) (V m c main_v41) x) :
    Rep (n := 256) (p := 256) (iblk m c 4 t : FVec Ideal S256x256 .bf16) (fun r e => x (0 + r) (0 + e)) := fun y => by
  refine Eq.trans ?_ ((h ((View.slice (View.whole main_v41) (win0_4.rect t)).emb y)).trans ?_)
  · rfl
  · exact congrArg₂ (fun a b : ℕ => ((x a b : ℝ) : EReal)) (by show win0_4.index t 0 * 256 + 1 * (y 0).val = _; rw [(idx t).2.2.2.2.1]; show 0 * 256 + 1 * _ = _; omega)
      (by show win0_4.index t 1 * 256 + 1 * (y 1).val = _; rw [(idx t).2.2.2.2.1]; show 0 * 256 + 1 * _ = _; omega)

theorem in5 (t : Fin cfg0.N) {x : ℕ → ℕ → ℝ} (h : Rep (n := 4096) (p := 1024) (V m c main_v36) x) :
    Rep (n := 512) (p := 128) (iblk m c 5 t : FVec Ideal S512x128 .f32) (fun r e => x (512 * (t.val % 8) + r) (128 * (4 + t.val / 8) + e)) := fun y => by
  refine Eq.trans ?_ ((h ((View.slice (View.whole main_v36) (win0_5.rect t)).emb y)).trans ?_)
  · rfl
  · exact congrArg₂ (fun a b : ℕ => ((x a b : ℝ) : EReal)) (by show win0_5.index t 0 * 512 + 1 * (y 0).val = _; rw [(idx t).2.2.2.2.2.1]; show (t.val % 8) * 512 + 1 * _ = _; omega)
      (by show win0_5.index t 1 * 128 + 1 * (y 1).val = _; rw [(idx t).2.2.2.2.2.1]; show (4 + t.val / 8) * 128 + 1 * _ = _; omega)

theorem in6 (t : Fin cfg0.N) {x : ℕ → ℕ → ℝ} (h : Rep (n := 4096) (p := 512) (V m c main_v28) x) :
    Rep (n := 512) (p := 128) (iblk m c 6 t : FVec Ideal S512x128 .f32) (fun r e => x (512 * (t.val % 8) + r) (128 * (t.val / 8) + e)) := fun y => by
  refine Eq.trans ?_ ((h ((View.slice (View.whole main_v28) (win0_6.rect t)).emb y)).trans ?_)
  · rfl
  · exact congrArg₂ (fun a b : ℕ => ((x a b : ℝ) : EReal)) (by show win0_6.index t 0 * 512 + 1 * (y 0).val = _; rw [(idx t).2.2.2.2.2.2.1]; show (t.val % 8) * 512 + 1 * _ = _; omega)
      (by show win0_6.index t 1 * 128 + 1 * (y 1).val = _; rw [(idx t).2.2.2.2.2.2.1]; show (t.val / 8) * 128 + 1 * _ = _; omega)

theorem in7 (t : Fin cfg0.N) {x : ℕ → ℕ → ℝ} (h : Rep (n := 4096) (p := 512) (V m c main_v33) x) :
    Rep (n := 512) (p := 128) (iblk m c 7 t : FVec Ideal S512x128 .f32) (fun r e => x (512 * (t.val % 8) + r) (128 * (t.val / 8) + e)) := fun y => by
  refine Eq.trans ?_ ((h ((View.slice (View.whole main_v33) (win0_7.rect t)).emb y)).trans ?_)
  · rfl
  · exact congrArg₂ (fun a b : ℕ => ((x a b : ℝ) : EReal)) (by show win0_7.index t 0 * 512 + 1 * (y 0).val = _; rw [(idx t).2.2.2.2.2.2.2]; show (t.val % 8) * 512 + 1 * _ = _; omega)
      (by show win0_7.index t 1 * 128 + 1 * (y 1).val = _; rw [(idx t).2.2.2.2.2.2.2]; show (t.val / 8) * 128 + 1 * _ = _; omega)

section
variable (S : Src) (hP : Rep (n := 4096) (p := 1536) (V m c main_v35) (fun r l => S.P (r / 2048) (r % 2048) l))
  (hG : Rep (n := 1) (p := 512) (V m c main_arg1) (fun _ l => S.G l)) (hT : Rep (n := 256) (p := 256) (V m c main_v41) triR)
  (hM : Rep (n := 4096) (p := 1024) (V m c main_v36) (fun r l => S.M (r / 2048) (r % 2048) l))
  (hO : Rep (n := 4096) (p := 512) (V m c main_v28) (fun r l => S.o (r / 2048) (l / 64) (r % 2048) (l % 64)))
  (hC : Rep (n := 4096) (p := 512) (V m c main_v33) (fun r l => S.tot (r / 2048) (l / 64) (r % 2048)))

theorem eq3 (f : ℕ → ℕ → ℕ → ℝ) {a b c a' b' c' : ℕ} (ha : a = a') (hb : b = b') (hc : c = c') : f a b c = f a' b' c' := by rw [ha, hb, hc]
theorem eq4 (f : ℕ → ℕ → ℕ → ℕ → ℝ) {a b c d a' b' c' d' : ℕ} (ha : a = a') (hb : b = b') (hc : c = c') (hd : d = d') : f a b c d = f a' b' c' d' := by
  rw [ha, hb, hc, hd]

include hP hG hT hM hO hC in
theorem points (t : Fin cfg0.N) : PtRep (S.dat (t.val % 8 / 4) (t.val / 8)) (512 * ((grid0.coords t) 2).val) (iblk m c 0 t) (iblk m c 1 t) (iblk m c 2 t) (iblk m c 3 t)
    (iblk m c 4 t) (iblk m c 5 t) (iblk m c 6 t) (iblk m c 7 t) := by
  rw [coord2 t]
  exact {
    q := (in0 m c t hP).of_eq fun r e hr he => eq3 S.P (by omega) (by omega) rfl
    k := (in1 m c t hP).of_eq fun r e hr he => eq3 S.P (by omega) (by omega) (by omega)
    v := (in2 m c t hP).of_eq fun r e hr he => eq3 S.P (by omega) (by omega) (by omega)
    g := (in3 m c t hG).of_eq fun r e hr he => rfl
    tri := (in4 m c t hT).of_eq fun r e hr he => by rw [Nat.zero_add, Nat.zero_add]
    dm := (in5 m c t hM).of_eq fun r e hr he => eq3 S.M (by omega) (by omega) (by omega)
    o := (in6 m c t hO).of_eq fun r e hr he => eq4 S.o (by omega) (by omega) (by omega) (by omega)
    c := (in7 m c t hC).of_eq fun r e hr he => eq3 S.tot (by omega) (by omega) (by omega) }

include hP hG hT hM hO hC in
theorem state (t : Fin cfg0.N) : St (fun b p => S.dat b p) t.val (outsAt0 m c t.val t.isLt) :=
  st m (fun b p => S.dat b p) c (points m c S hP hG hT hM hO hC) t.val t.isLt

theorem emb8 (t : Fin cfg0.N) : win0_8.index t 0 = t.val % 8 ∧ win0_8.index t 1 = t.val / 8 := by
  rw [(idx_out t).1]
  exact ⟨rfl, rfl⟩

include hP hG hT hM hO hC in
theorem out8 : (dats m 0 c).arrAt 8 cfg0.N = (fun j => (((fun r l => S.dq (r / 2048) (l / 64) (r % 2048) (l % 64)) (j 0).val (j 1).val : ℝ) : EReal) : S4096x512.Idx → EReal) := by
  refine (dats m 0 c).arrAt_eq_of_covers 8 _ (by decide +kernel) fun t hf y => ?_
  blk_simp
  rw [after0_8]
  have y0 : (y 0).val < 512 := (y 0).isLt
  have y1 : (y 1).val < 128 := (y 1).isLt
  obtain ⟨h0, h1⟩ := emb8 t
  have e := (state m c S hP hG hT hM hO hC t).dq y
  refine e.trans (congrArg _ ?_)
  refine (S.gradQ_eq _ _ _ y1).trans ?_
  rw [h0, h1]
  exact eq4 S.dq (by omega) (by omega) (by omega) (by omega)

theorem emb9 (t : Fin cfg0.N) : win0_9.index t 0 = t.val % 8 / 4 ∧ win0_9.index t 1 = t.val / 8 := by
  rw [(idx_out t).2.1]
  exact ⟨rfl, rfl⟩

theorem last9 : ∀ t : Fin cfg0.N, (cfg0.win 9).flush t = true → t.val % 4 = 3 := by decide +kernel

include hP hG hT hM hO hC in
theorem out9 : (dats m 0 c).arrAt 9 cfg0.N = (fun j => (((fun r l => S.dk (r / 2048) (l / 64) (r % 2048) (l % 64)) (j 0).val (j 1).val : ℝ) : EReal) : S4096x512.Idx → EReal) := by
  refine (dats m 0 c).arrAt_eq_of_covers 9 _ (by decide +kernel) fun t hf y => ?_
  have hl := last9 t hf
  blk_simp
  rw [after0_9]
  have y0 : (y 0).val < 2048 := (y 0).isLt
  have y1 : (y 1).val < 128 := (y 1).isLt
  obtain ⟨h0, h1⟩ := emb9 t
  have e := (state m c S hP hG hT hM hO hC t).dk hl y
  refine e.trans (congrArg _ ?_)
  refine (S.addK_eq _ _ y1 y0).trans ?_
  rw [h0, h1]
  exact eq4 S.dk (by omega) (by omega) (by omega) (by omega)

theorem emb10 (t : Fin cfg0.N) : win0_10.index t 0 = t.val % 8 / 4 ∧ win0_10.index t 1 = t.val / 8 := by
  rw [(idx_out t).2.2.1]
  exact ⟨rfl, rfl⟩

theorem last10 : ∀ t : Fin cfg0.N, (cfg0.win 10).flush t = true → t.val % 4 = 3 := by decide +kernel

include hP hG hT hM hO hC in
theorem out10 : (dats m 0 c).arrAt 10 cfg0.N = (fun j => (((fun r l => S.dv (r / 2048) (l / 64) (r % 2048) (l % 64)) (j 0).val (j 1).val : ℝ) : EReal) : S4096x512.Idx → EReal) := by
  refine (dats m 0 c).arrAt_eq_of_covers 10 _ (by decide +kernel) fun t hf y => ?_
  have hl := last10 t hf
  blk_simp
  rw [after0_10]
  have y0 : (y 0).val < 2048 := (y 0).isLt
  have y1 : (y 1).val < 128 := (y 1).isLt
  obtain ⟨h0, h1⟩ := emb10 t
  have e := (state m c S hP hG hT hM hO hC t).dv hl y
  refine e.trans (congrArg _ ?_)
  refine (S.addV_eq _ _ y1 y0).trans ?_
  rw [h0, h1]
  exact eq4 S.dv (by omega) (by omega) (by omega) (by omega)

theorem emb11 (t : Fin cfg0.N) : win0_11.index t 0 = 0 ∧ win0_11.index t 1 = t.val / 8 := by
  rw [(idx_out t).2.2.2]
  exact ⟨rfl, rfl⟩

theorem last11 : ∀ t : Fin cfg0.N, (cfg0.win 11).flush t = true → t.val % 8 = 7 := by decide +kernel

include hP hG hT hM hO hC in
theorem out11 : (dats m 0 c).arrAt 11 cfg0.N = (fun j => (((fun _ l => S.dg l) (j 0).val (j 1).val : ℝ) : EReal) : S1x512.Idx → EReal) := by
  refine (dats m 0 c).arrAt_eq_of_covers 11 _ (by decide +kernel) fun t hf y => ?_
  have hl := last11 t hf
  blk_simp
  rw [after0_11]
  have y0 : (y 0).val < 1 := (y 0).isLt
  have y1 : (y 1).val < 128 := (y 1).isLt
  obtain ⟨h0, h1⟩ := emb11 t
  have e := (state m c S hP hG hT hM hO hC t).dng y
  refine e.trans (congrArg _ ?_)
  rw [hl]
  refine (S.addG_eq (t.val / 8) y1).trans ?_
  rw [h1, Nat.mul_comm]

end

end Cert.SbIdeal.Closed

end
-- ==== Proof.SbEnd.lean ====
/- The stick-breaking attention's gradient: the four arrays that the kernel leaves are the reference's. -/
module

public import proofs.«01_k».proof.Proof.SbHost
public import proofs.«01_k».proof.Proof.SbBlk
public import proofs.«01_k».proof.Proof.Gen.Pre_finite_sb

@[expose] public section

set_option maxRecDepth 16384
set_option maxHeartbeats 1000000

noncomputable section

namespace Cert.SbIdeal.Closed

open Idealize.ShloMosaic Idealize.ShloMosaic.TcCoe Idealize.SL.Sem Idealize.ShloMosaic.Pipeline
open Cert.SbIdeal Cert.SbIdeal.Gen Cert.Reals

/-- The real numbers of an array of three axes, and of two. -/
def num3 {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0
def num2 {a b : ℕ} (X : (⟨2, ![a, b]⟩ : Shape).Idx → EReal) (i j : ℕ) : ℝ :=
  if h : i < a ∧ j < b then (X (ix2 ⟨i, h.1⟩ ⟨j, h.2⟩)).toReal else 0

theorem num3_rep {a b c : ℕ} {X : (⟨3, ![a, b, c]⟩ : Shape).Idx → EReal} (h : ∀ i, IsRe (X i)) : R3 (a := a) (b := b) (c := c) X (num3 X) := fun j => by
  have e : ix3 ⟨(j 0).val, (j 0).isLt⟩ ⟨(j 1).val, (j 1).isLt⟩ ⟨(j 2).val, (j 2).isLt⟩ = j := by
    funext q
    match q with
    | ⟨0, _⟩ => rfl
    | ⟨1, _⟩ => rfl
    | ⟨2, _⟩ => rfl
  obtain ⟨r, hr⟩ := h j
  unfold num3
  rw [dif_pos ⟨(j 0).isLt, (j 1).isLt, (j 2).isLt⟩]
  refine hr.trans (congrArg _ ?_)
  refine Eq.trans ?_ (congrArg (fun i => (X i).toReal) e.symm)
  show r = (X j).toReal
  rw [hr, EReal.toReal_coe]

theorem num2_rep {a b : ℕ} {X : (⟨2, ![a, b]⟩ : Shape).Idx → EReal} (h : ∀ i, IsRe (X i)) : Rep (n := a) (p := b) X (num2 X) := fun j => by
  have e : ix2 ⟨(j 0).val, (j 0).isLt⟩ ⟨(j 1).val, (j 1).isLt⟩ = j := by
    funext q
    match q with
    | ⟨0, _⟩ => rfl
    | ⟨1, _⟩ => rfl
  obtain ⟨r, hr⟩ := h j
  unfold num2
  rw [dif_pos ⟨(j 0).isLt, (j 1).isLt⟩]
  refine hr.trans (congrArg _ ?_)
  refine Eq.trans ?_ (congrArg (fun i => (X i).toReal) e.symm)
  show r = (X j).toReal
  rw [hr, EReal.toReal_coe]

variable (m : (ℓ : Loc nD τ sig) → Buf (Elt Ideal) ℓ) (c : Dev nD)

def src : Src where
  P := num3 (a := 2) (b := 2048) (c := 1536) (m ((c : Thread nD τ).loc main_arg0))
  G := num2 (a := 1) (b := 512) (m ((c : Thread nD τ).loc main_arg1)) 0
  M := num3 (a := 2) (b := 2048) (c := 1024) (m ((c : Thread nD τ).loc main_arg2))

theorem gain_read (j : S1x512.Idx) : V m c main_arg1 j = m ((c : Thread nD τ).loc main_arg1) j := by
  entry_read
  rfl

variable (r0 : ∀ i, IsRe (m ((c : Thread nD τ).loc main_arg0) i)) (r1 : ∀ i, IsRe (m ((c : Thread nD τ).loc main_arg1) i))
  (r2 : ∀ i, IsRe (m ((c : Thread nD τ).loc main_arg2) i))

include r0 in
theorem src0 : R3 (a := 2) (b := 2048) (c := 1536) (m ((c : Thread nD τ).loc main_arg0)) (src m c).P := num3_rep r0
include r2 in
theorem src2 : R3 (a := 2) (b := 2048) (c := 1024) (m ((c : Thread nD τ).loc main_arg2)) (src m c).M := num3_rep r2
include r1 in
theorem src1 : Rep (n := 1) (p := 512) (m ((c : Thread nD τ).loc main_arg1)) (fun _ e => (src m c).G e) :=
  Rep.of_eq (num2_rep (a := 1) (b := 512) r1) fun r e hr _ => by rw [Nat.lt_one_iff.mp hr]; rfl
include r1 in
theorem src1' : Rep (n := 1) (p := 512) (V m c main_arg1) (fun _ e => (src m c).G e) := fun j => (gain_read m c j).trans (src1 m c r1 j)

include r0 r1 r2 in
/-- The gradient of the queries. -/
theorem grad_q : (dats m 0 c).arrAt 8 cfg0.N = SbRefIdeal.Read.val_main_v94 (F := Ideal) (m ((c : Thread nD τ).loc main_arg0)) (m ((c : Thread nD τ).loc main_arg1)) (m ((c : Thread nD τ).loc main_arg2)) :=
  (out8 m c (src m c) (rep_proj m c _ (src0 m c r0)) (src1' m c r1) (rep_tri0 m c) (rep_dmix m c _ (src2 m c r2)) (rep_saved m c _ (src0 m c r0)) (rep_total m c _ (src0 m c r0))).trans
    (funext fun j => (SbRefIdeal.Closed.r_v94 _ _ _ (src m c) (src0 m c r0) (src1 m c r1) (src2 m c r2) j).symm)

include r0 r1 r2 in
/-- The gradient of the keys. -/
theorem grad_k : (dats m 0 c).arrAt 9 cfg0.N = SbRefIdeal.Read.val_main_v96 (F := Ideal) (m ((c : Thread nD τ).loc main_arg0)) (m ((c : Thread nD τ).loc main_arg1)) (m ((c : Thread nD τ).loc main_arg2)) :=
  (out9 m c (src m c) (rep_proj m c _ (src0 m c r0)) (src1' m c r1) (rep_tri0 m c) (rep_dmix m c _ (src2 m c r2)) (rep_saved m c _ (src0 m c r0)) (rep_total m c _ (src0 m c r0))).trans
    (funext fun j => (SbRefIdeal.Closed.r_v96 _ _ _ (src m c) (src0 m c r0) (src1 m c r1) (src2 m c r2) j).symm)

include r0 r1 r2 in
/-- The gradient of the values. -/
theorem grad_v : (dats m 0 c).arrAt 10 cfg0.N = SbRefIdeal.Read.val_main_v98 (F := Ideal) (m ((c : Thread nD τ).loc main_arg0)) (m ((c : Thread nD τ).loc main_arg1)) (m ((c : Thread nD τ).loc main_arg2)) :=
  (out10 m c (src m c) (rep_proj m c _ (src0 m c r0)) (src1' m c r1) (rep_tri0 m c) (rep_dmix m c _ (src2 m c r2)) (rep_saved m c _ (src0 m c r0)) (rep_total m c _ (src0 m c r0))).trans
    (funext fun j => (SbRefIdeal.Closed.r_v98 _ _ _ (src m c) (src0 m c r0) (src1 m c r1) (src2 m c r2) j).symm)

include r0 r1 r2 in
/-- The gradient of the gain. -/
theorem grad_g : (dats m 0 c).arrAt 11 cfg0.N = SbRefIdeal.Read.val_main_v92 (F := Ideal) (m ((c : Thread nD τ).loc main_arg0)) (m ((c : Thread nD τ).loc main_arg2)) :=
  (out11 m c (src m c) (rep_proj m c _ (src0 m c r0)) (src1' m c r1) (rep_tri0 m c) (rep_dmix m c _ (src2 m c r2)) (rep_saved m c _ (src0 m c r0)) (rep_total m c _ (src0 m c r0))).trans
    (funext fun j => (SbRefIdeal.Closed.r_v92 _ _ (src m c) (src0 m c r0) (src2 m c r2) j).symm)

/-- The precondition at an element of each array. -/
theorem reals_of_pre (h0 : Vec Ideal S2x2048x1536 .f32) (h1 : Vec Ideal S1x512 .f32) (h2 : Vec Ideal S2x2048x1024 .f32)
    (H : (Cert.Pre_finite_sb.fn (F := Ideal) h0 h1 h2).1 = (fun _ => 1#1)
      ∧ (Cert.Pre_finite_sb.fn (F := Ideal) h0 h1 h2).2.1 = (fun _ => 1#1)
      ∧ (Cert.Pre_finite_sb.fn (F := Ideal) h0 h1 h2).2.2 = (fun _ => 1#1)) :
    (∀ i, IsRe (h0 i)) ∧ (∀ i, IsRe (h1 i)) ∧ (∀ i, IsRe (h2 i)) :=
  ⟨fun i => isRe_of_abs_lt (congrFun H.1 i), fun i => isRe_of_abs_lt (congrFun H.2.1 i), fun i => isRe_of_abs_lt (congrFun H.2.2 i)⟩

end Cert.SbIdeal.Closed

end
-- ==== Proof.Norm.lean ====
/- The norm over a row of 1024 lanes and its gradient, at every extended real: both programs' spellings. -/
module

public import proofs.«01_k».proof.Proof.Reals
public import Idealize.ShloMosaic.Lib.Pipeline.ValueKit
public import Idealize.ShloMosaic.Lib.Pointwise

@[expose] public section

noncomputable section

namespace Cert.Norm

open Idealize.ShloMosaic Cert.Reals

theorem bits_lanes : Ideal.ofBits .f32 0x44800000#32 = ((1024 : ℝ) : EReal) := by
  simp [Ideal.ofBits, Ideal.ieee, -EReal.coe_mul]
  norm_num

/-- The mean over a row. -/
def mean (a : EReal) : EReal := Ideal.div a (Ideal.ofBits .f32 0x44800000#32)

theorem mean_eq (a : EReal) : mean a = a * ((1 / 1024 : ℝ) : EReal) := by
  unfold mean
  rw [bits_lanes, Ideal.div_coe (by norm_num)]

/-- The mean of a row's squares and the number added to it. -/
def ms (x : Fin 1024 → EReal) : EReal := mean (∑ k, x k * x k) + Ideal.ofBits .f32 0x358637BD#32

theorem sq_nonneg (x : EReal) : 0 ≤ x * x := by
  induction x with
  | bot => simp
  | top => simp
  | coe r => rw [← EReal.coe_mul]; exact EReal.coe_nonneg.mpr (mul_self_nonneg r)

theorem ms_cases (x : Fin 1024 → EReal) : ms x = ⊤ ∨ ∃ r : ℝ, 0 < r ∧ ms x = (r : EReal) := by
  unfold ms
  rw [mean_eq, bits_small]
  have h : (0 : EReal) ≤ ∑ k, x k * x k := Finset.sum_nonneg fun k _ => sq_nonneg (x k)
  generalize (∑ k, x k * x k) = a at h
  induction a with
  | bot => exact absurd h (by simp)
  | top =>
    left
    rw [EReal.top_mul_coe_of_pos (by norm_num)]
    exact EReal.top_add_coe _
  | coe r =>
    right
    have hr : 0 ≤ r := EReal.coe_nonneg.mp h
    have := small_pos
    exact ⟨r * (1 / 1024) + small, by positivity, by rw [← EReal.coe_mul, ← EReal.coe_add]⟩

/-- A number that is not negative passes into a sum. -/
theorem coe_mul_add {r : ℝ} (h : 0 ≤ r) (a b : EReal) : (r : EReal) * (a + b) = r * a + r * b :=
  EReal.left_distrib_of_nonneg_of_ne_top (EReal.coe_nonneg.mpr h) (EReal.coe_ne_top r) a b

theorem coe_mul_sum {ι : Type*} (s : Finset ι) {r : ℝ} (h : 0 ≤ r) (f : ι → EReal) : ∑ k ∈ s, (r : EReal) * f k = r * ∑ k ∈ s, f k := by
  classical
  induction s using Finset.induction_on with
  | empty => simp
  | insert a s ha ih => rw [Finset.sum_insert ha, Finset.sum_insert ha, ih, coe_mul_add h]

theorem twice (d : ℝ) (z : EReal) : (d : EReal) * z + (d : EReal) * z = ((2 * d : ℝ) : EReal) * z := by
  rcases lt_trichotomy d 0 with h | h | h
  · have h2 : 2 * d < 0 := by linarith
    induction z with
    | bot => rw [EReal.coe_mul_bot_of_neg h, EReal.coe_mul_bot_of_neg h2]; rfl
    | top => rw [EReal.coe_mul_top_of_neg h, EReal.coe_mul_top_of_neg h2]; rfl
    | coe r => simp only [← EReal.coe_mul, ← EReal.coe_add]; congr 1; ring
  · subst h; simp
  · have h2 : 0 < 2 * d := by linarith
    induction z with
    | bot => rw [EReal.coe_mul_bot_of_pos h, EReal.coe_mul_bot_of_pos h2]; rfl
    | top => rw [EReal.coe_mul_top_of_pos h, EReal.coe_mul_top_of_pos h2]; rfl
    | coe r => simp only [← EReal.coe_mul, ← EReal.coe_add]; congr 1; ring

/-- What the norm's gradient leaves at lane `j`, as the kernel writes it: `x` the row, `u` the gradient that comes in, times
    the scale. -/
def out (x u : Fin 1024 → EReal) (j : Fin 1024) : EReal :=
  Ideal.rsqrt (ms x) * (u j - x j * Ideal.rsqrt (ms x) * mean (∑ k, u k * (x k * Ideal.rsqrt (ms x))))

/-- The reference's factor of the row: the sum over the lanes, times half the root's derivative. -/
def fac (x u : Fin 1024 → EReal) : EReal :=
  mean ((∑ k, x k * u k) * (Ideal.ofBits .f32 0xBF000000#32 * Ideal.div (Ideal.rsqrt (ms x)) (ms x)))

/-- The kernel's spelling of the norm's gradient is the reference's. -/
theorem out_eq (x u : Fin 1024 → EReal) (j : Fin 1024) (a : EReal) :
    a + out x u j = a + u j * Ideal.rsqrt (ms x) + x j * fac x u + fac x u * x j := by
  unfold out fac
  rw [bits_half_neg]
  simp only [mean_eq]
  rcases ms_cases x with h | ⟨r, hr, h⟩
  · rw [h]
    simp [Ideal.div]
  · have hs : 0 < (Real.sqrt r)⁻¹ := inv_pos.mpr (Real.sqrt_pos.mpr hr)
    have hq : (Real.sqrt r)⁻¹ * (Real.sqrt r)⁻¹ = 1 / r := by
      rw [← mul_inv, Real.mul_self_sqrt hr.le, one_div]
    rw [h, Ideal.rsqrt_coe, if_neg (not_lt.mpr hr.le), if_neg hr.ne', Ideal.div_coe hr.ne']
    generalize (Real.sqrt r)⁻¹ = q at hs hq
    have e1 : ∑ k, u k * (x k * (q : EReal)) = q * ∑ k, x k * u k := by
      rw [← coe_mul_sum _ hs.le]
      exact Finset.sum_congr rfl fun k _ => by rw [mul_comm (q : EReal), mul_comm (u k), mul_assoc, mul_comm (q : EReal), mul_assoc]
    rw [e1, ← hq]
    generalize (∑ k, x k * u k) = M
    generalize u j = y
    generalize x j = z
    have e2 : z * (q : EReal) * (q * M * ((1 / 1024 : ℝ) : EReal)) = ((q * q * (1 / 1024) : ℝ) : EReal) * (z * M) := by
      simp only [EReal.coe_mul]
      ac_rfl
    have e3 : z * (M * (((-(1 / 2) : ℝ) : EReal) * ((q : EReal) * ((q * q : ℝ) : EReal))) * ((1 / 1024 : ℝ) : EReal))
        = ((-(1 / 2) * (q * (q * q)) * (1 / 1024) : ℝ) : EReal) * (z * M) := by
      simp only [EReal.coe_mul]
      ac_rfl
    rw [e2, add_assoc, mul_comm _ z, e3, twice, sub_eq_add_neg, coe_mul_add hs.le, mul_comm (q : EReal) y, mul_neg, ← mul_assoc, ← EReal.coe_mul,
      ← neg_mul, ← EReal.coe_neg, ← add_assoc]
    congr 3
    ring

/-- The sequence of a row of block `t`, and the row's place in it: blocks of 512 rows, four to a sequence of 2048. -/
abbrev hi (t : ℕ) (ht : t < 8) : Fin 2 := ⟨t / 4, by omega⟩
abbrev lo (t : ℕ) (r : Fin 512) : Fin 2048 := ⟨t % 4 * 512 + r.val, by have := r.isLt; omega⟩

/-- The host's sum over the first two of three axes. -/
theorem sum_rows {n0 n1 n2 : ℕ} (h : (⟨3, ![n0, n1, n2]⟩ : Shape).ReducesTo [0, 1] ⟨1, ![n2]⟩) (X : (⟨3, ![n0, n1, n2]⟩ : Shape).Idx → EReal)
    (v : EReal) (hv : v = 0) (j : (⟨1, ![n2]⟩ : Shape).Idx) :
    Ideal.hostReduceAdd h X v j = ∑ b : Fin n0, ∑ s : Fin n1, X (ix3 b s (⟨(j 0).val, (j 0).isLt⟩ : Fin n2)) := by
  unfold Ideal.hostReduceAdd
  rw [hv, zero_add, Finset.sum_filter, sum_idx3]
  refine Finset.sum_congr rfl fun b _ => Finset.sum_congr rfl fun s _ => ?_
  rw [Finset.sum_eq_single (⟨(j 0).val, (j 0).isLt⟩ : Fin n2)]
  · rw [if_pos]
    funext a
    match a with
    | ⟨0, _⟩ => rfl
  · intro l _ hl
    rw [if_neg]
    intro he
    exact hl (Fin.ext (congrArg (fun i : (⟨1, ![n2]⟩ : Shape).Idx => (i 0).val) he))
  · intro hn
    exact absurd (Finset.mem_univ _) hn

theorem bits_half : Ideal.ofBits .f32 0x3F000000#32 = ((1 / 2 : ℝ) : EReal) := by
  simp [Ideal.ofBits, Ideal.ieee, -EReal.coe_mul]
  norm_num

/-- The square's gradient: one half of the mean's share, times two. -/
theorem square_share (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h1 : Ideal.ofBits .f32 0x3F800000#32 = ((1 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  have h3 : Ideal.ofBits .f32 0x3A800000#32 = ((1 / 1024 : ℝ) : EReal) := by
    simp [Ideal.ofBits, Ideal.ieee, -EReal.coe_mul]
    norm_num
  rw [bits_half, h1, h2, h3, bits_lanes, Ideal.div_coe (by norm_num), ← mul_assoc, ← EReal.coe_mul, ← EReal.coe_mul, ← EReal.coe_mul, mul_comm]
  norm_num

/-- Halving before or after the sum over the blocks. -/
theorem half_sum (f : Fin 2 → Fin 2048 → EReal) :
    ∑ t : Fin 8, Ideal.ofBits .f32 0x3F000000#32 * ∑ r : Fin 512, f (hi t.val t.isLt) (lo t.val r) = Ideal.ofBits .f32 0x3F000000#32 * ∑ b, ∑ s, f b s := by
  rw [bits_half, coe_mul_sum _ (by norm_num)]
  exact congrArg (fun a : EReal => ((1 / 2 : ℝ) : EReal) * a) (Fin.sum_points_lanes_fin (N := 8) (n := 512) (A := 2) (L := 2048) 4 f)

end Cert.Norm

end
-- ==== Proof.DhFfnEnd.lean ====
/- The gradient of the norm before the feed-forward part: the three arrays that the kernel leaves are the reference's, index by index. -/
module

public import proofs.«01_k».proof.Proof.Norm
public import proofs.«01_k».proof.Proof.Gen.DhFfnIdeal.Value
public import proofs.«01_k».proof.Proof.Gen.DhFfnRefIdeal.Read
public import Idealize.ShloMosaic.Lib.Pipeline.ValueKit
public import Idealize.ShloMosaic.Lib.Pointwise

@[expose] public section

set_option maxRecDepth 16384

noncomputable section

namespace Cert.DhFfnIdeal.Closed

open Idealize.ShloMosaic Idealize.ShloMosaic.TcCoe Idealize.SL.Sem Idealize.ShloMosaic.Pipeline
open Cert.DhFfnIdeal Cert.DhFfnIdeal.Gen Cert.Reals

/-! ## The closed forms -/

section
variable (x : Vec Ideal S2x2048x1024 .f32) (g : Vec Ideal S1x1024 .f32) (wg wu : Vec Ideal S1x1024x2816 .f32) (wo : Vec Ideal S1x1024x1024 .f32)
  (p q : Vec Ideal S2x2048x2816 .f32) (res : Vec Ideal S2x2048x1024 .f32)

/-- The gradient that comes into the norm's result: the two products' shares. -/
def dh (b : Fin 2) (s : Fin 2048) (k : Fin 1024) : EReal :=
  (∑ f : Fin 2816, p (ix3 b s f) * wg (ix3 0 k f)) + ∑ f : Fin 2816, q (ix3 b s f) * wu (ix3 0 k f)

/-- The gradient at the norm's argument, and the gradient carried past it. -/
def dx (b : Fin 2) (s : Fin 2048) (j : Fin 1024) : EReal :=
  res (ix3 b s j) + Norm.out (fun k => x (ix3 b s k)) (fun k => dh wg wu p q b s k * g (ix2 0 k)) j

/-- A token's share of the scale's gradient. -/
def share (b : Fin 2) (s : Fin 2048) (j : Fin 1024) : EReal :=
  dh wg wu p q b s j * (x (ix3 b s j) * Ideal.rsqrt (Norm.ms fun k => x (ix3 b s k)))

/-- The gradient behind the product with the weight out of the mixers. -/
def dm (b : Fin 2) (s : Fin 2048) (e : Fin 1024) : EReal :=
  ∑ k : Fin 1024, dx x g wg wu p q res b s k * wo (ix3 0 e k)
end

/-! ## What a point computes of its blocks -/

section
variable (v3 v8 : Vec Ideal S512x2816 .bf16) (v5 v10 : Vec Ideal S2816x1024 .bf16) (v14 v29 : Vec Ideal S512x1024 .f32) (v26 v43 : Vec Ideal S1x1024 .f32)
  (v50 : Vec Ideal S1024x1024 .bf16)

theorem pay_dh (y : S512x1024.Idx) : k0_pay5 v3 v5 v8 v10 y
    = (∑ f : Fin 2816, v3 (ix2 (y 0) f) * v5 (ix2 f (y 1))) + ∑ f : Fin 2816, v8 (ix2 (y 0) f) * v10 (ix2 f (y 1)) := by
  pointwise [k0_pay5]

theorem pay_out (r : Fin 512) (j : Fin 1024) :
    k0_pay1 (k0_pay7 v14) (k0_pay8 v14) (k0_pay9 v3 v5 v8 v10 v26) (k0_pay10 v29) (k0_pay11 v3 v5 v8 v10 v14 v26) (k0_pay12 (F := Ideal)) (ix2 r j)
      = v29 (ix2 r j) + Norm.out (fun k => v14 (ix2 r k)) (fun k => k0_pay5 v3 v5 v8 v10 (ix2 r k) * v26 (ix2 0 k)) j := by
  unfold k0_pay9 k0_pay11 k0_pay9
  generalize k0_pay5 v3 v5 v8 v10 = u
  pointwise [k0_pay1, k0_pay7, k0_pay8, k0_pay6, k0_pay10, k0_pay12]
  rfl

theorem pay_share (y : S1x1024.Idx) : k0_pay2 (k0_pay5 v3 v5 v8 v10) (k0_pay8 v14) v43 y
    = v43 y + ∑ r : Fin 512, k0_pay5 v3 v5 v8 v10 (ix2 r (y 1)) * (v14 (ix2 r (y 1)) * Ideal.rsqrt (Norm.ms fun k => v14 (ix2 r k))) := by
  generalize k0_pay5 v3 v5 v8 v10 = u
  pointwise [k0_pay2, k0_pay7, k0_pay8, k0_pay6]
  rfl

theorem pay_dm (r : Fin 512) (e : Fin 1024) :
    k0_pay3 (k0_pay7 v14) (k0_pay8 v14) (k0_pay9 v3 v5 v8 v10 v26) (k0_pay10 v29) (k0_pay11 v3 v5 v8 v10 v14 v26) (k0_pay12 (F := Ideal)) v50 (ix2 r e)
      = ∑ k : Fin 1024, k0_pay1 (k0_pay7 v14) (k0_pay8 v14) (k0_pay9 v3 v5 v8 v10 v26) (k0_pay10 v29) (k0_pay11 v3 v5 v8 v10 v14 v26) (k0_pay12 (F := Ideal)) (ix2 r k)
          * v50 (ix2 e k) := by
  unfold k0_pay3
  generalize k0_pay1 (k0_pay7 v14) (k0_pay8 v14) (k0_pay9 v3 v5 v8 v10 v26) (k0_pay10 v29) (k0_pay11 v3 v5 v8 v10 v14 v26) (k0_pay12 (F := Ideal)) = u
  pointwise

end

/-! ## What a point is given -/

variable (m : (ℓ : Loc nD τ sig) → Buf (Elt Ideal) ℓ) (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] := by decide +kernel

theorem idxo : ∀ t : Fin cfg0.N, win0_8.index t = ![t.val, 0] ∧ win0_9.index t = ![0, 0] ∧ win0_10.index t = ![t.val, 0] := by decide +kernel

section
abbrev th (t : Fin cfg0.N) := Norm.hi t.val t.isLt
abbrev tl (t : Fin cfg0.N) (r : Fin 512) := Norm.lo t.val r

variable (t : Fin cfg0.N)

abbrev inP : FVec Ideal S512x2816 .bf16 := iblk m c 0 t
abbrev inWg : FVec Ideal S2816x1024 .bf16 := iblk m c 1 t
abbrev inQ : FVec Ideal S512x2816 .bf16 := iblk m c 2 t
abbrev inWu : FVec Ideal S2816x1024 .bf16 := iblk m c 3 t
abbrev inX : FVec Ideal S512x1024 .f32 := iblk m c 4 t
abbrev inG : FVec Ideal S1x1024 .f32 := iblk m c 5 t
abbrev inRes : FVec Ideal S512x1024 .f32 := iblk m c 6 t
abbrev inWo : FVec Ideal S1024x1024 .bf16 := iblk m c 7 t

theorem blk_p (r : Fin 512) (f : Fin 2816) : inP m c t (ix2 r f) = arg5 m c (ix3 (th t) (tl t r) f) := by
  blk_ext! [inP, iblk, idx t]

theorem blk_wg (f : Fin 2816) (k : Fin 1024) : inWg m c t (ix2 f k) = arg2 m c (ix3 0 k f) := by
  blk_ext! [inWg, iblk, idx t]

theorem blk_q (r : Fin 512) (f : Fin 2816) : inQ m c t (ix2 r f) = arg6 m c (ix3 (th t) (tl t r) f) := by
  blk_ext! [inQ, iblk, idx t]

theorem blk_wu (f : Fin 2816) (k : Fin 1024) : inWu m c t (ix2 f k) = arg3 m c (ix3 0 k f) := by
  blk_ext! [inWu, iblk, idx t]

theorem blk_x (r : Fin 512) (k : Fin 1024) : inX m c t (ix2 r k) = arg0 m c (ix3 (th t) (tl t r) k) := by
  blk_ext! [inX, iblk, idx t]

theorem blk_g (k : Fin 1024) : inG m c t (ix2 0 k) = arg1 m c (ix2 0 k) := by
  blk_ext! [inG, iblk, idx t]

theorem blk_res (r : Fin 512) (k : Fin 1024) : inRes m c t (ix2 r k) = arg7 m c (ix3 (th t) (tl t r) k) := by
  blk_ext! [inRes, iblk, idx t]

theorem blk_wo (e k : Fin 1024) : inWo m c t (ix2 e k) = arg4 m c (ix3 0 e k) := by
  blk_ext! [inWo, iblk, idx t]

theorem point_dh (r : Fin 512) (k : Fin 1024) : k0_pay5 (F := Ideal) (inP m c t) (inWg m c t) (inQ m c t) (inWu m c t) (ix2 r k)
    = dh (arg2 m c) (arg3 m c) (arg5 m c) (arg6 m c) (th t) (tl t r) k := by
  rw [pay_dh]
  exact congrArg₂ (· + ·) (Finset.sum_congr rfl fun f _ => congrArg₂ (· * ·) (blk_p m c t r f) (blk_wg m c t f k))
    (Finset.sum_congr rfl fun f _ => congrArg₂ (· * ·) (blk_q m c t r f) (blk_wu m c t f k))

theorem point_out (r : Fin 512) (j : Fin 1024) :
    k0_pay1 (k0_pay7 (inX m c t)) (k0_pay8 (inX m c t)) (k0_pay9 (inP m c t) (inWg m c t) (inQ m c t) (inWu m c t) (inG m c t)) (k0_pay10 (inRes m c t))
      (k0_pay11 (inP m c t) (inWg m c t) (inQ m c t) (inWu m c t) (inX m c t) (inG m c t)) (k0_pay12 (F := Ideal)) (ix2 r j)
      = dx (arg0 m c) (arg1 m c) (arg2 m c) (arg3 m c) (arg5 m c) (arg6 m c) (arg7 m c) (th t) (tl t r) j := by
  rw [pay_out]
  simp only [point_dh, blk_x, blk_g, blk_res]
  rfl

theorem point_dm (r : Fin 512) (e : Fin 1024) :
    k0_pay3 (k0_pay7 (inX m c t)) (k0_pay8 (inX m c t)) (k0_pay9 (inP m c t) (inWg m c t) (inQ m c t) (inWu m c t) (inG m c t)) (k0_pay10 (inRes m c t))
      (k0_pay11 (inP m c t) (inWg m c t) (inQ m c t) (inWu m c t) (inX m c t) (inG m c t)) (k0_pay12 (F := Ideal)) (inWo m c t) (ix2 r e)
      = dm (arg0 m c) (arg1 m c) (arg2 m c) (arg3 m c) (arg4 m c) (arg5 m c) (arg6 m c) (arg7 m c) (th t) (tl t r) e := by
  refine (pay_dm _ _ _ _ _ _ _ _ _ _).trans (Finset.sum_congr rfl fun k _ => ?_)
  rw [point_out, blk_wo]

theorem point_share (v : Vec Ideal S1x1024 .f32) (y : S1x1024.Idx) :
    k0_pay2 (k0_pay5 (inP m c t) (inWg m c t) (inQ m c t) (inWu m c t)) (k0_pay8 (inX m c t)) v y
      = v y + ∑ r : Fin 512, share (arg0 m c) (arg2 m c) (arg3 m c) (arg5 m c) (arg6 m c) (th t) (tl t r) (y 1) := by
  refine (pay_share _ _ _ _ _ _ y).trans (congrArg (v y + ·) (Finset.sum_congr rfl fun r _ => ?_))
  exact congrArg₂ (fun a b : EReal => a * b) (point_dh m c t r (y 1)) (congrArg₂ (fun a b : EReal => a * b) (blk_x m c t r (y 1))
    (congrArg (fun f => Ideal.rsqrt (Norm.ms f)) (funext fun k => blk_x m c t r k)))
end

/-! ## The reference -/

section
open DhFfnRefIdeal.Read
variable (x : Vec Ideal S2x2048x1024 .f32) (g : Vec Ideal S1x1024 .f32) (wg wu : Vec Ideal S1x1024x2816 .f32) (wo : Vec Ideal S1x1024x1024 .f32)
  (p q : Vec Ideal S2x2048x2816 .f32) (res : Vec Ideal S2x2048x1024 .f32) (b : Fin 2) (s : Fin 2048)

theorem ref_dh (k : Fin 1024) : val_main_v23 (F := Ideal) wg wu p q (ix3 b s k) = dh wg wu p q b s k := by
  rw [val_main_v23_apply, val_main_v21_apply, val_main_v22_apply]
  refine (add_comm _ _).trans (congrArg₂ (· + ·) (Finset.sum_congr rfl fun f _ => ?_) (Finset.sum_congr rfl fun f _ => ?_))
  · rw [val_main_v17_apply]
    congr 1 <;> blk_ext
  · rw [val_main_v19_apply]
    congr 1 <;> blk_ext

theorem ref_out (j : Fin 1024) : val_main_v44 (F := Ideal) x g wg wu p q res (ix3 b s j) = dx x g wg wu p q res b s j := by
  unfold dx
  rw [Norm.out_eq]
  unfold Norm.fac Norm.ms Norm.mean
  simp only [← ref_dh]
  pointwise [val_main_v44, val_main_v43, val_main_v42, val_main_v41, val_main_v40, val_main_v39, val_main_v38, val_main_v37, val_main_v36, val_main_v35, val_main_v34, val_main_v33,
    val_main_v32, val_main_v31, val_main_v30, val_main_v28, val_main_v27, val_main_v14, val_main_v12, val_main_v11, val_main_v10, val_main_v9, val_main_v8, val_main_v7, val_main_v6,
    val_main_v5, val_main_v4, val_main_v3, val_main_v2, val_main_v1, val_main_v0, val_main_cst_7, val_main_cst_6, val_main_cst_5, val_main_cst_2, val_main_cst_1, val_main_cst_0, val_main_cst]
  simp only [Fin.sum_univ_one]

theorem ref_share (j : Fin 1024) : val_main_v24 (F := Ideal) x wg wu p q (ix3 b s j) = share x wg wu p q b s j := by
  unfold share Norm.ms Norm.mean
  simp only [← ref_dh]
  pointwise [val_main_v24, val_main_v13, val_main_v12, val_main_v8, val_main_v7, val_main_v6, val_main_v5, val_main_v4, val_main_v3, val_main_v2, val_main_v1, val_main_cst_1, val_main_cst_0,
    val_main_cst]
  exact mul_comm _ _

theorem ref_dm (e : Fin 1024) : val_main_v49 (F := Ideal) x g wg wu wo p q res (ix3 b s e) = dm x g wg wu wo p q res b s e := by
  rw [val_main_v49_apply]
  refine Finset.sum_congr rfl fun k _ => ?_
  rw [← ref_out]
  congr 1
  · congr 1
    blk_ext
  · rw [val_main_v47_apply]
    blk_ext

theorem ref_scale (j : DhFfnRefIdeal.S1x1024.Idx) : val_main_v45 (F := Ideal) x wg wu p q j = ∑ b : Fin 2, ∑ s : Fin 2048, share x wg wu p q b s (j 1) := by
  rw [val_main_v45_apply]
  refine (Norm.sum_rows (n0 := 1) (n1 := 1) (n2 := 1024) _ _ _ Ideal.ofBits_zero_f32 _).trans ?_
  rw [Fin.sum_univ_one, Fin.sum_univ_one, val_main_v26_apply]
  refine (Norm.sum_rows (n0 := 2) (n1 := 2048) (n2 := 1024) _ _ _ Ideal.ofBits_zero_f32 _).trans ?_
  refine Finset.sum_congr rfl fun b _ => Finset.sum_congr rfl fun s _ => (ref_share x wg wu p q b s _).trans ?_
  exact congrArg (share x wg wu p q b s) (Fin.ext (by show (0 * 1 + 0) * 1024 + (j 1).val = (j 1).val; omega))
end

/-! ## The three arrays -/

section
open DhFfnRefIdeal.Read

theorem left_out (t : Fin cfg0.N) (y : S512x1024.Idx) : (outsAt0 m c t.val t.isLt).1 y
    = dx (arg0 m c) (arg1 m c) (arg2 m c) (arg3 m c) (arg5 m c) (arg6 m c) (arg7 m c) (th t) (tl t (y 0)) (y 1) := by
  refine Eq.trans ?_ (point_out m c t (y 0) (y 1))
  rw [← eq_ix2 y]
  by_cases h : t.val % 8 = 0
  · rw [outsAt0_A m c t h]
    frame_out
  · rw [outsAt0_B m c t h]
    frame_out

theorem left_dm (t : Fin cfg0.N) (y : S512x1024.Idx) : (outsAt0 m c t.val t.isLt).2.2 y
    = dm (arg0 m c) (arg1 m c) (arg2 m c) (arg3 m c) (arg4 m c) (arg5 m c) (arg6 m c) (arg7 m c) (th t) (tl t (y 0)) (y 1) := by
  refine Eq.trans ?_ (point_dm m c t (y 0) (y 1))
  rw [← eq_ix2 y]
  by_cases h : t.val % 8 = 0
  · rw [outsAt0_A m c t h]
    frame_out
  · rw [outsAt0_B m c t h]
    frame_out

theorem left_scale (y : S1x1024.Idx) : (outsAt0 m c t0_7.val t0_7.isLt).2.1 y
    = ∑ t : Fin cfg0.N, ∑ r : Fin 512, share (arg0 m c) (arg2 m c) (arg3 m c) (arg5 m c) (arg6 m c) (th t) (tl t r) (y 1) := by
  refine (Pipeline.eq_sum_fin_of_reset_step_apply_last (fun n h => (outsAt0 m c n h).2.1) 8 (fun _ => (0 : EReal))
    (fun t y => ∑ r : Fin 512, share (arg0 m c) (arg2 m c) (arg3 m c) (arg5 m c) (arg6 m c) (th t) (tl t r) (y 1))
    (fun t h y => ?_) (fun t h y => ?_) (by decide) t0_7 rfl y).trans (zero_add _)
  · rw [outsAt0_A m c t h]
    frame_out
    refine (point_share m c t _ y).trans (congrArg (· + _) ?_)
    pointwise [k0_pay4]
  · rw [outsAt0_B m c t h]
    frame_out
    exact point_share m c t _ y

/-- The first result is the reference's. -/
theorem arr_out : (dats m 0 c).arrAt 8 cfg0.N = val_main_v50 (F := Ideal) (arg0 m c) (arg1 m c) (arg2 m c) (arg3 m c) (arg5 m c) (arg6 m c) (arg7 m c) := by
  refine (dats m 0 c).arrAt_eq_of_covers 8 _ (by decide +kernel) fun t hf y => ?_
  blk_simp
  rw [after0_8]
  refine (left_out m c t y).trans ((ref_out _ _ _ _ _ _ _ _ _ _).symm.trans ?_)
  rw [val_main_v50_apply]
  congr 1
  blk_ext [idxo t]

/-- The third result is the reference's. -/
theorem arr_dm : (dats m 0 c).arrAt 10 cfg0.N = val_main_v51 (F := Ideal) (arg0 m c) (arg1 m c) (arg2 m c) (arg3 m c) (arg4 m c) (arg5 m c) (arg6 m c) (arg7 m c) := by
  refine (dats m 0 c).arrAt_eq_of_covers 10 _ (by decide +kernel) fun t hf y => ?_
  blk_simp
  rw [after0_10]
  refine (left_dm m c t y).trans ((ref_dm _ _ _ _ _ _ _ _ _ _ _).symm.trans ?_)
  rw [val_main_v51_apply]
  congr 1
  blk_ext [idxo t]

/-- The second result, the scale's gradient, is the reference's. -/
theorem arr_scale : (dats m 0 c).arrAt 9 cfg0.N = val_main_v45 (F := Ideal) (arg0 m c) (arg2 m c) (arg3 m c) (arg5 m c) (arg6 m c) := by
  refine (dats m 0 c).arrAt_eq_of_after_last 9 t0_7 (by decide +kernel) _ fun j => ?_
  blk_simp
  rw [after0_9]
  refine (left_scale m c _).trans (Eq.trans ?_ (ref_scale _ _ _ _ _ _).symm)
  refine Fin.sum_points_lanes_congr 4 fun t k ha hl => ?_
  blk_ext [idxo t0_7]
end

end Cert.DhFfnIdeal.Closed
end
-- ==== Proof.DhMixEnd.lean ====
/- The gradient of the norm before the mixers: the two arrays that the kernel leaves are the reference's, index by index. -/
module

public import proofs.«01_k».proof.Proof.Norm
public import proofs.«01_k».proof.Proof.Gen.DhMixIdeal.Value
public import proofs.«01_k».proof.Proof.Gen.DhMixRefIdeal.Read
public import Idealize.ShloMosaic.Lib.Pipeline.ValueKit
public import Idealize.ShloMosaic.Lib.Pointwise

@[expose] public section

set_option maxRecDepth 16384

noncomputable section

namespace Cert.DhMixIdeal.Closed

open Idealize.ShloMosaic Idealize.ShloMosaic.TcCoe Idealize.SL.Sem Idealize.ShloMosaic.Pipeline
open Cert.DhMixIdeal Cert.DhMixIdeal.Gen Cert.Reals

/-! ## The closed forms -/

section
variable (x : Vec Ideal S2x2048x1024 .f32) (g : Vec Ideal S1x1024 .f32) (w : Vec Ideal S1x1024x3584 .f32) (p : Vec Ideal S2x2048x3584 .f32) (res : Vec Ideal S2x2048x1024 .f32)

/-- The gradient that comes into the norm's result. -/
def dh (b : Fin 2) (s : Fin 2048) (k : Fin 1024) : EReal := ∑ e : Fin 3584, p (ix3 b s e) * w (ix3 0 k e)

/-- The gradient at the norm's argument, and the gradient carried past it. -/
def dx (b : Fin 2) (s : Fin 2048) (j : Fin 1024) : EReal :=
  res (ix3 b s j) + Norm.out (fun k => x (ix3 b s k)) (fun k => dh w p b s k * g (ix2 0 k)) j

/-- A token's share of the scale's gradient. -/
def share (b : Fin 2) (s : Fin 2048) (j : Fin 1024) : EReal :=
  dh w p b s j * (x (ix3 b s j) * Ideal.rsqrt (Norm.ms fun k => x (ix3 b s k)))
end

/-- A lane of one of the seven pieces. -/
abbrev lane (n : Fin 7) (l : Fin 512) : Fin 3584 := ⟨n.val * 512 + l.val, by have := n.isLt; have := l.isLt; omega⟩

theorem seven (f : Fin 3584 → EReal) : ((((((∑ l : Fin 512, f (lane 0 l)) + (∑ l : Fin 512, f (lane 1 l))) + (∑ l : Fin 512, f (lane 2 l))) + (∑ l : Fin 512, f (lane 3 l))) + (∑ l : Fin 512, f (lane 4 l))) + (∑ l : Fin 512, f (lane 5 l))) + (∑ l : Fin 512, f (lane 6 l)) = ∑ e, f e := by
  refine Eq.trans (Fin.sum_univ_seven fun n => ∑ l : Fin 512, f (lane n l)).symm ?_
  refine Fin.sum_mul_add_congr fun n l hl => ?_
  exact congrArg f (Fin.ext rfl)

/-! ## What a point computes of its blocks -/

section
variable (p0 p1 p2 p3 p4 p5 p6 : Vec Ideal S512x512 .bf16) (w0 w1 w2 w3 w4 w5 w6 : Vec Ideal S512x1024 .bf16)

theorem pay_dh (r : Fin 512) (k : Fin 1024) : k0_pay6 (k0_pay4 p0 w0 p1 w1 p2 w2 p3 w3) (k0_pay5 p4 w4) p5 w5 p6 w6 (ix2 r k)
    = ((((((∑ l : Fin 512, p0 (ix2 r l) * w0 (ix2 l k)) + (∑ l : Fin 512, p1 (ix2 r l) * w1 (ix2 l k))) + (∑ l : Fin 512, p2 (ix2 r l) * w2 (ix2 l k))) + (∑ l : Fin 512, p3 (ix2 r l) * w3 (ix2 l k))) + (∑ l : Fin 512, p4 (ix2 r l) * w4 (ix2 l k))) + (∑ l : Fin 512, p5 (ix2 r l) * w5 (ix2 l k))) + (∑ l : Fin 512, p6 (ix2 r l) * w6 (ix2 l k)) := by
  pointwise [k0_pay6, k0_pay5, k0_pay4]

variable (v44 v59 : Vec Ideal S512x1024 .f32) (v56 v73 : Vec Ideal S1x1024 .f32)

theorem pay_out (r : Fin 512) (j : Fin 1024) :
    k0_pay1 (k0_pay10 v59) (k0_pay11 (k0_pay4 p0 w0 p1 w1 p2 w2 p3 w3) (k0_pay5 p4 w4) p5 w5 p6 w6 v44 v56) (k0_pay12 v44) (ix2 r j)
      = v59 (ix2 r j) + Norm.out (fun k => v44 (ix2 r k)) (fun k => k0_pay6 (k0_pay4 p0 w0 p1 w1 p2 w2 p3 w3) (k0_pay5 p4 w4) p5 w5 p6 w6 (ix2 r k) * v56 (ix2 0 k)) j := by
  unfold k0_pay11
  generalize k0_pay6 (k0_pay4 p0 w0 p1 w1 p2 w2 p3 w3) (k0_pay5 p4 w4) p5 w5 p6 w6 = u
  pointwise [k0_pay1, k0_pay7, k0_pay8, k0_pay9, k0_pay10, k0_pay12]
  rfl

theorem pay_share (u : FVec Ideal S512x1024 .f32) (y : S1x1024.Idx) : k0_pay2 u (k0_pay9 v44) v73 y
    = v73 y + ∑ r : Fin 512, u (ix2 r (y 1)) * (v44 (ix2 r (y 1)) * Ideal.rsqrt (Norm.ms fun k => v44 (ix2 r k))) := by
  pointwise [k0_pay2, k0_pay7, k0_pay8, k0_pay9]
  rfl
end

/-! ## What a point is given -/

variable (m : (ℓ : Loc nD τ sig) → Buf (Elt Ideal) ℓ) (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)

theorem idx : ∀ t : Fin cfg0.N, win0_0.index t = ![t.val, 0] ∧ win0_1.index t = ![0, 0] ∧ win0_2.index t = ![t.val, 0] ∧ win0_3.index t = ![1, 0] ∧ win0_4.index t = ![t.val, 0] ∧ win0_5.index t = ![2, 0] ∧ win0_6.index t = ![t.val, 0] ∧ win0_7.index t = ![3, 0] ∧ win0_8.index t = ![t.val, 0] ∧ win0_9.index t = ![4, 0] ∧ win0_10.index t = ![t.val, 0] ∧ win0_11.index t = ![5, 0] ∧ win0_12.index t = ![t.val, 0] ∧ win0_13.index t = ![6, 0]
    ∧ win0_14.index t = ![t.val, 0] ∧ win0_15.index t = ![0, 0] ∧ win0_16.index t = ![t.val, 0] := by decide +kernel

theorem idxo : ∀ t : Fin cfg0.N, win0_17.index t = ![t.val, 0] ∧ win0_18.index t = ![0, 0] := by decide +kernel

section
abbrev th (t : Fin cfg0.N) := Norm.hi t.val t.isLt
abbrev tl (t : Fin cfg0.N) (r : Fin 512) := Norm.lo t.val r

variable (t : Fin cfg0.N)

abbrev inP0 : FVec Ideal S512x512 .bf16 := iblk m c 0 t
abbrev inW0 : FVec Ideal S512x1024 .bf16 := iblk m c 1 t
abbrev inP1 : FVec Ideal S512x512 .bf16 := iblk m c 2 t
abbrev inW1 : FVec Ideal S512x1024 .bf16 := iblk m c 3 t
abbrev inP2 : FVec Ideal S512x512 .bf16 := iblk m c 4 t
abbrev inW2 : FVec Ideal S512x1024 .bf16 := iblk m c 5 t
abbrev inP3 : FVec Ideal S512x512 .bf16 := iblk m c 6 t
abbrev inW3 : FVec Ideal S512x1024 .bf16 := iblk m c 7 t
abbrev inP4 : FVec Ideal S512x512 .bf16 := iblk m c 8 t
abbrev inW4 : FVec Ideal S512x1024 .bf16 := iblk m c 9 t
abbrev inP5 : FVec Ideal S512x512 .bf16 := iblk m c 10 t
abbrev inW5 : FVec Ideal S512x1024 .bf16 := iblk m c 11 t
abbrev inP6 : FVec Ideal S512x512 .bf16 := iblk m c 12 t
abbrev inW6 : FVec Ideal S512x1024 .bf16 := iblk m c 13 t
abbrev inX : FVec Ideal S512x1024 .f32 := iblk m c 14 t
abbrev inG : FVec Ideal S1x1024 .f32 := iblk m c 15 t
abbrev inRes : FVec Ideal S512x1024 .f32 := iblk m c 16 t

/-- The gradient that a point computes of its blocks. -/
abbrev mid : FVec Ideal S512x1024 .f32 := k0_pay6 (k0_pay4 (inP0 m c t) (inW0 m c t) (inP1 m c t) (inW1 m c t) (inP2 m c t) (inW2 m c t) (inP3 m c t) (inW3 m c t)) (k0_pay5 (inP4 m c t) (inW4 m c t)) (inP5 m c t) (inW5 m c t) (inP6 m c t) (inW6 m c t)

theorem blk_p0 (r l : Fin 512) : inP0 m c t (ix2 r l) = arg3 m c (ix3 (th t) (tl t r) (lane 0 l)) := by
  blk_ext! [inP0, iblk, idx t]

theorem blk_w0 (l : Fin 512) (k : Fin 1024) : inW0 m c t (ix2 l k) = arg2 m c (ix3 0 k (lane 0 l)) := by
  blk_ext! [inW0, iblk, idx t]

theorem blk_p1 (r l : Fin 512) : inP1 m c t (ix2 r l) = arg3 m c (ix3 (th t) (tl t r) (lane 1 l)) := by
  blk_ext! [inP1, iblk, idx t]

theorem blk_w1 (l : Fin 512) (k : Fin 1024) : inW1 m c t (ix2 l k) = arg2 m c (ix3 0 k (lane 1 l)) := by
  blk_ext! [inW1, iblk, idx t]

theorem blk_p2 (r l : Fin 512) : inP2 m c t (ix2 r l) = arg3 m c (ix3 (th t) (tl t r) (lane 2 l)) := by
  blk_ext! [inP2, iblk, idx t]

theorem blk_w2 (l : Fin 512) (k : Fin 1024) : inW2 m c t (ix2 l k) = arg2 m c (ix3 0 k (lane 2 l)) := by
  blk_ext! [inW2, iblk, idx t]

theorem blk_p3 (r l : Fin 512) : inP3 m c t (ix2 r l) = arg3 m c (ix3 (th t) (tl t r) (lane 3 l)) := by
  blk_ext! [inP3, iblk, idx t]

theorem blk_w3 (l : Fin 512) (k : Fin 1024) : inW3 m c t (ix2 l k) = arg2 m c (ix3 0 k (lane 3 l)) := by
  blk_ext! [inW3, iblk, idx t]

theorem blk_p4 (r l : Fin 512) : inP4 m c t (ix2 r l) = arg3 m c (ix3 (th t) (tl t r) (lane 4 l)) := by
  blk_ext! [inP4, iblk, idx t]

theorem blk_w4 (l : Fin 512) (k : Fin 1024) : inW4 m c t (ix2 l k) = arg2 m c (ix3 0 k (lane 4 l)) := by
  blk_ext! [inW4, iblk, idx t]

theorem blk_p5 (r l : Fin 512) : inP5 m c t (ix2 r l) = arg3 m c (ix3 (th t) (tl t r) (lane 5 l)) := by
  blk_ext! [inP5, iblk, idx t]

theorem blk_w5 (l : Fin 512) (k : Fin 1024) : inW5 m c t (ix2 l k) = arg2 m c (ix3 0 k (lane 5 l)) := by
  blk_ext! [inW5, iblk, idx t]

theorem blk_p6 (r l : Fin 512) : inP6 m c t (ix2 r l) = arg3 m c (ix3 (th t) (tl t r) (lane 6 l)) := by
  blk_ext! [inP6, iblk, idx t]

theorem blk_w6 (l : Fin 512) (k : Fin 1024) : inW6 m c t (ix2 l k) = arg2 m c (ix3 0 k (lane 6 l)) := by
  blk_ext! [inW6, iblk, idx t]

theorem blk_x (r : Fin 512) (k : Fin 1024) : inX m c t (ix2 r k) = arg0 m c (ix3 (th t) (tl t r) k) := by
  blk_ext! [inX, iblk, idx t]

theorem blk_g (k : Fin 1024) : inG m c t (ix2 0 k) = arg1 m c (ix2 0 k) := by
  blk_ext! [inG, iblk, idx t]

theorem blk_res (r : Fin 512) (k : Fin 1024) : inRes m c t (ix2 r k) = arg4 m c (ix3 (th t) (tl t r) k) := by
  blk_ext! [inRes, iblk, idx t]

theorem point_dh (r : Fin 512) (k : Fin 1024) : mid m c t (ix2 r k) = dh (arg2 m c) (arg3 m c) (th t) (tl t r) k := by
  refine (pay_dh _ _ _ _ _ _ _ _ _ _ _ _ _ _ r k).trans ?_
  simp only [blk_p0, blk_w0, blk_p1, blk_w1, blk_p2, blk_w2, blk_p3, blk_w3, blk_p4, blk_w4, blk_p5, blk_w5, blk_p6, blk_w6]
  exact seven fun e => (fun a b : EReal => a * b) ((arg3 m c) (ix3 (th t) (tl t r) e)) ((arg2 m c) (ix3 0 k e))

theorem point_out (r : Fin 512) (j : Fin 1024) :
    k0_pay1 (F := Ideal) (k0_pay10 (inRes m c t)) (k0_pay11 (k0_pay4 (inP0 m c t) (inW0 m c t) (inP1 m c t) (inW1 m c t) (inP2 m c t) (inW2 m c t) (inP3 m c t) (inW3 m c t)) (k0_pay5 (inP4 m c t) (inW4 m c t)) (inP5 m c t) (inW5 m c t) (inP6 m c t) (inW6 m c t) (inX m c t) (inG m c t)) (k0_pay12 (inX m c t)) (ix2 r j)
      = dx (arg0 m c) (arg1 m c) (arg2 m c) (arg3 m c) (arg4 m c) (th t) (tl t r) j := by
  refine (pay_out _ _ _ _ _ _ _ _ _ _ _ _ _ _ _ _ _ r j).trans ?_
  refine congrArg₂ (fun a b : EReal => a + b) (blk_res m c t r j) ?_
  exact congrArg₂ (fun a b => Norm.out a b j) (funext fun k => blk_x m c t r k) (funext fun k => congrArg₂ (fun a b : EReal => a * b) (point_dh m c t r k) (blk_g m c t k))

theorem point_share (v : Vec Ideal S1x1024 .f32) (y : S1x1024.Idx) : k0_pay2 (mid m c t) (k0_pay9 (inX m c t)) v y
    = v y + ∑ r : Fin 512, share (arg0 m c) (arg2 m c) (arg3 m c) (th t) (tl t r) (y 1) := by
  refine (pay_share _ _ _ y).trans (congrArg (v y + ·) (Finset.sum_congr rfl fun r _ => ?_))
  exact congrArg₂ (fun a b : EReal => a * b) (point_dh m c t r (y 1)) (congrArg₂ (fun a b : EReal => a * b) (blk_x m c t r (y 1))
    (congrArg (fun f => Ideal.rsqrt (Norm.ms f)) (funext fun k => blk_x m c t r k)))
end

/-! ## The reference -/

section
open DhMixRefIdeal.Read
variable (x : Vec Ideal S2x2048x1024 .f32) (g : Vec Ideal S1x1024 .f32) (w : Vec Ideal S1x1024x3584 .f32) (p : Vec Ideal S2x2048x3584 .f32) (res : Vec Ideal S2x2048x1024 .f32)
  (b : Fin 2) (s : Fin 2048)

theorem ref_dh (k : Fin 1024) : val_main_v19 (F := Ideal) w p (ix3 b s k) = dh w p b s k := by
  rw [val_main_v19_apply]
  refine Finset.sum_congr rfl fun f _ => ?_
  rw [val_main_v17_apply]
  congr 1 <;> blk_ext

theorem ref_out (j : Fin 1024) : val_main_v40 (F := Ideal) x g w p res (ix3 b s j) = dx x g w p res b s j := by
  unfold dx
  rw [Norm.out_eq]
  unfold Norm.fac Norm.ms Norm.mean
  simp only [← ref_dh]
  pointwise [val_main_v40, val_main_v39, val_main_v38, val_main_v37, val_main_v36, val_main_v35, val_main_v34, val_main_v33, val_main_v32, val_main_v31, val_main_v30, val_main_v29, val_main_v28,
    val_main_v27, val_main_v26, val_main_v24, val_main_v23, val_main_v14, val_main_v11, val_main_v10, val_main_v9, val_main_v8, val_main_v7, val_main_v6, val_main_v5, val_main_v4, val_main_v3,
    val_main_v2, val_main_v1, val_main_v0, val_main_cst_7, val_main_cst_6, val_main_cst_5, val_main_cst_2, val_main_cst_1, val_main_cst_0, val_main_cst]
  simp only [Fin.sum_univ_one]

theorem ref_share (j : Fin 1024) : val_main_v20 (F := Ideal) x w p (ix3 b s j) = share x w p b s j := by
  unfold share Norm.ms Norm.mean
  simp only [← ref_dh]
  pointwise [val_main_v20, val_main_v13, val_main_v12, val_main_v8, val_main_v7, val_main_v6, val_main_v5, val_main_v4, val_main_v3, val_main_v2, val_main_v1, val_main_cst_1, val_main_cst_0,
    val_main_cst]
  exact mul_comm _ _

theorem ref_scale (j : DhMixRefIdeal.S1x1024.Idx) : val_main_v41 (F := Ideal) x w p j = ∑ b : Fin 2, ∑ s : Fin 2048, share x w p b s (j 1) := by
  rw [val_main_v41_apply]
  refine (Norm.sum_rows (n0 := 1) (n1 := 1) (n2 := 1024) _ _ _ Ideal.ofBits_zero_f32 _).trans ?_
  rw [Fin.sum_univ_one, Fin.sum_univ_one, val_main_v22_apply]
  refine (Norm.sum_rows (n0 := 2) (n1 := 2048) (n2 := 1024) _ _ _ Ideal.ofBits_zero_f32 _).trans ?_
  refine Finset.sum_congr rfl fun b _ => Finset.sum_congr rfl fun s _ => (ref_share x w p b s _).trans ?_
  exact congrArg (share x w p b s) (Fin.ext (by show (0 * 1 + 0) * 1024 + (j 1).val = (j 1).val; omega))
end

/-! ## The two arrays -/

section
open DhMixRefIdeal.Read

theorem left_out (t : Fin cfg0.N) (y : S512x1024.Idx) : (outsAt0 m c t.val t.isLt).1 y
    = dx (arg0 m c) (arg1 m c) (arg2 m c) (arg3 m c) (arg4 m c) (th t) (tl t (y 0)) (y 1) := by
  refine Eq.trans ?_ (point_out m c t (y 0) (y 1))
  rw [← eq_ix2 y]
  by_cases h : t.val % 8 = 0
  · rw [outsAt0_A m c t h]
    frame_out
  · rw [outsAt0_B m c t h]
    frame_out

theorem left_scale (y : S1x1024.Idx) : (outsAt0 m c t0_7.val t0_7.isLt).2 y
    = ∑ t : Fin cfg0.N, ∑ r : Fin 512, share (arg0 m c) (arg2 m c) (arg3 m c) (th t) (tl t r) (y 1) := by
  refine (Pipeline.eq_sum_fin_of_reset_step_apply_last (fun n h => (outsAt0 m c n h).2) 8 (fun _ => (0 : EReal))
    (fun t y => ∑ r : Fin 512, share (arg0 m c) (arg2 m c) (arg3 m c) (th t) (tl t r) (y 1)) (fun t h y => ?_) (fun t h y => ?_) (by decide) t0_7 rfl y).trans (zero_add _)
  · rw [outsAt0_A m c t h]
    frame_out
    refine (point_share m c t _ y).trans (congrArg (· + _) ?_)
    pointwise [k0_pay3]
  · rw [outsAt0_B m c t h]
    frame_out
    exact point_share m c t _ y

/-- The first result is the reference's. -/
theorem arr_out : (dats m 0 c).arrAt 17 cfg0.N = val_main_v42 (F := Ideal) (arg0 m c) (arg1 m c) (arg2 m c) (arg3 m c) (arg4 m c) := by
  refine (dats m 0 c).arrAt_eq_of_covers 17 _ (by decide +kernel) fun t hf y => ?_
  blk_simp
  rw [after0_17]
  refine (left_out m c t y).trans ((ref_out _ _ _ _ _ _ _ _).symm.trans ?_)
  rw [val_main_v42_apply]
  congr 1
  blk_ext [idxo t]

/-- The second result, the scale's gradient, is the reference's. -/
theorem arr_scale : (dats m 0 c).arrAt 18 cfg0.N = val_main_v41 (F := Ideal) (arg0 m c) (arg2 m c) (arg3 m c) := by
  refine (dats m 0 c).arrAt_eq_of_after_last 18 t0_7 (by decide +kernel) _ fun j => ?_
  blk_simp
  rw [after0_18]
  refine (left_scale m c _).trans (Eq.trans ?_ (ref_scale _ _ _ _).symm)
  refine Fin.sum_points_lanes_congr 4 fun t k ha hl => ?_
  blk_ext [idxo t0_7]
end

end Cert.DhMixIdeal.Closed

end
-- ==== Proof.DownLossEnd.lean ====
/- The last product, the loss and the gradient of the norm before it: the four arrays that the kernel leaves are the reference's, index by index. -/
module

public import proofs.«01_k».proof.Proof.Norm
public import proofs.«01_k».proof.Proof.Gen.DownLossIdeal.Value
public import proofs.«01_k».proof.Proof.Gen.DownLossRefIdeal.Read
public import Idealize.ShloMosaic.Lib.Pipeline.ValueKit
public import Idealize.ShloMosaic.Lib.Pointwise

@[expose] public section

set_option maxRecDepth 16384

noncomputable section

namespace Cert.DownLossIdeal.Closed

open Idealize.ShloMosaic Idealize.ShloMosaic.TcCoe Idealize.SL.Sem Idealize.ShloMosaic.Pipeline
open Cert.DownLossIdeal Cert.DownLossIdeal.Gen Cert.Reals

/-! ## The closed forms -/

section
variable (ff : Vec Ideal S2x2048x2816 .f32) (w : Vec Ideal S1x2816x1024 .f32) (x z : Vec Ideal S2x2048x1024 .f32) (g : Vec Ideal S1024 .f32)

/-- The residual stream behind the product. -/
def row (b : Fin 2) (s : Fin 2048) (k : Fin 1024) : EReal := x (ix3 b s k) + ∑ f : Fin 2816, ff (ix3 b s f) * w (ix3 0 f k)

/-- The distance to the target. -/
def err (b : Fin 2) (s : Fin 2048) (k : Fin 1024) : EReal :=
  row ff w x b s k * Ideal.rsqrt (Norm.ms fun k => row ff w x b s k) * g (ix1 k) - z (ix3 b s k)

/-- The gradient at the norm's result. -/
def dy (b : Fin 2) (s : Fin 2048) (k : Fin 1024) : EReal := err ff w x z g b s k * Ideal.ofBits .f32 0x3A800000#32

/-- The gradient at the norm's argument. -/
def dx (b : Fin 2) (s : Fin 2048) (j : Fin 1024) : EReal := Norm.out (fun k => row ff w x b s k) (fun k => dy ff w x z g b s k * g (ix1 k)) j

/-- A token's share of the scale's gradient. -/
def share (b : Fin 2) (s : Fin 2048) (j : Fin 1024) : EReal :=
  dy ff w x z g b s j * (row ff w x b s j * Ideal.rsqrt (Norm.ms fun k => row ff w x b s k))

/-- A token's mean of squares. -/
def token (b : Fin 2) (s : Fin 2048) : EReal := Norm.mean (∑ k, err ff w x z g b s k * err ff w x z g b s k)
end

/-! ## What a point computes of its blocks -/

section
variable (v0 v22 : Vec Ideal S512x1024 .f32) (v2 : Vec Ideal S512x2816 .bf16) (v4 : Vec Ideal S2816x1024 .bf16) (v8 : Vec Ideal S1x1024 .f32)

theorem pay_row (r : Fin 512) (k : Fin 1024) : k0_pay6 v0 v2 v4 (ix2 r k) = v0 (ix2 r k) + ∑ f : Fin 2816, v2 (ix2 r f) * v4 (ix2 f k) := by
  pointwise [k0_pay6]

theorem pay_err (r : Fin 512) (k : Fin 1024) : k0_pay10 v0 v2 v4 v8 v22 (ix2 r k)
    = k0_pay6 v0 v2 v4 (ix2 r k) * Ideal.rsqrt (Norm.ms fun k => k0_pay6 v0 v2 v4 (ix2 r k)) * v8 (ix2 0 k) - v22 (ix2 r k) := by
  unfold k0_pay10 k0_pay9 k0_pay8
  generalize k0_pay6 v0 v2 v4 = u
  pointwise [k0_pay7]
  rfl

theorem pay_dx (r : Fin 512) (j : Fin 1024) : k0_pay12 v0 v2 v4 v8 v22 (ix2 r j)
    = Norm.out (fun k => k0_pay6 v0 v2 v4 (ix2 r k)) (fun k => k0_pay10 v0 v2 v4 v8 v22 (ix2 r k) * Ideal.ofBits .f32 0x3A800000#32 * v8 (ix2 0 k)) j := by
  unfold k0_pay12 k0_pay11 k0_pay9 k0_pay8
  generalize k0_pay10 v0 v2 v4 v8 v22 = e
  generalize k0_pay6 v0 v2 v4 = u
  pointwise [k0_pay7]
  rfl

theorem pay_share (v : Vec Ideal S1x1024 .f32) (y : S1x1024.Idx) : k0_pay4 (k0_pay9 v0 v2 v4) (k0_pay11 v0 v2 v4 v8 v22) v y
    = v y + ∑ r : Fin 512, k0_pay10 v0 v2 v4 v8 v22 (ix2 r (y 1)) * Ideal.ofBits .f32 0x3A800000#32
        * (k0_pay6 v0 v2 v4 (ix2 r (y 1)) * Ideal.rsqrt (Norm.ms fun k => k0_pay6 v0 v2 v4 (ix2 r k))) := by
  unfold k0_pay11 k0_pay9 k0_pay8
  generalize k0_pay10 v0 v2 v4 v8 v22 = e
  generalize k0_pay6 v0 v2 v4 = u
  pointwise [k0_pay4]
  rfl

theorem pay_token (v : Vec Ideal S1x128 .f32) (y : S1x128.Idx) : k0_pay5 (k0_pay10 v0 v2 v4 v8 v22) v y
    = v y + Ideal.ofBits .f32 0x3F000000#32 * ∑ r : Fin 512, Norm.mean (∑ k : Fin 1024, k0_pay10 v0 v2 v4 v8 v22 (ix2 r k) * k0_pay10 v0 v2 v4 v8 v22 (ix2 r k)) := by
  generalize k0_pay10 v0 v2 v4 v8 v22 = e
  pointwise [k0_pay5]
  rfl
end

/-! ## What a point is given -/

variable (m : (ℓ : Loc nD τ sig) → Buf (Elt Ideal) ℓ) (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)

theorem idx : ∀ t : Fin cfg0.N, win0_0.index t = ![t.val, 0] ∧ win0_1.index t = ![0, 0] ∧ win0_2.index t = ![t.val, 0] ∧ win0_3.index t = ![t.val, 0]
    ∧ win0_4.index t = ![0, 0] := by decide +kernel

theorem idxo : ∀ t : Fin cfg0.N, win0_5.index t = ![t.val, 0] ∧ win0_6.index t = ![t.val, 0] ∧ win0_7.index t = ![0, 0] ∧ win0_8.index t = ![0, 0] := by decide +kernel

section
abbrev th (t : Fin cfg0.N) := Norm.hi t.val t.isLt
abbrev tl (t : Fin cfg0.N) (r : Fin 512) := Norm.lo t.val r

variable (t : Fin cfg0.N)

abbrev inF : FVec Ideal S512x2816 .bf16 := iblk m c 0 t
abbrev inW : FVec Ideal S2816x1024 .bf16 := iblk m c 1 t
abbrev inX : FVec Ideal S512x1024 .f32 := iblk m c 2 t
abbrev inZ : FVec Ideal S512x1024 .f32 := iblk m c 3 t
abbrev inG : FVec Ideal S1x1024 .f32 := iblk m c 4 t

theorem blk_f (r : Fin 512) (f : Fin 2816) : inF m c t (ix2 r f) = arg0 m c (ix3 (th t) (tl t r) f) := by
  blk_ext! [inF, iblk, idx t]

theorem blk_w (f : Fin 2816) (k : Fin 1024) : inW m c t (ix2 f k) = arg1 m c (ix3 0 f k) := by
  blk_ext! [inW, iblk, idx t]

theorem blk_x (r : Fin 512) (k : Fin 1024) : inX m c t (ix2 r k) = arg2 m c (ix3 (th t) (tl t r) k) := by
  blk_ext! [inX, iblk, idx t]

theorem blk_z (r : Fin 512) (k : Fin 1024) : inZ m c t (ix2 r k) = arg3 m c (ix3 (th t) (tl t r) k) := by
  blk_ext! [inZ, iblk, idx t]

theorem blk_g (k : Fin 1024) : inG m c t (ix2 0 k) = arg4 m c (ix1 k) := by
  blk_ext! [inG, iblk, idx t]

theorem point_row (r : Fin 512) (k : Fin 1024) : k0_pay6 (F := Ideal) (inX m c t) (inF m c t) (inW m c t) (ix2 r k) = row (arg0 m c) (arg1 m c) (arg2 m c) (th t) (tl t r) k :=
  (pay_row _ _ _ r k).trans (congrArg₂ (fun a b : EReal => a + b) (blk_x m c t r k)
    (Finset.sum_congr rfl fun f _ => congrArg₂ (fun a b : EReal => a * b) (blk_f m c t r f) (blk_w m c t f k)))

theorem point_err (r : Fin 512) (k : Fin 1024) : k0_pay10 (F := Ideal) (inX m c t) (inF m c t) (inW m c t) (inG m c t) (inZ m c t) (ix2 r k)
    = err (arg0 m c) (arg1 m c) (arg2 m c) (arg3 m c) (arg4 m c) (th t) (tl t r) k := by
  rw [pay_err]
  simp only [point_row, blk_g, blk_z]
  rfl

theorem point_dx (r : Fin 512) (j : Fin 1024) : k0_pay12 (F := Ideal) (inX m c t) (inF m c t) (inW m c t) (inG m c t) (inZ m c t) (ix2 r j)
    = dx (arg0 m c) (arg1 m c) (arg2 m c) (arg3 m c) (arg4 m c) (th t) (tl t r) j := by
  rw [pay_dx]
  simp only [point_row, point_err, blk_g]
  rfl

theorem point_share (v : Vec Ideal S1x1024 .f32) (y : S1x1024.Idx) :
    k0_pay4 (F := Ideal) (k0_pay9 (inX m c t) (inF m c t) (inW m c t)) (k0_pay11 (inX m c t) (inF m c t) (inW m c t) (inG m c t) (inZ m c t)) v y
      = v y + ∑ r : Fin 512, share (arg0 m c) (arg1 m c) (arg2 m c) (arg3 m c) (arg4 m c) (th t) (tl t r) (y 1) := by
  refine (pay_share _ _ _ _ _ _ y).trans (congrArg (v y + ·) (Finset.sum_congr rfl fun r _ => ?_))
  exact congrArg₂ (fun a b : EReal => a * b) (congrArg (fun a : EReal => a * Ideal.ofBits .f32 0x3A800000#32) (point_err m c t r (y 1)))
    (congrArg₂ (fun a b : EReal => a * b) (point_row m c t r (y 1)) (congrArg (fun f => Ideal.rsqrt (Norm.ms f)) (funext fun k => point_row m c t r k)))

theorem point_token (v : Vec Ideal S1x128 .f32) (y : S1x128.Idx) :
    k0_pay5 (F := Ideal) (k0_pay10 (inX m c t) (inF m c t) (inW m c t) (inG m c t) (inZ m c t)) v y
      = v y + Ideal.ofBits .f32 0x3F000000#32 * ∑ r : Fin 512, token (arg0 m c) (arg1 m c) (arg2 m c) (arg3 m c) (arg4 m c) (th t) (tl t r) := by
  refine (pay_token _ _ _ _ _ v y).trans ?_
  simp only [point_err]
  rfl
end

/-! ## The reference -/

section
open DownLossRefIdeal.Read
variable (ff : Vec Ideal S2x2048x2816 .f32) (w : Vec Ideal S1x2816x1024 .f32) (x z : Vec Ideal S2x2048x1024 .f32) (g : Vec Ideal S1024 .f32) (b : Fin 2) (s : Fin 2048)

theorem ref_row (k : Fin 1024) : val_main_v2 (F := Ideal) ff w x (ix3 b s k) = row ff w x b s k := by
  rw [val_main_v2_apply, val_main_v1_apply]
  refine congrArg (x (ix3 b s k) + ·) (Finset.sum_congr rfl fun f _ => ?_)
  rw [val_main_v0_apply]
  congr 1 <;> blk_ext

theorem ref_err (k : Fin 1024) : val_main_v19 (F := Ideal) ff w x z g (ix3 b s k) = err ff w x z g b s k := by
  unfold err Norm.ms Norm.mean
  simp only [← ref_row]
  pointwise [val_main_v19, val_main_v18, val_main_v17, val_main_v16, val_main_v15, val_main_v14, val_main_v10, val_main_v9, val_main_v8, val_main_v7, val_main_v6, val_main_v5, val_main_v4,
    val_main_v3, val_main_cst_1, val_main_cst_0, val_main_cst]

theorem ref_dy (k : Fin 1024) : val_main_v33 (F := Ideal) ff w x z g (ix3 b s k) = dy ff w x z g b s k := by
  unfold dy
  rw [← ref_err, ← Norm.square_share]
  pointwise [val_main_v33, val_main_v32, val_main_v31, val_main_v30, val_main_v29, val_main_v28, val_main_v22, val_main_v21, val_main_cst_10, val_main_cst_9, val_main_cst_8, val_main_cst_3]

theorem ref_dx (j : Fin 1024) : val_main_v53 (F := Ideal) ff w x z g (ix3 b s j) = dx ff w x z g b s j := by
  unfold dx
  refine Eq.trans ?_ ((zero_add _).symm.trans ((Norm.out_eq _ _ _ 0).trans (by rw [zero_add]))).symm
  unfold Norm.fac Norm.ms Norm.mean
  simp only [← ref_row, ← ref_dy]
  pointwise [val_main_v53, val_main_v52, val_main_v51, val_main_v50, val_main_v49, val_main_v48, val_main_v47, val_main_v46, val_main_v45, val_main_v44, val_main_v43, val_main_v42,
    val_main_v41, val_main_v40, val_main_v38, val_main_v37, val_main_v16, val_main_v13, val_main_v12, val_main_v11, val_main_v10, val_main_v9, val_main_v8, val_main_v7, val_main_v6, val_main_v5,
    val_main_v4, val_main_v3, val_main_cst_15, val_main_cst_14, val_main_cst_13, val_main_cst_2, val_main_cst_1, val_main_cst_0, val_main_cst]
  simp only [Fin.sum_univ_one]

theorem ref_share (j : Fin 1024) : val_main_v34 (F := Ideal) ff w x z g (ix3 b s j) = share ff w x z g b s j := by
  unfold share Norm.ms Norm.mean
  simp only [← ref_row, ← ref_dy]
  pointwise [val_main_v34, val_main_v15, val_main_v14, val_main_v10, val_main_v9, val_main_v8, val_main_v7, val_main_v6, val_main_v5, val_main_v4, val_main_v3, val_main_cst_1, val_main_cst_0,
    val_main_cst]
  exact mul_comm _ _

theorem ref_token : val_main_v25 (F := Ideal) ff w x z g (ix2 b s) = token ff w x z g b s := by
  unfold token Norm.mean
  simp only [← ref_err]
  pointwise [val_main_v25, val_main_v24, val_main_v23, val_main_v20, val_main_cst_5, val_main_cst_4]

theorem ref_scale (j : DownLossRefIdeal.S1x1024.Idx) : val_main_v56 (F := Ideal) ff w x z g j = ∑ b : Fin 2, ∑ s : Fin 2048, share ff w x z g b s (j 1) := by
  rw [val_main_v56_apply]
  refine (Norm.sum_rows (n0 := 1) (n1 := 1) (n2 := 1024) _ _ _ Ideal.ofBits_zero_f32 _).trans ?_
  rw [Fin.sum_univ_one, Fin.sum_univ_one, val_main_v36_apply]
  refine (Norm.sum_rows (n0 := 2) (n1 := 2048) (n2 := 1024) _ _ _ Ideal.ofBits_zero_f32 _).trans ?_
  refine Finset.sum_congr rfl fun b _ => Finset.sum_congr rfl fun s _ => (ref_share ff w x z g b s _).trans ?_
  refine congrArg (share ff w x z g b s) (Fin.ext ?_)
  have h0 : (j 0).val = 0 := by have : (j 0).val < 1 := (j 0).isLt; omega
  show (0 * 1 + 0) * 1024 + ((j 0).val * 1024 + (j 1).val) = (j 1).val
  omega

theorem ref_loss (j : DownLossRefIdeal.S1x128.Idx) : val_main_v57 (F := Ideal) ff w x z g j
    = Ideal.ofBits .f32 0x3F000000#32 * ∑ b : Fin 2, ∑ s : Fin 2048, token ff w x z g b s := by
  rw [val_main_v57_apply, val_main_v27_apply, val_main_v26_apply]
  refine congrArg₂ (fun a b : EReal => a * b) rfl ?_
  refine (congrArg₂ (fun a b : EReal => a + b) Ideal.ofBits_zero_f32 (sum_idx2 _)).trans ((zero_add _).trans ?_)
  exact Finset.sum_congr rfl fun b _ => Finset.sum_congr rfl fun s _ => ref_token ff w x z g b s
end

/-! ## The four arrays -/

section
open DownLossRefIdeal.Read

theorem left_dx (t : Fin cfg0.N) (y : S512x1024.Idx) : (outsAt0 m c t.val t.isLt).1 y
    = dx (arg0 m c) (arg1 m c) (arg2 m c) (arg3 m c) (arg4 m c) (th t) (tl t (y 0)) (y 1) := by
  refine Eq.trans ?_ (point_dx m c t (y 0) (y 1))
  rw [← eq_ix2 y]
  by_cases h : t.val % 8 = 0
  · rw [outsAt0_A m c t h]
    frame_out
  · rw [outsAt0_B m c t h]
    frame_out

theorem left_cut (t : Fin cfg0.N) (y : S512x1024.Idx) : (outsAt0 m c t.val t.isLt).2.1 y
    = dx (arg0 m c) (arg1 m c) (arg2 m c) (arg3 m c) (arg4 m c) (th t) (tl t (y 0)) (y 1) := by
  refine Eq.trans ?_ (point_dx m c t (y 0) (y 1))
  rw [← eq_ix2 y]
  by_cases h : t.val % 8 = 0
  · rw [outsAt0_A m c t h]
    frame_out
    rfl
  · rw [outsAt0_B m c t h]
    frame_out
    rfl

theorem left_scale (y : S1x1024.Idx) : (outsAt0 m c t0_7.val t0_7.isLt).2.2.1 y
    = ∑ t : Fin cfg0.N, ∑ r : Fin 512, share (arg0 m c) (arg1 m c) (arg2 m c) (arg3 m c) (arg4 m c) (th t) (tl t r) (y 1) := by
  refine (Pipeline.eq_sum_fin_of_reset_step_apply_last (fun n h => (outsAt0 m c n h).2.2.1) 8 (fun _ => (0 : EReal))
    (fun t y => ∑ r : Fin 512, share (arg0 m c) (arg1 m c) (arg2 m c) (arg3 m c) (arg4 m c) (th t) (tl t r) (y 1)) (fun t h y => ?_) (fun t h y => ?_) (by decide) t0_7 rfl y).trans (zero_add _)
  · rw [outsAt0_A m c t h]
    frame_out
    refine (point_share m c t _ y).trans (congrArg (· + _) ?_)
    pointwise [k0_pay2]
  · rw [outsAt0_B m c t h]
    frame_out
    exact point_share m c t _ y

theorem left_loss (y : S1x128.Idx) : (outsAt0 m c t0_7.val t0_7.isLt).2.2.2 y
    = ∑ t : Fin cfg0.N, Ideal.ofBits .f32 0x3F000000#32 * ∑ r : Fin 512, token (arg0 m c) (arg1 m c) (arg2 m c) (arg3 m c) (arg4 m c) (th t) (tl t r) := by
  refine (Pipeline.eq_sum_fin_of_reset_step_apply_last (fun n h => (outsAt0 m c n h).2.2.2) 8 (fun _ => (0 : EReal))
    (fun t _ => Ideal.ofBits .f32 0x3F000000#32 * ∑ r : Fin 512, token (arg0 m c) (arg1 m c) (arg2 m c) (arg3 m c) (arg4 m c) (th t) (tl t r)) (fun t h y => ?_) (fun t h y => ?_) (by decide) t0_7 rfl y).trans (zero_add _)
  · rw [outsAt0_A m c t h]
    frame_out
    refine (point_token m c t _ y).trans (congrArg (· + _) ?_)
    pointwise [k0_pay3]
  · rw [outsAt0_B m c t h]
    frame_out
    exact point_token m c t _ y

/-- The first result is the reference's. -/
theorem arr_dx : (dats m 0 c).arrAt 5 cfg0.N = val_main_v54 (F := Ideal) (arg0 m c) (arg1 m c) (arg2 m c) (arg3 m c) (arg4 m c) := by
  refine (dats m 0 c).arrAt_eq_of_covers 5 _ (by decide +kernel) fun t hf y => ?_
  blk_simp
  rw [after0_5]
  refine (left_dx m c t y).trans ((ref_dx _ _ _ _ _ _ _ _).symm.trans ?_)
  rw [val_main_v54_apply]
  congr 1
  blk_ext [idxo t]

/-- The second result is the reference's. -/
theorem arr_cut : (dats m 0 c).arrAt 6 cfg0.N = val_main_v55 (F := Ideal) (arg0 m c) (arg1 m c) (arg2 m c) (arg3 m c) (arg4 m c) := by
  refine (dats m 0 c).arrAt_eq_of_covers 6 _ (by decide +kernel) fun t hf y => ?_
  blk_simp
  rw [after0_6]
  refine (left_cut m c t y).trans ((ref_dx _ _ _ _ _ _ _ _).symm.trans ?_)
  rw [val_main_v55_apply]
  refine Eq.trans ?_ (val_main_v54_apply _ _ _ _ _ _).symm
  congr 1
  blk_ext [idxo t]

/-- The third result, the scale's gradient, is the reference's. -/
theorem arr_scale : (dats m 0 c).arrAt 7 cfg0.N = val_main_v56 (F := Ideal) (arg0 m c) (arg1 m c) (arg2 m c) (arg3 m c) (arg4 m c) := by
  refine (dats m 0 c).arrAt_eq_of_after_last 7 t0_7 (by decide +kernel) _ fun j => ?_
  blk_simp
  rw [after0_7]
  refine (left_scale m c _).trans (Eq.trans ?_ (ref_scale _ _ _ _ _ _).symm)
  refine Fin.sum_points_lanes_congr 4 fun t k ha hl => ?_
  blk_ext [idxo t0_7]

/-- The fourth result, the loss in every lane, is the reference's. -/
theorem arr_loss : (dats m 0 c).arrAt 8 cfg0.N = val_main_v57 (F := Ideal) (arg0 m c) (arg1 m c) (arg2 m c) (arg3 m c) (arg4 m c) := by
  refine (dats m 0 c).arrAt_eq_of_after_last 8 t0_7 (by decide +kernel) _ fun j => ?_
  blk_simp
  rw [after0_8]
  exact (left_loss m c _).trans ((Norm.half_sum _).trans (ref_loss _ _ _ _ _ _).symm)
end

end Cert.DownLossIdeal.Closed

end
-- ==== Proof.UpEnd.lean ====
/- The feed-forward part's first call: the three arrays that the kernel leaves are the reference's, index by index. -/
module

public import proofs.«01_k».proof.Proof.Reals
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pointwise

@[expose] public section

set_option maxRecDepth 16384

noncomputable section

namespace Cert.FfnUpIdeal.Closed

open Idealize.ShloMosaic Idealize.ShloMosaic.TcCoe Idealize.SL.Sem Idealize.ShloMosaic.Pipeline
open Cert.FfnUpIdeal Cert.FfnUpIdeal.Gen Cert.Reals FfnUpRefIdeal.Read

abbrev sq (n : Fin 4096) : Fin 2 := ⟨n.val / 2048, by omega⟩
abbrev tk (n : Fin 4096) : Fin 2048 := ⟨n.val % 2048, by omega⟩

/-- A row of the tokens against a column of a weight. -/
def into (h : Vec Ideal S2x2048x1024 .f32) (w : Vec Ideal S1x1024x2816 .f32) (j : S4096x2816.Idx) : EReal :=
  ∑ k : Fin 1024, h (ix3 (sq (j 0)) (tk (j 0)) k) * w (ix3 0 k (j 1))

variable (m : (ℓ : Loc nD τ sig) → Buf (Elt Ideal) ℓ) (c : Dev nD)

abbrev arg0 : Vec Ideal S2x2048x1024 .f32 := m ((c : Thread nD τ).loc main_arg0)
abbrev arg1 : Vec Ideal S1x1024x2816 .f32 := m ((c : Thread nD τ).loc main_arg1)
abbrev arg2 : Vec Ideal S1x1024x2816 .f32 := m ((c : Thread nD τ).loc main_arg2)

theorem idx : ∀ t : Fin cfg0.N, win0_0.index t = ![(grid0.coords t 1).val, 0] ∧ win0_1.index t = ![(grid0.coords t 0).val, 0]
    ∧ win0_2.index t = ![(grid0.coords t 0).val, 0] := by decide +kernel

theorem idxo : ∀ t : Fin cfg0.N, win0_3.index t = ![(grid0.coords t 1).val, (grid0.coords t 0).val]
    ∧ win0_4.index t = ![(grid0.coords t 1).val, (grid0.coords t 0).val] ∧ win0_5.index t = ![(grid0.coords t 1).val, (grid0.coords t 0).val] := by decide +kernel

section
variable (x0 : Vec Ideal S1024x1024 .bf16) (x1 x2 : Vec Ideal S1408x1024 .bf16) (y : S1024x1408.Idx)

theorem pay4 : k0_pay4 x0 x1 y = ∑ k : Fin 1024, x0 (ix2 (y 0) k) * x1 (ix2 (y 1) k) := by
  pointwise [k0_pay4, k0_pay1, k0_pay2]

theorem pay5 : k0_pay5 x0 x2 y = ∑ k : Fin 1024, x0 (ix2 (y 0) k) * x2 (ix2 (y 1) k) := by
  pointwise [k0_pay5, k0_pay1, k0_pay3]

theorem pay6 : k0_pay6 x0 x1 x2 y = k0_pay4 x0 x1 y * sg (k0_pay4 x0 x1 y) * k0_pay5 x0 x2 y := by
  rw [pay4, pay5]
  pointwise [k0_pay6, k0_pay1, k0_pay2, k0_pay3]
  simp only [sg, zero_sub]
end

section
variable (t : Fin cfg0.N) (y : S1024x1408.Idx)

abbrev inH : Vec Ideal S1024x1024 .bf16 := iblk m c 0 t
abbrev inG : Vec Ideal S1408x1024 .bf16 := iblk m c 1 t
abbrev inU : Vec Ideal S1408x1024 .bf16 := iblk m c 2 t

/-- The index of a result under index `y` of point `t`'s block. -/
abbrev at3 : S4096x2816.Idx := ((View.whole main_v8_0).slice (win0_3.rect t)).emb y

theorem h_read (j : S4096x1024.Idx) : V m c main_v1 j = arg0 m c
    (ix3 (sq (j 0)) (tk (j 0)) (j 1)) := by
  entry_read
  pointwise

theorem blk_h (k : Fin 1024) : inH m c t (ix2 (y 0) k) = arg0 m c (ix3 (sq (at3 t y 0)) (tk (at3 t y 0)) k) := by
  have h : inH m c t (ix2 (y 0) k) = V m c main_v1 (ix2 (at3 t y 0) k) := by
    blk_ext [inH, iblk, at3, idx t, idxo t]
  rw [h, h_read]
  rfl

theorem blk_g (k : Fin 1024) : inG m c t (ix2 (y 1) k) = arg1 m c (ix3 0 k (at3 t y 1)) := by
  blk_ext! [inG, iblk, at3, idx t, idxo t]

theorem blk_u (k : Fin 1024) : inU m c t (ix2 (y 1) k) = arg2 m c (ix3 0 k (at3 t y 1)) := by
  blk_ext! [inU, iblk, at3, idx t, idxo t]

theorem point4 : k0_pay4 (inH m c t) (inG m c t) y = into (arg0 m c) (arg1 m c) (at3 t y) := by
  rw [pay4]
  exact Finset.sum_congr rfl fun k _ => congrArg₂ (fun a b : EReal => a * b) (blk_h m c t y k) (blk_g m c t y k)

theorem point5 : k0_pay5 (inH m c t) (inU m c t) y = into (arg0 m c) (arg2 m c) (at3 t y) := by
  rw [pay5]
  exact Finset.sum_congr rfl fun k _ => congrArg₂ (fun a b : EReal => a * b) (blk_h m c t y k) (blk_u m c t y k)
end

section
variable (x0 : Vec Ideal S2x2048x1024 .f32) (x1 x2 : Vec Ideal S1x1024x2816 .f32) (j : S4096x2816.Idx)

theorem ref_gate : val_main_v7 (F := Ideal) x0 x1 j = into x0 x1 j := by
  rw [val_main_v7_apply, val_main_v6_apply, val_main_v1_apply]
  unfold into
  refine Finset.sum_congr rfl fun k _ => ?_
  rw [val_main_v0_apply]
  congr 1 <;> blk_ext

theorem ref_up : val_main_v9 (F := Ideal) x0 x2 j = into x0 x2 j := ref_gate x0 x2 j

theorem ref_ff : val_main_v11 (F := Ideal) x0 x1 x2 j = into x0 x1 j * sg (into x0 x1 j) * into x0 x2 j := by
  rw [← ref_up, ← ref_gate]
  pointwise [val_main_v11, val_main_v10, val_main_v9, val_main_v8, val_main_v7, val_main_v6, val_main_v5, val_main_v4, val_main_call0_v5, val_main_call0_v4, val_main_call0_v3, val_main_call0_v2,
    val_main_call0_v1, val_main_call0_v0, val_main_call0_cst, val_main_call0_cst_0]
  rfl
end

/-- The first result is the reference's. -/
theorem arr_gate : (dats m 0 c).arrAt 3 cfg0.N = val_main_v7 (F := Ideal) (arg0 m c) (arg1 m c) := by
  refine (dats m 0 c).arrAt_eq_of_covers 3 _ (by decide +kernel) fun t hf y => ?_
  blk_simp
  rw [after0_3]
  frame_out
  exact (point4 m c t y).trans (ref_gate _ _ (at3 t y)).symm

/-- The second result is the reference's. -/
theorem arr_up : (dats m 0 c).arrAt 4 cfg0.N = val_main_v9 (F := Ideal) (arg0 m c) (arg2 m c) := by
  refine (dats m 0 c).arrAt_eq_of_covers 4 _ (by decide +kernel) fun t hf y => ?_
  blk_simp
  rw [after0_4]
  frame_out
  exact (point5 m c t y).trans (ref_up _ _ (at3 t y)).symm

/-- The third result is the reference's. -/
theorem arr_ff : (dats m 0 c).arrAt 5 cfg0.N = val_main_v11 (F := Ideal) (arg0 m c) (arg1 m c) (arg2 m c) := by
  refine (dats m 0 c).arrAt_eq_of_covers 5 _ (by decide +kernel) fun t hf y => ?_
  blk_simp
  rw [after0_5]
  frame_out
  refine (pay6 (inH m c t) (inG m c t) (inU m c t) y).trans ?_
  rw [point4, point5]
  exact (ref_ff _ _ _ (at3 t y)).symm

end Cert.FfnUpIdeal.Closed

end
-- ==== Proof.MixEnd.lean ====
/- The mixers' last call: the two arrays that the kernel leaves are the reference's, index by index. -/
module

public import proofs.«01_k».proof.Proof.Norm
public import proofs.«01_k».proof.Proof.Gen.MixOutIdeal.Value
public import proofs.«01_k».proof.Proof.Gen.MixOutRefIdeal.Read
public import Idealize.ShloMosaic.Lib.Pipeline.ValueKit
public import Idealize.ShloMosaic.Lib.Pointwise

@[expose] public section

set_option maxRecDepth 16384

noncomputable section

namespace Cert.MixOutIdeal.Closed

open Idealize.ShloMosaic Idealize.ShloMosaic.TcCoe Idealize.SL.Sem Idealize.ShloMosaic.Pipeline
open Cert.MixOutIdeal Cert.MixOutIdeal.Gen Cert.Reals MixOutRefIdeal.Read

section
variable (x0 : Vec Ideal S2x2048x1024 .f32) (x1 : Vec Ideal S1x1024x1024 .f32) (x2 : Vec Ideal S2x2048x1024 .f32) (x3 : Vec Ideal S1x1024 .f32) (b : Fin 2) (s : Fin 2048)

/-- The tokens after the mixers. -/
def res (j : Fin 1024) : EReal := x2 (ix3 b s j) + ∑ k : Fin 1024, x0 (ix3 b s k) * x1 (ix3 0 k j)

/-- Their norm, with the scale. -/
def nrm (j : Fin 1024) : EReal := res x0 x1 x2 b s j * Ideal.rsqrt (Norm.ms (res x0 x1 x2 b s)) * x3 (ix2 0 j)

theorem ref_res (j : Fin 1024) : val_main_v2 (F := Ideal) x0 x1 x2 (ix3 b s j) = res x0 x1 x2 b s j := by
  unfold res
  pointwise [val_main_v2, val_main_v1, val_main_v0]

theorem ref_nrm (j : Fin 1024) : val_main_v17 (F := Ideal) x0 x1 x2 x3 (ix3 b s j) = nrm x0 x1 x2 x3 b s j := by
  unfold nrm Norm.ms Norm.mean
  simp only [← ref_res]
  pointwise [val_main_v17, val_main_v16, val_main_v15, val_main_v14, val_main_v13, val_main_v12, val_main_v11, val_main_v10, val_main_v9, val_main_v8, val_main_v7, val_main_v6, val_main_v5,
    val_main_v4, val_main_cst_1, val_main_cst_0, val_main_cst]
end

section
variable (v16 : Vec Ideal S1x512x1024 .f32) (v18 : Vec Ideal S512x1024 .bf16) (v20 : Vec Ideal S1024x1024 .bf16) (v35 : Vec Ideal S1x1024 .f32) (r : Fin 512) (j : Fin 1024)

theorem pay2 : k0_pay2 v16 v18 v20 (ix2 r j) = v16 (ix3 0 r j) + ∑ k : Fin 1024, v18 (ix2 r k) * v20 (ix2 k j) := by
  pointwise [k0_pay2]

theorem pay1 : k0_pay1 (k0_pay2 v16 v18 v20) (k0_pay3 v16 v18 v20) v35 (ix2 r j)
    = k0_pay2 v16 v18 v20 (ix2 r j) * Ideal.rsqrt (Norm.ms fun k => k0_pay2 v16 v18 v20 (ix2 r k)) * v35 (ix2 0 j) := by
  unfold k0_pay3
  generalize k0_pay2 v16 v18 v20 = u
  pointwise [k0_pay1]
  rfl
end

variable (m : (ℓ : Loc nD τ sig) → Buf (Elt Ideal) ℓ) (c : Dev nD)

abbrev arg0 : Vec Ideal S2x2048x1024 .f32 := m ((c : Thread nD τ).loc main_arg0)
abbrev arg1 : Vec Ideal S1x1024x1024 .f32 := m ((c : Thread nD τ).loc main_arg1)
abbrev arg2 : Vec Ideal S2x2048x1024 .f32 := m ((c : Thread nD τ).loc main_arg2)
abbrev arg3 : Vec Ideal S1x1024 .f32 := m ((c : Thread nD τ).loc main_arg3)

theorem idx : ∀ t : Fin cfg0.N, win0_0.index t = ![t.val, 0] ∧ win0_1.index t = ![0, 0] ∧ win0_2.index t = ![0, 0] := by decide +kernel

theorem idxo : ∀ t : Fin cfg0.N, win0_3.index t = ![t.val, 0] ∧ win0_4.index t = ![t.val, 0] := by decide +kernel

/-! ## The block that the ring of copies lends -/

theorem off9 : ∀ t : Fin cfg0.N, k0_off9 (grid0.coords t) = ![(Ring.sl 3 t.val).val, 0, 0] := by decide +kernel

section
abbrev th (t : Fin cfg0.N) := Norm.hi t.val t.isLt
abbrev tl (t : Fin cfg0.N) (r : Fin 512) := Norm.lo t.val r

variable (t : Fin cfg0.N) (r : Fin 512) (k : Fin 1024)

abbrev part := (Rect.unit (s := S3x512x1024) (k0_off9 (grid0.coords t)) S1x512x1024.size (k0_off9_inb (grid0.coords t))).toLoadRect

abbrev slot := (rslot0_0 (Ring.sl 3 t.val)).view

abbrev lent : Vec Ideal S1x512x1024 .f32 :=
  View.readAt (Elt Ideal) (View.whole cc0_scratch0) (part t)
    (landed0_0 c (V m c main_v4) (Ring.sl 3 t.val) (Ring.bk 8 t.val) (slot t).junk)

theorem at_slot : (part t).idx (ix3 0 r k) = (slot t).emb (ix2 r k) := by
  show _ = (Rect.unit (s := S3x512x1024) ![(Ring.sl 3 t.val).val, 0, 0] S1x512x1024.size (inb_slot0_0 _)).emb (Shape.reshapeEquiv squeezes_S1x512x1024_S512x1024.numel_eq (ix2 r k))
  have h : Shape.reshapeEquiv squeezes_S1x512x1024_S512x1024.numel_eq (ix2 r k) = ix3 0 r k := Shape.reshapeEquiv_eq_of_rowMajor _ (by
    rw [Shape.rowMajor_val_three, Shape.rowMajor_val_two]
    show (0 * 512 + r.val) * 1024 + k.val = r.val * 1024 + k.val
    omega)
  rw [h]
  funext a
  refine Fin.ext ?_
  exact congrArg (fun o : Fin 3 → ℕ => o a + 1 * (ix3 (0 : Fin 1) r k a).val) (off9 t)

theorem read_slot (g : (slot t).ty.Contents (Elt Ideal)) : View.readAt (Elt Ideal) (View.whole cc0_scratch0) (part t) g (ix3 0 r k)
    = View.read (Elt Ideal) (slot t) g (ix2 r k) :=
  congrArg (fun i : S3x512x1024.Idx => (g : Vec Ideal S3x512x1024 .f32) i) (at_slot t r k)

theorem read_put {κ : Kind} {sp : Space} {S : Shape} {e : EltTy} (v : View sig κ sp S e) (f : v.ty.Contents (Elt Ideal)) (w : S.Idx → Elt Ideal e) (x : S.Idx) :
    View.read (Elt Ideal) v (v.writes (Elt Ideal) f [⟨Rect.whole S, w⟩]) x = w x := by
  have h : (Rect.whole S).emb x = x := funext fun a => Fin.ext (by show 0 + 1 * (x a).val = (x a).val; omega)
  have := View.read_writes_cons_emb v f (Rect.whole S) w [] x
  rwa [h] at this

theorem read_src (b : Fin 8) (g : Vec Ideal S4096x1024 .f32) : View.read (Elt Ideal) (srcB0_0 b).view g (ix2 r k)
    = g (ix2 (⟨b.val * 512 + r.val, by have := b.isLt; have := r.isLt; omega⟩ : Fin 4096) k) := by
  refine congrArg g (funext fun a => Fin.ext ?_)
  match a with
  | ⟨0, _⟩ => show 512 * b.val + 1 * r.val = b.val * 512 + r.val; omega
  | ⟨1, _⟩ => show 0 + 1 * k.val = k.val; omega

theorem x_read (j : S4096x1024.Idx) : V m c main_v4 j = arg2 m c
    (ix3 ⟨(j 0).val / 2048, by have h0 : (j 0).val < 4096 := (j 0).isLt; show (j 0).val / 2048 < 2; omega⟩ ⟨(j 0).val % 2048, by show (j 0).val % 2048 < 2048; omega⟩ (j 1)) := by
  entry_read
  pointwise

theorem lent_eq : lent m c t (ix3 0 r k) = arg2 m c (ix3 (th t) (tl t r) k) := by
  refine (read_slot t r k _).trans ?_
  refine (read_put (slot t) (slot t).junk (ReadAs.same.apply (View.read (Elt Ideal) (srcB0_0 (Ring.bk 8 t.val)).view (V m c main_v4))) (ix2 r k)).trans ?_
  refine (read_src r k _ _).trans ?_
  rw [x_read]
  refine congrArg (arg2 m c) (funext fun a => Fin.ext ?_)
  have hb : (Ring.bk 8 t.val).val = t.val := Nat.mod_eq_of_lt t.isLt
  have hr := r.isLt
  match a with
  | ⟨0, _⟩ => show ((Ring.bk 8 t.val).val * 512 + r.val) / 2048 = t.val / 4; rw [hb]; omega
  | ⟨1, _⟩ => show ((Ring.bk 8 t.val).val * 512 + r.val) % 2048 = t.val % 4 * 512 + r.val; rw [hb]; omega
  | ⟨2, _⟩ => rfl

abbrev inH : FVec Ideal S512x1024 .bf16 := iblk m c 0 t
abbrev inW : FVec Ideal S1024x1024 .bf16 := iblk m c 1 t
abbrev inG : FVec Ideal S1x1024 .f32 := iblk m c 2 t

theorem blk_h : inH m c t (ix2 r k) = arg0 m c (ix3 (th t) (tl t r) k) := by
  blk_ext! [inH, iblk, idx t]

theorem blk_w (j : Fin 1024) : inW m c t (ix2 k j) = arg1 m c (ix3 0 k j) := by
  blk_ext! [inW, iblk, idx t]

theorem blk_g : inG m c t (ix2 0 k) = arg3 m c (ix2 0 k) := by
  blk_ext! [inG, iblk, idx t]

theorem point_res : k0_pay2 (lent m c t) (inH m c t) (inW m c t) (ix2 r k) = res (arg0 m c) (arg1 m c) (arg2 m c) (th t) (tl t r) k := by
  rw [pay2]
  exact congrArg₂ (fun a b : EReal => a + b) (lent_eq m c t r k)
    (Finset.sum_congr rfl fun l _ => congrArg₂ (fun a b : EReal => a * b) (blk_h m c t r l) (blk_w m c t l k))

theorem point_nrm : k0_pay1 (k0_pay2 (lent m c t) (inH m c t) (inW m c t)) (k0_pay3 (lent m c t) (inH m c t) (inW m c t)) (inG m c t) (ix2 r k)
    = nrm (arg0 m c) (arg1 m c) (arg2 m c) (arg3 m c) (th t) (tl t r) k := by
  rw [pay1]
  exact congrArg₂ (fun a b : EReal => a * b) (congrArg₂ (fun a b : EReal => a * b) (point_res m c t r k)
    (congrArg (fun f => Ideal.rsqrt (Norm.ms f)) (funext fun l => point_res m c t r l))) (blk_g m c t k)
end

theorem ran (t : Fin cfg0.N) (y : S512x1024.Idx) : (outsAt0 m c t.val t.isLt).1 y = k0_pay2 (lent m c t) (inH m c t) (inW m c t) y
    ∧ (outsAt0 m c t.val t.isLt).2 y = k0_pay1 (k0_pay2 (lent m c t) (inH m c t) (inW m c t)) (k0_pay3 (lent m c t) (inH m c t) (inW m c t)) (inG m c t) y := by
  by_cases h : t.val % 8 = 0
  · have h1 : t.val < 6 := by have := t.isLt; have : cfg0.N = 8 := N_0; omega
    rw [outsAt0_A m c t h h1]
    constructor <;> frame_out
  · by_cases h1 : t.val < 6
    · rw [outsAt0_B m c t h h1]
      constructor <;> frame_out
    · rw [outsAt0_C m c t h h1]
      constructor <;> frame_out

theorem left_res (t : Fin cfg0.N) (y : S512x1024.Idx) : (outsAt0 m c t.val t.isLt).1 y
    = res (arg0 m c) (arg1 m c) (arg2 m c) (th t) (tl t (y 0)) (y 1) :=
  ((ran m c t y).1.trans (congrArg _ (eq_ix2 y))).trans (point_res m c t (y 0) (y 1))

theorem left_nrm (t : Fin cfg0.N) (y : S512x1024.Idx) : (outsAt0 m c t.val t.isLt).2 y
    = nrm (arg0 m c) (arg1 m c) (arg2 m c) (arg3 m c) (th t) (tl t (y 0)) (y 1) :=
  ((ran m c t y).2.trans (congrArg _ (eq_ix2 y))).trans (point_nrm m c t (y 0) (y 1))

/-- The first result is the reference's. -/
theorem arr_res : (dats m 0 c).arrAt 3 cfg0.N = val_main_v3 (F := Ideal) (arg0 m c) (arg1 m c) (arg2 m c) := by
  refine (dats m 0 c).arrAt_eq_of_covers 3 _ (by decide +kernel) fun t hf y => ?_
  blk_simp
  rw [after0_3]
  refine (left_res m c t y).trans ((ref_res _ _ _ _ _ _).symm.trans ?_)
  rw [val_main_v3_apply]
  congr 1
  blk_ext [idxo t]

/-- The second result is the reference's. -/
theorem arr_nrm : (dats m 0 c).arrAt 4 cfg0.N = val_main_v19 (F := Ideal) (arg0 m c) (arg1 m c) (arg2 m c) (arg3 m c) := by
  refine (dats m 0 c).arrAt_eq_of_covers 4 _ (by decide +kernel) fun t hf y => ?_
  blk_simp
  rw [after0_4]
  refine (left_nrm m c t y).trans ((ref_nrm _ _ _ _ _ _ _).symm.trans ?_)
  rw [val_main_v19_apply, val_main_v18_apply]
  show _ = val_main_v17 (F := Ideal) _ _ _ _ _
  congr 1
  blk_ext [idxo t]

end Cert.MixOutIdeal.Closed

end
-- ==== Proof.FwdTile.lean ====
/- A step of the attention over a tile of the keys, as an operation on what the kernel carries for a block of rows and a
   head; what a trip of its loop over the tiles carries on; and what a point writes. -/
module

public import proofs.«01_k».proof.Proof.SbOut
public import proofs.«01_k».proof.Proof.Gen.SbFwdIdeal.Value

@[expose] public section

set_option maxRecDepth 16384
set_option maxHeartbeats 4000000

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.Reals
open Cert.SbIdeal.Closed (Gates fullGates diagGates keysOf rowsBy upTo z2)

variable {F : FTy → Type} [FloatOps F]

/-- What is carried for a block of rows and a head: the sum so far of the logits' softplus over the tiles from the right,
    and the weighted sum of the values so far. -/
abbrev Two (F : FTy → Type) [FloatOps F] := FVec F S256x1 .f32 × FVec F S256x128 .f32

def firstOf (x : FVec F S256x256 .f32) : FVec F S256x1 .f32 := extractStridedSlice S256x1 ![0, 0] x slices_S256x256_o0_0_S256x1

/-- The logarithms of a tile's weights. -/
def lwOf (tri : FVec F S256x256 .bf16) (run : FVec F S256x1 .f32) (c z : FVec F S256x256 .f32) : FVec F S256x256 .f32 :=
  subf z (addf (upTo tri c) (broadcastTo S256x256 run broadcasts_S256x1_S256x256))

def addOn (acc : FVec F S256x128 .f32) (a : FVec F S256x256 .f32) (v : FVec F S256x128 .bf16) : FVec F S256x128 .f32 :=
  addf acc (matmul dot_S256x256_S256x128_S256x128_1_0_0_1_n_n none (truncf .bf16 a bitsLt_bf16_f32) v (constant S256x128 .f32 0x00000000#32))

def step (tri : FVec F S256x256 .bf16) (g : Gates F) (z : FVec F S256x256 .f32) (v : Vec F S256x128 .bf16) (s : Two F) : Two F :=
  (addf s.1 (firstOf (upTo tri g.c)), addOn s.2 (g.ex (lwOf tri s.1 g.c z)) (keysOf v))

def full (tri : FVec F S256x256 .bf16) (q : FVec F S256x128 .bf16) (k v : Vec F S256x128 .bf16) (s : Two F) : Two F :=
  step tri (fullGates (rowsBy q (keysOf k))) (rowsBy q (keysOf k)) v s

def diag (tri : FVec F S256x256 .bf16) (q : FVec F S256x128 .bf16) (k v : Vec F S256x128 .bf16) (s : Two F) : Two F :=
  step tri (diagGates (rowsBy q (keysOf k))) (rowsBy q (keysOf k)) v s

/-- A tile of the keys or the values, as it is loaded. -/
abbrev tileAt (r : Memref sig .tc .vmem S2048x128 .bf16) (X : BufTy.Contents (Elt F) r.view.ty) (o : Fin 2 → ℕ)
    (inb : ∀ a, o a + S256x128.size a ≤ S2048x128.size a) : Vec F S256x128 .bf16 :=
  r.view.readAt (Elt F) (Rect.unit (s := S2048x128) o S256x128.size inb).toLoadRect X

theorem trips1 : ∀ (i : grid0.Coords), (k0_t1_loop i).trips = (i 2).val := by decide +kernel
theorem trips2 : ∀ (i : grid0.Coords), (k0_t2_loop i).trips = 0 := by decide +kernel
theorem off1_eq : ∀ (i : grid0.Coords), k0_off1 i = ![512 * (i 2).val, 0] := by decide +kernel
theorem off2_eq : ∀ (i : grid0.Coords), k0_off2 i = ![512 * (i 2).val + 256, 0] := by decide +kernel
theorem off31_eq : ∀ (i : grid0.Coords) (k : Fin (k0_t1_loop i).trips), k0_off3 i k 1#32 = ![512 * (i 2).val - 512 * k.val - 256, 0] := by decide +kernel
theorem off32_eq : ∀ (i : grid0.Coords) (k : Fin (k0_t1_loop i).trips), k0_off3 i k 2#32 = ![512 * (i 2).val - 512 * k.val - 512, 0] := by decide +kernel

/-- What the loop carries: both rows' blocks of the first head and of the second, as the kernel orders them. -/
abbrev Eight (F : FTy → Type) [FloatOps F] := FVec F S256x1 .f32 × FVec F S256x128 .f32 × FVec F S256x1 .f32 × FVec F S256x128 .f32 ×
  FVec F S256x1 .f32 × FVec F S256x128 .f32 × FVec F S256x1 .f32 × FVec F S256x128 .f32

abbrev Eight.of (a b c d : Two F) : Eight F := (a.1, a.2, b.1, b.2, c.1, c.2, d.1, d.2)

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .hbm S4096x1024 .bf16) (harg8 : arg8.IsWhole) (arg9 : Memref sig .tc .vmem S512x128 .bf16) (harg9 : arg9.IsWhole) (arg10 : Memref sig .tc .vmem S512x128 .f32) (harg10 : arg10.IsWhole) (arg11 : Memref sig .tc .vmem S512x128 .f32) (harg11 : arg11.IsWhole) (x0 : Vec F S512x128 .bf16) (x1 : Vec F S2048x128 .bf16) (x2 : Vec F S2048x128 .bf16) (x3 : Vec F S1x128 .f32) (x4 : Vec F S256x256 .bf16)
variable (v5 v10 : FVec F S1x128 .f32) (v12 : FVec F S256x256 .bf16) (v19 v26 v33 v40 : FVec F S256x128 .bf16)
variable (v312 : FVec F S256x1 .f32) (v315 : FVec F S256x128 .f32) (v349 : FVec F S256x1 .f32) (v352 : FVec F S256x128 .f32)
variable (v377 : FVec F S256x1 .f32) (v380 : FVec F S256x128 .f32) (v414 : FVec F S256x1 .f32) (v417 : FVec F S256x128 .f32)
variable (arg2 c0_i32 v418 c1_i32_108 : BitVec 32) (X4 : BufTy.Contents (Elt F) arg4.view.ty) (X5 : BufTy.Contents (Elt F) arg5.view.ty)

/-- Two tiles, the right one first. -/
def pass (k : Fin (k0_t1_loop i).trips) (q : FVec F S256x128 .bf16) (s : Two F) : Two F :=
  full v12 q (tileAt arg4 X4 (k0_off3 i k 2#32) (k0_off3_inb i k 1)) (tileAt arg5 X5 (k0_off3 i k 2#32) (k0_off3_inb i k 1))
    (full v12 q (tileAt arg4 X4 (k0_off3 i k 1#32) (k0_off3_inb i k 0)) (tileAt arg5 X5 (k0_off3 i k 1#32) (k0_off3_inb i k 0)) s)

theorem trip_carry (k : Fin (k0_t1_loop i).trips) (a b d e : Two F) :
    tripR_k0_t1 Variants.none c none i arg3 harg3 arg4 harg4 arg5 harg5 arg6 harg6 arg7 harg7 arg8 harg8 arg9 harg9 arg10 harg10 arg11 harg11 arg2
      v5 v10 v12 v19 v26 v33 v40 v312 v315 v349 v352 v377 v380 v414 v417 c0_i32 v418 c1_i32_108 X4 X5 k (Eight.of a b d e)
    = Eight.of (pass i arg4 arg5 v12 X4 X5 k v19 a) (pass i arg4 arg5 v12 X4 X5 k v26 b)
        (pass i arg4 arg5 v12 X4 X5 k v33 d) (pass i arg4 arg5 v12 X4 X5 k v40 e) := by
  unfold tripR_k0_t1 trip_k0_t1
  rfl

/-! ### A point -/

theorem readOne {S : Shape} {e : EltTy} {κ : Kind} {sp : Space} (V : View sig κ sp S e) (f) {off : Fin S.rank → ℕ} (h0 : ∀ a, off a = 0) (inb)
    (w : S.Idx → Elt F e) (L : List (View.Piece (Elt F) S e)) :
    V.read (Elt F) (V.writes (Elt F) f (⟨Rect.unit (s := S) off S.size inb, w⟩ :: L)) = w :=
  funext fun y => View.read_writes_cons_unit_of_mem V f inb w L y y rfl fun a => by rw [h0 a, Nat.zero_add]

/-- The point's rows of queries, scaled and kept to a head's lanes. -/
def rowsOf (r : Memref sig .tc .vmem S512x128 .bf16) (hr : r.IsWhole) (x : Vec F S512x128 .bf16) (mask : FVec F S1x128 .f32) (o : Fin 2 → ℕ)
    (inb : ∀ a, o a + S256x128.size a ≤ S512x128.size a) : FVec F S256x128 .bf16 :=
  mulf (mulf (shapeCast S256x128 (r.view.readAt (Elt F) (Rect.unit (s := S512x128) o S256x128.size inb).toLoadRect (hr.unread x)) shapeCasts_S256x128_S256x128)
    (broadcast S256x128 (Scalar.ofBits .bf16 0x3E00#16))) (broadcastTo S256x128 (truncf .bf16 mask bitsLt_bf16_f32) broadcasts_S1x128_S256x128)

def triOf : FVec F S256x256 .bf16 :=
  shapeCast S256x256 (arg7.view.readAt (Elt F) (Rect.unit (s := S256x256) ![0, 0] S256x256.size (by decide)).toLoadRect (harg7.unread x4)) shapeCasts_S256x256_S256x256

def none2 : Two F := (k0_pay93, k0_pay94)

def k1Of := tileAt arg4 (harg4.unread x1) (k0_off1 i) (k0_off1_inb i)
def k2Of := tileAt arg4 (harg4.unread x1) (k0_off2 i) (k0_off2_inb i)
def v1Of := tileAt arg5 (harg5.unread x2) (k0_off1 i) (k0_off1_inb i)
def v2Of := tileAt arg5 (harg5.unread x2) (k0_off2 i) (k0_off2_inb i)

/-- What the upper block of rows carries into the loop. -/
def upper (q : FVec F S256x128 .bf16) : Two F :=
  diag (triOf arg7 harg7 x4) q (k1Of i arg4 harg4 x1) (v1Of i arg5 harg5 x2) none2
/-- And the lower block. -/
def lower (q : FVec F S256x128 .bf16) : Two F :=
  full (triOf arg7 harg7 x4) q (k1Of i arg4 harg4 x1) (v1Of i arg5 harg5 x2)
    (diag (triOf arg7 harg7 x4) q (k2Of i arg4 harg4 x1) (v2Of i arg5 harg5 x2) none2)

def qOf (o : Fin 2 → ℕ) (inb : ∀ a, o a + S256x128.size a ≤ S512x128.size a) (mask : FVec F S1x128 .f32) := rowsOf arg3 harg3 x0 mask o inb

theorem ib0 : ∀ a, (![0, 0] : Fin 2 → ℕ) a + S256x128.size a ≤ S512x128.size a := by decide
theorem ib1 : ∀ a, (![256, 0] : Fin 2 → ℕ) a + S256x128.size a ≤ S512x128.size a := by decide

/-- What is carried after some trips of the loop. -/
def after (n : ℕ) : Eight F :=
  st_k0_t1 Variants.none c none i arg3 harg3 arg4 harg4 arg5 harg5 arg6 harg6 arg7 harg7 (Memref.whole main_v3) (Memref.isWhole_whole _) arg9 harg9 arg10 harg10 arg11 harg11 (BitVec.ofNat 32 (i 2).val) k0_pay84 k0_pay85
    (triOf arg7 harg7 x4) (qOf arg3 harg3 x0 ![0, 0] ib0 k0_pay84) (qOf arg3 harg3 x0 ![0, 0] ib0 k0_pay85) (qOf arg3 harg3 x0 ![256, 0] ib1 k0_pay84) (qOf arg3 harg3 x0 ![256, 0] ib1 k0_pay85)
    (upper i arg4 harg4 arg5 harg5 arg7 harg7 x1 x2 x4 (qOf arg3 harg3 x0 ![0, 0] ib0 k0_pay84)).1 (upper i arg4 harg4 arg5 harg5 arg7 harg7 x1 x2 x4 (qOf arg3 harg3 x0 ![0, 0] ib0 k0_pay84)).2 (lower i arg4 harg4 arg5 harg5 arg7 harg7 x1 x2 x4 (qOf arg3 harg3 x0 ![256, 0] ib1 k0_pay84)).1 (lower i arg4 harg4 arg5 harg5 arg7 harg7 x1 x2 x4 (qOf arg3 harg3 x0 ![256, 0] ib1 k0_pay84)).2
    (upper i arg4 harg4 arg5 harg5 arg7 harg7 x1 x2 x4 (qOf arg3 harg3 x0 ![0, 0] ib0 k0_pay85)).1 (upper i arg4 harg4 arg5 harg5 arg7 harg7 x1 x2 x4 (qOf arg3 harg3 x0 ![0, 0] ib0 k0_pay85)).2 (lower i arg4 harg4 arg5 harg5 arg7 harg7 x1 x2 x4 (qOf arg3 harg3 x0 ![256, 0] ib1 k0_pay85)).1 (lower i arg4 harg4 arg5 harg5 arg7 harg7 x1 x2 x4 (qOf arg3 harg3 x0 ![256, 0] ib1 k0_pay85)).2
    0#32 (Scalar.subi (BitVec.ofNat 32 (i 2).val) 0#32) 1#32 (harg4.unread x1) (harg5.unread x2)
    (Eight.of (upper i arg4 harg4 arg5 harg5 arg7 harg7 x1 x2 x4 (qOf arg3 harg3 x0 ![0, 0] ib0 k0_pay84)) (upper i arg4 harg4 arg5 harg5 arg7 harg7 x1 x2 x4 (qOf arg3 harg3 x0 ![0, 0] ib0 k0_pay85))
      (lower i arg4 harg4 arg5 harg5 arg7 harg7 x1 x2 x4 (qOf arg3 harg3 x0 ![256, 0] ib1 k0_pay84)) (lower i arg4 harg4 arg5 harg5 arg7 harg7 x1 x2 x4 (qOf arg3 harg3 x0 ![256, 0] ib1 k0_pay85))) n

variable (𝒱 : Variants) (bd : Option 𝒱.V) (init : Eight F)

variable (v422 : BitVec 32)

theorem st2_nil :
    st_k0_t2 𝒱 c bd i arg3 harg3 arg4 harg4 arg5 harg5 arg6 harg6 arg7 harg7 arg8 harg8 arg9 harg9 arg10 harg10 arg11 harg11 arg2 v5 v10 v12 v19 v26 v33 v40
      v312 v315 v349 v352 v377 v380 v414 v417 c0_i32 v418 c1_i32_108 v422 X4 X5 init (k0_t2_loop i).trips = init := by
  rw [trips2, st_k0_t2_zero]

def result7 (E : Eight F) : FVec F S512x128 .f32 := k0_pay147 k0_pay84 k0_pay85 E.1 E.2.2.1 E.2.2.2.2.1 E.2.2.2.2.2.2.1

attribute [local irreducible] st_k0_t1 st_k0_t2 in
theorem read_7 (f) : VO0_7.read (Elt F) (VO0_7.writes (Elt F) f (kernelRun0_A (F := F) c i arg3 harg3 arg4 harg4 arg5 harg5 arg6 harg6 arg7 harg7 arg9 harg9 arg10 harg10 arg11 harg11 x0 x1 x2 x3 x4).2.2.1)
    = result7 (after c i arg3 harg3 arg4 harg4 arg5 harg5 arg6 harg6 arg7 harg7 arg9 harg9 arg10 harg10 arg11 harg11 x0 x1 x2 x4 (k0_t1_loop i).trips) := by
  refine (readOne _ f z2 _ _ []).trans ?_
  exact congrArg (fun E : Eight F => result7 E) (st2_nil ..)

def result6 (E : Eight F) : FVec F S512x128 .f32 := k0_pay146 k0_pay84 k0_pay85 E.2.1 E.2.2.2.1 E.2.2.2.2.2.1 E.2.2.2.2.2.2.2

attribute [local irreducible] st_k0_t1 st_k0_t2 in
theorem read_6 (f) : VO0_6.read (Elt F) (VO0_6.writes (Elt F) f (kernelRun0_A (F := F) c i arg3 harg3 arg4 harg4 arg5 harg5 arg6 harg6 arg7 harg7 arg9 harg9 arg10 harg10 arg11 harg11 x0 x1 x2 x3 x4).2.1)
    = result6 (after c i arg3 harg3 arg4 harg4 arg5 harg5 arg6 harg6 arg7 harg7 arg9 harg9 arg10 harg10 arg11 harg11 x0 x1 x2 x4 (k0_t1_loop i).trips) := by
  refine (readOne _ f z2 _ _ []).trans ?_
  exact congrArg (fun E : Eight F => result6 E) (st2_nil ..)

def result5 (E : Eight F) : FVec F S512x128 .bf16 := k0_pay1 k0_pay85 (k0_pay146 k0_pay84 k0_pay85 E.2.1 E.2.2.2.1 E.2.2.2.2.2.1 E.2.2.2.2.2.2.2) (k0_pay149 k0_pay84 k0_pay85 E.2.1 E.2.2.2.1 E.2.2.2.2.2.1 E.2.2.2.2.2.2.2) (k0_pay150 k0_pay84 k0_pay85 E.2.1 E.2.2.2.1 E.2.2.2.2.2.1 E.2.2.2.2.2.2.2)
    (arg6.view.readAt (Elt F) (Rect.unit (s := S1x128) ![0, 0] S1x128.size (by decide)).toLoadRect (harg6.unread x3))

attribute [local irreducible] st_k0_t1 st_k0_t2 in
theorem read_5 (f) : VO0_5.read (Elt F) (VO0_5.writes (Elt F) f (kernelRun0_A (F := F) c i arg3 harg3 arg4 harg4 arg5 harg5 arg6 harg6 arg7 harg7 arg9 harg9 arg10 harg10 arg11 harg11 x0 x1 x2 x3 x4).1)
    = result5 arg6 harg6 x3 (after c i arg3 harg3 arg4 harg4 arg5 harg5 arg6 harg6 arg7 harg7 arg9 harg9 arg10 harg10 arg11 harg11 x0 x1 x2 x4 (k0_t1_loop i).trips) := by
  refine (readOne _ f z2 _ _ []).trans ?_
  exact congrArg (fun E : Eight F => result5 arg6 harg6 x3 E) (st2_nil ..)

end Cert.SbFwdIdeal.Closed
-- ==== Proof.FwdReal.lean ====
/- The step over the reals: going through the tiles from the right, what is carried is the sum of the softplus over the
   keys from the tile on, and the weighted sum of their values. The values themselves need not be real numbers. -/
module

public import proofs.«01_k».proof.Proof.FwdTile

@[expose] public section

set_option maxRecDepth 16384

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.Reals
open Cert.SbIdeal.Closed hiding z2

/-- The triangle that sums from a place on. -/
def triF (r c : ℕ) : ℝ := if c ≤ r then 1 else 0

theorem sum_triF (x : ℕ → ℝ) {c n : ℕ} (h : c ≤ n) :
    (∑ u ∈ Finset.range n, x u * triF u c) = (∑ u ∈ Finset.range n, x u) - ∑ u ∈ Finset.range c, x u := by
  obtain ⟨d, rfl⟩ := Nat.exists_eq_add_of_le h
  rw [Finset.sum_range_add, Finset.sum_range_add, add_sub_cancel_left, Finset.sum_eq_zero, zero_add]
  · exact Finset.sum_congr rfl fun u _ => by rw [triF, if_pos (Nat.le_add_right _ _), mul_one]
  · intro u hu
    rw [triF, if_neg (Nat.not_le.mpr (Finset.mem_range.mp hu)), mul_zero]

theorem rep_from {tri : FVec Ideal S256x256 .bf16} {c : FVec Ideal S256x256 .f32} {x : ℕ → ℕ → ℝ} (ht : Rep (n := 256) (p := 256) tri triF)
    (hc : Rep (n := 256) (p := 256) c x) :
    Rep (n := 256) (p := 256) (upTo tri c) (fun s t => (∑ u ∈ Finset.range 256, x s u) - ∑ u ∈ Finset.range t, x s u) := by
  intro j
  have e : upTo tri c j = ∑ u : Fin 256, c (ix2 (j 0) u) * tri (ix2 u (j 1)) := by pointwise [upTo]
  have hj : (j 1).val < 256 := (j 1).isLt
  exact (e.trans (Finset.sum_congr rfl fun e _ => congrArg₂ (· * ·) (hc _) (ht _))).trans
    ((sum_coe_mul (n := 256) (fun u => x (j 0).val u) (fun u => triF u (j 1).val)).trans (congrArg _ (sum_triF (x (j 0).val) hj.le)))

theorem rep_firstOf {c : FVec Ideal S256x256 .f32} {x : ℕ → ℕ → ℝ} (hc : Rep (n := 256) (p := 256) c x) :
    Rep (n := 256) (p := 1) (firstOf c) (fun s _ => x s 0) := by
  intro j
  have e : firstOf c j = c (ix2 (j 0) 0) := by pointwise [firstOf]
  exact e.trans (hc _)

theorem rep_lwOf {tri : FVec Ideal S256x256 .bf16} {run : FVec Ideal S256x1 .f32} {c z : FVec Ideal S256x256 .f32}
    {xr xc xz : ℕ → ℕ → ℝ} (ht : Rep (n := 256) (p := 256) tri triF) (hr : Rep (n := 256) (p := 1) run xr) (hc : Rep (n := 256) (p := 256) c xc)
    (hz : Rep (n := 256) (p := 256) z xz) :
    Rep (n := 256) (p := 256) (lwOf tri run c z)
      (fun s t => xz s t - ((∑ u ∈ Finset.range 256, xc s u) - (∑ u ∈ Finset.range t, xc s u) + xr s 0)) := by
  intro j
  have e : lwOf tri run c z j = z j - (upTo tri c j + run (ix2 (j 0) 0)) := by pointwise [lwOf]
  rw [e, hz j, rep_from ht hc j, hr _, ← EReal.coe_add, ← EReal.coe_sub]
  rfl

theorem addOn_apply (acc : FVec Ideal S256x128 .f32) (a : FVec Ideal S256x256 .f32) (v : FVec Ideal S256x128 .bf16) (j) :
    addOn acc a v j = acc j + ∑ u : Fin 256, a (ix2 (j 0) u) * v (ix2 u (j 1)) := by
  pointwise [addOn]

/-- What is carried when the tiles from `T` on have been gone through. -/
structure TwoRep (s : Two Ideal) (H : Head) (V : ℕ → ℕ → EReal) (S0 T : ℕ) : Prop where
  run : Rep (n := 256) (p := 1) s.1 (fun r _ => H.PC (S0 + r) 2048 - H.PC (S0 + r) T)
  acc : ∀ j, s.2 j = ∑ u ∈ Finset.range (2048 - T), ((H.Aw (S0 + (j 0).val) (T + u) : ℝ) : EReal) * V (T + u) (j 1).val

theorem step_rep {tri : FVec Ideal S256x256 .bf16} {g : Gates Ideal} {z : FVec Ideal S256x256 .f32} {v : Vec Ideal S256x128 .bf16} {s : Two Ideal}
    {H : Head} {V : ℕ → ℕ → EReal} {S0 T0 : ℕ} (hT : ∀ s, H.tot s = H.PC s 2048) (ht : Rep (n := 256) (p := 256) tri triF)
    (hz : Rep (n := 256) (p := 256) z (fun s t => H.Z (S0 + s) (T0 + t))) (hg : GatesRep g H S0 T0)
    (hv : ∀ j, v j = V (T0 + (j 0).val) (j 1).val) (hs : TwoRep s H V S0 (T0 + 256)) (hle : T0 + 256 ≤ 2048) :
    TwoRep (step tri g z v s) H V S0 T0 where
  run := fun j => by
    have e : (step tri g z v s).1 j = s.1 j + firstOf (upTo tri g.c) j := rfl
    rw [e, hs.run j, rep_firstOf (rep_from ht hg.c) j, ← EReal.coe_add]
    refine congrArg _ ?_
    show H.PC (S0 + (j 0).val) 2048 - H.PC (S0 + (j 0).val) (T0 + 256) + ((∑ u ∈ Finset.range 256, H.Cc (S0 + (j 0).val) (T0 + u)) - ∑ u ∈ Finset.range 0, H.Cc (S0 + (j 0).val) (T0 + u))
      = H.PC (S0 + (j 0).val) 2048 - H.PC (S0 + (j 0).val) T0
    rw [H.PC_add _ T0 256, Finset.sum_range_zero]
    ring
  acc := fun j => by
    have ha : Rep (n := 256) (p := 256) (g.ex (lwOf tri s.1 g.c z)) (fun r t => H.Aw (S0 + r) (T0 + t)) := by
      refine (hg.ex _ _ (rep_lwOf ht hs.run hg.c hz)).of_eq fun r t _ _ => ?_
      unfold Head.Aw
      by_cases h : T0 + t < S0 + r
      · rw [if_pos h, if_pos h, hT, H.PC_add _ T0 256, Nat.add_assoc T0 t 1, H.PC_add _ T0 (t + 1), Finset.sum_range_succ _ t]
        have hc : H.Cc (S0 + r) (T0 + t) = sp (H.Z (S0 + r) (T0 + t)) := if_pos h
        rw [hc]
        congr 1
        ring
      · rw [if_neg h, if_neg h]
    have hk : ∀ j, keysOf v j = v j := fun j => by pointwise [keysOf]
    have e : (step tri g z v s).2 j = _ := addOn_apply _ _ _ j
    rw [e, hs.acc j, show 2048 - T0 = 256 + (2048 - (T0 + 256)) by omega, Finset.sum_range_add, add_comm]
    congr 1
    · rw [← Fin.sum_univ_eq_sum_range (fun u => ((H.Aw (S0 + (j 0).val) (T0 + u) : ℝ) : EReal) * V (T0 + u) (j 1).val) 256]
      exact Finset.sum_congr rfl fun u _ => congrArg₂ (· * ·) (ha _) ((hk _).trans (hv _))
    · exact Finset.sum_congr rfl fun u _ => by rw [Nat.add_assoc]

theorem none2_rep (H : Head) (V : ℕ → ℕ → EReal) {S0 T : ℕ} (h : S0 + 256 ≤ T) (hT : T ≤ 2048) : TwoRep none2 H V S0 T where
  run := fun j => by
    have h0 : (j 0).val < 256 := (j 0).isLt
    have e : (none2 (F := Ideal)).1 j = 0 := by
      show k0_pay93 j = 0
      pointwise [k0_pay93]
    have hp : H.PC (S0 + (j 0).val) 2048 = H.PC (S0 + (j 0).val) T := by
      rw [show 2048 = T + (2048 - T) by omega, H.PC_add, Finset.sum_eq_zero, add_zero]
      exact fun u _ => if_neg (by omega)
    rw [e]
    show 0 = ((H.PC (S0 + (j 0).val) 2048 - H.PC (S0 + (j 0).val) T : ℝ) : EReal)
    rw [hp, sub_self, EReal.coe_zero]
  acc := fun j => by
    have h0 : (j 0).val < 256 := (j 0).isLt
    have e : (none2 (F := Ideal)).2 j = 0 := by
      show k0_pay94 j = 0
      pointwise [k0_pay94]
    rw [e, Finset.sum_eq_zero]
    intro u _
    rw [H.Aw_of_le (by omega), EReal.coe_zero, zero_mul]

section
variable {tri : FVec Ideal S256x256 .bf16} {q : FVec Ideal S256x128 .bf16} {k v : Vec Ideal S256x128 .bf16} {s : Two Ideal}
  {H : Head} {V : ℕ → ℕ → EReal} {S0 T0 : ℕ} (hT : ∀ s, H.tot s = H.PC s 2048) (ht : Rep (n := 256) (p := 256) tri triF)
  (hq : Rep (n := 256) (p := 128) q (fun r e => H.q (S0 + r) e)) (hk : Rep (n := 256) (p := 128) k (fun t e => H.k (T0 + t) e))
  (hv : ∀ j, v j = V (T0 + (j 0).val) (j 1).val) (hs : TwoRep s H V S0 (T0 + 256)) (hle : T0 + 256 ≤ 2048)
include hT ht hq hk hv hs hle

theorem full_rep (h : T0 + 256 ≤ S0) : TwoRep (full tri q k v s) H V S0 T0 :=
  step_rep hT ht (rep_rowsBy hq (rep_keysOf hk)) (gates_full (rep_rowsBy hq (rep_keysOf hk)) h) hv hs hle

theorem diag_rep (h : T0 = S0) : TwoRep (diag tri q k v s) H V S0 T0 := by
  subst h
  exact step_rep hT ht (rep_rowsBy hq (rep_keysOf hk)) (gates_diag (rep_rowsBy hq (rep_keysOf hk))) hv hs hle

end

end Cert.SbFwdIdeal.Closed
-- ==== Proof.FwdPoint.lean ====
/- What a point of the attention writes, over the whole rows. -/
module

public import proofs.«01_k».proof.Proof.FwdReal

@[expose] public section

set_option maxRecDepth 16384
set_option maxHeartbeats 1000000

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.Reals
open Cert.SbIdeal.Closed hiding z2

theorem pickE (f : ℕ → EReal) {e : ℕ} (he : e < 128) : f 0 * ((hm 0 e : ℝ) : EReal) + f 1 * ((hm 1 e : ℝ) : EReal) = f (e / 64) := by
  have h : e / 64 = 0 ∨ e / 64 = 1 := by omega
  unfold hm
  rcases h with h | h <;> rw [h] <;> simp

theorem sum_halfE (f : ℕ → EReal) {hh : ℕ} (h : hh < 2) :
    (∑ e ∈ Finset.range 128, f e * ((hm hh e : ℝ) : EReal)) = ∑ e ∈ Finset.range 64, f (64 * hh + e) := by
  rw [show (128 : ℕ) = 64 + 64 from rfl, Finset.sum_range_add]
  obtain rfl | rfl : hh = 0 ∨ hh = 1 := by omega
  · rw [Finset.sum_congr rfl (g := fun e => f (64 * 0 + e)), Finset.sum_eq_zero (s := Finset.range 64) (f := fun x => f (64 + x) * ((hm 0 (64 + x) : ℝ) : EReal)), add_zero]
    · intro e he
      have := Finset.mem_range.mp he
      rw [hm, if_neg (by omega), EReal.coe_zero, mul_zero]
    · intro e he
      have := Finset.mem_range.mp he
      rw [hm, if_pos (by omega), EReal.coe_one, mul_one, Nat.mul_zero, Nat.zero_add]
  · rw [Finset.sum_eq_zero (s := Finset.range 64) (f := fun x => f x * ((hm 1 x : ℝ) : EReal)), zero_add]
    · refine Finset.sum_congr rfl fun e he => ?_
      have := Finset.mem_range.mp he
      rw [hm, if_pos (by omega), EReal.coe_one, mul_one, Nat.mul_one]
    · intro e he
      have := Finset.mem_range.mp he
      rw [hm, if_neg (by omega), EReal.coe_zero, mul_zero]

theorem rep_m0 : Rep (n := 1) (p := 128) (k0_pay84 (F := Ideal)) (fun _ e => hm 0 e) := fun j => by
  pointwise [k0_pay84]
  exact select_of_lane (lane0 (j 1))
theorem rep_m1 : Rep (n := 1) (p := 128) (k0_pay85 (F := Ideal)) (fun _ e => hm 1 e) := fun j => by
  pointwise [k0_pay85]
  exact select_of_lane (lane1 (j 1))

theorem unread_at {S : Shape} {φ : EltTy} {r : Memref sig .tc .vmem S φ} (hr : r.IsWhole) (x : Vec Ideal S φ) (R : LoadRect S) (j) :
    View.readAt (Elt Ideal) r.view R (hr.unread x) j = x (R.idx j) := congrFun (hr.read_unread x) _

theorem rep_part {n p : ℕ} {r : Memref sig .tc .vmem ⟨2, ![n, p]⟩ .bf16} (hr : r.IsWhole) {x : FVec Ideal ⟨2, ![n, p]⟩ .bf16} {y : ℕ → ℕ → ℝ}
    (h : Rep (n := n) (p := p) x y) {n' p' a b : ℕ} (inb) :
    Rep (n := n') (p := p') (View.readAt (Elt Ideal) r.view (Rect.unit (s := ⟨2, ![n, p]⟩) ![a, b] ![n', p'] inb).toLoadRect (hr.unread x)) (fun i j => y (a + i) (b + j)) := by
  intro j
  refine (unread_at hr (φ := .bf16) x (Rect.unit (s := ⟨2, ![n, p]⟩) ![a, b] ![n', p'] inb).toLoadRect j).trans ((h _).trans ?_)
  show ((y (a + 1 * (j 0).val) (b + 1 * (j 1).val) : ℝ) : EReal) = _
  rw [Nat.one_mul, Nat.one_mul]

/-- What a point's blocks hold. The values are any, and so is the gain. -/
structure FwdRep (D : Dat) (V : ℕ → ℕ → EReal) (S0 : ℕ) (x0 : FVec Ideal S512x128 .bf16) (x1 x2 : FVec Ideal S2048x128 .bf16) (x4 : FVec Ideal S256x256 .bf16) : Prop where
  q : Rep (n := 512) (p := 128) x0 (fun r e => D.Q (S0 + r) e)
  k : Rep (n := 2048) (p := 128) x1 D.K
  v : ∀ j, x2 j = V (j 0).val (j 1).val
  t : Rep (n := 256) (p := 256) x4 triF
  tot : ∀ hh s, hh < 2 → (D.head hh).tot s = (D.head hh).PC s 2048

/-- What the loop carries: the tiles from `T` on have been gone through. -/
structure Four (D : Dat) (V : ℕ → ℕ → EReal) (S0 T : ℕ) (E : Eight Ideal) : Prop where
  a : TwoRep (E.1, E.2.1) (D.head 0) V S0 T
  b : TwoRep (E.2.2.1, E.2.2.2.1) (D.head 1) V S0 T
  c : TwoRep (E.2.2.2.2.1, E.2.2.2.2.2.1) (D.head 0) V (S0 + 256) T
  d : TwoRep (E.2.2.2.2.2.2.1, E.2.2.2.2.2.2.2) (D.head 1) V (S0 + 256) T

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S256x256 .bf16) (harg7 : arg7.IsWhole) (arg9 : Memref sig .tc .vmem S512x128 .bf16) (harg9 : arg9.IsWhole) (arg10 : Memref sig .tc .vmem S512x128 .f32) (harg10 : arg10.IsWhole) (arg11 : Memref sig .tc .vmem S512x128 .f32) (harg11 : arg11.IsWhole) (x0 : Vec Ideal S512x128 .bf16) (x1 : Vec Ideal S2048x128 .bf16) (x2 : Vec Ideal S2048x128 .bf16) (x3 : Vec Ideal S1x128 .f32) (x4 : Vec Ideal S256x256 .bf16)
variable {D : Dat} {V : ℕ → ℕ → EReal}

theorem rep_tri (ht : Rep (n := 256) (p := 256) x4 triF) : Rep (n := 256) (p := 256) (triOf arg7 harg7 x4) triF := fun j => by
  pointwise [triOf]
  exact (rep_part (n' := 256) (p' := 256) harg7 ht (by decide)).up _

section
variable {S0 : ℕ} (hq : Rep (n := 512) (p := 128) x0 (fun r e => D.Q (S0 + r) e))
include hq

theorem rep_rows {o : ℕ} {inb} {mask : FVec Ideal S1x128 .f32} {hh : ℕ} (hm' : Rep (n := 1) (p := 128) mask (fun _ e => hm hh e)) :
    Rep (n := 256) (p := 128) (qOf arg3 harg3 x0 ![o, 0] inb mask) (fun r e => (D.head hh).q (S0 + o + r) e) := fun j => by
  have e : qOf arg3 harg3 x0 ![o, 0] inb mask j
      = (arg3.view.readAt (Elt Ideal) (Rect.unit (s := S512x128) ![o, 0] S256x128.size inb).toLoadRect (harg3.unread x0)) j
        * Ideal.ofBits .bf16 0x3E00#16 * mask (ix2 0 (j 1)) := by
    pointwise [qOf, rowsOf]
  rw [e, bits_eighth_bf16]
  refine (mul_at (mul_at (rep_part harg3 hq inb j) rfl) (hm' _)).trans (congrArg _ ?_)
  show D.Q (S0 + (o + (j 0).val)) (0 + (j 1).val) * (1 / 8) * hm hh (j 1).val = D.Q (S0 + o + (j 0).val) (j 1).val * (1 / 8) * hm hh (j 1).val
  rw [Nat.add_assoc, Nat.zero_add]
end

theorem val_tile (hv : ∀ j, x2 j = V (j 0).val (j 1).val) {o : Fin 2 → ℕ} {inb : ∀ a, o a + S256x128.size a ≤ S2048x128.size a} {T0 : ℕ} (ho : o = ![T0, 0]) (j) :
    tileAt (F := Ideal) arg5 (harg5.unread x2) o inb j = V (T0 + (j 0).val) (j 1).val := by
  subst ho
  refine (unread_at harg5 (φ := .bf16) x2 (Rect.unit (s := S2048x128) ![T0, 0] S256x128.size inb).toLoadRect j).trans ((hv _).trans ?_)
  show V (T0 + 1 * (j 0).val) (0 + 1 * (j 1).val) = _
  rw [Nat.one_mul, Nat.one_mul, Nat.zero_add]

theorem key_tile {K : ℕ → ℕ → ℝ} (hk : Rep (n := 2048) (p := 128) x1 K) {o : Fin 2 → ℕ} {inb : ∀ a, o a + S256x128.size a ≤ S2048x128.size a} {T0 : ℕ} (ho : o = ![T0, 0]) :
    Rep (n := 256) (p := 128) (tileAt (F := Ideal) arg4 (harg4.unread x1) o inb) (fun t e => K (T0 + t) e) := by
  subst ho
  refine (rep_part harg4 hk inb).of_eq fun t e _ _ => ?_
  rw [Nat.zero_add]

variable {S0 : ℕ} (hi : S0 = 512 * (i 2).val) (hR : FwdRep D V S0 x0 x1 x2 x4)
include hi hR

theorem upper_rep {hh : ℕ} (h : hh < 2) {q : FVec Ideal S256x128 .bf16} (hq : Rep (n := 256) (p := 128) q (fun r e => (D.head hh).q (S0 + r) e)) :
    TwoRep (upper i arg4 harg4 arg5 harg5 arg7 harg7 x1 x2 x4 q) (D.head hh) V S0 S0 := by
  have h4 : (i 2).val < 4 := (i 2).isLt
  have ho : k0_off1 i = ![S0, 0] := by rw [off1_eq, hi]
  exact diag_rep (hR.tot hh · h) (rep_tri arg7 harg7 x4 hR.t) hq (key_tile arg4 harg4 x1 hR.k ho) (val_tile arg5 harg5 x2 hR.v ho)
    (none2_rep _ _ le_rfl (by omega)) (by omega) rfl

theorem lower_rep {hh : ℕ} (h : hh < 2) {q : FVec Ideal S256x128 .bf16} (hq : Rep (n := 256) (p := 128) q (fun r e => (D.head hh).q (S0 + 256 + r) e)) :
    TwoRep (lower i arg4 harg4 arg5 harg5 arg7 harg7 x1 x2 x4 q) (D.head hh) V (S0 + 256) S0 := by
  have h4 : (i 2).val < 4 := (i 2).isLt
  have ho : k0_off1 i = ![S0, 0] := by rw [off1_eq, hi]
  have ho2 : k0_off2 i = ![S0 + 256, 0] := by rw [off2_eq, hi]
  exact full_rep (hR.tot hh · h) (rep_tri arg7 harg7 x4 hR.t) hq (key_tile arg4 harg4 x1 hR.k ho) (val_tile arg5 harg5 x2 hR.v ho)
    (diag_rep (hR.tot hh · h) (rep_tri arg7 harg7 x4 hR.t) hq (key_tile arg4 harg4 x1 hR.k ho2) (val_tile arg5 harg5 x2 hR.v ho2)
      (none2_rep _ _ le_rfl (by omega)) (by omega) rfl) (by omega) le_rfl

theorem pass_rep (k : Fin (k0_t1_loop i).trips) {hh : ℕ} (h : hh < 2) {S1 : ℕ} (hS : S0 ≤ S1) {q : FVec Ideal S256x128 .bf16} {s : Two Ideal}
    (hq : Rep (n := 256) (p := 128) q (fun r e => (D.head hh).q (S1 + r) e)) (hs : TwoRep s (D.head hh) V S1 (S0 - 512 * k.val)) :
    TwoRep (pass i arg4 arg5 (triOf arg7 harg7 x4) (harg4.unread x1) (harg5.unread x2) k q s) (D.head hh) V S1 (S0 - 512 * (k.val + 1)) := by
  have h4 : (i 2).val < 4 := (i 2).isLt
  have hk : k.val < (i 2).val := lt_of_lt_of_eq k.isLt (trips1 i)
  have ho : k0_off3 i k 1#32 = ![S0 - 512 * k.val - 256, 0] := by rw [off31_eq, hi]
  have ho2 : k0_off3 i k 2#32 = ![S0 - 512 * (k.val + 1), 0] := by
    rw [off32_eq, hi, show 512 * (i 2).val - 512 * k.val - 512 = 512 * (i 2).val - 512 * (k.val + 1) by omega]
  rw [show S0 - 512 * k.val = S0 - 512 * k.val - 256 + 256 by omega] at hs
  have h1 := full_rep (hR.tot hh · h) (rep_tri arg7 harg7 x4 hR.t) hq (key_tile arg4 harg4 x1 hR.k (inb := k0_off3_inb i k 0) ho)
    (val_tile arg5 harg5 x2 hR.v (inb := k0_off3_inb i k 0) ho) hs (by omega) (by omega)
  rw [show S0 - 512 * k.val - 256 = S0 - 512 * (k.val + 1) + 256 by omega] at h1
  exact full_rep (hR.tot hh · h) (rep_tri arg7 harg7 x4 hR.t) hq (key_tile arg4 harg4 x1 hR.k (inb := k0_off3_inb i k 1) ho2)
    (val_tile arg5 harg5 x2 hR.v (inb := k0_off3_inb i k 1) ho2) h1 (by omega) (by omega)

theorem after_rep : ∀ n, n ≤ (k0_t1_loop i).trips →
    Four D V S0 (S0 - 512 * n) (after c i arg3 harg3 arg4 harg4 arg5 harg5 arg6 harg6 arg7 harg7 arg9 harg9 arg10 harg10 arg11 harg11 x0 x1 x2 x4 n)
  | 0, _ => by
    have q00 := rep_rows arg3 harg3 x0 hR.q (o := 0) (inb := ib0) rep_m0
    have q01 := rep_rows arg3 harg3 x0 hR.q (o := 0) (inb := ib0) rep_m1
    have q10 := rep_rows arg3 harg3 x0 hR.q (o := 256) (inb := ib1) rep_m0
    have q11 := rep_rows arg3 harg3 x0 hR.q (o := 256) (inb := ib1) rep_m1
    exact ⟨upper_rep i arg4 harg4 arg5 harg5 arg7 harg7 x0 x1 x2 x4 hi hR (by decide) q00, upper_rep i arg4 harg4 arg5 harg5 arg7 harg7 x0 x1 x2 x4 hi hR (by decide) q01,
      lower_rep i arg4 harg4 arg5 harg5 arg7 harg7 x0 x1 x2 x4 hi hR (by decide) q10, lower_rep i arg4 harg4 arg5 harg5 arg7 harg7 x0 x1 x2 x4 hi hR (by decide) q11⟩
  | n + 1, hn => by
    have ih := after_rep n (Nat.le_of_succ_le hn)
    have q00 := rep_rows arg3 harg3 x0 hR.q (o := 0) (inb := ib0) rep_m0
    have q01 := rep_rows arg3 harg3 x0 hR.q (o := 0) (inb := ib0) rep_m1
    have q10 := rep_rows arg3 harg3 x0 hR.q (o := 256) (inb := ib1) rep_m0
    have q11 := rep_rows arg3 harg3 x0 hR.q (o := 256) (inb := ib1) rep_m1
    obtain ⟨E, hE⟩ : ∃ E, E = after c i arg3 harg3 arg4 harg4 arg5 harg5 arg6 harg6 arg7 harg7 arg9 harg9 arg10 harg10 arg11 harg11 x0 x1 x2 x4 n := ⟨_, rfl⟩
    rw [← hE] at ih
    have e : after c i arg3 harg3 arg4 harg4 arg5 harg5 arg6 harg6 arg7 harg7 arg9 harg9 arg10 harg10 arg11 harg11 x0 x1 x2 x4 (n + 1) = _ :=
      (st_k0_t1_succ (k := ⟨n, hn⟩) ..).trans ((congrArg _ hE.symm).trans
        (trip_carry (a := (E.1, E.2.1)) (b := (E.2.2.1, E.2.2.2.1)) (d := (E.2.2.2.2.1, E.2.2.2.2.2.1)) (e := (E.2.2.2.2.2.2.1, E.2.2.2.2.2.2.2)) ..))
    rw [e]
    exact ⟨pass_rep i arg4 harg4 arg5 harg5 arg7 harg7 x0 x1 x2 x4 hi hR ⟨n, hn⟩ (by decide) le_rfl q00 ih.a, pass_rep i arg4 harg4 arg5 harg5 arg7 harg7 x0 x1 x2 x4 hi hR ⟨n, hn⟩ (by decide) le_rfl q01 ih.b,
      pass_rep i arg4 harg4 arg5 harg5 arg7 harg7 x0 x1 x2 x4 hi hR ⟨n, hn⟩ (by decide) (Nat.le_add_right _ _) q10 ih.c, pass_rep i arg4 harg4 arg5 harg5 arg7 harg7 x0 x1 x2 x4 hi hR ⟨n, hn⟩ (by decide) (Nat.le_add_right _ _) q11 ih.d⟩

end Cert.SbFwdIdeal.Closed
-- ==== Proof.FwdOut.lean ====
/- What a point of the attention writes. -/
module

public import proofs.«01_k».proof.Proof.FwdPoint

@[expose] public section

set_option maxRecDepth 16384
set_option maxHeartbeats 1000000

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.Reals
open Cert.SbIdeal.Closed hiding z2 rep_m0 rep_m1

/-- A row's output of both heads, by the lane. -/
def Dat.ov (D : Dat) (V : ℕ → ℕ → EReal) (s e : ℕ) : EReal := ∑ u ∈ Finset.range 2048, (((D.head (e / 64)).Aw s u : ℝ) : EReal) * V u e
def Dat.msv (D : Dat) (V : ℕ → ℕ → EReal) (hh s : ℕ) : EReal :=
  (∑ e ∈ Finset.range 64, Dat.ov D V s (64 * hh + e) * Dat.ov D V s (64 * hh + e)) * ((1 / 64 : ℝ) : EReal) + (small : EReal)

theorem TwoRep.end_run {s : Two Ideal} {H : Head} {V : ℕ → ℕ → EReal} {S0 : ℕ} (h : TwoRep s H V S0 0) :
    Rep (n := 256) (p := 1) s.1 (fun r _ => H.PC (S0 + r) 2048) :=
  h.run.of_eq fun r _ _ _ => by
    show H.PC (S0 + r) 2048 - ∑ u ∈ Finset.range 0, _ = _
    rw [Finset.sum_range_zero, sub_zero]

theorem TwoRep.end_acc {s : Two Ideal} {H : Head} {V : ℕ → ℕ → EReal} {S0 : ℕ} (h : TwoRep s H V S0 0) (j) :
    s.2 j = ∑ u ∈ Finset.range 2048, ((H.Aw (S0 + (j 0).val) u : ℝ) : EReal) * V u (j 1).val := by
  rw [h.acc j]
  exact Finset.sum_congr rfl fun u _ => by rw [Nat.zero_add]

variable {D : Dat} {V : ℕ → ℕ → EReal} {S0 : ℕ} {E : Eight Ideal} (hF : Four D V S0 0 E)
include hF

theorem res7 (j) : result7 E j = (((D.head ((j 1).val / 64)).PC (S0 + (j 0).val) 2048 : ℝ) : EReal) := by
  have j1 : (j 1).val < 128 := (j 1).isLt
  pointwise [result7, k0_pay147]
  by_cases h : (j 0).val < 256
  · rw [dif_pos h]
    exact (congrArg₂ (· + ·) (congrArg₂ (· * ·) (hF.a.end_run _) (rep_m0 _)) (congrArg₂ (· * ·) (hF.b.end_run _) (rep_m1 _))).trans
      (pickE (fun hh => (((D.head hh).PC (S0 + (j 0).val) 2048 : ℝ) : EReal)) j1)
  · rw [dif_neg h]
    refine (congrArg₂ (· + ·) (congrArg₂ (· * ·) (hF.c.end_run _) (rep_m0 _)) (congrArg₂ (· * ·) (hF.d.end_run _) (rep_m1 _))).trans
      ((pickE (fun hh => (((D.head hh).PC (S0 + 256 + ((j 0).val - 256)) 2048 : ℝ) : EReal)) j1).trans ?_)
    rw [show S0 + 256 + ((j 0).val - 256) = S0 + (j 0).val by omega]

theorem res6 (j) : result6 E j = Dat.ov D V (S0 + (j 0).val) (j 1).val := by
  have j1 : (j 1).val < 128 := (j 1).isLt
  pointwise [result6, k0_pay146]
  by_cases h : (j 0).val < 256
  · rw [dif_pos h]
    exact (congrArg₂ (· + ·) (congrArg₂ (· * ·) (hF.a.end_acc _) (rep_m0 _)) (congrArg₂ (· * ·) (hF.b.end_acc _) (rep_m1 _))).trans
      (pickE (fun hh => ∑ u ∈ Finset.range 2048, (((D.head hh).Aw (S0 + (j 0).val) u : ℝ) : EReal) * V u (j 1).val) j1)
  · rw [dif_neg h]
    refine (congrArg₂ (· + ·) (congrArg₂ (· * ·) (hF.c.end_acc _) (rep_m0 _)) (congrArg₂ (· * ·) (hF.d.end_acc _) (rep_m1 _))).trans
      ((pickE (fun hh => ∑ u ∈ Finset.range 2048, (((D.head hh).Aw (S0 + 256 + ((j 0).val - 256)) u : ℝ) : EReal) * V u (j 1).val) j1).trans ?_)
    rw [show S0 + 256 + ((j 0).val - 256) = S0 + (j 0).val by omega]
    rfl

omit hF in
theorem pay1_at (m : FVec Ideal S1x128 .f32) (x a b : FVec Ideal S512x128 .f32) (g : FVec Ideal S1x128 .f32) (j) :
    k0_pay1 m x a b g j = x j * (a j + Ideal.rsqrt ((∑ e : Fin 128, b (ix2 (j 0) e)) * Ideal.ofBits .f32 0x3C800000#32 + Ideal.ofBits .f32 0x358637BD#32) * m (ix2 0 (j 1)))
      * g (ix2 0 (j 1)) := by
  pointwise [k0_pay1]

theorem sq_at (j) : k0_pay148 k0_pay84 k0_pay85 E.2.1 E.2.2.2.1 E.2.2.2.2.2.1 E.2.2.2.2.2.2.2 j
    = Dat.ov D V (S0 + (j 0).val) (j 1).val * Dat.ov D V (S0 + (j 0).val) (j 1).val :=
  congrArg₂ (· * ·) (res6 hF j) (res6 hF j)

theorem pay149_at (j) : k0_pay149 k0_pay84 k0_pay85 E.2.1 E.2.2.2.1 E.2.2.2.2.2.1 E.2.2.2.2.2.2.2 j
    = Ideal.rsqrt (Dat.msv D V 0 (S0 + (j 0).val)) * ((hm 0 (j 1).val : ℝ) : EReal) := by
  have e : k0_pay149 k0_pay84 k0_pay85 E.2.1 E.2.2.2.1 E.2.2.2.2.2.1 E.2.2.2.2.2.2.2 j
      = Ideal.rsqrt ((∑ e : Fin 128, k0_pay148 k0_pay84 k0_pay85 E.2.1 E.2.2.2.1 E.2.2.2.2.2.1 E.2.2.2.2.2.2.2 (ix2 (j 0) e) * k0_pay84 (ix2 0 e)) * Ideal.ofBits .f32 0x3C800000#32 + Ideal.ofBits .f32 0x358637BD#32)
        * k0_pay84 (ix2 0 (j 1)) := by
    pointwise [k0_pay149]
  rw [e, bits_sixtyfourth, bits_small, rep_m0, Finset.sum_congr rfl fun e _ => congrArg₂ (· * ·) (sq_at hF (ix2 (j 0) e)) (rep_m0 (ix2 0 e))]
  refine congrArg (fun X => Ideal.rsqrt (X * ((1 / 64 : ℝ) : EReal) + (small : EReal)) * ((hm 0 (j 1).val : ℝ) : EReal)) ?_
  exact (Fin.sum_univ_eq_sum_range (fun e => Dat.ov D V (S0 + (j 0).val) e * Dat.ov D V (S0 + (j 0).val) e * ((hm 0 e : ℝ) : EReal)) 128).trans
    (sum_halfE (fun e => Dat.ov D V (S0 + (j 0).val) e * Dat.ov D V (S0 + (j 0).val) e) (by decide))

theorem pay150_at (j) : k0_pay150 k0_pay84 k0_pay85 E.2.1 E.2.2.2.1 E.2.2.2.2.2.1 E.2.2.2.2.2.2.2 j
    = Dat.ov D V (S0 + (j 0).val) (j 1).val * Dat.ov D V (S0 + (j 0).val) (j 1).val * ((hm 1 (j 1).val : ℝ) : EReal) := by
  pointwise [k0_pay150]
  exact congrArg₂ (· * ·) (sq_at hF j) (rep_m1 _)

theorem res5 {arg6 : Memref sig .tc .vmem S1x128 .f32} (harg6 : arg6.IsWhole) (x3 : Vec Ideal S1x128 .f32) (j) :
    result5 arg6 harg6 x3 E j = Dat.ov D V (S0 + (j 0).val) (j 1).val * Ideal.rsqrt (Dat.msv D V ((j 1).val / 64) (S0 + (j 0).val)) * x3 (ix2 0 (j 1)) := by
  have j1 : (j 1).val < 128 := (j 1).isLt
  have hg : (arg6.view.readAt (Elt Ideal) (Rect.unit (s := S1x128) ![0, 0] S1x128.size (by decide)).toLoadRect (harg6.unread x3)) (ix2 0 (j 1)) = x3 (ix2 0 (j 1)) := by
    refine (unread_at harg6 (φ := .f32) x3 _ _).trans (congrArg x3 ?_)
    funext a
    match a with
    | ⟨0, _⟩ => rfl
    | ⟨1, _⟩ => exact Fin.ext (by show 0 + 1 * (j 1).val = (j 1).val; omega)
  refine (pay1_at _ _ _ _ _ j).trans ?_
  rw [pay149_at hF, hg, bits_sixtyfourth, bits_small, rep_m1, Finset.sum_congr rfl fun e _ => pay150_at hF (ix2 (j 0) e)]
  refine congrArg₂ (· * ·) (congrArg₂ (· * ·) (res6 hF j) ?_) rfl
  refine Eq.trans ?_ (pickE (fun hh => Ideal.rsqrt (Dat.msv D V hh (S0 + (j 0).val))) j1)
  refine congrArg (fun X => Ideal.rsqrt (Dat.msv D V 0 (S0 + (j 0).val)) * ((hm 0 (j 1).val : ℝ) : EReal) + Ideal.rsqrt (X * ((1 / 64 : ℝ) : EReal) + (small : EReal)) * ((hm 1 (j 1).val : ℝ) : EReal)) ?_
  exact (Fin.sum_univ_eq_sum_range (fun e => Dat.ov D V (S0 + (j 0).val) e * Dat.ov D V (S0 + (j 0).val) e * ((hm 1 e : ℝ) : EReal)) 128).trans
    (sum_halfE (fun e => Dat.ov D V (S0 + (j 0).val) e * Dat.ov D V (S0 + (j 0).val) e) (by decide))

end Cert.SbFwdIdeal.Closed
-- ==== Proof.FwdHost.lean ====
/- What the host prepares for the attention's forward step. -/
module

public import proofs.«01_k».proof.Proof.FwdReal
public import proofs.«01_k».proof.Proof.Gen.SbFwdIdeal.Value
public import Idealize.ShloMosaic.Lib.Pipeline.ValueKit
public import Idealize.ShloMosaic.Lib.Pointwise

@[expose] public section

set_option maxRecDepth 16384
set_option maxHeartbeats 4000000

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.Reals
open Cert.SbIdeal.Closed (Rep)

variable (m : (ℓ : Loc nD τ sig) → Buf (Elt Ideal) ℓ) (c : Dev nD)

theorem proj_read (j : S4096x1536.Idx) : V m c main_v1 j
    = shapeCast S4096x1536 (m ((c : Thread nD τ).loc main_arg0) : (⟨S2x2048x1536, .f32⟩ : BufTy).Contents (Elt Ideal)) shapeCasts_S2x2048x1536_S4096x1536 j := by
  entry_read
  rfl

theorem proj_flat (X : (⟨S2x2048x1536, .f32⟩ : BufTy).Contents (Elt Ideal)) (j : S4096x1536.Idx) : shapeCast S4096x1536 X shapeCasts_S2x2048x1536_S4096x1536 j = X
    (ix3 ⟨(j 0).val / 2048, by have h0 : (j 0).val < 4096 := (j 0).isLt; show (j 0).val / 2048 < 2; omega⟩ ⟨(j 0).val % 2048, by show (j 0).val % 2048 < 2048; omega⟩ (j 1)) := by
  pointwise

theorem mixed_read (j : S4096x1024.Idx) : V m c (Pipeline.arrRef spec0 5) j
    = shapeCast S4096x1024 (m ((c : Thread nD τ).loc main_arg2) : (⟨S2x2048x1024, .f32⟩ : BufTy).Contents (Elt Ideal)) shapeCasts_S2x2048x1024_S4096x1024 j := by
  show V m c main_v9_0 j = _
  entry_read
  rfl

theorem mixed_flat (X : (⟨S2x2048x1024, .f32⟩ : BufTy).Contents (Elt Ideal)) (j : S4096x1024.Idx) : shapeCast S4096x1024 X shapeCasts_S2x2048x1024_S4096x1024 j = X
    (ix3 ⟨(j 0).val / 2048, by have h0 : (j 0).val < 4096 := (j 0).isLt; show (j 0).val / 2048 < 2; omega⟩ ⟨(j 0).val % 2048, by show (j 0).val % 2048 < 2048; omega⟩ (j 1)) := by
  pointwise

theorem tri_read (j : S256x256.Idx) : V m c main_v8 j = Scalar.select (IntOp.cmpi .sge (BitVec.ofNat 32 (j 0).val) (BitVec.ofNat 32 (j 1).val)) (Ideal.ofBits .f32 0x3F800000#32) (Ideal.ofBits .f32 0x00000000#32) := by
  entry_read
  rfl

theorem gain_read (j : S1x512.Idx) : V m c main_arg1 j = m ((c : Thread nD τ).loc main_arg1) j := by
  entry_read
  rfl

theorem rep_tri0 : Rep (n := 256) (p := 256) (V m c main_v8) triF := fun j => by
  refine (tri_read m c j).trans ?_
  have j0 : (j 0).val < 256 := (j 0).isLt
  have j1 : (j 1).val < 256 := (j 1).isLt
  have e : (IntOp.cmpi .sge (BitVec.ofNat 32 (j 0).val) (BitVec.ofNat 32 (j 1).val) = 1#1) = ((j 1).val ≤ (j 0).val) := by
    show (BitVec.ofBool (BitVec.sle (BitVec.ofNat 32 (j 1).val) (BitVec.ofNat 32 (j 0).val)) = 1#1) = _
    have h1 : (BitVec.ofNat 32 (j 0).val).toInt = ((j 0).val : ℤ) := by
      rw [BitVec.toInt_eq_toNat_of_lt (by rw [BitVec.toNat_ofNat]; omega), BitVec.toNat_ofNat, Nat.mod_eq_of_lt (by omega)]
    have h2 : (BitVec.ofNat 32 (j 1).val).toInt = ((j 1).val : ℤ) := by
      rw [BitVec.toInt_eq_toNat_of_lt (by rw [BitVec.toNat_ofNat]; omega), BitVec.toNat_ofNat, Nat.mod_eq_of_lt (by omega)]
    rw [BitVec.sle, h1, h2]
    by_cases h : (j 1).val ≤ (j 0).val <;> simp [h]
  show (if _ = 1#1 then _ else _) = _
  simp only [e]
  unfold triF
  by_cases h : (j 1).val ≤ (j 0).val
  · rw [if_pos h, if_pos h]
    exact Ideal.ofBits_one_f32
  · rw [if_neg h, if_neg h]
    exact Ideal.ofBits_zero_f32

end Cert.SbFwdIdeal.Closed

end
-- ==== Proof.FwdRef.lean ====
/- The reference of the attention's forward step, by its places: the weights over the reals, what is summed of the values
   with them over the extended reals. -/
module

public import proofs.«01_k».proof.Proof.SbRef
public import proofs.«01_k».proof.Proof.Gen.SbFwdRefIdeal.Read

@[expose] public section

set_option maxRecDepth 16384
set_option maxHeartbeats 1000000

noncomputable section

namespace Cert.SbFwdRefIdeal.Closed

open Idealize.ShloMosaic Idealize.ShloMosaic.TcCoe Idealize.SL.Sem Idealize.ShloMosaic.Pipeline
open Cert.SbFwdRefIdeal Cert.SbFwdRefIdeal.Gen Cert.SbFwdRefIdeal.Read Cert.Reals
open Cert.SbIdeal.Closed (Src R3 R4 Rep sp sum_coe_mul window_sum masked_at sub_at plus_at times_at neg_at exp_at div_at softplus_at)
open Cert.SbRefIdeal.Closed (win_apply)

/-- Arrays of extended real numbers, by their places. -/
def E3 {a b c : ℕ} (X : (⟨3, ![a, b, c]⟩ : Shape).Idx → EReal) (x : ℕ → ℕ → ℕ → EReal) : Prop := ∀ j, X j = x (j 0).val (j 1).val (j 2).val
def E4 {a b c d : ℕ} (X : (⟨4, ![a, b, c, d]⟩ : Shape).Idx → EReal) (x : ℕ → ℕ → ℕ → ℕ → EReal) : Prop :=
  ∀ j, X j = x (j 0).val (j 1).val (j 2).val (j 3).val

theorem at3 {α : Type} (f : ℕ → ℕ → ℕ → α) {a b c a' b' c' : ℕ} (ha : a = a') (hb : b = b') (hc : c = c') : f a b c = f a' b' c' := by
  rw [ha, hb, hc]
theorem at4 {α : Type} (f : ℕ → ℕ → ℕ → ℕ → α) {a b c d a' b' c' d' : ℕ} (ha : a = a') (hb : b = b') (hc : c = c') (hd : d = d') :
    f a b c d = f a' b' c' d' := by
  rw [ha, hb, hc, hd]

/-- The projections, and their part that the weights come from as real numbers. -/
structure Ext where
  S : Src
  X : ℕ → ℕ → ℕ → EReal
  G : ℕ → EReal
  real : ∀ b s l, b < 2 → s < 2048 → l < 1024 → X b s l = ((S.P b s l : ℝ) : EReal)

namespace Ext
variable (W : Ext)
def v (b h t e : ℕ) : EReal := W.X b t (1024 + (64 * h + e))
def o (b h s e : ℕ) : EReal := ∑ t ∈ Finset.range 2048, ((W.S.a b h s t : ℝ) : EReal) * W.v b h t e
def ms (b h s : ℕ) : EReal := (∑ e ∈ Finset.range 64, W.o b h s e * W.o b h s e) * ((1 / 64 : ℝ) : EReal) + (small : EReal)
def n (b h s e : ℕ) : EReal := W.o b h s e * Ideal.rsqrt (W.ms b h s)
end Ext

variable (x0 : (⟨S2x2048x1536, .f32⟩ : BufTy).Contents (Elt Ideal)) (x1 : (⟨S1x512, .f32⟩ : BufTy).Contents (Elt Ideal))
  (x2 : (⟨S2x2048x1024, .f32⟩ : BufTy).Contents (Elt Ideal)) (W : Ext)
  (h0 : E3 (a := 2) (b := 2048) (c := 1536) x0 W.X) (h1 : ∀ j, x1 j = W.G (j 1).val)

theorem start_at (j : S_.Idx) : val_main_call2_v0 (F := Ideal) j = 0 := Ideal.ofBits_zero_f32

include h0

theorem r_v0 : R3 (a := 2) (b := 2048) (c := 512) (val_main_v0 (F := Ideal) x0) (fun b s l => W.S.P b s (l)) := fun j => by
  have j0 : (j 0).val < 2 := (j 0).isLt
  have j1 : (j 1).val < 2048 := (j 1).isLt
  have j2 : (j 2).val < 512 := (j 2).isLt
  refine (val_main_v0_apply x0 j).trans ((h0 _).trans ?_)
  refine (at3 W.X (a' := (j 0).val) (b' := (j 1).val) (c' := (j 2).val) ?_ ?_ ?_).trans (W.real _ _ _ j0 j1 (by omega))
  · first | rfl | exact Nat.zero_add _ | exact Nat.add_zero _
  · first | rfl | exact Nat.zero_add _ | exact Nat.add_zero _
  · first | rfl | exact Nat.add_comm _ _ | exact Nat.zero_add _

theorem r_v1 : R3 (a := 2) (b := 2048) (c := 512) (val_main_v1 (F := Ideal) x0) (fun b s l => W.S.P b s (512 + l)) := fun j => by
  have j0 : (j 0).val < 2 := (j 0).isLt
  have j1 : (j 1).val < 2048 := (j 1).isLt
  have j2 : (j 2).val < 512 := (j 2).isLt
  refine (val_main_v1_apply x0 j).trans ((h0 _).trans ?_)
  refine (at3 W.X (a' := (j 0).val) (b' := (j 1).val) (c' := 512 + (j 2).val) ?_ ?_ ?_).trans (W.real _ _ _ j0 j1 (by omega))
  · first | rfl | exact Nat.zero_add _ | exact Nat.add_zero _
  · first | rfl | exact Nat.zero_add _ | exact Nat.add_zero _
  · first | rfl | exact Nat.add_comm _ _ | exact Nat.zero_add _

theorem r_v2 : E3 (a := 2) (b := 2048) (c := 512) (val_main_v2 (F := Ideal) x0) (fun b s l => W.X b s (1024 + l)) := fun j => by
  have j0 : (j 0).val < 2 := (j 0).isLt
  have j1 : (j 1).val < 2048 := (j 1).isLt
  have j2 : (j 2).val < 512 := (j 2).isLt
  refine (val_main_v2_apply x0 j).trans ((h0 _).trans ?_)
  refine (at3 W.X (a' := (j 0).val) (b' := (j 1).val) (c' := 1024 + (j 2).val) ?_ ?_ ?_)
  · first | rfl | exact Nat.zero_add _ | exact Nat.add_zero _
  · first | rfl | exact Nat.zero_add _ | exact Nat.add_zero _
  · first | rfl | exact Nat.add_comm _ _ | exact Nat.zero_add _

theorem r_v3 : R4 (a := 2) (b := 2048) (c := 8) (d := 64) (val_main_v3 (F := Ideal) x0) (fun b s h e => W.S.q b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v3_apply x0 j).trans ((r_v0 x0 W h0 _).trans ?_)
  refine at3 (fun b s l => ((W.S.P b s (l) : ℝ) : EReal)) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

theorem r_v4 : R4 (a := 2) (b := 8) (c := 2048) (d := 64) (val_main_v4 (F := Ideal) x0) (W.S.q) := fun j => by
  exact (val_main_v4_apply x0 j).trans (r_v3 x0 W h0 _)

theorem r_v5 : R4 (a := 2) (b := 2048) (c := 8) (d := 64) (val_main_v5 (F := Ideal) x0) (fun b s h e => W.S.k b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v5_apply x0 j).trans ((r_v1 x0 W h0 _).trans ?_)
  refine at3 (fun b s l => ((W.S.P b s (512 + l) : ℝ) : EReal)) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

theorem r_v6 : R4 (a := 2) (b := 8) (c := 2048) (d := 64) (val_main_v6 (F := Ideal) x0) (W.S.k) := fun j => by
  exact (val_main_v6_apply x0 j).trans (r_v5 x0 W h0 _)

theorem r_v7 : E4 (a := 2) (b := 2048) (c := 8) (d := 64) (val_main_v7 (F := Ideal) x0) (fun b s h e => W.v b h s e) := fun j => by
  have j0 : (j 0).val < 2 := (j 0).isLt
  have j1 : (j 1).val < 2048 := (j 1).isLt
  have j2 : (j 2).val < 8 := (j 2).isLt
  have j3 : (j 3).val < 64 := (j 3).isLt
  refine (val_main_v7_apply x0 j).trans ((r_v2 x0 W h0 _).trans ?_)
  refine at3 (fun b s l => W.X b s (1024 + l)) (a' := (j 0).val) (b' := (j 1).val) (c' := 64 * (j 2).val + (j 3).val) ?_ ?_ ?_
  · show ((((j 0).val * 2048 + (j 1).val) * 8 + (j 2).val) * 64 + (j 3).val) / 1048576 = _; omega
  · show ((((j 0).val * 2048 + (j 1).val) * 8 + (j 2).val) * 64 + (j 3).val) / 512 % 2048 = _; omega
  · show ((((j 0).val * 2048 + (j 1).val) * 8 + (j 2).val) * 64 + (j 3).val) % 512 = _; omega

theorem r_v8 : E4 (a := 2) (b := 8) (c := 2048) (d := 64) (val_main_v8 (F := Ideal) x0) (W.v) := fun j => by
  exact (val_main_v8_apply x0 j).trans (r_v7 x0 W h0 _)

theorem r_v9 : R4 (a := 2) (b := 8) (c := 2048) (d := 2048) (val_main_v9 (F := Ideal) x0) (fun b h s t => ∑ e ∈ Finset.range 64, W.S.q b h s e * W.S.k b h t e) := fun j => by
  refine (val_main_v9_apply x0 j).trans ?_
  refine (Finset.sum_congr rfl fun k _ => congrArg₂ (· * ·) (r_v4 x0 W h0 _) (r_v6 x0 W h0 _)).trans ?_
  exact sum_coe_mul (n := 64) (fun k => W.S.q (j 0).val (j 1).val (j 2).val k) (fun k => W.S.k (j 0).val (j 1).val (j 3).val k)

theorem r_v11 : R4 (a := 2) (b := 8) (c := 2048) (d := 2048) (val_main_v11 (F := Ideal) x0) (W.S.z) := fun j => times_at (r_v9 x0 W h0 j) bits_eighth

theorem r_v18 : R4 (a := 2) (b := 8) (c := 2048) (d := 2048) (val_main_v18 (F := Ideal) x0) (fun b h s t => sp (W.S.z b h s t)) := fun j =>
  softplus_at (r_v11 x0 W h0 j) Ideal.ofBits_zero_f32

theorem r_v19 : R4 (a := 2) (b := 8) (c := 2048) (d := 2048) (val_main_v19 (F := Ideal) x0) (W.S.c) := fun j => by
  have j2 : (j 2).val < 2048 := (j 2).isLt
  have j3 : (j 3).val < 2048 := (j 3).isLt
  exact masked_at j3 j2 (r_v18 x0 W h0 j) Ideal.ofBits_zero_f32

theorem r_v21 : R4 (a := 2) (b := 8) (c := 2048) (d := 2048) (val_main_v21 (F := Ideal) x0) (W.S.after) := fun j => by
  refine sub_at ?_ (r_v19 x0 W h0 j)
  exact (win_apply _ _ _ _ _ _ reduceWindows_S2x8x2048x2048_S2x8x2048x2048_w1s1p0_0_w1s1p0_0_w1s1p0_0_w2048s1p0_2047 h_S_ j).trans
    (window_sum (val_main_v19 (F := Ideal) x0) W.S.c (r_v19 x0 W h0) (l := 0) rfl reduceWindows_S2x8x2048x2048_S2x8x2048x2048_w1s1p0_0_w1s1p0_0_w1s1p0_0_w2048s1p0_2047 _ (start_at _) j)

theorem r_call3_v1 : R4 (a := 2) (b := 8) (c := 2048) (d := 2048) (val_main_call3_v1 (F := Ideal) x0) (fun b h s t => sp (-W.S.z b h s t)) := fun j =>
  softplus_at (neg_at (r_v11 x0 W h0 j)) Ideal.ofBits_zero_f32

theorem r_v24 : R4 (a := 2) (b := 8) (c := 2048) (d := 2048) (val_main_v24 (F := Ideal) x0) (W.S.lw) := fun j =>
  exp_at (sub_at (neg_at (r_call3_v1 x0 W h0 j)) (r_v21 x0 W h0 j))

theorem r_v25 : R4 (a := 2) (b := 8) (c := 2048) (d := 2048) (val_main_v25 (F := Ideal) x0) (W.S.a) := fun j => by
  have j2 : (j 2).val < 2048 := (j 2).isLt
  have j3 : (j 3).val < 2048 := (j 3).isLt
  exact masked_at j3 j2 (r_v24 x0 W h0 j) Ideal.ofBits_zero_f32

theorem r_v26 : E4 (a := 2) (b := 8) (c := 2048) (d := 64) (val_main_v26 (F := Ideal) x0) (W.o) := fun j => by
  refine (val_main_v26_apply x0 j).trans ?_
  refine (Finset.sum_congr rfl fun k _ => congrArg₂ (· * ·) (r_v25 x0 W h0 _) (r_v8 x0 W h0 _)).trans ?_
  exact Fin.sum_univ_eq_sum_range (fun t => ((W.S.a (j 0).val (j 1).val (j 2).val t : ℝ) : EReal) * W.v (j 0).val (j 1).val t (j 3).val) 2048

theorem r_v27 : E4 (a := 2) (b := 2048) (c := 8) (d := 64) (val_main_v27 (F := Ideal) x0) (fun b s h e => W.o b h s e) := fun j =>
  (val_main_v27_apply x0 j).trans (r_v26 x0 W h0 _)

theorem r_v28 : R3 (a := 2) (b := 8) (c := 2048) (val_main_v28 (F := Ideal) x0) (W.S.tot) := fun j => by
  refine (val_main_v28_apply x0 j).trans ?_
  rw [show val_main_cst_2 (F := Ideal) (Shape.Idx.first h_S_) = 0 from Ideal.ofBits_zero_f32, zero_add]
  refine (Finset.sum_congr rfl fun k _ => r_v19 x0 W h0 _).trans ?_
  unfold Src.tot
  rw [← Fin.sum_univ_eq_sum_range (fun t => W.S.c (j 0).val (j 1).val (j 2).val t) 2048, coe_sum]

theorem r_v31 : R4 (a := 2) (b := 2048) (c := 8) (d := 64) (val_main_v31 (F := Ideal) x0) (fun b s h _ => W.S.tot b h s) := fun j =>
  (val_main_v31_apply x0 j).trans ((val_main_v30_apply x0 _).trans ((val_main_v29_apply x0 _).trans (r_v28 x0 W h0 _)))

theorem r_v33 : E3 (a := 2) (b := 2048) (c := 8) (val_main_v33 (F := Ideal) x0) (fun b s h => ∑ e ∈ Finset.range 64, W.o b h s e * W.o b h s e) := fun j => by
  refine (val_main_v33_apply x0 j).trans ?_
  rw [show val_main_cst_3 (F := Ideal) (Shape.Idx.first h_S_) = 0 from Ideal.ofBits_zero_f32, zero_add]
  refine (Finset.sum_congr rfl fun k _ => congrArg₂ (· * ·) (r_v27 x0 W h0 _) (r_v27 x0 W h0 _)).trans ?_
  exact Fin.sum_univ_eq_sum_range (fun e => W.o (j 0).val (j 2).val (j 1).val e * W.o (j 0).val (j 2).val (j 1).val e) 64

theorem r_v38 : E4 (a := 2) (b := 2048) (c := 8) (d := 1) (val_main_v38 (F := Ideal) x0) (fun b s h _ => W.ms b h s) := fun j => by
  refine congrArg₂ (· + ·) ?_ bits_small
  refine Eq.trans (congrArg₂ Ideal.div ((val_main_v34_apply x0 j).trans (r_v33 x0 W h0 _)) bits_sixtyfour) ?_
  exact Ideal.div_coe (by norm_num) _

theorem r_v41 : E4 (a := 2) (b := 2048) (c := 8) (d := 64) (val_main_v41 (F := Ideal) x0) (fun b s h e => W.n b h s e) := fun j =>
  congrArg₂ (· * ·) (r_v27 x0 W h0 j) ((val_main_v40_apply x0 j).trans (congrArg Ideal.rsqrt (r_v38 x0 W h0 _)))

theorem r_v43 : E3 (a := 2) (b := 2048) (c := 512) (val_main_v43 (F := Ideal) x0) (fun b s l => W.n b (l / 64) s (l % 64)) := fun j => by
  have j0 : (j 0).val < 2 := (j 0).isLt
  have j1 : (j 1).val < 2048 := (j 1).isLt
  have j2 : (j 2).val < 512 := (j 2).isLt
  refine (val_main_v43_apply x0 j).trans ((r_v41 x0 W h0 _).trans ?_)
  refine at4 (fun b s h e => W.n b h s e) (a' := (j 0).val) (b' := (j 1).val) (c' := (j 2).val / 64) (d' := (j 2).val % 64) ?_ ?_ ?_ ?_
  · show (((j 0).val * 2048 + (j 1).val) * 512 + (j 2).val) / 1048576 = _; omega
  · show (((j 0).val * 2048 + (j 1).val) * 512 + (j 2).val) / 512 % 2048 = _; omega
  · show (((j 0).val * 2048 + (j 1).val) * 512 + (j 2).val) / 64 % 8 = _; omega
  · show (((j 0).val * 2048 + (j 1).val) * 512 + (j 2).val) % 64 = _; omega

/-- The second result. -/
theorem r_v51 (j) : val_main_v51 (F := Ideal) x0 j = W.o ((j 0).val / 2048) ((j 1).val / 64) ((j 0).val % 2048) ((j 1).val % 64) := by
  have j0 : (j 0).val < 4096 := (j 0).isLt
  have j1 : (j 1).val < 512 := (j 1).isLt
  refine (val_main_v51_apply x0 j).trans ((r_v27 x0 W h0 _).trans ?_)
  refine at4 (fun b s h e => W.o b h s e) (a' := (j 0).val / 2048) (b' := (j 0).val % 2048) (c' := (j 1).val / 64) (d' := (j 1).val % 64) ?_ ?_ ?_ ?_
  · show ((j 0).val * 512 + (j 1).val) / 1048576 = _; omega
  · show ((j 0).val * 512 + (j 1).val) / 512 % 2048 = _; omega
  · show ((j 0).val * 512 + (j 1).val) / 64 % 8 = _; omega
  · show ((j 0).val * 512 + (j 1).val) % 64 = _; omega

/-- The third result. -/
theorem r_v52 (j) : val_main_v52 (F := Ideal) x0 j = ((W.S.tot ((j 0).val / 2048) ((j 1).val / 64) ((j 0).val % 2048) : ℝ) : EReal) := by
  have j0 : (j 0).val < 4096 := (j 0).isLt
  have j1 : (j 1).val < 512 := (j 1).isLt
  refine (val_main_v52_apply x0 j).trans ((r_v31 x0 W h0 _).trans ?_)
  refine at4 (d := 0) (d' := 0) (fun b s h _ => ((W.S.tot b h s : ℝ) : EReal)) (a' := (j 0).val / 2048) (b' := (j 0).val % 2048) (c' := (j 1).val / 64) ?_ ?_ ?_ rfl
  · show ((j 0).val * 512 + (j 1).val) / 1048576 = _; omega
  · show ((j 0).val * 512 + (j 1).val) / 512 % 2048 = _; omega
  · show ((j 0).val * 512 + (j 1).val) / 64 % 8 = _; omega

omit h0 in
include h1 in
theorem r_v46 (j) : val_main_v46 (F := Ideal) x1 j = W.G (j 2).val := by
  have j2 : (j 2).val < 512 := (j 2).isLt
  refine (val_main_v46_apply x1 j).trans ((val_main_v45_apply x1 _).trans ((val_main_v44_apply x1 _).trans ((h1 _).trans ?_)))
  refine congrArg W.G ?_
  show (j 2).val % 512 = _
  omega

include h1 in
/-- The first result. -/
theorem r_v50 (j) : val_main_v50 (F := Ideal) x0 x1 x2 j
    = if h : (j 1).val < 512 then x2 (ix3 ⟨(j 0).val / 2048, by have h0 : (j 0).val < 4096 := (j 0).isLt; omega⟩ ⟨(j 0).val % 2048, Nat.mod_lt _ (by decide)⟩ ⟨(j 1).val, by omega⟩)
      else W.n ((j 0).val / 2048) (((j 1).val - 512) / 64) ((j 0).val % 2048) (((j 1).val - 512) % 64) * W.G ((j 1).val - 512) := by
  have j0 : (j 0).val < 4096 := (j 0).isLt
  have j1 : (j 1).val < 1024 := (j 1).isLt
  have e0 : ((j 0).val * 1024 + (j 1).val) / 2097152 = (j 0).val / 2048 := by omega
  have e1 : ((j 0).val * 1024 + (j 1).val) / 1024 % 2048 = (j 0).val % 2048 := by omega
  have e2 : ((j 0).val * 1024 + (j 1).val) % 1024 = (j 1).val := by omega
  refine (val_main_v49_apply x0 x1 x2 j).trans ?_
  pointwise [val_main_v48]
  by_cases h : (j 1).val < 512
  · rw [dif_pos (e2.trans_lt h), dif_pos h]
    refine (val_main_v42_apply x2 _).trans (congrArg x2 ?_)
    funext a
    match a with
    | ⟨0, _⟩ => exact Fin.ext (by first | exact e0 | exact (Nat.zero_add _).trans e0 | exact (Nat.add_zero _).trans e0)
    | ⟨1, _⟩ => exact Fin.ext (by first | exact e1 | exact (Nat.zero_add _).trans e1 | exact (Nat.add_zero _).trans e1)
    | ⟨2, _⟩ => exact Fin.ext (by first | exact e2 | exact (Nat.zero_add _).trans e2 | exact (Nat.add_zero _).trans e2)
  · rw [dif_neg (fun h' => h (e2.symm.trans_lt h')), dif_neg h]
    refine (congrArg₂ (· * ·) (r_v43 x0 W h0 _) (r_v46 x1 W h1 _)).trans ?_
    show W.n (((j 0).val * 1024 + (j 1).val) / 2097152) ((((j 0).val * 1024 + (j 1).val) % 1024 - 512) / 64) (((j 0).val * 1024 + (j 1).val) / 1024 % 2048)
      ((((j 0).val * 1024 + (j 1).val) % 1024 - 512) % 64) * W.G (((j 0).val * 1024 + (j 1).val) % 1024 - 512) = _
    rw [e0, e1, e2]

end Cert.SbFwdRefIdeal.Closed
-- ==== Proof.FwdEnd.lean ====
/- The attention's forward step: the blocks that a grid point is given, what the host prepares, and the three arrays left. -/
module

public import proofs.«01_k».proof.Proof.FwdOut
public import proofs.«01_k».proof.Proof.FwdHost
public import proofs.«01_k».proof.Proof.FwdRef
public import proofs.«01_k».proof.Proof.SbLink
public import proofs.«01_k».proof.Proof.Gen.SbFwdIdeal.Value
public import proofs.«01_k».proof.Proof.Gen.Pre_finite_sb_fwd
public import Idealize.ShloMosaic.Lib.Pipeline.ValueKit
public import Idealize.ShloMosaic.Lib.Pointwise

@[expose] public section

set_option maxRecDepth 16384
set_option maxHeartbeats 1000000

noncomputable section

namespace Cert.SbFwdIdeal.Closed

open Idealize.ShloMosaic Idealize.ShloMosaic.TcCoe Idealize.SL.Sem Idealize.ShloMosaic.Pipeline
open Cert.SbFwdIdeal Cert.SbFwdIdeal.Gen Cert.SbFwdIdeal.Value Cert.Reals
open Cert.SbIdeal.Closed (Rep Head Src)
open Cert.SbIdeal.Closed.Src (half rest lane')
open Cert.SbFwdRefIdeal.Closed (Ext E3 at3 at4)

theorem idx : ∀ t : Fin cfg0.N, win0_0.index t = ![t.val % 8, t.val / 8] ∧ win0_1.index t = ![t.val % 8 / 4, 4 + t.val / 8] ∧ win0_2.index t = ![t.val % 8 / 4, 8 + t.val / 8]
    ∧ win0_3.index t = ![0, t.val / 8] ∧ win0_4.index t = ![0, 0] := by decide +kernel
theorem idx_out : ∀ t : Fin cfg0.N, win0_5.index t = ![t.val % 8, 4 + t.val / 8] ∧ win0_6.index t = ![t.val % 8, t.val / 8] ∧ win0_7.index t = ![t.val % 8, t.val / 8] := by decide +kernel
theorem coord2 : ∀ t : Fin cfg0.N, ((grid0.coords t) 2).val = t.val % 4 := by decide +kernel

variable (m : (ℓ : Loc nD τ sig) → Buf (Elt Ideal) ℓ) (c : Dev nD) (W : Ext)
  (hP : ∀ j, V m c main_v1 j = W.X ((j 0).val / 2048) ((j 0).val % 2048) (j 1).val) (hG : ∀ j, V m c main_arg1 j = W.G (j 1).val)
  (hT : Rep (n := 256) (p := 256) (V m c main_v8) triF)

include hP in
theorem in0 (t : Fin cfg0.N) (y : S512x128.Idx) : (iblk m c 0 t : FVec Ideal S512x128 .bf16) y = W.X (t.val % 8 / 4) (512 * (t.val % 4) + (y 0).val) (128 * (t.val / 8) + (y 1).val) := by
  have y0 : (y 0).val < 512 := (y 0).isLt
  have e0 : ((View.slice (View.whole main_v1) (win0_0.rect t)).emb y 0).val = 512 * (t.val % 8) + (y 0).val := by
    show win0_0.index t 0 * 512 + 1 * (y 0).val = _; rw [(idx t).1]; show (t.val % 8) * 512 + 1 * _ = _; omega
  have e1 : ((View.slice (View.whole main_v1) (win0_0.rect t)).emb y 1).val = 128 * (t.val / 8) + (y 1).val := by
    show win0_0.index t 1 * 128 + 1 * (y 1).val = _; rw [(idx t).1]; show (t.val / 8) * 128 + 1 * _ = _; omega
  refine Eq.trans ?_ ((hP ((View.slice (View.whole main_v1) (win0_0.rect t)).emb y)).trans (at3 W.X (by rw [e0]; omega) (by rw [e0]; omega) e1))
  rfl

include hP in
theorem in1 (t : Fin cfg0.N) (y : S2048x128.Idx) : (iblk m c 1 t : FVec Ideal S2048x128 .bf16) y = W.X (t.val % 8 / 4) (y 0).val (512 + (128 * (t.val / 8) + (y 1).val)) := by
  have y0 : (y 0).val < 2048 := (y 0).isLt
  have e0 : ((View.slice (View.whole main_v1) (win0_1.rect t)).emb y 0).val = 2048 * (t.val % 8 / 4) + (y 0).val := by
    show win0_1.index t 0 * 2048 + 1 * (y 0).val = _; rw [(idx t).2.1]; show (t.val % 8 / 4) * 2048 + 1 * _ = _; omega
  have e1 : ((View.slice (View.whole main_v1) (win0_1.rect t)).emb y 1).val = 512 + (128 * (t.val / 8) + (y 1).val) := by
    show win0_1.index t 1 * 128 + 1 * (y 1).val = _; rw [(idx t).2.1]; show (4 + t.val / 8) * 128 + 1 * _ = _; omega
  refine Eq.trans ?_ ((hP ((View.slice (View.whole main_v1) (win0_1.rect t)).emb y)).trans (at3 W.X (by rw [e0]; omega) (by rw [e0]; omega) e1))
  rfl

include hP in
theorem in2 (t : Fin cfg0.N) (y : S2048x128.Idx) : (iblk m c 2 t : FVec Ideal S2048x128 .bf16) y = W.X (t.val % 8 / 4) (y 0).val (1024 + (128 * (t.val / 8) + (y 1).val)) := by
  have y0 : (y 0).val < 2048 := (y 0).isLt
  have e0 : ((View.slice (View.whole main_v1) (win0_2.rect t)).emb y 0).val = 2048 * (t.val % 8 / 4) + (y 0).val := by
    show win0_2.index t 0 * 2048 + 1 * (y 0).val = _; rw [(idx t).2.2.1]; show (t.val % 8 / 4) * 2048 + 1 * _ = _; omega
  have e1 : ((View.slice (View.whole main_v1) (win0_2.rect t)).emb y 1).val = 1024 + (128 * (t.val / 8) + (y 1).val) := by
    show win0_2.index t 1 * 128 + 1 * (y 1).val = _; rw [(idx t).2.2.1]; show (8 + t.val / 8) * 128 + 1 * _ = _; omega
  refine Eq.trans ?_ ((hP ((View.slice (View.whole main_v1) (win0_2.rect t)).emb y)).trans (at3 W.X (by rw [e0]; omega) (by rw [e0]; omega) e1))
  rfl

include hG in
theorem in3 (t : Fin cfg0.N) (y : S1x128.Idx) : (iblk m c 3 t : FVec Ideal S1x128 .f32) y = W.G (128 * (t.val / 8) + (y 1).val) := by
  have e1 : ((View.slice (View.whole main_arg1) (win0_3.rect t)).emb y 1).val = 128 * (t.val / 8) + (y 1).val := by
    show win0_3.index t 1 * 128 + 1 * (y 1).val = _; rw [(idx t).2.2.2.1]; show (t.val / 8) * 128 + 1 * _ = _; omega
  refine Eq.trans ?_ ((hG ((View.slice (View.whole main_arg1) (win0_3.rect t)).emb y)).trans (congrArg W.G e1))
  rfl

include hT in
theorem in4 (t : Fin cfg0.N) : Rep (n := 256) (p := 256) (iblk m c 4 t : FVec Ideal S256x256 .bf16) triF := fun y => by
  refine Eq.trans ?_ ((hT ((View.slice (View.whole main_v8) (win0_4.rect t)).emb y)).trans ?_)
  · rfl
  · exact congrArg₂ (fun a b : ℕ => ((triF a b : ℝ) : EReal)) (by show win0_4.index t 0 * 256 + 1 * (y 0).val = _; rw [(idx t).2.2.2.2]; show 0 * 256 + 1 * _ = _; omega)
      (by show win0_4.index t 1 * 256 + 1 * (y 1).val = _; rw [(idx t).2.2.2.2]; show 0 * 256 + 1 * _ = _; omega)

/-- The values of a pair of heads, by the lane. -/
def vals (b p u e : ℕ) : EReal := W.X b u (1024 + (128 * p + e))

theorem n_lt (t : Fin cfg0.N) : t.val < 32 := lt_of_lt_of_eq t.isLt (by decide +kernel)

include hP hT in
theorem point (t : Fin cfg0.N) : FwdRep (W.S.dat (t.val % 8 / 4) (t.val / 8)) (vals W (t.val % 8 / 4) (t.val / 8)) (512 * ((grid0.coords t) 2).val)
    (iblk m c 0 t) (iblk m c 1 t) (iblk m c 2 t) (iblk m c 4 t) := by
  have ht := n_lt t
  refine ⟨fun y => ?_, fun y => ?_, in2 m c W hP t, in4 m c hT t, fun hh s h => ?_⟩
  · have y0 : (y 0).val < 512 := (y 0).isLt
    have y1 : (y 1).val < 128 := (y 1).isLt
    rw [coord2 t]
    exact (in0 m c W hP t y).trans (W.real _ _ _ (by omega) (by omega) (by omega))
  · have y0 : (y 0).val < 2048 := (y 0).isLt
    have y1 : (y 1).val < 128 := (y 1).isLt
    exact (in1 m c W hP t y).trans (W.real _ _ _ (by omega) (by omega) (by omega))
  · rw [W.S.tot_eq, W.S.PC_eq _ _ h]
    rfl

theorem ov_eq (b p s : ℕ) {e : ℕ} (he : e < 128) : Dat.ov (W.S.dat b p) (vals W b p) s e = W.o b (2 * p + e / 64) s (e % 64) := by
  unfold Dat.ov Ext.o
  refine Finset.sum_congr rfl fun u hu => ?_
  rw [W.S.Aw_eq b p (by omega) s (Finset.mem_range.mp hu)]
  refine congrArg (((W.S.a b (2 * p + e / 64) s u : ℝ) : EReal) * ·) ?_
  unfold vals Ext.v
  rw [lane']

theorem ms_eq (b p s : ℕ) {hh : ℕ} (h : hh < 2) : Dat.msv (W.S.dat b p) (vals W b p) hh s = W.ms b (2 * p + hh) s := by
  unfold Dat.msv Ext.ms
  refine congrArg (fun x => x * ((1 / 64 : ℝ) : EReal) + (small : EReal)) (Finset.sum_congr rfl fun e he => ?_)
  have he' := Finset.mem_range.mp he
  rw [ov_eq W b p s (by omega), half he', rest he']

include hP hT in
theorem four (t : Fin cfg0.N) : Four (W.S.dat (t.val % 8 / 4) (t.val / 8)) (vals W (t.val % 8 / 4) (t.val / 8)) (512 * ((grid0.coords t) 2).val) 0
    (after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 4 t) (k0_t1_loop (grid0.coords t)).trips) := by
  have h := after_rep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 4 t) rfl (point m c W hP hT t) (k0_t1_loop (grid0.coords t)).trips le_rfl
  rwa [show 512 * ((grid0.coords t) 2).val - 512 * (k0_t1_loop (grid0.coords t)).trips = 0 by rw [trips1]; omega] at h

/-- The row and the head of a point's place. -/
theorem place (t : Fin cfg0.N) {a b : ℕ} (ha : a < 512) (hb : b < 128) :
    t.val % 8 / 4 = (512 * (t.val % 8) + a) / 2048 ∧ 512 * (t.val % 4) + a = (512 * (t.val % 8) + a) % 2048
      ∧ 2 * (t.val / 8) + b / 64 = (128 * (t.val / 8) + b) / 64 ∧ b % 64 = (128 * (t.val / 8) + b) % 64 := by
  omega

theorem left_7 (t : Fin cfg0.N) : (outsAt0 m c t).2.2 = result7 (after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 4 t) (k0_t1_loop (grid0.coords t)).trips) := read_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) _
theorem left_6 (t : Fin cfg0.N) : (outsAt0 m c t).2.1 = result6 (after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 4 t) (k0_t1_loop (grid0.coords t)).trips) := read_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) _
theorem left_5 (t : Fin cfg0.N) : (outsAt0 m c t).1 = result5 (ms0_3 t) (hs0_3 t) (iblk m c 3 t) (after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 4 t) (k0_t1_loop (grid0.coords t)).trips) := read_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) _

include hP hT in
theorem pt7 (t : Fin cfg0.N) (y : S512x128.Idx) : (outsAt0 m c t).2.2 y
    = ((W.S.tot ((512 * (t.val % 8) + (y 0).val) / 2048) ((128 * (t.val / 8) + (y 1).val) / 64) ((512 * (t.val % 8) + (y 0).val) % 2048) : ℝ) : EReal) := by
  have y1 : (y 1).val < 128 := (y 1).isLt
  obtain ⟨e0, e1, e2, -⟩ := place t (y 0).isLt (y 1).isLt
  refine Eq.trans (congrFun (left_7 m c t) y) ((res7 (four m c W hP hT t) y).trans ?_)
  rw [W.S.PC_eq _ _ (by omega : (y 1).val / 64 < 2), coord2 t, ← e0, ← e1, ← e2]
  rfl

include hP hT in
theorem pt6 (t : Fin cfg0.N) (y : S512x128.Idx) : (outsAt0 m c t).2.1 y
    = W.o ((512 * (t.val % 8) + (y 0).val) / 2048) ((128 * (t.val / 8) + (y 1).val) / 64) ((512 * (t.val % 8) + (y 0).val) % 2048) ((128 * (t.val / 8) + (y 1).val) % 64) := by
  obtain ⟨e0, e1, e2, e3⟩ := place t (y 0).isLt (y 1).isLt
  refine Eq.trans (congrFun (left_6 m c t) y) ((res6 (four m c W hP hT t) y).trans ?_)
  rw [ov_eq W _ _ _ (y 1).isLt, coord2 t, ← e0, ← e1, ← e2, ← e3]

include hP hG hT in
theorem pt5 (t : Fin cfg0.N) (y : S512x128.Idx) : (outsAt0 m c t).1 y
    = W.n ((512 * (t.val % 8) + (y 0).val) / 2048) ((128 * (t.val / 8) + (y 1).val) / 64) ((512 * (t.val % 8) + (y 0).val) % 2048) ((128 * (t.val / 8) + (y 1).val) % 64)
      * W.G (128 * (t.val / 8) + (y 1).val) := by
  have y1 : (y 1).val < 128 := (y 1).isLt
  obtain ⟨e0, e1, e2, e3⟩ := place t (y 0).isLt (y 1).isLt
  refine Eq.trans (congrFun (left_5 m c t) y) ((res5 (four m c W hP hT t) (hs0_3 t) (iblk m c 3 t) y).trans ?_)
  rw [ov_eq W _ _ _ (y 1).isLt, ms_eq W _ _ _ (by omega : (y 1).val / 64 < 2), in3 m c W hG, coord2 t, ← e0, ← e1, ← e2, ← e3]
  rfl

include hP hT in
theorem out7 : (dats m 0 c).arrAt 7 cfg0.N = (fun j => ((W.S.tot ((j 0).val / 2048) ((j 1).val / 64) ((j 0).val % 2048) : ℝ) : EReal) : S4096x512.Idx → EReal) := by
  refine (dats m 0 c).arrAt_eq_of_covers 7 _ (by decide +kernel) fun t hf y => ?_
  blk_simp
  rw [after0_7]
  obtain ⟨h0, h1⟩ : win0_7.index t 0 = t.val % 8 ∧ win0_7.index t 1 = t.val / 8 := by rw [(idx_out t).2.2]; exact ⟨rfl, rfl⟩
  refine (pt7 m c W hP hT t y).trans ?_
  rw [h0, h1]
  exact at3 (fun b h s => ((W.S.tot b h s : ℝ) : EReal)) (by omega) (by omega) (by omega)

include hP hT in
theorem out6 : (dats m 0 c).arrAt 6 cfg0.N = (fun j => W.o ((j 0).val / 2048) ((j 1).val / 64) ((j 0).val % 2048) ((j 1).val % 64) : S4096x512.Idx → EReal) := by
  refine (dats m 0 c).arrAt_eq_of_covers 6 _ (by decide +kernel) fun t hf y => ?_
  blk_simp
  rw [after0_6]
  obtain ⟨h0, h1⟩ : win0_6.index t 0 = t.val % 8 ∧ win0_6.index t 1 = t.val / 8 := by rw [(idx_out t).2.1]; exact ⟨rfl, rfl⟩
  refine (pt6 m c W hP hT t y).trans ?_
  rw [h0, h1]
  exact at4 W.o (by omega) (by omega) (by omega) (by omega)

theorem flush5 : ∀ t : Fin cfg0.N, (cfg0.win 5).flush t = true := by decide +kernel

theorem emb5 (t : Fin cfg0.N) (y : S512x128.Idx) : (((cfg0.win 5).blk t).view.emb y 0).val = 512 * (t.val % 8) + (y 0).val
    ∧ (((cfg0.win 5).blk t).view.emb y 1).val = 512 + (128 * (t.val / 8) + (y 1).val) := by
  constructor
  · show win0_5.index t 0 * 512 + 1 * (y 0).val = _; rw [(idx_out t).1]; show (t.val % 8) * 512 + 1 * _ = _; omega
  · show win0_5.index t 1 * 128 + 1 * (y 1).val = _; rw [(idx_out t).1]; show (4 + t.val / 8) * 128 + 1 * _ = _; omega

/-- The lanes that no point writes. -/
theorem out5_left (j : S4096x1024.Idx) (h : (j 1).val < 512) : (dats m 0 c).arrAt 5 cfg0.N j = V m c (Pipeline.arrRef spec0 5) j := by
  refine entry5 m c j fun t _ hm => ?_
  obtain ⟨y, -, hy⟩ := Finset.mem_map.mp hm
  have e := (emb5 t y).2
  rw [hy] at e
  omega

theorem at_block (t : Fin cfg0.N) (y : S512x128.Idx) : (dats m 0 c).arrAt 5 cfg0.N (((cfg0.win 5).blk t).view.emb y) = (outsAt0 m c t).1 y :=
  (congrFun (blocks5 m c t (flush5 t)) y).trans (congrFun (flushed5 m c t) y)

theorem exists_t {n : ℕ} (h : n < 32) : ∃ t : Fin cfg0.N, t.val = n := ⟨⟨n, lt_of_lt_of_eq h (by decide +kernel)⟩, rfl⟩
theorem exists_y {a b : ℕ} (ha : a < 512) (hb : b < 128) : ∃ y : S512x128.Idx, (y 0).val = a ∧ (y 1).val = b := ⟨ix2 ⟨a, ha⟩ ⟨b, hb⟩, rfl, rfl⟩

include hP hG hT in
theorem out5_right (j : S4096x1024.Idx) (h : ¬(j 1).val < 512) : (dats m 0 c).arrAt 5 cfg0.N j
    = W.n ((j 0).val / 2048) (((j 1).val - 512) / 64) ((j 0).val % 2048) (((j 1).val - 512) % 64) * W.G ((j 1).val - 512) := by
  have j0 : (j 0).val < 4096 := (j 0).isLt
  have j1 : (j 1).val < 1024 := (j 1).isLt
  obtain ⟨t, ht⟩ := exists_t (n := 8 * (((j 1).val - 512) / 128) + (j 0).val / 512) (by omega)
  obtain ⟨y, hy0, hy1⟩ := exists_y (a := (j 0).val % 512) (b := ((j 1).val - 512) % 128) (Nat.mod_lt _ (by decide)) (Nat.mod_lt _ (by decide))
  have a0 : 512 * (t.val % 8) + (y 0).val = (j 0).val := by rw [ht, hy0]; omega
  have a1 : 128 * (t.val / 8) + (y 1).val = (j 1).val - 512 := by rw [ht, hy1]; omega
  have e : ((cfg0.win 5).blk t).view.emb y = j := by
    funext q
    match q with
    | ⟨0, _⟩ => exact Fin.ext ((emb5 t y).1.trans a0)
    | ⟨1, _⟩ => exact Fin.ext ((emb5 t y).2.trans (by rw [a1]; show _ = (j 1).val; omega))
  refine (congrArg ((dats m 0 c).arrAt 5 cfg0.N) e.symm).trans ((at_block m c t y).trans ?_)
  refine ((pt5 m c W hP hG hT t y).trans ?_)
  rw [a0, a1]

/-! The whole -/

/-- The numbers of an array of three axes, and of two. -/
def val3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0
def val2 {a b : ℕ} (X : (⟨2, ![a, b]⟩ : Shape).Idx → EReal) (i j : ℕ) : EReal :=
  if h : i < a ∧ j < b then X (ix2 ⟨i, h.1⟩ ⟨j, h.2⟩) else 0

theorem val3_at {a b c : ℕ} (X : (⟨3, ![a, b, c]⟩ : Shape).Idx → EReal) (j) : X j = val3 X (j 0).val (j 1).val (j 2).val := by
  unfold val3
  rw [dif_pos ⟨(j 0).isLt, (j 1).isLt, (j 2).isLt⟩]
  refine congrArg X ?_
  funext q
  match q with
  | ⟨0, _⟩ => rfl
  | ⟨1, _⟩ => rfl
  | ⟨2, _⟩ => rfl

theorem val2_at {a b : ℕ} (X : (⟨2, ![a, b]⟩ : Shape).Idx → EReal) (j) : X j = val2 X (j 0).val (j 1).val := by
  unfold val2
  rw [dif_pos ⟨(j 0).isLt, (j 1).isLt⟩]
  refine congrArg X ?_
  funext q
  match q with
  | ⟨0, _⟩ => rfl
  | ⟨1, _⟩ => rfl

/-- The precondition at a place of the queries and keys. -/
theorem real_of_pre (h0 : Vec Ideal S2x2048x1536 .f32) (h1 : Vec Ideal S1x512 .f32) (h2 : Vec Ideal S2x2048x1024 .f32)
    (H : Cert.Pre_finite_sb_fwd.fn (F := Ideal) h0 h1 h2 = (fun _ => 1#1)) (b s l : ℕ) (hb : b < 2) (hs : s < 2048) (hl : l < 1024) :
    IsRe (h0 (ix3 ⟨b, hb⟩ ⟨s, hs⟩ ⟨l, by omega⟩)) := by
  have h := isRe_of_abs_lt (congrFun H (ix3 ⟨b, hb⟩ ⟨s, hs⟩ ⟨l, hl⟩))
  refine (congrArg (fun j => IsRe (h0 j)) ?_).mp h
  funext q
  match q with
  | ⟨0, _⟩ => exact Fin.ext (by first | exact Nat.zero_add _ | rfl)
  | ⟨1, _⟩ => exact Fin.ext (by first | exact Nat.zero_add _ | rfl)
  | ⟨2, _⟩ => exact Fin.ext (by first | exact Nat.zero_add _ | rfl)

section
variable (r0 : ∀ b s l (hb : b < 2) (hs : s < 2048) (hl : l < 1024),
  IsRe ((m ((c : Thread nD τ).loc main_arg0) : (⟨S2x2048x1536, .f32⟩ : BufTy).Contents (Elt Ideal)) (ix3 ⟨b, hb⟩ ⟨s, hs⟩ ⟨l, by omega⟩)))

def ext : Ext where
  S := ⟨fun b s l => (val3 (a := 2) (b := 2048) (c := 1536) (m ((c : Thread nD τ).loc main_arg0)) b s l).toReal, fun _ => 0, fun _ _ _ => 0⟩
  X := val3 (a := 2) (b := 2048) (c := 1536) (m ((c : Thread nD τ).loc main_arg0))
  G := val2 (a := 1) (b := 512) (m ((c : Thread nD τ).loc main_arg1)) 0
  real b s l hb hs hl := by
    obtain ⟨r, hr⟩ := r0 b s l hb hs hl
    have e : val3 (a := 2) (b := 2048) (c := 1536) (m ((c : Thread nD τ).loc main_arg0)) b s l = ((r : ℝ) : EReal) := by
      unfold val3
      rw [dif_pos ⟨hb, hs, by omega⟩]
      exact hr
    show _ = (((val3 (a := 2) (b := 2048) (c := 1536) (m ((c : Thread nD τ).loc main_arg0)) b s l).toReal : ℝ) : EReal)
    rw [e, EReal.toReal_coe]

theorem ext0 : E3 (a := 2) (b := 2048) (c := 1536) (m ((c : Thread nD τ).loc main_arg0)) (ext m c r0).X := val3_at _
theorem ext1 (j : S1x512.Idx) : m ((c : Thread nD τ).loc main_arg1) j = (ext m c r0).G (j 1).val := by
  refine (val2_at (a := 1) (b := 512) (m ((c : Thread nD τ).loc main_arg1)) j).trans ?_
  have j0 : (j 0).val < 1 := (j 0).isLt
  rw [Nat.lt_one_iff.mp j0]
  rfl
theorem extP (j : S4096x1536.Idx) : V m c main_v1 j = (ext m c r0).X ((j 0).val / 2048) ((j 0).val % 2048) (j 1).val :=
  (proj_read m c j).trans ((proj_flat _ j).trans (ext0 m c r0 _))
theorem extG (j : S1x512.Idx) : V m c main_arg1 j = (ext m c r0).G (j 1).val := (gain_read m c j).trans (ext1 m c r0 j)

include r0
/-- The mixed rows. -/
theorem arr5 : (dats m 0 c).arrAt 5 cfg0.N = SbFwdRefIdeal.Read.val_main_v50 (F := Ideal) (m ((c : Thread nD τ).loc main_arg0)) (m ((c : Thread nD τ).loc main_arg1)) (m ((c : Thread nD τ).loc main_arg2)) := by
  funext j
  refine Eq.trans ?_ (SbFwdRefIdeal.Closed.r_v50 _ _ _ (ext m c r0) (ext0 m c r0) (ext1 m c r0) j).symm
  by_cases h : (j 1).val < 512
  · rw [dif_pos h]
    exact (out5_left m c j h).trans ((mixed_read m c j).trans (mixed_flat _ j))
  · rw [dif_neg h]
    exact out5_right m c (ext m c r0) (extP m c r0) (extG m c r0) (rep_tri0 m c) j h

/-- What is summed of the values. -/
theorem arr6 : (dats m 0 c).arrAt 6 cfg0.N = SbFwdRefIdeal.Read.val_main_v51 (F := Ideal) (m ((c : Thread nD τ).loc main_arg0)) :=
  (out6 m c (ext m c r0) (extP m c r0) (rep_tri0 m c)).trans (funext fun j => (SbFwdRefIdeal.Closed.r_v51 _ (ext m c r0) (ext0 m c r0) j).symm)

/-- The sums of the logarithms. -/
theorem arr7 : (dats m 0 c).arrAt 7 cfg0.N = SbFwdRefIdeal.Read.val_main_v52 (F := Ideal) (m ((c : Thread nD τ).loc main_arg0)) :=
  (out7 m c (ext m c r0) (extP m c r0) (rep_tri0 m c)).trans (funext fun j => (SbFwdRefIdeal.Closed.r_v52 _ (ext m c r0) (ext0 m c r0) j).symm)
end

end Cert.SbFwdIdeal.Closed

end
-- ==== Proof.lean ====
module

public import proofs.«01_k».proof.Defs
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActRefIdeal
public import proofs.«01_k».proof.Proof.Gen.FfnActIdeal.Value
public import proofs.«01_k».proof.Proof.Gen.Pre_finite_ffn_act
public import proofs.«01_k».proof.Proof.Gen.FfnActRefIdeal.Run
public import proofs.«01_k».proof.Proof.Gen.FfnActRefIdeal.Read
public import proofs.«01_k».proof.Proof.Reals
public import proofs.«01_k».proof.Proof.Act
public import proofs.«01_k».proof.Proof.Gen.Sb
public import proofs.«01_k».proof.Proof.Gen.SbIdeal
public import proofs.«01_k».proof.Proof.Gen.SbRefIdeal
public import proofs.«01_k».proof.Proof.Gen.Sb.Skeleton
public import proofs.«01_k».proof.Proof.Gen.Sb.Launch
public import proofs.«01_k».proof.Proof.Gen.Sb.Points
public import proofs.«01_k».proof.Proof.Gen.Sb.Frame
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbIdeal.Frame
public import proofs.«01_k».proof.Proof.Gen.SbIdeal.Value
public import proofs.«01_k».proof.Proof.Gen.SbRefIdeal.Run
public import proofs.«01_k».proof.Proof.Gen.SbRefIdeal.Read
public import proofs.«01_k».proof.Proof.Gen.Pre_finite_sb
public import proofs.«01_k».proof.Proof.SbTile
public import proofs.«01_k».proof.Proof.SbTrip
public import proofs.«01_k».proof.Proof.SbReal
public import proofs.«01_k».proof.Proof.SbLoop
public import proofs.«01_k».proof.Proof.SbDefs
public import proofs.«01_k».proof.Proof.SbCaseA
public import proofs.«01_k».proof.Proof.SbCaseB
public import proofs.«01_k».proof.Proof.SbCaseC
public import proofs.«01_k».proof.Proof.SbCaseD
public import proofs.«01_k».proof.Proof.SbPre
public import proofs.«01_k».proof.Proof.SbPoint
public import proofs.«01_k».proof.Proof.SbFlush
public import proofs.«01_k».proof.Proof.SbOut
public import proofs.«01_k».proof.Proof.SbGrid
public import proofs.«01_k».proof.Proof.SbSum
public import proofs.«01_k».proof.Proof.SbSrc
public import proofs.«01_k».proof.Proof.SbRef
public import proofs.«01_k».proof.Proof.SbLink
public import proofs.«01_k».proof.Proof.SbHost
public import proofs.«01_k».proof.Proof.SbBlk
public import proofs.«01_k».proof.Proof.SbEnd
public import proofs.«01_k».proof.Proof.Gen.DhFfnIdeal.Value
public import proofs.«01_k».proof.Proof.Gen.DhFfnRefIdeal.Run
public import proofs.«01_k».proof.Proof.Gen.DhFfnRefIdeal.Read
public import proofs.«01_k».proof.Proof.Gen.DhMixIdeal.Value
public import proofs.«01_k».proof.Proof.Gen.DhMixRefIdeal.Run
public import proofs.«01_k».proof.Proof.Gen.DhMixRefIdeal.Read
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Norm
public import proofs.«01_k».proof.Proof.DhFfnEnd
public import proofs.«01_k».proof.Proof.DhMixEnd
public import proofs.«01_k».proof.Proof.DownLossEnd
public import proofs.«01_k».proof.Proof.Gen.DhFfn
public import proofs.«01_k».proof.Proof.Gen.DhFfn.Frame
public import proofs.«01_k».proof.Proof.Gen.DhMix
public import proofs.«01_k».proof.Proof.Gen.DhMix.Frame
public import proofs.«01_k».proof.Proof.Gen.DownLoss
public import proofs.«01_k».proof.Proof.Gen.DownLoss.Frame
public import proofs.«01_k».proof.Proof.Gen.FfnUp
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.MixOut
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.UpEnd
public import proofs.«01_k».proof.Proof.MixEnd
public import proofs.«01_k».proof.Proof.Gen.SbFwd
public import proofs.«01_k».proof.Proof.Gen.SbFwd.Frame
public import proofs.«01_k».proof.Proof.Gen.SbFwdIdeal.Frame
public import proofs.«01_k».proof.Proof.Gen.SbFwdIdeal.Value
public import proofs.«01_k».proof.Proof.Gen.SbFwdRefIdeal.Run
public import proofs.«01_k».proof.Proof.Gen.SbFwdRefIdeal.Read
public import proofs.«01_k».proof.Proof.Gen.Pre_finite_sb_fwd
public import proofs.«01_k».proof.Proof.FwdEnd
public import Idealize.ShloMosaic.Adequacy
public import Idealize.ShloMosaic.Init

@[expose] public section

noncomputable section

namespace Cert.Proof

open Idealize.ShloMosaic Idealize.SL.Sem

/-! ## The feed-forward activations' gradient -/

theorem frame_act_ref : quiescent_FfnActRefIdeal := fun m ρ _ =>
  (θ_run FfnActRefIdeal.defs _ _).mono (fun r h => ⟨fun c => (h c).2.2, Idealize.ShloMosaic.sem_eq_zero_of_no_sems (by decide) r.2⟩)
    (FfnActRefIdeal.Value.run (F := Ideal) m ρ)

theorem algebraic_act : algebraic_FfnActIdeal_FfnActRefIdeal_pre_finite_ffn_act := by
  intro m ρ m' ρ' hpre hagree
  refine ⟨fun c => FfnActRefIdeal.Read.val_main_v13 (F := Ideal) (m (c.tc.loc FfnActIdeal.main_arg0)) (m (c.tc.loc FfnActIdeal.main_arg1)) (m (c.tc.loc FfnActIdeal.main_arg2)) (m (c.tc.loc FfnActIdeal.main_arg3)) (m (c.tc.loc FfnActIdeal.main_arg4)),
    fun c => FfnActRefIdeal.Read.val_main_v15 (F := Ideal) (m (c.tc.loc FfnActIdeal.main_arg0)) (m (c.tc.loc FfnActIdeal.main_arg1)) (m (c.tc.loc FfnActIdeal.main_arg3)) (m (c.tc.loc FfnActIdeal.main_arg4)), ?_, ?_⟩
  · refine (θ_run _ _ _).mono (fun r h c => ?_) (FfnActIdeal.Value.run_blocks (F := Ideal) m ρ)
    obtain ⟨r0, r2, r3, r4⟩ := FfnActIdeal.Closed.reals_of_pre _ _ _ _ _ (hpre c)
    exact ⟨(h c).1.trans (FfnActIdeal.Closed.dgate m c r0 r2 r3 r4), (h c).2.1.trans (FfnActIdeal.Closed.dup m c), (h c).2.2⟩
  · refine (θ_run _ _ _).mono (fun r h c => ?_) (FfnActRefIdeal.Value.run (F := Ideal) m' ρ')
    obtain ⟨a0, a1, a2, a3, a4⟩ := hagree c
    refine ⟨(h c).1.trans ((FfnActRefIdeal.Read.val_main_v13_eq _ _ _ _ _).trans ?_), (h c).2.1.trans ((FfnActRefIdeal.Read.val_main_v15_eq _ _ _ _).trans ?_), (h c).2.2⟩
    · rw [a0, a1, a2, a3, a4]
    · rw [a0, a1, a3, a4]

/-! ## The stick-breaking attention's gradient -/

theorem frame_sb_ref : quiescent_SbRefIdeal := fun m ρ _ =>
  (θ_run SbRefIdeal.defs _ _).mono (fun r h => ⟨fun c => (h c).2.2.2.2, Idealize.ShloMosaic.sem_eq_zero_of_no_sems (by decide) r.2⟩)
    (SbRefIdeal.Value.run (F := Ideal) m ρ)

theorem algebraic_sb : algebraic_SbIdeal_SbRefIdeal_pre_finite_sb := by
  intro m ρ m' ρ' hpre hagree
  refine ⟨fun c => SbRefIdeal.Read.val_main_v94 (F := Ideal) (m (c.tc.loc SbIdeal.main_arg0)) (m (c.tc.loc SbIdeal.main_arg1)) (m (c.tc.loc SbIdeal.main_arg2)),
    fun c => SbRefIdeal.Read.val_main_v96 (F := Ideal) (m (c.tc.loc SbIdeal.main_arg0)) (m (c.tc.loc SbIdeal.main_arg1)) (m (c.tc.loc SbIdeal.main_arg2)),
    fun c => SbRefIdeal.Read.val_main_v98 (F := Ideal) (m (c.tc.loc SbIdeal.main_arg0)) (m (c.tc.loc SbIdeal.main_arg1)) (m (c.tc.loc SbIdeal.main_arg2)),
    fun c => SbRefIdeal.Read.val_main_v92 (F := Ideal) (m (c.tc.loc SbIdeal.main_arg0)) (m (c.tc.loc SbIdeal.main_arg2)), ?_, ?_⟩
  · refine (θ_run _ _ _).mono (fun r h c => ?_) (SbIdeal.Value.run_blocks (F := Ideal) m ρ)
    obtain ⟨r0, r1, r2⟩ := SbIdeal.Closed.reals_of_pre _ _ _ (hpre c)
    exact ⟨(h c).1.trans (SbIdeal.Closed.grad_q m c r0 r1 r2), (h c).2.1.trans (SbIdeal.Closed.grad_k m c r0 r1 r2), (h c).2.2.1.trans (SbIdeal.Closed.grad_v m c r0 r1 r2),
      (h c).2.2.2.1.trans (SbIdeal.Closed.grad_g m c r0 r1 r2), (h c).2.2.2.2⟩
  · refine (θ_run _ _ _).mono (fun r h c => ?_) (SbRefIdeal.Value.run (F := Ideal) m' ρ')
    obtain ⟨a0, a1, a2⟩ := hagree c
    refine ⟨(h c).1.trans ((SbRefIdeal.Read.val_main_v94_eq _).trans ?_), (h c).2.1.trans ((SbRefIdeal.Read.val_main_v96_eq _).trans ?_), (h c).2.2.1.trans ((SbRefIdeal.Read.val_main_v98_eq _).trans ?_),
      (h c).2.2.2.1.trans ((SbRefIdeal.Read.val_main_v92_eq _).trans ?_), (h c).2.2.2.2⟩
    · beta_reduce; congr 1 <;> assumption
    · beta_reduce; congr 1 <;> assumption
    · beta_reduce; congr 1 <;> assumption
    · beta_reduce; congr 1 <;> assumption

/-! ## The gradient of the norm before the feed-forward part -/

theorem frame_dhffn_ref : quiescent_DhFfnRefIdeal := fun m ρ _ =>
  (θ_run DhFfnRefIdeal.defs _ _).mono (fun r h => ⟨fun c => (h c).2.2.2, Idealize.ShloMosaic.sem_eq_zero_of_no_sems (by decide) r.2⟩)
    (DhFfnRefIdeal.Value.run (F := Ideal) m ρ)

open DhFfnIdeal.Closed in
theorem algebraic_dhffn : algebraic_DhFfnIdeal_DhFfnRefIdeal := by
  intro m ρ m' ρ' _ hagree
  refine ⟨fun c => DhFfnRefIdeal.Read.val_main_v50 (F := Ideal) (arg0 m c) (arg1 m c) (arg2 m c) (arg3 m c) (arg5 m c) (arg6 m c) (arg7 m c),
    fun c => DhFfnRefIdeal.Read.val_main_v45 (F := Ideal) (arg0 m c) (arg2 m c) (arg3 m c) (arg5 m c) (arg6 m c),
    fun c => DhFfnRefIdeal.Read.val_main_v51 (F := Ideal) (arg0 m c) (arg1 m c) (arg2 m c) (arg3 m c) (arg4 m c) (arg5 m c) (arg6 m c) (arg7 m c), ?_, ?_⟩
  · refine (θ_run _ _ _).mono (fun r h c => ?_) (DhFfnIdeal.Value.run_blocks (F := Ideal) m ρ)
    exact ⟨(h c).1.trans (arr_out m c), (h c).2.1.trans (arr_scale m c), (h c).2.2.1.trans (arr_dm m c), (h c).2.2.2⟩
  · refine (θ_run _ _ _).mono (fun r h c => ?_) (DhFfnRefIdeal.Value.run (F := Ideal) m' ρ')
    obtain ⟨a0, a1, a2, a3, a4, a5, a6, a7⟩ := hagree c
    refine ⟨(h c).1.trans ((DhFfnRefIdeal.Read.val_main_v50_eq _ _).trans ?_), (h c).2.1.trans ((DhFfnRefIdeal.Read.val_main_v45_eq _ _ _ _ _).trans ?_), (h c).2.2.1.trans ((DhFfnRefIdeal.Read.val_main_v51_eq _ _).trans ?_), (h c).2.2.2⟩
    · beta_reduce; congr 1 <;> assumption
    · beta_reduce; congr 1 <;> assumption
    · beta_reduce; congr 1 <;> assumption

/-! ## The gradient of the norm before the mixers -/

theorem frame_dhmix_ref : quiescent_DhMixRefIdeal := fun m ρ _ =>
  (θ_run DhMixRefIdeal.defs _ _).mono (fun r h => ⟨fun c => (h c).2.2, Idealize.ShloMosaic.sem_eq_zero_of_no_sems (by decide) r.2⟩)
    (DhMixRefIdeal.Value.run (F := Ideal) m ρ)

open DhMixIdeal.Closed in
theorem algebraic_dhmix : algebraic_DhMixIdeal_DhMixRefIdeal := by
  intro m ρ m' ρ' _ hagree
  refine ⟨fun c => DhMixRefIdeal.Read.val_main_v42 (F := Ideal) (arg0 m c) (arg1 m c) (arg2 m c) (arg3 m c) (arg4 m c),
    fun c => DhMixRefIdeal.Read.val_main_v41 (F := Ideal) (arg0 m c) (arg2 m c) (arg3 m c), ?_, ?_⟩
  · refine (θ_run _ _ _).mono (fun r h c => ?_) (DhMixIdeal.Value.run_blocks (F := Ideal) m ρ)
    exact ⟨(h c).1.trans (arr_out m c), (h c).2.1.trans (arr_scale m c), (h c).2.2⟩
  · refine (θ_run _ _ _).mono (fun r h c => ?_) (DhMixRefIdeal.Value.run (F := Ideal) m' ρ')
    obtain ⟨a0, a1, a2, a3, a4⟩ := hagree c
    refine ⟨(h c).1.trans ((DhMixRefIdeal.Read.val_main_v42_eq _ _).trans ?_), (h c).2.1.trans ((DhMixRefIdeal.Read.val_main_v41_eq _ _ _).trans ?_), (h c).2.2⟩
    · beta_reduce; congr 1 <;> assumption
    · beta_reduce; congr 1 <;> assumption

/-! ## The loss and the last norm's gradient -/

theorem frame_loss_ref : quiescent_DownLossRefIdeal := fun m ρ _ =>
  (θ_run DownLossRefIdeal.defs _ _).mono (fun r h => ⟨fun c => (h c).2.2.2.2, Idealize.ShloMosaic.sem_eq_zero_of_no_sems (by decide) r.2⟩)
    (DownLossRefIdeal.Value.run (F := Ideal) m ρ)

open DownLossIdeal.Closed in
theorem algebraic_loss : algebraic_DownLossIdeal_DownLossRefIdeal := by
  intro m ρ m' ρ' _ hagree
  refine ⟨fun c => DownLossRefIdeal.Read.val_main_v54 (F := Ideal) (arg0 m c) (arg1 m c) (arg2 m c) (arg3 m c) (arg4 m c),
    fun c => DownLossRefIdeal.Read.val_main_v55 (F := Ideal) (arg0 m c) (arg1 m c) (arg2 m c) (arg3 m c) (arg4 m c),
    fun c => DownLossRefIdeal.Read.val_main_v56 (F := Ideal) (arg0 m c) (arg1 m c) (arg2 m c) (arg3 m c) (arg4 m c),
    fun c => DownLossRefIdeal.Read.val_main_v57 (F := Ideal) (arg0 m c) (arg1 m c) (arg2 m c) (arg3 m c) (arg4 m c), ?_, ?_⟩
  · refine (θ_run _ _ _).mono (fun r h c => ?_) (DownLossIdeal.Value.run_blocks (F := Ideal) m ρ)
    exact ⟨(h c).1.trans (arr_dx m c), (h c).2.1.trans (arr_cut m c), (h c).2.2.1.trans (arr_scale m c), (h c).2.2.2.1.trans (arr_loss m c), (h c).2.2.2.2⟩
  · refine (θ_run _ _ _).mono (fun r h c => ?_) (DownLossRefIdeal.Value.run (F := Ideal) m' ρ')
    obtain ⟨a0, a1, a2, a3, a4⟩ := hagree c
    refine ⟨(h c).1.trans ((DownLossRefIdeal.Read.val_main_v54_eq _ _).trans ?_), (h c).2.1.trans ((DownLossRefIdeal.Read.val_main_v55_eq _ _).trans ?_), (h c).2.2.1.trans ((DownLossRefIdeal.Read.val_main_v56_eq _ _ _ _ _).trans ?_), (h c).2.2.2.1.trans ((DownLossRefIdeal.Read.val_main_v57_eq _ _ _ _ _).trans ?_), (h c).2.2.2.2⟩
    · beta_reduce; congr 1 <;> assumption
    · beta_reduce; congr 1 <;> assumption
    · beta_reduce; congr 1 <;> assumption
    · beta_reduce; congr 1 <;> assumption

/-! ## The feed-forward part's first call -/

theorem frame_up_ref : quiescent_FfnUpRefIdeal := fun m ρ _ =>
  (θ_run FfnUpRefIdeal.defs _ _).mono (fun r h => ⟨fun c => (h c).2.2.2, Idealize.ShloMosaic.sem_eq_zero_of_no_sems (by decide) r.2⟩)
    (FfnUpRefIdeal.Value.run (F := Ideal) m ρ)

open FfnUpIdeal.Closed in
theorem algebraic_up : algebraic_FfnUpIdeal_FfnUpRefIdeal := by
  intro m ρ m' ρ' _ hagree
  refine ⟨fun c => FfnUpRefIdeal.Read.val_main_v7 (F := Ideal) (arg0 m c) (arg1 m c),
    fun c => FfnUpRefIdeal.Read.val_main_v9 (F := Ideal) (arg0 m c) (arg2 m c),
    fun c => FfnUpRefIdeal.Read.val_main_v11 (F := Ideal) (arg0 m c) (arg1 m c) (arg2 m c), ?_, ?_⟩
  · refine (θ_run _ _ _).mono (fun r h c => ?_) (FfnUpIdeal.Value.run_blocks (F := Ideal) m ρ)
    exact ⟨(h c).1.trans (arr_gate m c), (h c).2.1.trans (arr_up m c), (h c).2.2.1.trans (arr_ff m c), (h c).2.2.2⟩
  · refine (θ_run _ _ _).mono (fun r h c => ?_) (FfnUpRefIdeal.Value.run (F := Ideal) m' ρ')
    obtain ⟨a0, a1, a2⟩ := hagree c
    refine ⟨(h c).1.trans ((FfnUpRefIdeal.Read.val_main_v7_eq _ _).trans ?_), (h c).2.1.trans ((FfnUpRefIdeal.Read.val_main_v9_eq _ _).trans ?_), (h c).2.2.1.trans ((FfnUpRefIdeal.Read.val_main_v11_eq _ _ _).trans ?_), (h c).2.2.2⟩
    · beta_reduce; congr 1 <;> assumption
    · beta_reduce; congr 1 <;> assumption
    · beta_reduce; congr 1 <;> assumption

/-! ## The mixers' last call -/

theorem frame_mixout_ref : quiescent_MixOutRefIdeal := fun m ρ _ =>
  (θ_run MixOutRefIdeal.defs _ _).mono (fun r h => ⟨fun c => (h c).2.2, Idealize.ShloMosaic.sem_eq_zero_of_no_sems (by decide) r.2⟩)
    (MixOutRefIdeal.Value.run (F := Ideal) m ρ)

open MixOutIdeal.Closed in
theorem algebraic_mixout : algebraic_MixOutIdeal_MixOutRefIdeal := by
  intro m ρ m' ρ' _ hagree
  refine ⟨fun c => MixOutRefIdeal.Read.val_main_v3 (F := Ideal) (arg0 m c) (arg1 m c) (arg2 m c),
    fun c => MixOutRefIdeal.Read.val_main_v19 (F := Ideal) (arg0 m c) (arg1 m c) (arg2 m c) (arg3 m c), ?_, ?_⟩
  · refine (θ_run _ _ _).mono (fun r h c => ?_) (MixOutIdeal.Value.run_blocks (F := Ideal) m ρ)
    exact ⟨(h c).1.trans (arr_res m c), (h c).2.1.trans (arr_nrm m c), (h c).2.2⟩
  · refine (θ_run _ _ _).mono (fun r h c => ?_) (MixOutRefIdeal.Value.run (F := Ideal) m' ρ')
    obtain ⟨a0, a1, a2, a3⟩ := hagree c
    refine ⟨(h c).1.trans ((MixOutRefIdeal.Read.val_main_v3_eq _ _ _).trans ?_), (h c).2.1.trans ((MixOutRefIdeal.Read.val_main_v19_eq _ _ _ _).trans ?_), (h c).2.2⟩
    · beta_reduce; congr 1 <;> assumption
    · beta_reduce; congr 1 <;> assumption

/-! ## The stick-breaking attention's forward step -/

theorem frame_sbfwd_ref : quiescent_SbFwdRefIdeal := fun m ρ _ =>
  (θ_run SbFwdRefIdeal.defs _ _).mono (fun r h => ⟨fun c => (h c).2.2.2, Idealize.ShloMosaic.sem_eq_zero_of_no_sems (by decide) r.2⟩)
    (SbFwdRefIdeal.Value.run (F := Ideal) m ρ)

theorem algebraic_sbfwd : algebraic_SbFwdIdeal_SbFwdRefIdeal_pre_finite_sb_fwd := by
  intro m ρ m' ρ' hpre hagree
  refine ⟨fun c => SbFwdRefIdeal.Read.val_main_v50 (F := Ideal) (m (c.tc.loc SbFwdIdeal.main_arg0)) (m (c.tc.loc SbFwdIdeal.main_arg1)) (m (c.tc.loc SbFwdIdeal.main_arg2)),
    fun c => SbFwdRefIdeal.Read.val_main_v51 (F := Ideal) (m (c.tc.loc SbFwdIdeal.main_arg0)),
    fun c => SbFwdRefIdeal.Read.val_main_v52 (F := Ideal) (m (c.tc.loc SbFwdIdeal.main_arg0)), ?_, ?_⟩
  · refine (θ_run _ _ _).mono (fun r h c => ?_) (SbFwdIdeal.Value.run_blocks (F := Ideal) m ρ)
    have r0 := SbFwdIdeal.Closed.real_of_pre _ _ _ (hpre c)
    exact ⟨(h c).1.trans (SbFwdIdeal.Closed.arr5 m c r0), (h c).2.1.trans (SbFwdIdeal.Closed.arr6 m c r0), (h c).2.2.1.trans (SbFwdIdeal.Closed.arr7 m c r0), (h c).2.2.2⟩
  · refine (θ_run _ _ _).mono (fun r h c => ?_) (SbFwdRefIdeal.Value.run (F := Ideal) m' ρ')
    obtain ⟨a0, a1, a2⟩ := hagree c
    refine ⟨(h c).1.trans ((SbFwdRefIdeal.Read.val_main_v50_eq _ _).trans ?_), (h c).2.1.trans ((SbFwdRefIdeal.Read.val_main_v51_eq _ _).trans ?_), (h c).2.2.1.trans ((SbFwdRefIdeal.Read.val_main_v52_eq _ _).trans ?_), (h c).2.2.2⟩
    · beta_reduce; congr 1 <;> assumption
    · beta_reduce; congr 1 <;> assumption
    · beta_reduce; congr 1 <;> assumption

theorem claim : Claim :=
  ⟨FfnAct.Gen.facts, FfnActIdeal.Gen.facts, FfnActRefIdeal.Gen.facts, Sb.Gen.facts, SbIdeal.Gen.facts, SbRefIdeal.Gen.facts,
    DhFfn.Gen.facts, DhFfnIdeal.Gen.facts, DhFfnRefIdeal.Gen.facts, DhMix.Gen.facts, DhMixIdeal.Gen.facts, DhMixRefIdeal.Gen.facts, DownLoss.Gen.facts, DownLossIdeal.Gen.facts, DownLossRefIdeal.Gen.facts, FfnUp.Gen.facts, FfnUpIdeal.Gen.facts, FfnUpRefIdeal.Gen.facts, MixOut.Gen.facts, MixOutIdeal.Gen.facts, MixOutRefIdeal.Gen.facts, SbFwd.Gen.facts, SbFwdIdeal.Gen.facts, SbFwdRefIdeal.Gen.facts,
    Pre_finite_ffn_act.Gen.facts, Pre_finite_sb.Gen.facts, Pre_finite_sb_fwd.Gen.facts,
    fun m ρ _ => FfnAct.Gen.frame m ρ, fun m ρ _ => FfnActIdeal.Gen.frame m ρ, fun m ρ _ => FfnActIdeal.Gen.frame m ρ,
    frame_act_ref, fun m ρ _ => frame_act_ref m ρ trivial,
    fun m ρ _ => Sb.Gen.frame m ρ, fun m ρ _ => SbIdeal.Gen.frame m ρ, fun m ρ _ => SbIdeal.Gen.frame m ρ,
    frame_sb_ref, fun m ρ _ => frame_sb_ref m ρ trivial,
    fun m ρ _ => DhFfn.Gen.frame m ρ, fun m ρ _ => DhFfnIdeal.Gen.frame m ρ, frame_dhffn_ref,
    fun m ρ _ => DhMix.Gen.frame m ρ, fun m ρ _ => DhMixIdeal.Gen.frame m ρ, frame_dhmix_ref,
    fun m ρ _ => DownLoss.Gen.frame m ρ, fun m ρ _ => DownLossIdeal.Gen.frame m ρ, frame_loss_ref,
    fun m ρ _ => FfnUp.Gen.frame m ρ, fun m ρ _ => FfnUpIdeal.Gen.frame m ρ, frame_up_ref,
    fun m ρ _ => MixOut.Gen.frame m ρ, fun m ρ _ => MixOutIdeal.Gen.frame m ρ, frame_mixout_ref,
    fun m ρ _ => SbFwd.Gen.frame m ρ, fun m ρ _ => SbFwdIdeal.Gen.frame m ρ, fun m ρ _ => SbFwdIdeal.Gen.frame m ρ, frame_sbfwd_ref, fun m ρ _ => frame_sbfwd_ref m ρ trivial,
    trivial, algebraic_act, trivial, algebraic_sb, trivial, algebraic_dhffn, trivial, algebraic_dhmix, trivial, algebraic_loss, trivial, algebraic_up, trivial, algebraic_mixout, trivial, algebraic_sbfwd⟩

end Cert.Proof

end
